-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5_1)) (v1 : (c : Dev Cert.KernelIdeal.nD) → Buf (Elt Ideal) ((c.tc : Thread Cert.KernelIdeal.nD Cert.KernelIdeal.τ).loc Cert.KernelIdeal.main_v5_2)) (v2 : (c : Dev Cert.KernelIdeal.nD) → Buf (Elt Ideal) ((c.tc : Thread Cert.KernelIdeal.nD Cert.KernelIdeal.τ).loc Cert.KernelIdeal.main_v5_3)) (v3 : (c : Dev Cert.KernelIdeal.nD) → Buf (Elt Ideal) ((c.tc : Thread Cert.KernelIdeal.nD Cert.KernelIdeal.τ).loc Cert.KernelIdeal.main_v5_4)) (v4 : (c : Dev Cert.KernelIdeal.nD) → Buf (Elt Ideal) ((c.tc : Thread Cert.KernelIdeal.nD Cert.KernelIdeal.τ).loc Cert.KernelIdeal.main_v5_5)) (v5 : (c : Dev Cert.KernelIdeal.nD) → Buf (Elt Ideal) ((c.tc : Thread Cert.KernelIdeal.nD Cert.KernelIdeal.τ).loc Cert.KernelIdeal.main_v5_6)) (v6 : (c : Dev Cert.KernelIdeal.nD) → Buf (Elt Ideal) ((c.tc : Thread Cert.KernelIdeal.nD Cert.KernelIdeal.τ).loc Cert.KernelIdeal.main_v5_7)) (v7 : (c : Dev Cert.KernelIdeal.nD) → Buf (Elt Ideal) ((c.tc : Thread Cert.KernelIdeal.nD Cert.KernelIdeal.τ).loc Cert.KernelIdeal.main_v5_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_1) = v0 c
          ∧ r.2.mem ((c.tc : Thread Cert.KernelIdeal.nD Cert.KernelIdeal.τ).loc Cert.KernelIdeal.main_v5_2) = v1 c
          ∧ r.2.mem ((c.tc : Thread Cert.KernelIdeal.nD Cert.KernelIdeal.τ).loc Cert.KernelIdeal.main_v5_3) = v2 c
          ∧ r.2.mem ((c.tc : Thread Cert.KernelIdeal.nD Cert.KernelIdeal.τ).loc Cert.KernelIdeal.main_v5_4) = v3 c
          ∧ r.2.mem ((c.tc : Thread Cert.KernelIdeal.nD Cert.KernelIdeal.τ).loc Cert.KernelIdeal.main_v5_5) = v4 c
          ∧ r.2.mem ((c.tc : Thread Cert.KernelIdeal.nD Cert.KernelIdeal.τ).loc Cert.KernelIdeal.main_v5_6) = v5 c
          ∧ r.2.mem ((c.tc : Thread Cert.KernelIdeal.nD Cert.KernelIdeal.τ).loc Cert.KernelIdeal.main_v5_7) = v6 c
          ∧ r.2.mem ((c.tc : Thread Cert.KernelIdeal.nD Cert.KernelIdeal.τ).loc Cert.KernelIdeal.main_v5_8) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_1) = v0 c
          ∧ r.2.mem ((c.tc : Thread Cert.ReferenceIdeal.nD Cert.ReferenceIdeal.τ).loc Cert.ReferenceIdeal.main_v7_2) = v1 c
          ∧ r.2.mem ((c.tc : Thread Cert.ReferenceIdeal.nD Cert.ReferenceIdeal.τ).loc Cert.ReferenceIdeal.main_v7_3) = v2 c
          ∧ r.2.mem ((c.tc : Thread Cert.ReferenceIdeal.nD Cert.ReferenceIdeal.τ).loc Cert.ReferenceIdeal.main_v7_4) = v3 c
          ∧ r.2.mem ((c.tc : Thread Cert.ReferenceIdeal.nD Cert.ReferenceIdeal.τ).loc Cert.ReferenceIdeal.main_v7_5) = v4 c
          ∧ r.2.mem ((c.tc : Thread Cert.ReferenceIdeal.nD Cert.ReferenceIdeal.τ).loc Cert.ReferenceIdeal.main_v7_6) = v5 c
          ∧ r.2.mem ((c.tc : Thread Cert.ReferenceIdeal.nD Cert.ReferenceIdeal.τ).loc Cert.ReferenceIdeal.main_v7_7) = v6 c
          ∧ r.2.mem ((c.tc : Thread Cert.ReferenceIdeal.nD Cert.ReferenceIdeal.τ).loc Cert.ReferenceIdeal.main_v7_8) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1x2048 : Shape := ⟨3, ![4, 1, 2048]⟩
abbrev S2048 : Shape := ⟨1, ![2048]⟩
abbrev S2048x13568 : Shape := ⟨2, ![2048, 13568]⟩
abbrev S13568 : Shape := ⟨1, ![13568]⟩
abbrev S7680x2048 : Shape := ⟨2, ![7680, 2048]⟩
abbrev S4x2560x128 : Shape := ⟨3, ![4, 2560, 128]⟩
abbrev S4 : Shape := ⟨1, ![4]⟩
abbrev S4x2048 : Shape := ⟨2, ![4, 2048]⟩
abbrev S1x2048 : Shape := ⟨2, ![1, 2048]⟩
abbrev S1x13568 : Shape := ⟨2, ![1, 13568]⟩
abbrev S4x13568 : Shape := ⟨2, ![4, 13568]⟩
abbrev S64x128 : Shape := ⟨2, ![64, 128]⟩
abbrev S1x4 : Shape := ⟨2, ![1, 4]⟩
abbrev S4x128 : Shape := ⟨2, ![4, 128]⟩
abbrev S4x7680 : Shape := ⟨2, ![4, 7680]⟩
abbrev S32x2048 : Shape := ⟨2, ![32, 2048]⟩
abbrev S32x7680 : Shape := ⟨2, ![32, 7680]⟩
abbrev S144x128 : Shape := ⟨2, ![144, 128]⟩
abbrev S3 : Shape := ⟨1, ![3]⟩
abbrev S1 : Shape := ⟨1, ![1]⟩
abbrev S11 : Shape := ⟨1, ![11]⟩
abbrev S10 : Shape := ⟨1, ![10]⟩
abbrev S9 : Shape := ⟨1, ![9]⟩
abbrev S_ : Shape := ⟨0, ![]⟩
abbrev S2048x768 : Shape := ⟨2, ![2048, 768]⟩
abbrev S2048x512 : Shape := ⟨2, ![2048, 512]⟩
abbrev S768x2048 : Shape := ⟨2, ![768, 2048]⟩
abbrev S4x1 : Shape := ⟨2, ![4, 1]⟩
abbrev S28x2048 : Shape := ⟨2, ![28, 2048]⟩
abbrev S28x1 : Shape := ⟨2, ![28, 1]⟩
abbrev S32x1 : Shape := ⟨2, ![32, 1]⟩
abbrev S128 : Shape := ⟨1, ![128]⟩
abbrev S1x128 : Shape := ⟨2, ![1, 128]⟩
abbrev S32x768 : Shape := ⟨2, ![32, 768]⟩
abbrev S4x768 : Shape := ⟨2, ![4, 768]⟩
abbrev S1x768 : Shape := ⟨2, ![1, 768]⟩
abbrev S16x2560 : Shape := ⟨2, ![16, 2560]⟩
abbrev S16x128 : Shape := ⟨2, ![16, 128]⟩
abbrev S1x2560x128 : Shape := ⟨3, ![1, 2560, 128]⟩
abbrev S2560x128 : Shape := ⟨2, ![2560, 128]⟩
abbrev S16 : Shape := ⟨1, ![16]⟩
abbrev S16x1 : Shape := ⟨2, ![16, 1]⟩
abbrev S32x512 : Shape := ⟨2, ![32, 512]⟩
abbrev S4x512 : Shape := ⟨2, ![4, 512]⟩
abbrev S1x512 : Shape := ⟨2, ![1, 512]⟩
abbrev S28x7680 : Shape := ⟨2, ![28, 7680]⟩

abbrev nBuf : Space → Nat
  | .hbm => 25
  | .vmem => 23
  | .smem => 2
  | _ => 0

abbrev bufTy : (tb : Table) → Fin (tcTables nBuf tb) → BufTy
  | .hbm, ⟨0, _⟩ => ⟨S4x1x2048, .bf16⟩
  | .hbm, ⟨1, _⟩ => ⟨S2048, .f32⟩
  | .hbm, ⟨2, _⟩ => ⟨S2048, .f32⟩
  | .hbm, ⟨3, _⟩ => ⟨S2048x13568, .fp8e4m3⟩
  | .hbm, ⟨4, _⟩ => ⟨S13568, .f32⟩
  | .hbm, ⟨5, _⟩ => ⟨S7680x2048, .fp8e4m3⟩
  | .hbm, ⟨6, _⟩ => ⟨S2048, .f32⟩
  | .hbm, ⟨7, _⟩ => ⟨S4x2560x128, .fp8e5m2⟩
  | .hbm, ⟨8, _⟩ => ⟨S4x2560x128, .fp8e5m2⟩
  | .hbm, ⟨9, _⟩ => ⟨S4, .i32⟩
  | .hbm, ⟨10, _⟩ => ⟨S4, .i32⟩
  | .hbm, ⟨11, _⟩ => ⟨S4x2048, .bf16⟩
  | .hbm, ⟨12, _⟩ => ⟨S1x2048, .f32⟩
  | .hbm, ⟨13, _⟩ => ⟨S1x2048, .f32⟩
  | .hbm, ⟨14, _⟩ => ⟨S1x13568, .f32⟩
  | .hbm, ⟨15, _⟩ => ⟨S1x2048, .f32⟩
  | .hbm, ⟨16, _⟩ => ⟨S4x2048, .bf16⟩
  | .hbm, ⟨17, _⟩ => ⟨S4x13568, .bf16⟩
  | .hbm, ⟨18, _⟩ => ⟨S64x128, .f32⟩
  | .hbm, ⟨19, _⟩ => ⟨S4x2048, .fp8e4m3⟩
  | .hbm, ⟨20, _⟩ => ⟨S1x4, .f32⟩
  | .hbm, ⟨21, _⟩ => ⟨S4x128, .fp8e5m2⟩
  | .hbm, ⟨22, _⟩ => ⟨S4x128, .fp8e5m2⟩
  | .hbm, ⟨23, _⟩ => ⟨S4x7680, .fp8e4m3⟩
  | .hbm, ⟨24, _⟩ => ⟨S1x4, .f32⟩
  | .local _ .vmem, ⟨0, _⟩ => ⟨S4x2048, .bf16⟩
  | .local _ .vmem, ⟨1, _⟩ => ⟨S1x2048, .f32⟩
  | .local _ .vmem, ⟨2, _⟩ => ⟨S1x2048, .f32⟩
  | .local _ .vmem, ⟨3, _⟩ => ⟨S2048x13568, .fp8e4m3⟩
  | .local _ .vmem, ⟨4, _⟩ => ⟨S1x13568, .f32⟩
  | .local _ .vmem, ⟨5, _⟩ => ⟨S7680x2048, .fp8e4m3⟩
  | .local _ .vmem, ⟨6, _⟩ => ⟨S1x2048, .f32⟩
  | .local _ .vmem, ⟨7, _⟩ => ⟨S4x2560x128, .fp8e5m2⟩
  | .local _ .vmem, ⟨8, _⟩ => ⟨S4x2560x128, .fp8e5m2⟩
  | .local _ .vmem, ⟨9, _⟩ => ⟨S4x2048, .bf16⟩
  | .local _ .vmem, ⟨10, _⟩ => ⟨S4x13568, .bf16⟩
  | .local _ .vmem, ⟨11, _⟩ => ⟨S64x128, .f32⟩
  | .local _ .vmem, ⟨12, _⟩ => ⟨S4x2048, .fp8e4m3⟩
  | .local _ .vmem, ⟨13, _⟩ => ⟨S1x4, .f32⟩
  | .local _ .vmem, ⟨14, _⟩ => ⟨S4x128, .fp8e5m2⟩
  | .local _ .vmem, ⟨15, _⟩ => ⟨S4x128, .fp8e5m2⟩
  | .local _ .vmem, ⟨16, _⟩ => ⟨S4x7680, .fp8e4m3⟩
  | .local _ .vmem, ⟨17, _⟩ => ⟨S1x4, .f32⟩
  | .local _ .vmem, ⟨18, _⟩ => ⟨S32x2048, .fp8e4m3⟩
  | .local _ .vmem, ⟨19, _⟩ => ⟨S32x7680, .fp8e4m3⟩
  | .local _ .vmem, ⟨20, _⟩ => ⟨S144x128, .f32⟩
  | .local _ .vmem, ⟨21, _⟩ => ⟨S4x7680, .f32⟩
  | .local _ .vmem, ⟨22, _⟩ => ⟨S4x2048, .f32⟩
  | .local _ .smem, ⟨0, _⟩ => ⟨S4, .i32⟩
  | .local _ .smem, ⟨1, _⟩ => ⟨S4, .i32⟩
  | _, _ => ⟨S4x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev main_v5_3 : Ref sig .tc := ⟨.hbm, 19, rfl⟩
abbrev main_v5_4 : Ref sig .tc := ⟨.hbm, 20, rfl⟩
abbrev main_v5_5 : Ref sig .tc := ⟨.hbm, 21, rfl⟩
abbrev main_v5_6 : Ref sig .tc := ⟨.hbm, 22, rfl⟩
abbrev main_v5_7 : Ref sig .tc := ⟨.hbm, 23, rfl⟩
abbrev main_v5_8 : Ref sig .tc := ⟨.hbm, 24, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch11 : Ref sig .tc := ⟨.vmem, 9, rfl⟩
abbrev cc0_scratch12 : Ref sig .tc := ⟨.vmem, 10, rfl⟩
abbrev cc0_scratch13 : Ref sig .tc := ⟨.vmem, 11, rfl⟩
abbrev cc0_scratch14 : Ref sig .tc := ⟨.vmem, 12, rfl⟩
abbrev cc0_scratch15 : Ref sig .tc := ⟨.vmem, 13, rfl⟩
abbrev cc0_scratch16 : Ref sig .tc := ⟨.vmem, 14, rfl⟩
abbrev cc0_scratch17 : Ref sig .tc := ⟨.vmem, 15, rfl⟩
abbrev cc0_scratch18 : Ref sig .tc := ⟨.vmem, 16, rfl⟩
abbrev cc0_scratch19 : Ref sig .tc := ⟨.vmem, 17, rfl⟩
abbrev cc0_scratch20 : Ref sig .tc := ⟨.vmem, 18, rfl⟩
abbrev cc0_scratch21 : Ref sig .tc := ⟨.vmem, 19, rfl⟩
abbrev cc0_scratch22 : Ref sig .tc := ⟨.vmem, 20, rfl⟩
abbrev cc0_scratch23 : Ref sig .tc := ⟨.vmem, 21, rfl⟩
abbrev cc0_scratch24 : Ref sig .tc := ⟨.vmem, 22, rfl⟩
abbrev cc0_scratch9 : Ref sig .tc := ⟨.smem, 0, rfl⟩
abbrev cc0_scratch10 : Ref sig .tc := ⟨.smem, 1, rfl⟩

abbrev nD : Nat := 1
abbrev τ : Topo := Topo.v7x

variable {F : FTy → Type} [FloatOps F]

abbrev grid0 : Pipeline.Grid := .none

def k0_mult1 : BitVec 32 :=
  let c2304_i32_r0 : BitVec 32 := 2304#32
  c2304_i32_r0
def k0_mult2 : BitVec 32 :=
  let c7936_i32_r0 : BitVec 32 := 7936#32
  c7936_i32_r0
def k0_mult3 : BitVec 32 :=
  let c2816_i32_r0 : BitVec 32 := 2816#32
  c2816_i32_r0
def k0_mult4 : BitVec 32 :=
  let c8448_i32_r0 : BitVec 32 := 8448#32
  c8448_i32_r0
def k0_mult5 : BitVec 32 :=
  let c3328_i32_r0 : BitVec 32 := 3328#32
  c3328_i32_r0
def k0_mult6 : BitVec 32 :=
  let c8960_i32_r0 : BitVec 32 := 8960#32
  c8960_i32_r0
def k0_mult7 : BitVec 32 :=
  let c3840_i32_r0 : BitVec 32 := 3840#32
  c3840_i32_r0
def k0_mult8 : BitVec 32 :=
  let c9472_i32_r0 : BitVec 32 := 9472#32
  c9472_i32_r0
def k0_mult9 : BitVec 32 :=
  let c4352_i32_r0 : BitVec 32 := 4352#32
  c4352_i32_r0
def k0_mult10 : BitVec 32 :=
  let c9984_i32_r0 : BitVec 32 := 9984#32
  c9984_i32_r0
def k0_mult11 : BitVec 32 :=
  let c4864_i32_r0 : BitVec 32 := 4864#32
  c4864_i32_r0
def k0_mult12 : BitVec 32 :=
  let c10496_i32_r0 : BitVec 32 := 10496#32
  c10496_i32_r0
def k0_mult13 : BitVec 32 :=
  let c5376_i32_r0 : BitVec 32 := 5376#32
  c5376_i32_r0
def k0_mult14 : BitVec 32 :=
  let c11008_i32_r0 : BitVec 32 := 11008#32
  c11008_i32_r0
def k0_mult15 : BitVec 32 :=
  let c5888_i32_r0 : BitVec 32 := 5888#32
  c5888_i32_r0
def k0_mult16 : BitVec 32 :=
  let c11520_i32_r0 : BitVec 32 := 11520#32
  c11520_i32_r0
def k0_mult17 : BitVec 32 :=
  let c6400_i32_r0 : BitVec 32 := 6400#32
  c6400_i32_r0
def k0_mult18 : BitVec 32 :=
  let c12032_i32_r0 : BitVec 32 := 12032#32
  c12032_i32_r0
def k0_mult19 : BitVec 32 :=
  let c6912_i32_r0 : BitVec 32 := 6912#32
  c6912_i32_r0
def k0_mult20 : BitVec 32 :=
  let c12544_i32_r0 : BitVec 32 := 12544#32
  c12544_i32_r0
def k0_mult21 : BitVec 32 :=
  let c7424_i32_r0 : BitVec 32 := 7424#32
  c7424_i32_r0
def k0_mult22 : BitVec 32 :=
  let c13056_i32_r0 : BitVec 32 := 13056#32
  c13056_i32_r0
def k0_mult23 : BitVec 32 :=
  let c0_i32_77_r0 : BitVec 32 := 0#32
  c0_i32_77_r0
def k0_mult24 : BitVec 32 :=
  let c768_i32_81_r0 : BitVec 32 := 768#32
  c768_i32_81_r0
def k0_mult25 : BitVec 32 :=
  let c1536_i32_85_r0 : BitVec 32 := 1536#32
  c1536_i32_85_r0
def k0_mult26 : BitVec 32 :=
  let c2304_i32_89_r0 : BitVec 32 := 2304#32
  c2304_i32_89_r0
def k0_mult27 : BitVec 32 :=
  let c3072_i32_r0 : BitVec 32 := 3072#32
  c3072_i32_r0
def k0_mult28 : BitVec 32 :=
  let c3840_i32_96_r0 : BitVec 32 := 3840#32
  c3840_i32_96_r0
def k0_mult29 : BitVec 32 :=
  let c4608_i32_r0 : BitVec 32 := 4608#32
  c4608_i32_r0
def k0_mult30 : BitVec 32 :=
  let c5376_i32_103_r0 : BitVec 32 := 5376#32
  c5376_i32_103_r0
def k0_mult31 : BitVec 32 :=
  let c6144_i32_r0 : BitVec 32 := 6144#32
  c6144_i32_r0
def k0_mult32 : BitVec 32 :=
  let c6912_i32_110_r0 : BitVec 32 := 6912#32
  c6912_i32_110_r0
@[reducible] def k0_t1_loop : Scf.Loop 32 :=
  let c0_i32_394_r0 : BitVec 32 := 0#32
  let c11_i32_r0 : BitVec 32 := 11#32
  let v894_r0 : BitVec 32 := Scalar.addi c0_i32_394_r0 c11_i32_r0
  let c1_i32_395_r0 : BitVec 32 := 1#32
  ⟨c0_i32_394_r0, v894_r0, c1_i32_395_r0⟩
def k0_mult33 (k0_t1 : Fin k0_t1_loop.trips) : BitVec 32 :=
  let c2304_i32_478_r0 : BitVec 32 := 2304#32
  let c0_i32_477_r0 : BitVec 32 := 0#32
  let c0_i32_394_r0 : BitVec 32 := 0#32
  let c1_i32_395_r0 : BitVec 32 := 1#32
  let arg45_r0 : BitVec 32 := Scf.iv c0_i32_394_r0 c1_i32_395_r0 k0_t1
  let c1_i32_476_r0 : BitVec 32 := 1#32
  let v1073_r0 : BitVec 32 := Scalar.muli arg45_r0 c1_i32_476_r0
  let v1074_r0 : BitVec 32 := Scalar.addi c0_i32_477_r0 v1073_r0
  let c512_i32_r0 : BitVec 32 := 512#32
  let v1075_r0 : BitVec 32 := Scalar.muli v1074_r0 c512_i32_r0
  let v1076_r0 : BitVec 32 := Scalar.addi c2304_i32_478_r0 v1075_r0
  v1076_r0
def k0_mult34 (k0_t1 : Fin k0_t1_loop.trips) : BitVec 32 :=
  let c7936_i32_480_r0 : BitVec 32 := 7936#32
  let c0_i32_477_r0 : BitVec 32 := 0#32
  let c0_i32_394_r0 : BitVec 32 := 0#32
  let c1_i32_395_r0 : BitVec 32 := 1#32
  let arg45_r0 : BitVec 32 := Scf.iv c0_i32_394_r0 c1_i32_395_r0 k0_t1
  let c1_i32_476_r0 : BitVec 32 := 1#32
  let v1073_r0 : BitVec 32 := Scalar.muli arg45_r0 c1_i32_476_r0
  let v1074_r0 : BitVec 32 := Scalar.addi c0_i32_477_r0 v1073_r0
  let c512_i32_479_r0 : BitVec 32 := 512#32
  let v1078_r0 : BitVec 32 := Scalar.muli v1074_r0 c512_i32_479_r0
  let v1079_r0 : BitVec 32 := Scalar.addi c7936_i32_480_r0 v1078_r0
  v1079_r0
def k0_off1 (k0_t1 : Fin k0_t1_loop.trips) : Fin 1 → Nat :=
  let c0_i32_477_r0 : BitVec 32 := 0#32
  let c0_i32_394_r0 : BitVec 32 := 0#32
  let c1_i32_395_r0 : BitVec 32 := 1#32
  let arg45_r0 : BitVec 32 := Scf.iv c0_i32_394_r0 c1_i32_395_r0 k0_t1
  let c1_i32_476_r0 : BitVec 32 := 1#32
  let v1073_r0 : BitVec 32 := Scalar.muli arg45_r0 c1_i32_476_r0
  let v1074_r0 : BitVec 32 := Scalar.addi c0_i32_477_r0 v1073_r0
  ![v1074_r0.toNat]
def k0_off2 (k0_t1 : Fin k0_t1_loop.trips) (c2304_i32_478_r0 : BitVec 32) : Fin 2 → Nat :=
  let c0_i32_481_r0 : BitVec 32 := 0#32
  let c0_i32_477_r0 : BitVec 32 := 0#32
  let c0_i32_394_r0 : BitVec 32 := 0#32
  let c1_i32_395_r0 : BitVec 32 := 1#32
  let arg45_r0 : BitVec 32 := Scf.iv c0_i32_394_r0 c1_i32_395_r0 k0_t1
  let c1_i32_476_r0 : BitVec 32 := 1#32
  let v1073_r0 : BitVec 32 := Scalar.muli arg45_r0 c1_i32_476_r0
  let v1074_r0 : BitVec 32 := Scalar.addi c0_i32_477_r0 v1073_r0
  let c512_i32_r0 : BitVec 32 := 512#32
  let v1075_r0 : BitVec 32 := Scalar.muli v1074_r0 c512_i32_r0
  let v1076_r0 : BitVec 32 := Scalar.addi c2304_i32_478_r0 v1075_r0
  let v1077_r0 : BitVec 32 := v1076_r0
  ![0, v1077_r0.toNat]
def k0_mult35 (k0_t1 : Fin k0_t1_loop.trips) : BitVec 32 :=
  let c2304_i32_486_r0 : BitVec 32 := 2304#32
  let c0_i32_477_r0 : BitVec 32 := 0#32
  let c0_i32_394_r0 : BitVec 32 := 0#32
  let c1_i32_395_r0 : BitVec 32 := 1#32
  let arg45_r0 : BitVec 32 := Scf.iv c0_i32_394_r0 c1_i32_395_r0 k0_t1
  let c1_i32_476_r0 : BitVec 32 := 1#32
  let v1073_r0 : BitVec 32 := Scalar.muli arg45_r0 c1_i32_476_r0
  let v1074_r0 : BitVec 32 := Scalar.addi c0_i32_477_r0 v1073_r0
  let c512_i32_485_r0 : BitVec 32 := 512#32
  let v1089_r0 : BitVec 32 := Scalar.muli v1074_r0 c512_i32_485_r0
  let v1090_r0 : BitVec 32 := Scalar.addi c2304_i32_486_r0 v1089_r0
  v1090_r0
def k0_off3 (k0_t1 : Fin k0_t1_loop.trips) (c2304_i32_486_r0 : BitVec 32) : Fin 2 → Nat :=
  let c0_489_r0 : Index := 0#32
  let c0_i32_477_r0 : BitVec 32 := 0#32
  let c0_i32_394_r0 : BitVec 32 := 0#32
  let c1_i32_395_r0 : BitVec 32 := 1#32
  let arg45_r0 : BitVec 32 := Scf.iv c0_i32_394_r0 c1_i32_395_r0 k0_t1
  let c1_i32_476_r0 : BitVec 32 := 1#32
  let v1073_r0 : BitVec 32 := Scalar.muli arg45_r0 c1_i32_476_r0
  let v1074_r0 : BitVec 32 := Scalar.addi c0_i32_477_r0 v1073_r0
  let c512_i32_485_r0 : BitVec 32 := 512#32
  let v1089_r0 : BitVec 32 := Scalar.muli v1074_r0 c512_i32_485_r0
  let v1090_r0 : BitVec 32 := Scalar.addi c2304_i32_486_r0 v1089_r0
  let v1091_r0 : BitVec 32 := v1090_r0
  let v1093_r0 : Index := Scalar.indexCast v1091_r0
  ![0, v1093_r0.toNat]
def k0_off4 (k0_t1 : Fin k0_t1_loop.trips) (c2304_i32_486_r0 : BitVec 32) : Fin 2 → Nat :=
  let c0_491_r0 : Index := 0#32
  let c0_i32_477_r0 : BitVec 32 := 0#32
  let c0_i32_394_r0 : BitVec 32 := 0#32
  let c1_i32_395_r0 : BitVec 32 := 1#32
  let arg45_r0 : BitVec 32 := Scf.iv c0_i32_394_r0 c1_i32_395_r0 k0_t1
  let c1_i32_476_r0 : BitVec 32 := 1#32
  let v1073_r0 : BitVec 32 := Scalar.muli arg45_r0 c1_i32_476_r0
  let v1074_r0 : BitVec 32 := Scalar.addi c0_i32_477_r0 v1073_r0
  let c512_i32_485_r0 : BitVec 32 := 512#32
  let v1089_r0 : BitVec 32 := Scalar.muli v1074_r0 c512_i32_485_r0
  let v1090_r0 : BitVec 32 := Scalar.addi c2304_i32_486_r0 v1089_r0
  let v1091_r0 : BitVec 32 := v1090_r0
  let v1099_r0 : Index := Scalar.indexCast v1091_r0
  ![0, v1099_r0.toNat]
def k0_off5 (k0_t1 : Fin k0_t1_loop.trips) (c2304_i32_486_r0 : BitVec 32) : Fin 2 → Nat :=
  let c0_492_r0 : Index := 0#32
  let c0_i32_477_r0 : BitVec 32 := 0#32
  let c0_i32_394_r0 : BitVec 32 := 0#32
  let c1_i32_395_r0 : BitVec 32 := 1#32
  let arg45_r0 : BitVec 32 := Scf.iv c0_i32_394_r0 c1_i32_395_r0 k0_t1
  let c1_i32_476_r0 : BitVec 32 := 1#32
  let v1073_r0 : BitVec 32 := Scalar.muli arg45_r0 c1_i32_476_r0
  let v1074_r0 : BitVec 32 := Scalar.addi c0_i32_477_r0 v1073_r0
  let c512_i32_485_r0 : BitVec 32 := 512#32
  let v1089_r0 : BitVec 32 := Scalar.muli v1074_r0 c512_i32_485_r0
  let v1090_r0 : BitVec 32 := Scalar.addi c2304_i32_486_r0 v1089_r0
  let v1091_r0 : BitVec 32 := v1090_r0
  let v1104_r0 : Index := Scalar.indexCast v1091_r0
  ![0, v1104_r0.toNat]
def k0_mult36 (k0_t1 : Fin k0_t1_loop.trips) : BitVec 32 :=
  let c7936_i32_494_r0 : BitVec 32 := 7936#32
  let c0_i32_477_r0 : BitVec 32 := 0#32
  let c0_i32_394_r0 : BitVec 32 := 0#32
  let c1_i32_395_r0 : BitVec 32 := 1#32
  let arg45_r0 : BitVec 32 := Scf.iv c0_i32_394_r0 c1_i32_395_r0 k0_t1
  let c1_i32_476_r0 : BitVec 32 := 1#32
  let v1073_r0 : BitVec 32 := Scalar.muli arg45_r0 c1_i32_476_r0
  let v1074_r0 : BitVec 32 := Scalar.addi c0_i32_477_r0 v1073_r0
  let c512_i32_493_r0 : BitVec 32 := 512#32
  let v1109_r0 : BitVec 32 := Scalar.muli v1074_r0 c512_i32_493_r0
  let v1110_r0 : BitVec 32 := Scalar.addi c7936_i32_494_r0 v1109_r0
  v1110_r0
def k0_mult37 (k0_t1 : Fin k0_t1_loop.trips) : BitVec 32 :=
  let c2048_i32_r0 : BitVec 32 := 2048#32
  let c0_i32_477_r0 : BitVec 32 := 0#32
  let c0_i32_394_r0 : BitVec 32 := 0#32
  let c1_i32_395_r0 : BitVec 32 := 1#32
  let arg45_r0 : BitVec 32 := Scf.iv c0_i32_394_r0 c1_i32_395_r0 k0_t1
  let c1_i32_476_r0 : BitVec 32 := 1#32
  let v1073_r0 : BitVec 32 := Scalar.muli arg45_r0 c1_i32_476_r0
  let v1074_r0 : BitVec 32 := Scalar.addi c0_i32_477_r0 v1073_r0
  let c512_i32_501_r0 : BitVec 32 := 512#32
  let v1132_r0 : BitVec 32 := Scalar.muli v1074_r0 c512_i32_501_r0
  let v1133_r0 : BitVec 32 := Scalar.addi c2048_i32_r0 v1132_r0
  v1133_r0
def k0_off6 (k0_t1 : Fin k0_t1_loop.trips) : Fin 2 → Nat :=
  let c0_502_r0 : Index := 0#32
  let c2048_i32_r0 : BitVec 32 := 2048#32
  let c0_i32_477_r0 : BitVec 32 := 0#32
  let c0_i32_394_r0 : BitVec 32 := 0#32
  let c1_i32_395_r0 : BitVec 32 := 1#32
  let arg45_r0 : BitVec 32 := Scf.iv c0_i32_394_r0 c1_i32_395_r0 k0_t1
  let c1_i32_476_r0 : BitVec 32 := 1#32
  let v1073_r0 : BitVec 32 := Scalar.muli arg45_r0 c1_i32_476_r0
  let v1074_r0 : BitVec 32 := Scalar.addi c0_i32_477_r0 v1073_r0
  let c512_i32_501_r0 : BitVec 32 := 512#32
  let v1132_r0 : BitVec 32 := Scalar.muli v1074_r0 c512_i32_501_r0
  let v1133_r0 : BitVec 32 := Scalar.addi c2048_i32_r0 v1132_r0
  let v1134_r0 : BitVec 32 := v1133_r0
  let v1135_r0 : Index := Scalar.indexCast v1134_r0
  ![0, v1135_r0.toNat]
@[reducible] def k0_t2_loop : Scf.Loop 32 :=
  let c0_i32_454_r0 : BitVec 32 := 0#32
  let c10_i32_455_r0 : BitVec 32 := 10#32
  let v1039_r0 : BitVec 32 := Scalar.addi c0_i32_454_r0 c10_i32_455_r0
  let c1_i32_456_r0 : BitVec 32 := 1#32
  ⟨c0_i32_454_r0, v1039_r0, c1_i32_456_r0⟩
def k0_mult38 (k0_t2 : Fin k0_t2_loop.trips) : BitVec 32 :=
  let c0_i32_477_r0 : BitVec 32 := 0#32
  let c0_i32_454_r0 : BitVec 32 := 0#32
  let c1_i32_456_r0 : BitVec 32 := 1#32
  let arg45_r0 : BitVec 32 := Scf.iv c0_i32_454_r0 c1_i32_456_r0 k0_t2
  let c1_i32_476_r0 : BitVec 32 := 1#32
  let v1073_r0 : BitVec 32 := Scalar.muli arg45_r0 c1_i32_476_r0
  let v1074_r0 : BitVec 32 := Scalar.addi c0_i32_477_r0 v1073_r0
  let c768_i32_478_r0 : BitVec 32 := 768#32
  let v1075_r0 : BitVec 32 := Scalar.muli v1074_r0 c768_i32_478_r0
  v1075_r0
def k0_off7 (k0_t2 : Fin k0_t2_loop.trips) : Fin 1 → Nat :=
  let c0_i32_477_r0 : BitVec 32 := 0#32
  let c0_i32_454_r0 : BitVec 32 := 0#32
  let c1_i32_456_r0 : BitVec 32 := 1#32
  let arg45_r0 : BitVec 32 := Scf.iv c0_i32_454_r0 c1_i32_456_r0 k0_t2
  let c1_i32_476_r0 : BitVec 32 := 1#32
  let v1073_r0 : BitVec 32 := Scalar.muli arg45_r0 c1_i32_476_r0
  let v1074_r0 : BitVec 32 := Scalar.addi c0_i32_477_r0 v1073_r0
  ![v1074_r0.toNat]
def k0_off8 (k0_t2 : Fin k0_t2_loop.trips) : Fin 2 → Nat :=
  let c0_i32_477_r0 : BitVec 32 := 0#32
  let c0_i32_454_r0 : BitVec 32 := 0#32
  let c1_i32_456_r0 : BitVec 32 := 1#32
  let arg45_r0 : BitVec 32 := Scf.iv c0_i32_454_r0 c1_i32_456_r0 k0_t2
  let c1_i32_476_r0 : BitVec 32 := 1#32
  let v1073_r0 : BitVec 32 := Scalar.muli arg45_r0 c1_i32_476_r0
  let v1074_r0 : BitVec 32 := Scalar.addi c0_i32_477_r0 v1073_r0
  let c768_i32_478_r0 : BitVec 32 := 768#32
  let v1075_r0 : BitVec 32 := Scalar.muli v1074_r0 c768_i32_478_r0
  let v1076_r0 : BitVec 32 := v1075_r0
  let c0_i32_479_r0 : BitVec 32 := 0#32
  ![v1076_r0.toNat, 0]
def k0_mult39 (k0_t2 : Fin k0_t2_loop.trips) : BitVec 32 :=
  let c0_i32_477_r0 : BitVec 32 := 0#32
  let c0_i32_454_r0 : BitVec 32 := 0#32
  let c1_i32_456_r0 : BitVec 32 := 1#32
  let arg45_r0 : BitVec 32 := Scf.iv c0_i32_454_r0 c1_i32_456_r0 k0_t2
  let c1_i32_476_r0 : BitVec 32 := 1#32
  let v1073_r0 : BitVec 32 := Scalar.muli arg45_r0 c1_i32_476_r0
  let v1074_r0 : BitVec 32 := Scalar.addi c0_i32_477_r0 v1073_r0
  let c768_i32_481_r0 : BitVec 32 := 768#32
  let v1081_r0 : BitVec 32 := Scalar.muli v1074_r0 c768_i32_481_r0
  v1081_r0
def k0_off9 (k0_t2 : Fin k0_t2_loop.trips) : Fin 2 → Nat :=
  let c0_484_r0 : Index := 0#32
  let c0_i32_477_r0 : BitVec 32 := 0#32
  let c0_i32_454_r0 : BitVec 32 := 0#32
  let c1_i32_456_r0 : BitVec 32 := 1#32
  let arg45_r0 : BitVec 32 := Scf.iv c0_i32_454_r0 c1_i32_456_r0 k0_t2
  let c1_i32_476_r0 : BitVec 32 := 1#32
  let v1073_r0 : BitVec 32 := Scalar.muli arg45_r0 c1_i32_476_r0
  let v1074_r0 : BitVec 32 := Scalar.addi c0_i32_477_r0 v1073_r0
  let c768_i32_481_r0 : BitVec 32 := 768#32
  let v1081_r0 : BitVec 32 := Scalar.muli v1074_r0 c768_i32_481_r0
  let v1082_r0 : BitVec 32 := v1081_r0
  let v1084_r0 : Index := Scalar.indexCast v1082_r0
  ![0, v1084_r0.toNat]
def k0_off10 (k0_t2 : Fin k0_t2_loop.trips) : Fin 2 → Nat :=
  let c0_i32_477_r0 : BitVec 32 := 0#32
  let c0_i32_454_r0 : BitVec 32 := 0#32
  let c1_i32_456_r0 : BitVec 32 := 1#32
  let arg45_r0 : BitVec 32 := Scf.iv c0_i32_454_r0 c1_i32_456_r0 k0_t2
  let c1_i32_476_r0 : BitVec 32 := 1#32
  let v1073_r0 : BitVec 32 := Scalar.muli arg45_r0 c1_i32_476_r0
  let v1074_r0 : BitVec 32 := Scalar.addi c0_i32_477_r0 v1073_r0
  let c768_i32_481_r0 : BitVec 32 := 768#32
  let v1081_r0 : BitVec 32 := Scalar.muli v1074_r0 c768_i32_481_r0
  let v1082_r0 : BitVec 32 := v1081_r0
  let v1086_r0 : Index := Scalar.indexCast v1082_r0
  let c0_485_r0 : Index := 0#32
  ![v1086_r0.toNat, 0]
-- ==== ReferenceIdeal.lean ====
abbrev S4x1x2048 : Shape := ⟨3, ![4, 1, 2048]⟩
abbrev S2048 : Shape := ⟨1, ![2048]⟩
abbrev S2048x13568 : Shape := ⟨2, ![2048, 13568]⟩
abbrev S13568 : Shape := ⟨1, ![13568]⟩
abbrev S7680x2048 : Shape := ⟨2, ![7680, 2048]⟩
abbrev S4x2560x128 : Shape := ⟨3, ![4, 2560, 128]⟩
abbrev S4 : Shape := ⟨1, ![4]⟩
abbrev S4x2048 : Shape := ⟨2, ![4, 2048]⟩
abbrev S1x2048 : Shape := ⟨2, ![1, 2048]⟩
abbrev S1x13568 : Shape := ⟨2, ![1, 13568]⟩
abbrev S4x1 : Shape := ⟨2, ![4, 1]⟩
abbrev S4x13568 : Shape := ⟨2, ![4, 13568]⟩
abbrev S64x128 : Shape := ⟨2, ![64, 128]⟩
abbrev S1x4 : Shape := ⟨2, ![1, 4]⟩
abbrev S4x128 : Shape := ⟨2, ![4, 128]⟩
abbrev S4x7680 : Shape := ⟨2, ![4, 7680]⟩
abbrev S4x252 : Shape := ⟨2, ![4, 252]⟩
abbrev S4x16x128 : Shape := ⟨3, ![4, 16, 128]⟩
abbrev S4x5632 : Shape := ⟨2, ![4, 5632]⟩
abbrev S4x64 : Shape := ⟨2, ![4, 64]⟩
abbrev S4x1x64 : Shape := ⟨3, ![4, 1, 64]⟩
abbrev S4x16x64 : Shape := ⟨3, ![4, 16, 64]⟩
abbrev S4x16x2560 : Shape := ⟨3, ![4, 16, 2560]⟩
abbrev S4x1x128 : Shape := ⟨3, ![4, 1, 128]⟩
abbrev S4x16 : Shape := ⟨2, ![4, 16]⟩
abbrev S4x16x1 : Shape := ⟨3, ![4, 16, 1]⟩
abbrev S4x1x1 : Shape := ⟨3, ![4, 1, 1]⟩

abbrev nBuf : Space → Nat
  | .hbm => 27
  | .vmem => 20
  | .smem => 0
  | _ => 0

abbrev bufTy : (tb : Table) → Fin (tcTables nBuf tb) → BufTy
  | .hbm, ⟨0, _⟩ => ⟨S4x1x2048, .bf16⟩
  | .hbm, ⟨1, _⟩ => ⟨S2048, .f32⟩
  | .hbm, ⟨2, _⟩ => ⟨S2048, .f32⟩
  | .hbm, ⟨3, _⟩ => ⟨S2048x13568, .fp8e4m3⟩
  | .hbm, ⟨4, _⟩ => ⟨S13568, .f32⟩
  | .hbm, ⟨5, _⟩ => ⟨S7680x2048, .fp8e4m3⟩
  | .hbm, ⟨6, _⟩ => ⟨S2048, .f32⟩
  | .hbm, ⟨7, _⟩ => ⟨S4x2560x128, .fp8e5m2⟩
  | .hbm, ⟨8, _⟩ => ⟨S4x2560x128, .fp8e5m2⟩
  | .hbm, ⟨9, _⟩ => ⟨S4, .i32⟩
  | .hbm, ⟨10, _⟩ => ⟨S4, .i32⟩
  | .hbm, ⟨11, _⟩ => ⟨S4x2048, .bf16⟩
  | .hbm, ⟨12, _⟩ => ⟨S1x2048, .f32⟩
  | .hbm, ⟨13, _⟩ => ⟨S1x2048, .f32⟩
  | .hbm, ⟨14, _⟩ => ⟨S1x13568, .f32⟩
  | .hbm, ⟨15, _⟩ => ⟨S1x2048, .f32⟩
  | .hbm, ⟨16, _⟩ => ⟨S4x1, .i32⟩
  | .hbm, ⟨17, _⟩ => ⟨S4x1, .i32⟩
  | .hbm, ⟨18, _⟩ => ⟨S4x2048, .bf16⟩
  | .hbm, ⟨19, _⟩ => ⟨S4x13568, .bf16⟩
  | .hbm, ⟨20, _⟩ => ⟨S64x128, .f32⟩
  | .hbm, ⟨21, _⟩ => ⟨S4x2048, .fp8e4m3⟩
  | .hbm, ⟨22, _⟩ => ⟨S1x4, .f32⟩
  | .hbm, ⟨23, _⟩ => ⟨S4x128, .fp8e5m2⟩
  | .hbm, ⟨24, _⟩ => ⟨S4x128, .fp8e5m2⟩
  | .hbm, ⟨25, _⟩ => ⟨S4x7680, .fp8e4m3⟩
  | .hbm, ⟨26, _⟩ => ⟨S1x4, .f32⟩
  | .local _ .vmem, ⟨0, _⟩ => ⟨S4x2048, .bf16⟩
  | .local _ .vmem, ⟨1, _⟩ => ⟨S1x2048, .f32⟩
  | .local _ .vmem, ⟨2, _⟩ => ⟨S1x2048, .f32⟩
  | .local _ .vmem, ⟨3, _⟩ => ⟨S2048x13568, .fp8e4m3⟩
  | .local _ .vmem, ⟨4, _⟩ => ⟨S1x13568, .f32⟩
  | .local _ .vmem, ⟨5, _⟩ => ⟨S7680x2048, .fp8e4m3⟩
  | .local _ .vmem, ⟨6, _⟩ => ⟨S1x2048, .f32⟩
  | .local _ .vmem, ⟨7, _⟩ => ⟨S4x2560x128, .fp8e5m2⟩
  | .local _ .vmem, ⟨8, _⟩ => ⟨S4x2560x128, .fp8e5m2⟩
  | .local _ .vmem, ⟨9, _⟩ => ⟨S4x1, .i32⟩
  | .local _ .vmem, ⟨10, _⟩ => ⟨S4x1, .i32⟩
  | .local _ .vmem, ⟨11, _⟩ => ⟨S4x2048, .bf16⟩
  | .local _ .vmem, ⟨12, _⟩ => ⟨S4x13568, .bf16⟩
  | .local _ .vmem, ⟨13, _⟩ => ⟨S64x128, .f32⟩
  | .local _ .vmem, ⟨14, _⟩ => ⟨S4x2048, .fp8e4m3⟩
  | .local _ .vmem, ⟨15, _⟩ => ⟨S1x4, .f32⟩
  | .local _ .vmem, ⟨16, _⟩ => ⟨S4x128, .fp8e5m2⟩
  | .local _ .vmem, ⟨17, _⟩ => ⟨S4x128, .fp8e5m2⟩
  | .local _ .vmem, ⟨18, _⟩ => ⟨S4x7680, .fp8e4m3⟩
  | .local _ .vmem, ⟨19, _⟩ => ⟨S1x4, .f32⟩
  | _, _ => ⟨S4x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev main_v7_4 : Ref sig .tc := ⟨.hbm, 22, rfl⟩
abbrev main_v7_5 : Ref sig .tc := ⟨.hbm, 23, rfl⟩
abbrev main_v7_6 : Ref sig .tc := ⟨.hbm, 24, rfl⟩
abbrev main_v7_7 : Ref sig .tc := ⟨.hbm, 25, rfl⟩
abbrev main_v7_8 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := .none

abbrev stage0_0 : Fin 1 → Memref sig .tc .vmem S4x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x13568 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x13568 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7680x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x2560x128 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x2560x128 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x1 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x1 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x13568 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x2048 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x4 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4x128 .fp8e5m2 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x128 .fp8e5m2 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S4x7680 .fp8e4m3 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x4 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== Proof.PiecesIdeal.lean ====
/-
  The kernel's buffers, cells and copies by name: the pieces the weight matrices are cut into, the semaphore cells,
  the closed forms of the two loops' offsets and what each copy delivers.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Affine
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the launch's, beside the transfers' counters. -/
local notation "𝕄" => MT nD τ sig Unit (Elt F) ℕ (Pipeline.UD sig nD τ) ℕ

/-! ## The operands, the results and the scratch buffers, whole, in the body's order -/

abbrev M0 : Memref sig .tc .hbm S4x2048 .bf16 := Memref.whole main_v0
abbrev M1 : Memref sig .tc .hbm S1x2048 .f32 := Memref.whole main_v1
abbrev M2 : Memref sig .tc .hbm S1x2048 .f32 := Memref.whole main_v2
abbrev M3 : Memref sig .tc .hbm S2048x13568 .fp8e4m3 := Memref.whole main_arg3
abbrev M4 : Memref sig .tc .hbm S1x13568 .f32 := Memref.whole main_v3
abbrev M5 : Memref sig .tc .hbm S7680x2048 .fp8e4m3 := Memref.whole main_arg5
abbrev M6 : Memref sig .tc .hbm S1x2048 .f32 := Memref.whole main_v4
abbrev M7 : Memref sig .tc .hbm S4x2560x128 .fp8e5m2 := Memref.whole main_arg7
abbrev M8 : Memref sig .tc .hbm S4x2560x128 .fp8e5m2 := Memref.whole main_arg8
abbrev M9 : Memref sig .tc .hbm S4 .i32 := Memref.whole main_arg9
abbrev M10 : Memref sig .tc .hbm S4 .i32 := Memref.whole main_arg10
abbrev M11 : Memref sig .tc .hbm S4x2048 .bf16 := Memref.whole main_v5_0
abbrev M12 : Memref sig .tc .hbm S4x13568 .bf16 := Memref.whole main_v5_1
abbrev M13 : Memref sig .tc .hbm S64x128 .f32 := Memref.whole main_v5_2
abbrev M14 : Memref sig .tc .hbm S4x2048 .fp8e4m3 := Memref.whole main_v5_3
abbrev M15 : Memref sig .tc .hbm S1x4 .f32 := Memref.whole main_v5_4
abbrev M16 : Memref sig .tc .hbm S4x128 .fp8e5m2 := Memref.whole main_v5_5
abbrev M17 : Memref sig .tc .hbm S4x128 .fp8e5m2 := Memref.whole main_v5_6
abbrev M18 : Memref sig .tc .hbm S4x7680 .fp8e4m3 := Memref.whole main_v5_7
abbrev M19 : Memref sig .tc .hbm S1x4 .f32 := Memref.whole main_v5_8
abbrev M20 : Memref sig .tc .vmem S4x2048 .bf16 := Memref.whole cc0_scratch0
abbrev M21 : Memref sig .tc .vmem S1x2048 .f32 := Memref.whole cc0_scratch1
abbrev M22 : Memref sig .tc .vmem S1x2048 .f32 := Memref.whole cc0_scratch2
abbrev M23 : Memref sig .tc .vmem S2048x13568 .fp8e4m3 := Memref.whole cc0_scratch3
abbrev M24 : Memref sig .tc .vmem S1x13568 .f32 := Memref.whole cc0_scratch4
abbrev M25 : Memref sig .tc .vmem S7680x2048 .fp8e4m3 := Memref.whole cc0_scratch5
abbrev M26 : Memref sig .tc .vmem S1x2048 .f32 := Memref.whole cc0_scratch6
abbrev M27 : Memref sig .tc .vmem S4x2560x128 .fp8e5m2 := Memref.whole cc0_scratch7
abbrev M28 : Memref sig .tc .vmem S4x2560x128 .fp8e5m2 := Memref.whole cc0_scratch8
abbrev M29 : Memref sig .tc .smem S4 .i32 := Memref.whole cc0_scratch9
abbrev M30 : Memref sig .tc .smem S4 .i32 := Memref.whole cc0_scratch10
abbrev M31 : Memref sig .tc .vmem S4x2048 .bf16 := Memref.whole cc0_scratch11
abbrev M32 : Memref sig .tc .vmem S4x13568 .bf16 := Memref.whole cc0_scratch12
abbrev M33 : Memref sig .tc .vmem S64x128 .f32 := Memref.whole cc0_scratch13
abbrev M34 : Memref sig .tc .vmem S4x2048 .fp8e4m3 := Memref.whole cc0_scratch14
abbrev M35 : Memref sig .tc .vmem S1x4 .f32 := Memref.whole cc0_scratch15
abbrev M36 : Memref sig .tc .vmem S4x128 .fp8e5m2 := Memref.whole cc0_scratch16
abbrev M37 : Memref sig .tc .vmem S4x128 .fp8e5m2 := Memref.whole cc0_scratch17
abbrev M38 : Memref sig .tc .vmem S4x7680 .fp8e4m3 := Memref.whole cc0_scratch18
abbrev M39 : Memref sig .tc .vmem S1x4 .f32 := Memref.whole cc0_scratch19
abbrev M40 : Memref sig .tc .vmem S32x2048 .fp8e4m3 := Memref.whole cc0_scratch20
abbrev M41 : Memref sig .tc .vmem S32x7680 .fp8e4m3 := Memref.whole cc0_scratch21
abbrev M42 : Memref sig .tc .vmem S144x128 .f32 := Memref.whole cc0_scratch22
abbrev M43 : Memref sig .tc .vmem S4x7680 .f32 := Memref.whole cc0_scratch23
abbrev M44 : Memref sig .tc .vmem S4x2048 .f32 := Memref.whole cc0_scratch24

abbrev Bf (c : Dev nD) {sp : Space} {S : Shape} {e : EltTy} (M : Memref sig .tc sp S e) : Type := Buf (Elt F) (M.view.loc (c : Thread nD τ))
/-- A buffer held whole. -/
abbrev pt (c : Dev nD) {sp : Space} {S : Shape} {e : EltTy} (M : Memref sig .tc sp S e) (f : Bf (F := F) c M) : sProp 𝕄 :=
  M.view.loc (c : Thread nD τ) ↦{fullShare} f
/-- A piece of a buffer: its elements, at the contents `f` of the whole. -/
abbrev pp (c : Dev nD) {sp : Space} {S : Shape} {e : EltTy} (M : Memref sig .tc sp S e) (f : Bf (F := F) c M) : sProp 𝕄 :=
  M.view.loc (c : Thread nD τ) ↦[M.view.set]{fullShare} f
/-- A cell at zero. -/
abbrev cell (c : Dev nD) (s : DmaSems sig S_) : sProp 𝕄 := semVal ((c : Thread nD τ), SemLoc.dma s.sem) 0

/-! ## The pieces of the two weight matrices -/

abbrev gOff (k : Fin 11) : Fin 2 → ℕ := ![0, 2304 + 512 * k.val]
theorem gOff_inb (k : Fin 11) : ∀ a, gOff k a + S2048x512.size a ≤ S2048x13568.size a := by
  have := k.isLt; intro a; fin_cases a
  · show 0 + 2048 ≤ 2048; omega
  · show 2304 + 512 * k.val + 512 ≤ 13568; omega
abbrev uOff (k : Fin 11) : Fin 2 → ℕ := ![0, 7936 + 512 * k.val]
theorem uOff_inb (k : Fin 11) : ∀ a, uOff k a + S2048x512.size a ≤ S2048x13568.size a := by
  have := k.isLt; intro a; fin_cases a
  · show 0 + 2048 ≤ 2048; omega
  · show 7936 + 512 * k.val + 512 ≤ 13568; omega
abbrev qOff (k : Fin 3) : Fin 2 → ℕ := ![0, 768 * k.val]
theorem qOff_inb (k : Fin 3) : ∀ a, qOff k a + S2048x768.size a ≤ S2048x13568.size a := by
  have := k.isLt; intro a; fin_cases a
  · show 0 + 2048 ≤ 2048; omega
  · show 768 * k.val + 768 ≤ 13568; omega
abbrev oOff (k : Fin 10) : Fin 2 → ℕ := ![768 * k.val, 0]
theorem oOff_inb (k : Fin 10) : ∀ a, oOff k a + S768x2048.size a ≤ S7680x2048.size a := by
  have := k.isLt; intro a; fin_cases a
  · show 768 * k.val + 768 ≤ 7680; omega
  · show 0 + 2048 ≤ 2048; omega
theorem c11_inb (k : Fin 11) : ∀ a, (![k.val] : Fin 1 → ℕ) a + S1.size a ≤ S11.size a := by
  have := k.isLt; intro a; fin_cases a; show k.val + 1 ≤ 11; omega
theorem c10_inb (k : Fin 10) : ∀ a, (![k.val] : Fin 1 → ℕ) a + S1.size a ≤ S10.size a := by
  have := k.isLt; intro a; fin_cases a; show k.val + 1 ≤ 10; omega

/-- Columns of the first weight matrix, in HBM and in the kernel's copy: the gate's, the up projection's, the query's
    and the new key's and value's; rows of the second. -/
abbrev gH (k : Fin 11) : Memref sig .tc .hbm S2048x512 .fp8e4m3 := M3.slice (Rect.unit (s := S2048x13568) (gOff k) S2048x512.size (gOff_inb k)) (fun _ => rfl)
abbrev gV (k : Fin 11) : Memref sig .tc .vmem S2048x512 .fp8e4m3 := M23.slice (Rect.unit (s := S2048x13568) (gOff k) S2048x512.size (gOff_inb k)) (fun _ => rfl)
abbrev uH (k : Fin 11) : Memref sig .tc .hbm S2048x512 .fp8e4m3 := M3.slice (Rect.unit (s := S2048x13568) (uOff k) S2048x512.size (uOff_inb k)) (fun _ => rfl)
abbrev uV (k : Fin 11) : Memref sig .tc .vmem S2048x512 .fp8e4m3 := M23.slice (Rect.unit (s := S2048x13568) (uOff k) S2048x512.size (uOff_inb k)) (fun _ => rfl)
abbrev qH (k : Fin 3) : Memref sig .tc .hbm S2048x768 .fp8e4m3 := M3.slice (Rect.unit (s := S2048x13568) (qOff k) S2048x768.size (qOff_inb k)) (fun _ => rfl)
abbrev qV (k : Fin 3) : Memref sig .tc .vmem S2048x768 .fp8e4m3 := M23.slice (Rect.unit (s := S2048x13568) (qOff k) S2048x768.size (qOff_inb k)) (fun _ => rfl)
abbrev oH (k : Fin 10) : Memref sig .tc .hbm S768x2048 .fp8e4m3 := M5.slice (Rect.unit (s := S7680x2048) (oOff k) S768x2048.size (oOff_inb k)) (fun _ => rfl)
abbrev oV (k : Fin 10) : Memref sig .tc .vmem S768x2048 .fp8e4m3 := M25.slice (Rect.unit (s := S7680x2048) (oOff k) S768x2048.size (oOff_inb k)) (fun _ => rfl)
abbrev cg (k : Fin 11) : DmaSems sig S_ := (cc0_scoped4.slice (Rect.unit (s := S11) ![k.val] S1.size (c11_inb k))).squeeze S_ squeezes_S1_S_
abbrev co (k : Fin 10) : DmaSems sig S_ := (cc0_scoped5.slice (Rect.unit (s := S10) ![k.val] S1.size (c10_inb k))).squeeze S_ squeezes_S1_S_

/-! ## The two loops' offsets in closed form -/

section Chain
open Affine

abbrev t11 (k : Fin k0_t1_loop.trips) : Fin 11 := ⟨k.val, Nat.lt_of_lt_of_eq k.isLt (by decide)⟩
abbrev t10 (k : Fin k0_t2_loop.trips) : Fin 10 := ⟨k.val, Nat.lt_of_lt_of_eq k.isLt (by decide)⟩

/-- The trip's number, as the loop counts it. -/
theorem isInt_iv {n : ℕ} (k : Fin n) (hn : n ≤ 11) : IsInt (Scf.iv 0#32 1#32 k.val) k.val :=
  iv (e := k.val) (ofNat (e := 0) 0 ⟨rfl, by decide⟩) (ofNat (e := 1) 1 ⟨rfl, by decide⟩) k.val ⟨by omega, by have := k.isLt; omega, by have := k.isLt; omega⟩
theorem isInt_t {n : ℕ} (k : Fin n) (hn : n ≤ 11) : IsInt (Scalar.addi 0#32 (Scalar.muli (Scf.iv 0#32 1#32 k.val) 1#32)) k.val := by
  have := k.isLt
  have h : IsInt (Scalar.muli (Scf.iv 0#32 1#32 k.val) 1#32) k.val :=
    muli (e := k.val) (isInt_iv k hn) (ofNat (e := 1) 1 ⟨rfl, by decide⟩) ⟨by omega, by omega, by omega⟩
  exact addi (e := k.val) (ofNat (e := 0) 0 ⟨rfl, by decide⟩) h ⟨by omega, by omega, by omega⟩
theorem isInt_512 {n : ℕ} (k : Fin n) (hn : n ≤ 11) : IsInt (Scalar.muli (Scalar.addi 0#32 (Scalar.muli (Scf.iv 0#32 1#32 k.val) 1#32)) 512#32) (512 * k.val : ℕ) := by
  have := k.isLt
  exact muli (e := (512 * k.val : ℕ)) (isInt_t k hn) (ofNat (e := 512) 512 ⟨rfl, by decide⟩) ⟨by push_cast; omega, by omega, by push_cast; omega⟩
theorem isInt_768 {n : ℕ} (k : Fin n) (hn : n ≤ 11) : IsInt (Scalar.muli (Scalar.addi 0#32 (Scalar.muli (Scf.iv 0#32 1#32 k.val) 1#32)) 768#32) (768 * k.val : ℕ) := by
  have := k.isLt
  exact muli (e := (768 * k.val : ℕ)) (isInt_t k hn) (ofNat (e := 768) 768 ⟨rfl, by decide⟩) ⟨by push_cast; omega, by omega, by push_cast; omega⟩
theorem isInt_add (b : ℕ) (hb : b ≤ 10000) {n : ℕ} (k : Fin n) (hn : n ≤ 11) :
    IsInt (Scalar.addi (BitVec.ofNat 32 b) (Scalar.muli (Scalar.addi 0#32 (Scalar.muli (Scf.iv 0#32 1#32 k.val) 1#32)) 512#32)) (b + 512 * k.val : ℕ) := by
  have := k.isLt
  exact addi (e := (b + 512 * k.val : ℕ)) (ofNat (e := b) b ⟨rfl, by omega⟩) (isInt_512 k hn) ⟨by push_cast; omega, by omega, by push_cast; omega⟩

theorem trips1 : k0_t1_loop.trips = 11 := by decide
theorem trips2 : k0_t2_loop.trips = 10 := by decide

theorem off1_eq (k : Fin k0_t1_loop.trips) : k0_off1 k = ![(t11 k).val] := vec_cons (isInt_t k trips1.le) rfl vec_nil
theorem off7_eq (k : Fin k0_t2_loop.trips) : k0_off7 k = ![(t10 k).val] := vec_cons (isInt_t k (trips2.le.trans (by decide))) rfl vec_nil
theorem vec2 {x : BitVec 32} {n : ℕ} (h : IsInt x n) : (![0, x.toNat] : Fin 2 → ℕ) = ![0, n] :=
  congrArg (Matrix.vecCons 0) (vec_cons h rfl vec_nil)
theorem off2g_eq (k : Fin k0_t1_loop.trips) : k0_off2 k 2304#32 = gOff (t11 k) := vec2 (isInt_add 2304 (by decide) k trips1.le)
theorem off2u_eq (k : Fin k0_t1_loop.trips) : k0_off2 k 7936#32 = uOff (t11 k) := vec2 (isInt_add 7936 (by decide) k trips1.le)
theorem off3g_eq (k : Fin k0_t1_loop.trips) : k0_off3 k 2304#32 = gOff (t11 k) := vec2 (indexCast (isInt_add 2304 (by decide) k trips1.le))
theorem off3u_eq (k : Fin k0_t1_loop.trips) : k0_off3 k 7936#32 = uOff (t11 k) := vec2 (indexCast (isInt_add 7936 (by decide) k trips1.le))
theorem off4g_eq (k : Fin k0_t1_loop.trips) : k0_off4 k 2304#32 = gOff (t11 k) := vec2 (indexCast (isInt_add 2304 (by decide) k trips1.le))
theorem off4u_eq (k : Fin k0_t1_loop.trips) : k0_off4 k 7936#32 = uOff (t11 k) := vec2 (indexCast (isInt_add 7936 (by decide) k trips1.le))
theorem off5g_eq (k : Fin k0_t1_loop.trips) : k0_off5 k 2304#32 = gOff (t11 k) := vec2 (indexCast (isInt_add 2304 (by decide) k trips1.le))
theorem off5u_eq (k : Fin k0_t1_loop.trips) : k0_off5 k 7936#32 = uOff (t11 k) := vec2 (indexCast (isInt_add 7936 (by decide) k trips1.le))
theorem off6_eq (k : Fin k0_t1_loop.trips) : k0_off6 k = ![0, 2048 + 512 * k.val] := vec2 (indexCast (isInt_add 2048 (by decide) k trips1.le))
theorem off8_eq (k : Fin k0_t2_loop.trips) : k0_off8 k = oOff (t10 k) := vec_cons (isInt_768 k (trips2.le.trans (by decide))) rfl rfl
theorem off9_eq (k : Fin k0_t2_loop.trips) : k0_off9 k = ![0, 768 * k.val] := vec2 (indexCast (isInt_768 k (trips2.le.trans (by decide))))
theorem off10_eq (k : Fin k0_t2_loop.trips) : k0_off10 k = oOff (t10 k) := vec_cons (indexCast (isInt_768 k (trips2.le.trans (by decide)))) rfl rfl

instance (k : Fin 11) : ClosedOff (gOff k) := ⟨gOff k, rfl⟩
instance (k : Fin 11) : ClosedOff (uOff k) := ⟨uOff k, rfl⟩
instance (k : Fin 10) : ClosedOff (oOff k) := ⟨oOff k, rfl⟩
instance (k : Fin k0_t1_loop.trips) : ClosedOff (k0_off3 k 2304#32) := ⟨gOff (t11 k), off3g_eq k⟩
instance (k : Fin k0_t1_loop.trips) : ClosedOff (k0_off3 k 7936#32) := ⟨uOff (t11 k), off3u_eq k⟩
instance (k : Fin k0_t1_loop.trips) : ClosedOff (k0_off4 k 2304#32) := ⟨gOff (t11 k), off4g_eq k⟩
instance (k : Fin k0_t1_loop.trips) : ClosedOff (k0_off4 k 7936#32) := ⟨uOff (t11 k), off4u_eq k⟩
instance (k : Fin k0_t1_loop.trips) : ClosedOff (k0_off5 k 2304#32) := ⟨gOff (t11 k), off5g_eq k⟩
instance (k : Fin k0_t1_loop.trips) : ClosedOff (k0_off5 k 7936#32) := ⟨uOff (t11 k), off5u_eq k⟩
instance (k : Fin k0_t1_loop.trips) : ClosedOff (k0_off6 k) := ⟨![0, 2048 + 512 * k.val], off6_eq k⟩
instance (k : Fin k0_t2_loop.trips) : ClosedOff (k0_off9 k) := ⟨![0, 768 * k.val], off9_eq k⟩
instance (k : Fin k0_t2_loop.trips) : ClosedOff (k0_off10 k) := ⟨oOff (t10 k), off10_eq k⟩

private theorem cg_congr {off : Fin 1 → ℕ} {k : Fin 11} (e : off = ![k.val]) (hh) :
    (cc0_scoped4.slice (Rect.unit (s := S11) off S1.size hh)).squeeze S_ squeezes_S1_S_ = cg k :=
  congrArg (fun A : DmaSems sig S1 => A.squeeze S_ squeezes_S1_S_) (SemArray.slice_unit_congr _ e _ _)
private theorem co_congr {off : Fin 1 → ℕ} {k : Fin 10} (e : off = ![k.val]) (hh) :
    (cc0_scoped5.slice (Rect.unit (s := S10) off S1.size hh)).squeeze S_ squeezes_S1_S_ = co k :=
  congrArg (fun A : DmaSems sig S1 => A.squeeze S_ squeezes_S1_S_) (SemArray.slice_unit_congr _ e _ _)

/-- The slices and cells of a trip, by name. -/
@[sl_canon] theorem cgK (k : Fin k0_t1_loop.trips) (hh) :
    (cc0_scoped4.slice (Rect.unit (s := S11) (k0_off1 k) S1.size hh)).squeeze S_ squeezes_S1_S_ = cg (t11 k) := cg_congr (off1_eq k) _
@[sl_canon] theorem coK (k : Fin k0_t2_loop.trips) (hh) :
    (cc0_scoped5.slice (Rect.unit (s := S10) (k0_off7 k) S1.size hh)).squeeze S_ squeezes_S1_S_ = co (t10 k) := co_congr (off7_eq k) _
@[sl_canon] theorem gHK (k : Fin k0_t1_loop.trips) (hh hs) : M3.slice (Rect.unit (s := S2048x13568) (k0_off2 k 2304#32) S2048x512.size hh) hs = gH (t11 k) := Memref.slice_unit_congr _ (off2g_eq k) _ _ _ _
@[sl_canon] theorem gVK (k : Fin k0_t1_loop.trips) (hh hs) : M23.slice (Rect.unit (s := S2048x13568) (k0_off2 k 2304#32) S2048x512.size hh) hs = gV (t11 k) := Memref.slice_unit_congr _ (off2g_eq k) _ _ _ _
@[sl_canon] theorem uHK (k : Fin k0_t1_loop.trips) (hh hs) : M3.slice (Rect.unit (s := S2048x13568) (k0_off2 k 7936#32) S2048x512.size hh) hs = uH (t11 k) := Memref.slice_unit_congr _ (off2u_eq k) _ _ _ _
@[sl_canon] theorem uVK (k : Fin k0_t1_loop.trips) (hh hs) : M23.slice (Rect.unit (s := S2048x13568) (k0_off2 k 7936#32) S2048x512.size hh) hs = uV (t11 k) := Memref.slice_unit_congr _ (off2u_eq k) _ _ _ _
@[sl_canon] theorem oHK (k : Fin k0_t2_loop.trips) (hh hs) : M5.slice (Rect.unit (s := S7680x2048) (k0_off8 k) S768x2048.size hh) hs = oH (t10 k) := Memref.slice_unit_congr _ (off8_eq k) _ _ _ _
@[sl_canon] theorem oVK (k : Fin k0_t2_loop.trips) (hh hs) : M25.slice (Rect.unit (s := S7680x2048) (k0_off8 k) S768x2048.size hh) hs = oV (t10 k) := Memref.slice_unit_congr _ (off8_eq k) _ _ _ _

end Chain

/-! ## What the copies deliver -/

section Flights
variable (c : Dev nD) (a3 : Bf (F := F) c M3) (a5 : Bf (F := F) c M5) (a7 : Bf (F := F) c M7) (a8 : Bf (F := F) c M8)
  (s3 : Bf (F := F) c M23) (s5 : Bf (F := F) c M25) (s7 : Bf (F := F) c M27) (s8 : Bf (F := F) c M28)

abbrev landed {sp sp' : Space} {S : Shape} {e : EltTy} (V : Memref sig .tc sp S e) (H : Memref sig .tc sp' S e)
    (f : Bf (F := F) c V) (g : Bf (F := F) c H) : Bf (F := F) c V :=
  V.view.writes (Elt F) f [⟨Rect.whole S, ReadAs.same.apply (H.view.read (Elt F) g)⟩]

/-- A piece after its copy, over contents nothing reads. -/
abbrev landedJ {sp sp' : Space} {S : Shape} {e : EltTy} (V : Memref sig .tc sp S e) (H : Memref sig .tc sp' S e)
    (g : Bf (F := F) c H) : Bf (F := F) c V :=
  V.view.writes (Elt F) V.view.junk [⟨Rect.whole S, ReadAs.same.apply (H.view.read (Elt F) g)⟩]

/-- Trip `k`'s two copies, which ride on one cell: the gate's columns and the up projection's. -/
def gDel (k : Fin 11) : Fin 2 → sProp 𝕄
  | 0 => iprop(pp c (gV k) (landed c (gV k) (gH k) s3 a3) ∗ pp c (gH k) a3)
  | 1 => iprop(pp c (uV k) (landed c (uV k) (uH k) s3 a3) ∗ pp c (uH k) a3)
instance (k : Fin 11) (t : Fin 2) : Storable (upEmb : UEmb _ 𝕄) (gDel c a3 s3 k t) := by
  fin_cases t <;> simp only [gDel] <;> infer_instance
/-- The key and the value cache's copies, which ride on one cell. -/
def kvDel : Fin 2 → sProp 𝕄
  | 0 => iprop(pt c M27 (View.write (Elt F) M27.view s7 (ReadAs.same.apply (M7.view.read (Elt F) a7)) Finset.univ) ∗ pp c M7 a7)
  | 1 => iprop(pt c M28 (View.write (Elt F) M28.view s8 (ReadAs.same.apply (M8.view.read (Elt F) a8)) Finset.univ) ∗ pp c M8 a8)
instance (t : Fin 2) : Storable (upEmb : UEmb _ 𝕄) (kvDel c a7 a8 s7 s8 t) := by
  fin_cases t <;> simp only [kvDel] <;> infer_instance

end Flights

end Cert.KernelIdeal.Hand
-- ==== Proof.LoopsIdeal.lean ====
/-
  One trip of each of the kernel's two loops, and the loops' invariants: trip `k`'s pieces of the weights are in flight
  before it and held after it.
-/
module

public import proofs.«01_k».proof.Proof.PiecesIdeal

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## A family of which the first `k` members are done -/

omit [FloatOps F] in
/-- Members `A j` still to come, `B j` done. -/
def fam {n : ℕ} (A B : Fin n → sProp 𝕄) (k : ℕ) : sProp 𝕄 := bigSep Finset.univ (fun j : Fin n => if j.val < k then B j else A j)
def famRest {n : ℕ} (A B : Fin n → sProp 𝕄) (k : Fin n) : sProp 𝕄 := bigSep (Finset.univ.erase k) (fun j : Fin n => if j.val < k.val then B j else A j)

omit [FloatOps F] in
theorem fam_here {n : ℕ} (A B : Fin n → sProp 𝕄) (k : Fin n) : fam A B k.val = iprop(A k ∗ famRest A B k) := by
  unfold fam famRest
  conv_lhs => rw [← Finset.insert_erase (Finset.mem_univ k), bigSep_insert (Finset.notMem_erase k _)]
  rw [if_neg (lt_irrefl _)]; rfl
omit [FloatOps F] in
theorem fam_next {n : ℕ} (A B : Fin n → sProp 𝕄) (k : Fin n) : fam A B (k.val + 1) = iprop(B k ∗ famRest A B k) := by
  unfold fam famRest
  conv_lhs => rw [← Finset.insert_erase (Finset.mem_univ k), bigSep_insert (Finset.notMem_erase k _)]
  rw [if_pos (Nat.lt_succ_self _)]
  refine congrArg (fun Q => iprop(B k ∗ Q)) (bigSep_congr fun j hj => ?_)
  have hne : j.val ≠ k.val := fun h => (Finset.ne_of_mem_erase hj) (Fin.ext h)
  by_cases h : j.val < k.val
  · rw [if_pos h, if_pos (by omega)]
  · rw [if_neg h, if_neg (by omega)]
omit [FloatOps F] in
@[sl_canon] theorem fam_zero {n : ℕ} (A B : Fin n → sProp 𝕄) : fam A B 0 = bigSep Finset.univ A :=
  bigSep_congr fun j _ => if_neg (Nat.not_lt_zero _)
omit [FloatOps F] in
theorem fam_all {n : ℕ} (A B : Fin n → sProp 𝕄) : fam A B n = bigSep Finset.univ B :=
  bigSep_congr fun j _ => if_pos j.isLt

/-! ## The first loop: the gate's and the up projection's columns -/

section Trips

variable (c : Dev nD)

abbrev gFly (a3 : Bf (F := F) c M3) (s3 : Bf (F := F) c M23) (j : Fin 11) : sProp 𝕄 :=
  Transfers.Batch (countersEmb (U := Pipeline.UD sig nD τ)) (c : Thread nD τ) (SemLoc.dma (cg j).sem) () 32768 (gDel c a3 s3 j) 2 0
abbrev gDone (a3 : Bf (F := F) c M3) (j : Fin 11) : sProp 𝕄 :=
  iprop(cell c (cg j)
    ∗ (pp c (gV j) (landedJ c (gV j) (gH j) a3) ∗ pp c (gH j) a3)
    ∗ (pp c (uV j) (landedJ c (uV j) (uH j) a3) ∗ pp c (uH j) a3))
abbrev oFly (a5 : Bf (F := F) c M5) (s5 : Bf (F := F) c M25) (j : Fin 10) : sProp 𝕄 :=
  Transfers.Flight (countersEmb (U := Pipeline.UD sig nD τ)) (c : Thread nD τ) (SemLoc.dma (co j).sem) () 49152
    iprop(pp c (oV j) (landed c (oV j) (oH j) s5 a5) ∗ pp c (oH j) a5)
abbrev oDone (a5 : Bf (F := F) c M5) (j : Fin 10) : sProp 𝕄 :=
  iprop(cell c (co j) ∗ pp c (oV j) (landedJ c (oV j) (oH j) a5) ∗ pp c (oH j) a5)

abbrev trip1 (v317 : FVec F S4x1 .f32) (v872 : Vec F S4x128 .f32) (k : Fin k0_t1_loop.trips) : Prog (TpuEff nD τ sig (Elt F) Λ₀ .tc) Unit :=
  k0_t1_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) M19 (Memref.isWhole_whole _) M20 (Memref.isWhole_whole _) M21 (Memref.isWhole_whole _) M22 (Memref.isWhole_whole _) M23 (Memref.isWhole_whole _) M24 (Memref.isWhole_whole _) M25 (Memref.isWhole_whole _) M26 (Memref.isWhole_whole _) M27 (Memref.isWhole_whole _) M28 (Memref.isWhole_whole _) M29 (Memref.isWhole_whole _) M30 (Memref.isWhole_whole _) M31 (Memref.isWhole_whole _) M32 (Memref.isWhole_whole _) M33 (Memref.isWhole_whole _) M34 (Memref.isWhole_whole _) M35 (Memref.isWhole_whole _) M36 (Memref.isWhole_whole _) M37 (Memref.isWhole_whole _) M38 (Memref.isWhole_whole _) M39 (Memref.isWhole_whole _) M40 (Memref.isWhole_whole _) M41 (Memref.isWhole_whole _) M42 (Memref.isWhole_whole _) M43 (Memref.isWhole_whole _) M44 (Memref.isWhole_whole _) cc0_scoped0 cc0_scoped1 cc0_scoped2 cc0_scoped3 cc0_scoped4 cc0_scoped5 cc0_scoped6 v317 v872 k ()
abbrev trip2 (v988 : FVec F S4x1 .f32) (k : Fin k0_t2_loop.trips) : Prog (TpuEff nD τ sig (Elt F) Λ₀ .tc) Unit :=
  k0_t2_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) M19 (Memref.isWhole_whole _) M20 (Memref.isWhole_whole _) M21 (Memref.isWhole_whole _) M22 (Memref.isWhole_whole _) M23 (Memref.isWhole_whole _) M24 (Memref.isWhole_whole _) M25 (Memref.isWhole_whole _) M26 (Memref.isWhole_whole _) M27 (Memref.isWhole_whole _) M28 (Memref.isWhole_whole _) M29 (Memref.isWhole_whole _) M30 (Memref.isWhole_whole _) M31 (Memref.isWhole_whole _) M32 (Memref.isWhole_whole _) M33 (Memref.isWhole_whole _) M34 (Memref.isWhole_whole _) M35 (Memref.isWhole_whole _) M36 (Memref.isWhole_whole _) M37 (Memref.isWhole_whole _) M38 (Memref.isWhole_whole _) M39 (Memref.isWhole_whole _) M40 (Memref.isWhole_whole _) M41 (Memref.isWhole_whole _) M42 (Memref.isWhole_whole _) M43 (Memref.isWhole_whole _) M44 (Memref.isWhole_whole _) cc0_scoped0 cc0_scoped1 cc0_scoped2 cc0_scoped3 cc0_scoped4 cc0_scoped5 cc0_scoped6 v988 k ()

/-- What the first loop's trip `k` is handed. -/
def res1 (a3 : Bf (F := F) c M3) (s3 : Bf (F := F) c M23) (f40 : Bf (F := F) c M40) (f24 : Bf (F := F) c M24)
    (k : ℕ) (o32 : Bf (F := F) c M32) (o43 : Bf (F := F) c M43) : sProp 𝕄 :=
  iprop(pt c M40 f40 ∗ pt c M24 f24 ∗ pt c M32 o32 ∗ pt c M43 o43 ∗ (∃ W, owes (c : Thread nD τ) 0 W)
    ∗ fam (gFly c a3 s3) (gDone c a3) k)

set_option backward.proofsInPublic true in
/-- One trip of the first loop, at a symbolic trip: the two copies waited for, the two tiles projected and stored. -/
def tripRun1 (a3 : Bf (F := F) c M3) (s3 : Bf (F := F) c M23) (f40 : Bf (F := F) c M40) (f24 : Bf (F := F) c M24)
    (v317 : FVec F S4x1 .f32) (v872 : Vec F S4x128 .f32) (k : Fin k0_t1_loop.trips) :
    { w : (Bf (F := F) c M32 → Bf (F := F) c M32) × (Bf (F := F) c M43 → Bf (F := F) c M43) // ∀ o32 o43,
      res1 c a3 s3 f40 f24 k o32 o43 ⊢ wp frame (wpE (defs₀ (F := F)) Variants.none (c : Thread nD τ) none) Set.univ (trip1 v317 v872 k)
        (fun _ => res1 c a3 s3 f40 f24 (k.val + 1) (w.1 o32) (w.2 o43)) } := by
  refine ⟨⟨?_, ?_⟩, fun o32 o43 => ?run⟩
  case run =>
    dsimp only
    unfold res1
    rw [show (k.val : ℕ) = (t11 k).val from rfl, fam_here, fam_next]
    unfold gFly
    iintro ⟨H40, H24, H32, H43, ⟨%W, HW⟩, HB, Hrest⟩
    dsimp only [trip1]
    sl_unfold [k0_t1_body]
    sl_exec
    sl_step
    isplitl [H40]; · iexact H40
    isplitl [H24]; · iexact H24
    isplitl [H32]; · iexact H32
    isplitl [H43]; · iexact H43
    isplitl [HW]; · iexists _; iexact HW
    isplitr [Hrest]
    · isplitl [HB]; · iexact HB
      isplitl [HB_dst0 HB_src0]
      · isplitl [HB_dst0]; · iexact HB_dst0
        iexact HB_src0
      isplitl [HB_dst1]; · iexact HB_dst1
      iexact HB_src1
    iexact Hrest

/-! ## The second loop: the output projection's rows -/

def res2 (a5 : Bf (F := F) c M5) (s5 : Bf (F := F) c M25) (f41 : Bf (F := F) c M41) (k : ℕ) (o44 : Bf (F := F) c M44) : sProp 𝕄 :=
  iprop(pt c M41 f41 ∗ pt c M44 o44 ∗ (∃ W, owes (c : Thread nD τ) 0 W) ∗ fam (oFly c a5 s5) (oDone c a5) k)

set_option backward.proofsInPublic true in
def tripRun2 (a5 : Bf (F := F) c M5) (s5 : Bf (F := F) c M25) (f41 : Bf (F := F) c M41)
    (v988 : FVec F S4x1 .f32) (k : Fin k0_t2_loop.trips) (o44 : Bf (F := F) c M44) :
    { w : Bf (F := F) c M44 //
      res2 c a5 s5 f41 k o44 ⊢ wp frame (wpE (defs₀ (F := F)) Variants.none (c : Thread nD τ) none) Set.univ (trip2 v988 k)
        (fun _ => res2 c a5 s5 f41 (k.val + 1) w) } := by
  refine ⟨?_, ?run⟩
  case run =>
    unfold res2
    rw [show (k.val : ℕ) = (t10 k).val from rfl, fam_here, fam_next]
    unfold oFly
    iintro ⟨H41, H44, ⟨%W, HW⟩, HB, Hrest⟩
    dsimp only [trip2]
    sl_unfold [k0_t2_body]
    sl_exec
    sl_step
    isplitl [H41]; · iexact H41
    isplitl [H44]; · iexact H44
    isplitl [HW]; · iexists _; iexact HW
    isplitr [Hrest]
    · isplitl [HB]; · iexact HB
      isplitl [HB_dst]; · iexact HB_dst
      iexact HB_src
    iexact Hrest

/-! ## The accumulations and the invariants -/

/-- The two buffers the first loop stores into, before trip `k`. -/
def acc32 (a3 : Bf (F := F) c M3) (s3 : Bf (F := F) c M23) (f40 : Bf (F := F) c M40) (f24 : Bf (F := F) c M24)
    (v317 : FVec F S4x1 .f32) (v872 : Vec F S4x128 .f32) (o : Bf (F := F) c M32) : ℕ → Bf (F := F) c M32
  | 0 => o
  | k + 1 =>
    if h : k < k0_t1_loop.trips then (tripRun1 c a3 s3 f40 f24 v317 v872 ⟨k, h⟩).1.1 (acc32 a3 s3 f40 f24 v317 v872 o k)
    else acc32 a3 s3 f40 f24 v317 v872 o k
def acc43 (a3 : Bf (F := F) c M3) (s3 : Bf (F := F) c M23) (f40 : Bf (F := F) c M40) (f24 : Bf (F := F) c M24)
    (v317 : FVec F S4x1 .f32) (v872 : Vec F S4x128 .f32) (o : Bf (F := F) c M43) : ℕ → Bf (F := F) c M43
  | 0 => o
  | k + 1 =>
    if h : k < k0_t1_loop.trips then (tripRun1 c a3 s3 f40 f24 v317 v872 ⟨k, h⟩).1.2 (acc43 a3 s3 f40 f24 v317 v872 o k)
    else acc43 a3 s3 f40 f24 v317 v872 o k

/-- The accumulator of the second loop, before trip `k`. -/
def acc44 (a5 : Bf (F := F) c M5) (s5 : Bf (F := F) c M25) (f41 : Bf (F := F) c M41)
    (v988 : FVec F S4x1 .f32) (o : Bf (F := F) c M44) : ℕ → Bf (F := F) c M44
  | 0 => o
  | k + 1 =>
    if h : k < k0_t2_loop.trips then (tripRun2 c a5 s5 f41 v988 ⟨k, h⟩ (acc44 a5 s5 f41 v988 o k)).1
    else acc44 a5 s5 f41 v988 o k

@[sl_canon] theorem acc32_zero (a3 : Bf (F := F) c M3) (s3 : Bf (F := F) c M23) (f40 : Bf (F := F) c M40) (f24 : Bf (F := F) c M24)
    (v317 : FVec F S4x1 .f32) (v872 : Vec F S4x128 .f32) (o : Bf (F := F) c M32) :
    acc32 c a3 s3 f40 f24 v317 v872 o 0 = o := rfl

@[sl_canon] theorem acc43_zero (a3 : Bf (F := F) c M3) (s3 : Bf (F := F) c M23) (f40 : Bf (F := F) c M40) (f24 : Bf (F := F) c M24)
    (v317 : FVec F S4x1 .f32) (v872 : Vec F S4x128 .f32) (o : Bf (F := F) c M43) :
    acc43 c a3 s3 f40 f24 v317 v872 o 0 = o := rfl

set_option warn.classDefReducibility false in
@[sl_loop] def loopInv1 (a3 : Bf (F := F) c M3) (s3 : Bf (F := F) c M23) (f40 : Bf (F := F) c M40) (f24 : Bf (F := F) c M24)
    (v317 : FVec F S4x1 .f32) (v872 : Vec F S4x128 .f32) (o32 : Bf (F := F) c M32) (o43 : Bf (F := F) c M43) :
    LoopInvTy_k0_t1 (F := F) Unit ℕ (Pipeline.UD sig nD τ) ℕ Variants.none c none Set.univ M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) M19 (Memref.isWhole_whole _) M20 (Memref.isWhole_whole _) M21 (Memref.isWhole_whole _) M22 (Memref.isWhole_whole _) M23 (Memref.isWhole_whole _) M24 (Memref.isWhole_whole _) M25 (Memref.isWhole_whole _) M26 (Memref.isWhole_whole _) M27 (Memref.isWhole_whole _) M28 (Memref.isWhole_whole _) M29 (Memref.isWhole_whole _) M30 (Memref.isWhole_whole _) M31 (Memref.isWhole_whole _) M32 (Memref.isWhole_whole _) M33 (Memref.isWhole_whole _) M34 (Memref.isWhole_whole _) M35 (Memref.isWhole_whole _) M36 (Memref.isWhole_whole _) M37 (Memref.isWhole_whole _) M38 (Memref.isWhole_whole _) M39 (Memref.isWhole_whole _) M40 (Memref.isWhole_whole _) M41 (Memref.isWhole_whole _) M42 (Memref.isWhole_whole _) M43 (Memref.isWhole_whole _) M44 (Memref.isWhole_whole _) cc0_scoped0 cc0_scoped1 cc0_scoped2 cc0_scoped3 cc0_scoped4 cc0_scoped5 cc0_scoped6 v317 v872 where
  inv k _ := res1 c a3 s3 f40 f24 k (acc32 c a3 s3 f40 f24 v317 v872 o32 k) (acc43 c a3 s3 f40 f24 v317 v872 o43 k)
  step k _ := by
    have e32 : acc32 c a3 s3 f40 f24 v317 v872 o32 (k.val + 1)
        = (tripRun1 c a3 s3 f40 f24 v317 v872 k).1.1 (acc32 c a3 s3 f40 f24 v317 v872 o32 k) := by
      rw [acc32, dif_pos k.isLt]
    have e43 : acc43 c a3 s3 f40 f24 v317 v872 o43 (k.val + 1)
        = (tripRun1 c a3 s3 f40 f24 v317 v872 k).1.2 (acc43 c a3 s3 f40 f24 v317 v872 o43 k) := by
      rw [acc43, dif_pos k.isLt]
    rw [e32, e43]
    exact (tripRun1 c a3 s3 f40 f24 v317 v872 k).2 _ _

@[sl_canon] theorem acc44_zero (a5 : Bf (F := F) c M5) (s5 : Bf (F := F) c M25) (f41 : Bf (F := F) c M41)
    (v988 : FVec F S4x1 .f32) (o : Bf (F := F) c M44) : acc44 c a5 s5 f41 v988 o 0 = o := rfl

set_option warn.classDefReducibility false in
@[sl_loop] def loopInv2 (a5 : Bf (F := F) c M5) (s5 : Bf (F := F) c M25) (f41 : Bf (F := F) c M41)
    (v988 : FVec F S4x1 .f32) (o44 : Bf (F := F) c M44) :
    LoopInvTy_k0_t2 (F := F) Unit ℕ (Pipeline.UD sig nD τ) ℕ Variants.none c none Set.univ M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) M19 (Memref.isWhole_whole _) M20 (Memref.isWhole_whole _) M21 (Memref.isWhole_whole _) M22 (Memref.isWhole_whole _) M23 (Memref.isWhole_whole _) M24 (Memref.isWhole_whole _) M25 (Memref.isWhole_whole _) M26 (Memref.isWhole_whole _) M27 (Memref.isWhole_whole _) M28 (Memref.isWhole_whole _) M29 (Memref.isWhole_whole _) M30 (Memref.isWhole_whole _) M31 (Memref.isWhole_whole _) M32 (Memref.isWhole_whole _) M33 (Memref.isWhole_whole _) M34 (Memref.isWhole_whole _) M35 (Memref.isWhole_whole _) M36 (Memref.isWhole_whole _) M37 (Memref.isWhole_whole _) M38 (Memref.isWhole_whole _) M39 (Memref.isWhole_whole _) M40 (Memref.isWhole_whole _) M41 (Memref.isWhole_whole _) M42 (Memref.isWhole_whole _) M43 (Memref.isWhole_whole _) M44 (Memref.isWhole_whole _) cc0_scoped0 cc0_scoped1 cc0_scoped2 cc0_scoped3 cc0_scoped4 cc0_scoped5 cc0_scoped6 v988 where
  inv k _ := res2 c a5 s5 f41 k (acc44 c a5 s5 f41 v988 o44 k)
  step k _ := by
    have e : acc44 c a5 s5 f41 v988 o44 (k.val + 1) = (tripRun2 c a5 s5 f41 v988 k (acc44 c a5 s5 f41 v988 o44 k)).1 := by
      rw [acc44, dif_pos k.isLt]
    rw [e]
    exact (tripRun2 c a5 s5 f41 v988 k _).2

end Trips

end Cert.KernelIdeal.Hand
-- ==== Proof.StateIdeal.lean ====
/-
  The run of the kernel's whole body: every copy issued and waited for, the two loops by their invariants, and the nine
  results as the run leaves them.
-/
module

public import proofs.«01_k».proof.Proof.LoopsIdeal

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Run

variable (c : Dev nD)

/-! ## A family, member by member -/

omit [FloatOps F] in
theorem fam3 (Φ : Fin 3 → sProp 𝕄) : bigSep Finset.univ Φ = iprop(Φ 0 ∗ Φ 1 ∗ Φ 2) := by
  rw [bigSep_univ_eq_bigSepL [0, 1, 2] (by decide) (by decide) Φ]; rfl
omit [FloatOps F] in
theorem fam11 (Φ : Fin 11 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10) := by
  rw [bigSep_univ_eq_bigSepL [0, 1, 2, 3, 4, 5, 6, 7, 8, 9, 10] (by decide) (by decide) Φ]; rfl
omit [FloatOps F] in
theorem fam10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) := by
  rw [bigSep_univ_eq_bigSepL [0, 1, 2, 3, 4, 5, 6, 7, 8, 9] (by decide) (by decide) Φ]; rfl

omit [FloatOps F] in
theorem entails_of_eq {P Q : sProp 𝕄} (e : P = Q) : P ⊢ Q := e ▸ .rfl

omit [FloatOps F] in
theorem fam_done {n : ℕ} (A B : Fin n → sProp 𝕄) (m : ℕ) (h : n ≤ m) :
    (bigSep Finset.univ fun j : Fin n => if j.val < m then B j else A j) = bigSep Finset.univ B :=
  bigSep_congr fun j _ => if_pos (lt_of_lt_of_le j.isLt h)

/-! ## What the body is handed and what it leaves -/

/-- One trip's pieces of the first weight matrix and their cell, before anything is issued; -/
abbrev gStart (a3 : Bf (F := F) c M3) (s23 : Bf (F := F) c M23) (j : Fin 11) : sProp 𝕄 :=
  iprop(cell c (cg j) ∗ (pp c (gV j) s23 ∗ pp c (gH j) a3) ∗ (pp c (uV j) s23 ∗ pp c (uH j) a3))
/-- of the second; -/
abbrev oStart (a5 : Bf (F := F) c M5) (s25 : Bf (F := F) c M25) (j : Fin 10) : sProp 𝕄 :=
  iprop(cell c (co j) ∗ pp c (oV j) s25 ∗ pp c (oH j) a5)
/-- the query's, the new key's and the new value's columns. -/
abbrev qStart (a3 : Bf (F := F) c M3) (s23 : Bf (F := F) c M23) (j : Fin 3) : sProp 𝕄 :=
  iprop(pp c (qV j) s23 ∗ pp c (qH j) a3)
/-- The query's columns after their copy. -/
abbrev qDone (a3 : Bf (F := F) c M3) (j : Fin 3) : sProp 𝕄 :=
  iprop(pp c (qV j) (landedJ c (qV j) (qH j) a3) ∗ pp c (qH j) a3)

/-- The operands the body reads whole. -/
abbrev insP (a0 : Bf (F := F) c M0) (a1 : Bf (F := F) c M1) (a2 : Bf (F := F) c M2) (a4 : Bf (F := F) c M4) (a6 : Bf (F := F) c M6) (a7 : Bf (F := F) c M7) (a8 : Bf (F := F) c M8) (a9 : Bf (F := F) c M9) (a10 : Bf (F := F) c M10) : sProp 𝕄 :=
  iprop(pt c M0 a0 ∗ pt c M1 a1 ∗ pt c M2 a2 ∗ pt c M4 a4 ∗ pt c M6 a6 ∗ pt c M7 a7 ∗ pt c M8 a8 ∗ pt c M9 a9 ∗ pt c M10 a10)
/-- The nine results. -/
structure Outs (F : FTy → Type) (c : Dev nD) where
  x11 : Bf (F := F) c M11
  x12 : Bf (F := F) c M12
  x13 : Bf (F := F) c M13
  x14 : Bf (F := F) c M14
  x15 : Bf (F := F) c M15
  x16 : Bf (F := F) c M16
  x17 : Bf (F := F) c M17
  x18 : Bf (F := F) c M18
  x19 : Bf (F := F) c M19
abbrev outsP (w : Outs F c) : sProp 𝕄 :=
  iprop(pt c M11 w.x11 ∗ pt c M12 w.x12 ∗ pt c M13 w.x13 ∗ pt c M14 w.x14 ∗ pt c M15 w.x15 ∗ pt c M16 w.x16 ∗ pt c M17 w.x17 ∗ pt c M18 w.x18 ∗ pt c M19 w.x19)
/-- The cells outside the two loops, at zero. -/
abbrev cellsP : sProp 𝕄 :=
  iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0)
/-- The scratch buffers held whole, at some contents. -/
abbrev scratchP : sProp 𝕄 :=
  iprop((∃ f, pt c M20 f) ∗ (∃ f, pt c M21 f) ∗ (∃ f, pt c M22 f) ∗ (∃ f, pt c M24 f) ∗ (∃ f, pt c M26 f) ∗ (∃ f, pt c M27 f) ∗ (∃ f, pt c M28 f) ∗ (∃ f, pt c M29 f) ∗ (∃ f, pt c M30 f) ∗ (∃ f, pt c M31 f) ∗ (∃ f, pt c M32 f) ∗ (∃ f, pt c M33 f) ∗ (∃ f, pt c M34 f) ∗ (∃ f, pt c M35 f) ∗ (∃ f, pt c M36 f) ∗ (∃ f, pt c M37 f) ∗ (∃ f, pt c M38 f) ∗ (∃ f, pt c M39 f) ∗ (∃ f, pt c M40 f) ∗ (∃ f, pt c M41 f) ∗ (∃ f, pt c M42 f) ∗ (∃ f, pt c M43 f) ∗ (∃ f, pt c M44 f))

abbrev bodyG : Prog (TpuEff nD τ sig (Elt F) Λ₀ .tc) PUnit :=
  cc0_parallel_block (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) M19 (Memref.isWhole_whole _) M20 (Memref.isWhole_whole _) M21 (Memref.isWhole_whole _) M22 (Memref.isWhole_whole _) M23 (Memref.isWhole_whole _) M24 (Memref.isWhole_whole _) M25 (Memref.isWhole_whole _) M26 (Memref.isWhole_whole _) M27 (Memref.isWhole_whole _) M28 (Memref.isWhole_whole _) M29 (Memref.isWhole_whole _) M30 (Memref.isWhole_whole _) M31 (Memref.isWhole_whole _) M32 (Memref.isWhole_whole _) M33 (Memref.isWhole_whole _) M34 (Memref.isWhole_whole _) M35 (Memref.isWhole_whole _) M36 (Memref.isWhole_whole _) M37 (Memref.isWhole_whole _) M38 (Memref.isWhole_whole _) M39 (Memref.isWhole_whole _) M40 (Memref.isWhole_whole _) M41 (Memref.isWhole_whole _) M42 (Memref.isWhole_whole _) M43 (Memref.isWhole_whole _) M44 (Memref.isWhole_whole _) cc0_scoped0 cc0_scoped1 cc0_scoped2 cc0_scoped3 cc0_scoped4 cc0_scoped5 cc0_scoped6

end Run

end Cert.KernelIdeal.Hand
-- ==== Proof.SplitIdeal.lean ====
/-
  The two weight matrices and their scratch copies, whole and in the pieces the copies move.
-/
module

public import proofs.«01_k».proof.Proof.StateIdeal
public import proofs.«01_k».proof.Proof.Gen.KernelIdeal.Launch
public import proofs.«01_k».proof.Proof.Gen.KernelIdeal.Frame
public import Idealize.ShloMosaic.Lib.Ring

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The pieces' element sets -/

/-- The first weight matrix by column blocks: the three heads', the gate's and the up projection's. -/
def CB : Fin 3 ⊕ (Fin 11 ⊕ Fin 11) → Finset S2048x13568.Idx
  | .inl k => (Rect.unit (s := S2048x13568) (qOff k) S2048x768.size (qOff_inb k)).set
  | .inr (.inl k) => (Rect.unit (s := S2048x13568) (gOff k) S2048x512.size (gOff_inb k)).set
  | .inr (.inr k) => (Rect.unit (s := S2048x13568) (uOff k) S2048x512.size (uOff_inb k)).set
/-- The second by row blocks. -/
def RB (k : Fin 10) : Finset S7680x2048.Idx := (Rect.unit (s := S7680x2048) (oOff k) S768x2048.size (oOff_inb k)).set

theorem mem_CBq (k : Fin 3) (y : S2048x13568.Idx) : y ∈ CB (.inl k) ↔ 768 * k.val ≤ (y 1).val ∧ (y 1).val < 768 * k.val + 768 := by
  unfold CB; rw [Rect.mem_set_unit]
  have h0 : (y 0).val < 2048 := (y 0).isLt
  constructor
  · intro H; exact H 1
  · intro H i; fin_cases i
    · show 0 ≤ (y 0).val ∧ (y 0).val < 0 + 2048; omega
    · exact H
theorem mem_CBg (k : Fin 11) (y : S2048x13568.Idx) : y ∈ CB (.inr (.inl k)) ↔ 2304 + 512 * k.val ≤ (y 1).val ∧ (y 1).val < 2304 + 512 * k.val + 512 := by
  unfold CB; rw [Rect.mem_set_unit]
  have h0 : (y 0).val < 2048 := (y 0).isLt
  constructor
  · intro H; exact H 1
  · intro H i; fin_cases i
    · show 0 ≤ (y 0).val ∧ (y 0).val < 0 + 2048; omega
    · exact H
theorem mem_CBu (k : Fin 11) (y : S2048x13568.Idx) : y ∈ CB (.inr (.inr k)) ↔ 7936 + 512 * k.val ≤ (y 1).val ∧ (y 1).val < 7936 + 512 * k.val + 512 := by
  unfold CB; rw [Rect.mem_set_unit]
  have h0 : (y 0).val < 2048 := (y 0).isLt
  constructor
  · intro H; exact H 1
  · intro H i; fin_cases i
    · show 0 ≤ (y 0).val ∧ (y 0).val < 0 + 2048; omega
    · exact H
theorem mem_RB (k : Fin 10) (y : S7680x2048.Idx) : y ∈ RB k ↔ 768 * k.val ≤ (y 0).val ∧ (y 0).val < 768 * k.val + 768 := by
  unfold RB; rw [Rect.mem_set_unit]
  have h0 : (y 1).val < 2048 := (y 1).isLt
  constructor
  · intro H; exact H 0
  · intro H i; fin_cases i
    · exact H
    · show 0 ≤ (y 1).val ∧ (y 1).val < 0 + 2048; omega

theorem CB_disjoint : ∀ b b', b ≠ b' → Disjoint (CB b) (CB b') := by
  intro b b' hne; rw [Finset.disjoint_left]; intro y hy hy'; apply hne
  rcases b with k | k | k <;> rcases b' with k' | k' | k' <;>
    simp only [mem_CBq, mem_CBg, mem_CBu] at hy hy' <;> have := k.isLt <;> have := k'.isLt
  all_goals first
    | exact absurd hy (by omega)
    | exact congrArg Sum.inl (Fin.ext (by omega))
    | exact congrArg (Sum.inr ∘ Sum.inl) (Fin.ext (by omega))
    | exact congrArg (Sum.inr ∘ Sum.inr) (Fin.ext (by omega))
theorem CB_cover : Finset.univ.biUnion CB = Finset.univ := by
  ext y; simp only [Finset.mem_biUnion, Finset.mem_univ, true_and, iff_true]
  have h1 : (y 1).val < 13568 := (y 1).isLt
  by_cases h : (y 1).val < 2304
  · exact ⟨.inl ⟨(y 1).val / 768, by omega⟩, (mem_CBq _ _).mpr ⟨by show 768 * ((y 1).val / 768) ≤ _; omega, by show _ < 768 * ((y 1).val / 768) + 768; omega⟩⟩
  by_cases h' : (y 1).val < 7936
  · exact ⟨.inr (.inl ⟨((y 1).val - 2304) / 512, by omega⟩), (mem_CBg _ _).mpr
      ⟨by show 2304 + 512 * (((y 1).val - 2304) / 512) ≤ _; omega, by show _ < 2304 + 512 * (((y 1).val - 2304) / 512) + 512; omega⟩⟩
  · exact ⟨.inr (.inr ⟨((y 1).val - 7936) / 512, by omega⟩), (mem_CBu _ _).mpr
      ⟨by show 7936 + 512 * (((y 1).val - 7936) / 512) ≤ _; omega, by show _ < 7936 + 512 * (((y 1).val - 7936) / 512) + 512; omega⟩⟩
theorem RB_disjoint : ∀ b b', b ≠ b' → Disjoint (RB b) (RB b') := by
  intro b b' hne; rw [Finset.disjoint_left]; intro y hy hy'; rw [mem_RB] at hy hy'; exact hne (Fin.ext (by omega))
theorem RB_cover : Finset.univ.biUnion RB = Finset.univ := by
  ext y; simp only [Finset.mem_biUnion, Finset.mem_univ, true_and, iff_true]
  have h1 : (y 0).val < 7680 := (y 0).isLt
  exact ⟨⟨(y 0).val / 768, by omega⟩, (mem_RB _ _).mpr ⟨by show 768 * ((y 0).val / 768) ≤ _; omega, by show _ < 768 * ((y 0).val / 768) + 768; omega⟩⟩

theorem qH_set (k : Fin 3) : (qH k).view.set = CB (.inl k) := View.set_slice_whole _ _
theorem qV_set (k : Fin 3) : (qV k).view.set = CB (.inl k) := View.set_slice_whole _ _
theorem gH_set (k : Fin 11) : (gH k).view.set = CB (.inr (.inl k)) := View.set_slice_whole _ _
theorem gV_set (k : Fin 11) : (gV k).view.set = CB (.inr (.inl k)) := View.set_slice_whole _ _
theorem uH_set (k : Fin 11) : (uH k).view.set = CB (.inr (.inr k)) := View.set_slice_whole _ _
theorem uV_set (k : Fin 11) : (uV k).view.set = CB (.inr (.inr k)) := View.set_slice_whole _ _
theorem oH_set (k : Fin 10) : (oH k).view.set = RB k := View.set_slice_whole _ _
theorem oV_set (k : Fin 10) : (oV k).view.set = RB k := View.set_slice_whole _ _

section Split
variable (c : Dev nD)

/-! ## Whole and in pieces -/

omit [FloatOps F] in
theorem fam_mono {n : ℕ} {A B : Fin n → sProp 𝕄} (h : ∀ j, A j ⊢ B j) : bigSep Finset.univ A ⊢ bigSep Finset.univ B :=
  BI.bigSep_mono fun j _ => h j

omit [FloatOps F] in
theorem fam_sep {n : ℕ} (A B : Fin n → sProp 𝕄) :
    bigSep Finset.univ (fun j => iprop(A j ∗ B j)) = iprop(bigSep Finset.univ A ∗ bigSep Finset.univ B) := BI.bigSep_sep _ _ _

omit [FloatOps F] in
theorem sep_eq {P P' Q Q' : sProp 𝕄} (h : P = P') (h' : Q = Q') : iprop(P ∗ Q) = iprop(P' ∗ Q') := by rw [h, h']

omit [FloatOps F] in
theorem split3 (a3 : Bf (F := F) c M3) : (pt c M3 a3 : sProp 𝕄) = iprop(bigSep Finset.univ (fun k => pp c (qH k) a3)
    ∗ bigSep Finset.univ (fun k => pp c (gH k) a3) ∗ bigSep Finset.univ (fun k => pp c (uH k) a3)) := by
  show ((c : Thread nD τ).loc main_arg3 ↦{fullShare} a3 : sProp 𝕄) = _
  rw [Ring.pointsTo_blocks (ℓ := (c : Thread nD τ).loc main_arg3) CB CB_disjoint CB_cover a3, BI.bigSep_univ_sum, BI.bigSep_univ_sum]
  refine sep_eq ?_ (sep_eq ?_ ?_)
  · exact bigSep_congr fun k _ => by unfold pp; rw [qH_set]
  · exact bigSep_congr fun k _ => by unfold pp; rw [gH_set]
  · exact bigSep_congr fun k _ => by unfold pp; rw [uH_set]
omit [FloatOps F] in
theorem split23 (s : Bf (F := F) c M23) : (pt c M23 s : sProp 𝕄) = iprop(bigSep Finset.univ (fun k => pp c (qV k) s)
    ∗ bigSep Finset.univ (fun k => pp c (gV k) s) ∗ bigSep Finset.univ (fun k => pp c (uV k) s)) := by
  show ((c : Thread nD τ).loc cc0_scratch3 ↦{fullShare} s : sProp 𝕄) = _
  rw [Ring.pointsTo_blocks (ℓ := (c : Thread nD τ).loc cc0_scratch3) CB CB_disjoint CB_cover s, BI.bigSep_univ_sum, BI.bigSep_univ_sum]
  refine sep_eq ?_ (sep_eq ?_ ?_)
  · exact bigSep_congr fun k _ => by unfold pp; rw [qV_set]
  · exact bigSep_congr fun k _ => by unfold pp; rw [gV_set]
  · exact bigSep_congr fun k _ => by unfold pp; rw [uV_set]
omit [FloatOps F] in
theorem split5 (a5 : Bf (F := F) c M5) : (pt c M5 a5 : sProp 𝕄) = bigSep Finset.univ (fun k => pp c (oH k) a5) := by
  show ((c : Thread nD τ).loc main_arg5 ↦{fullShare} a5 : sProp 𝕄) = _
  rw [Ring.pointsTo_blocks (ℓ := (c : Thread nD τ).loc main_arg5) RB RB_disjoint RB_cover a5]
  exact bigSep_congr fun k _ => by unfold pp; rw [oH_set]
omit [FloatOps F] in
theorem split25 (s : Bf (F := F) c M25) : (pt c M25 s : sProp 𝕄) = bigSep Finset.univ (fun k => pp c (oV k) s) := by
  show ((c : Thread nD τ).loc cc0_scratch5 ↦{fullShare} s : sProp 𝕄) = _
  rw [Ring.pointsTo_blocks (ℓ := (c : Thread nD τ).loc cc0_scratch5) RB RB_disjoint RB_cover s]
  exact bigSep_congr fun k _ => by unfold pp; rw [oV_set]

omit [FloatOps F] in
theorem join23 (f₀ : Bf (F := F) c M23) : (iprop(bigSep Finset.univ (fun k => iprop(∃ f, pp c (qV k) f))
    ∗ bigSep Finset.univ (fun k => iprop(∃ f, pp c (gV k) f)) ∗ bigSep Finset.univ (fun k => iprop(∃ f, pp c (uV k) f))) : sProp 𝕄) ⊢ iprop(∃ f, pt c M23 f) := by
  refine .trans (entails_of_eq ?_) (Ring.pointsTo_blocks_join_exists (ℓ := (c : Thread nD τ).loc cc0_scratch3) CB CB_disjoint CB_cover (q := fullShare) f₀)
  rw [BI.bigSep_univ_sum, BI.bigSep_univ_sum]
  refine sep_eq ?_ (sep_eq ?_ ?_)
  · exact bigSep_congr fun k _ => by unfold pp; rw [qV_set]
  · exact bigSep_congr fun k _ => by unfold pp; rw [gV_set]
  · exact bigSep_congr fun k _ => by unfold pp; rw [uV_set]
omit [FloatOps F] in
theorem join25 (f₀ : Bf (F := F) c M25) : (bigSep Finset.univ (fun k => iprop(∃ f, pp c (oV k) f)) : sProp 𝕄) ⊢ iprop(∃ f, pt c M25 f) := by
  refine .trans (entails_of_eq ?_) (Ring.pointsTo_blocks_join_exists (ℓ := (c : Thread nD τ).loc cc0_scratch5) RB RB_disjoint RB_cover (q := fullShare) f₀)
  exact bigSep_congr fun k _ => by unfold pp; rw [oV_set]

/-! ## What the body's run starts from and leaves, whole -/

omit [FloatOps F] in
theorem start3 (a3 : Bf (F := F) c M3) (s : Bf (F := F) c M23) :
    (iprop(pt c M3 a3 ∗ pt c M23 s ∗ bigSep Finset.univ (fun k : Fin 11 => cell c (cg k))) : sProp 𝕄)
      ⊢ iprop(bigSep Finset.univ (qStart c a3 s) ∗ bigSep Finset.univ (gStart c a3 s)) := by
  rw [split3, split23]
  rw [show bigSep Finset.univ (qStart c a3 s) = _ from fam_sep _ _,
    show bigSep Finset.univ (gStart c a3 s) = _ from (fam_sep _ _).trans (sep_eq rfl ((fam_sep _ _).trans
      (sep_eq (fam_sep _ _) (fam_sep _ _))))]
  iintro ⟨⟨H1, H2, H3⟩, ⟨H4, H5, H6⟩, H7⟩
  isplitl [H1 H4]
  · isplitl [H4]; · iexact H4
    iexact H1
  isplitl [H7]; · iexact H7
  isplitl [H2 H5]
  · isplitl [H5]; · iexact H5
    iexact H2
  isplitl [H6]; · iexact H6
  iexact H3
omit [FloatOps F] in
theorem start5 (a5 : Bf (F := F) c M5) (s : Bf (F := F) c M25) :
    (iprop(pt c M5 a5 ∗ pt c M25 s ∗ bigSep Finset.univ (fun k : Fin 10 => cell c (co k))) : sProp 𝕄)
      ⊢ bigSep Finset.univ (oStart c a5 s) := by
  rw [split5, split25]
  rw [show bigSep Finset.univ (oStart c a5 s) = _ from (fam_sep _ _).trans (sep_eq rfl (fam_sep _ _))]
  iintro ⟨H1, H2, H3⟩
  isplitl [H3]; · iexact H3
  isplitl [H2]; · iexact H2
  iexact H1
theorem finish3 (a3 : Bf (F := F) c M3) (f₀ : Bf (F := F) c M23) :
    (iprop(bigSep Finset.univ (qDone c a3) ∗ bigSep Finset.univ (gDone c a3)) : sProp 𝕄)
      ⊢ iprop(pt c M3 a3 ∗ (∃ f, pt c M23 f) ∗ bigSep Finset.univ (fun k : Fin 11 => cell c (cg k))) := by
  rw [split3]
  rw [show bigSep Finset.univ (qDone c a3) = _ from fam_sep _ _,
    show bigSep Finset.univ (gDone c a3) = _ from (fam_sep _ _).trans (sep_eq rfl ((fam_sep _ _).trans
      (sep_eq (fam_sep _ _) (fam_sep _ _))))]
  iintro ⟨⟨H1, H2⟩, H3, ⟨H4, H5⟩, ⟨H6, H7⟩⟩
  isplitl [H2 H5 H7]
  · isplitl [H2]; · iexact H2
    isplitl [H5]; · iexact H5
    iexact H7
  isplitr [H3]
  · iapply (join23 c f₀)
    isplitl [H1]
    · iapply (fam_mono fun k => (by iintro H; iexists _; iexact H : pp c (qV k) (landedJ c (qV k) (qH k) a3) ⊢ iprop(∃ f, pp c (qV k) f)))
      iexact H1
    isplitl [H4]
    · iapply (fam_mono fun k => (by iintro H; iexists _; iexact H : pp c (gV k) (landedJ c (gV k) (gH k) a3) ⊢ iprop(∃ f, pp c (gV k) f)))
      iexact H4
    iapply (fam_mono fun k => (by iintro H; iexists _; iexact H : pp c (uV k) (landedJ c (uV k) (uH k) a3) ⊢ iprop(∃ f, pp c (uV k) f)))
    iexact H6
  iexact H3
theorem finish5 (a5 : Bf (F := F) c M5) (f₀ : Bf (F := F) c M25) :
    (bigSep Finset.univ (oDone c a5) : sProp 𝕄)
      ⊢ iprop(pt c M5 a5 ∗ (∃ f, pt c M25 f) ∗ bigSep Finset.univ (fun k : Fin 10 => cell c (co k))) := by
  rw [split5]
  rw [show bigSep Finset.univ (oDone c a5) = _ from (fam_sep _ _).trans (sep_eq rfl (fam_sep _ _))]
  iintro ⟨H1, H2, H3⟩
  isplitl [H3]; · iexact H3
  isplitl [H2]
  · iapply (join25 c f₀)
    iapply (fam_mono fun k => (by iintro H; iexists _; iexact H : pp c (oV k) (landedJ c (oV k) (oH k) a5) ⊢ iprop(∃ f, pp c (oV k) f)))
    iexact H2
  iexact H1

end Split

end Cert.KernelIdeal.Hand
-- ==== Proof.RunIdeal.lean ====
/-
  The run of the kernel's whole body: every copy issued and waited for, the two loops by their invariants, and the nine
  results as the run leaves them.
-/
module

public import proofs.«01_k».proof.Proof.StateIdeal

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Run

variable (c : Dev nD)

set_option sl_exec.resultNames true in
set_option maxHeartbeats 8000000 in
set_option backward.proofsInPublic true in
/-- The body's run, the results to be found. -/
def kernelRun (a0 : Bf (F := F) c M0) (a1 : Bf (F := F) c M1) (a2 : Bf (F := F) c M2) (a3 : Bf (F := F) c M3) (a4 : Bf (F := F) c M4) (a5 : Bf (F := F) c M5) (a6 : Bf (F := F) c M6) (a7 : Bf (F := F) c M7) (a8 : Bf (F := F) c M8) (a9 : Bf (F := F) c M9) (a10 : Bf (F := F) c M10) (r11 : Bf (F := F) c M11) (r12 : Bf (F := F) c M12) (r13 : Bf (F := F) c M13) (r14 : Bf (F := F) c M14) (r15 : Bf (F := F) c M15) (r16 : Bf (F := F) c M16) (r17 : Bf (F := F) c M17) (r18 : Bf (F := F) c M18) (r19 : Bf (F := F) c M19) (s20 : Bf (F := F) c M20) (s21 : Bf (F := F) c M21) (s22 : Bf (F := F) c M22) (s23 : Bf (F := F) c M23) (s24 : Bf (F := F) c M24) (s25 : Bf (F := F) c M25) (s26 : Bf (F := F) c M26) (s27 : Bf (F := F) c M27) (s28 : Bf (F := F) c M28) (s29 : Bf (F := F) c M29) (s30 : Bf (F := F) c M30) (s31 : Bf (F := F) c M31) (s32 : Bf (F := F) c M32) (s33 : Bf (F := F) c M33) (s34 : Bf (F := F) c M34) (s35 : Bf (F := F) c M35) (s36 : Bf (F := F) c M36) (s37 : Bf (F := F) c M37) (s38 : Bf (F := F) c M38) (s39 : Bf (F := F) c M39) (s40 : Bf (F := F) c M40) (s41 : Bf (F := F) c M41) (s42 : Bf (F := F) c M42) (s43 : Bf (F := F) c M43) (s44 : Bf (F := F) c M44) :
    { w : Outs F c // ∀ (W : Waits sig Unit) (K : PUnit → sProp 𝕄),
      iprop(insP c a0 a1 a2 a4 a6 a7 a8 a9 a10
          ∗ bigSep Finset.univ (qStart c a3 s23) ∗ bigSep Finset.univ (gStart c a3 s23) ∗ bigSep Finset.univ (oStart c a5 s25)
          ∗ iprop(pt c M11 r11 ∗ pt c M12 r12 ∗ pt c M13 r13 ∗ pt c M14 r14 ∗ pt c M15 r15 ∗ pt c M16 r16 ∗ pt c M17 r17 ∗ pt c M18 r18 ∗ pt c M19 r19)
          ∗ iprop(pt c M20 s20 ∗ pt c M21 s21 ∗ pt c M22 s22 ∗ pt c M24 s24 ∗ pt c M26 s26 ∗ pt c M27 s27 ∗ pt c M28 s28 ∗ pt c M29 s29 ∗ pt c M30 s30 ∗ pt c M31 s31 ∗ pt c M32 s32 ∗ pt c M33 s33 ∗ pt c M34 s34 ∗ pt c M35 s35 ∗ pt c M36 s36 ∗ pt c M37 s37 ∗ pt c M38 s38 ∗ pt c M39 s39 ∗ pt c M40 s40 ∗ pt c M41 s41 ∗ pt c M42 s42 ∗ pt c M43 s43 ∗ pt c M44 s44)
          ∗ cellsP c
          ∗ owes (c : Thread nD τ) 0 W
          ∗ (iprop(insP c a0 a1 a2 a4 a6 a7 a8 a9 a10
              ∗ bigSep Finset.univ (qDone c a3) ∗ bigSep Finset.univ (gDone c a3) ∗ bigSep Finset.univ (oDone c a5)
              ∗ outsP c w ∗ scratchP c ∗ cellsP c ∗ (∃ W', owes (c : Thread nD τ) 0 W')) -∗ K ⟨⟩))
        ⊢ wp frame (wpE (defs₀ (F := F)) Variants.none (c : Thread nD τ) none) Set.univ (bodyG (F := F)) K } := by
  refine ⟨⟨?_, ?_, ?_, ?_, ?_, ?_, ?_, ?_, ?_⟩, fun W K => ?run⟩
  case run =>
    unfold bodyG
    simp only [cc0_parallel_block_eq_skeleton]; unfold cc0_parallel_block_skel
    rw [fam3 (qStart c a3 s23), fam11 (gStart c a3 s23), fam10 (oStart c a5 s25)]
    iintro ⟨⟨Hi0, Hi1, Hi2, Hi4, Hi6, Hi7, Hi8, Hi9, Hi10⟩, ⟨⟨HQV0, HQH0⟩, ⟨HQV1, HQH1⟩, ⟨HQV2, HQH2⟩⟩,
      ⟨⟨HB0, ⟨HGV0, HGH0⟩, ⟨HUV0, HUH0⟩⟩, ⟨HB1, ⟨HGV1, HGH1⟩, ⟨HUV1, HUH1⟩⟩, ⟨HB2, ⟨HGV2, HGH2⟩, ⟨HUV2, HUH2⟩⟩, ⟨HB3, ⟨HGV3, HGH3⟩, ⟨HUV3, HUH3⟩⟩, ⟨HB4, ⟨HGV4, HGH4⟩, ⟨HUV4, HUH4⟩⟩, ⟨HB5, ⟨HGV5, HGH5⟩, ⟨HUV5, HUH5⟩⟩, ⟨HB6, ⟨HGV6, HGH6⟩, ⟨HUV6, HUH6⟩⟩, ⟨HB7, ⟨HGV7, HGH7⟩, ⟨HUV7, HUH7⟩⟩, ⟨HB8, ⟨HGV8, HGH8⟩, ⟨HUV8, HUH8⟩⟩, ⟨HB9, ⟨HGV9, HGH9⟩, ⟨HUV9, HUH9⟩⟩, ⟨HB10, ⟨HGV10, HGH10⟩, ⟨HUV10, HUH10⟩⟩⟩,
      ⟨⟨HC0, HOV0, HOH0⟩, ⟨HC1, HOV1, HOH1⟩, ⟨HC2, HOV2, HOH2⟩, ⟨HC3, HOV3, HOH3⟩, ⟨HC4, HOV4, HOH4⟩, ⟨HC5, HOV5, HOH5⟩, ⟨HC6, HOV6, HOH6⟩, ⟨HC7, HOV7, HOH7⟩, ⟨HC8, HOV8, HOH8⟩, ⟨HC9, HOV9, HOH9⟩⟩,
      ⟨Hr11, Hr12, Hr13, Hr14, Hr15, Hr16, Hr17, Hr18, Hr19⟩, ⟨Hs20, Hs21, Hs22, Hs24, Hs26, Hs27, Hs28, Hs29, Hs30, Hs31, Hs32, Hs33, Hs34, Hs35, Hs36, Hs37, Hs38, Hs39, Hs40, Hs41, Hs42, Hs43, Hs44⟩, ⟨Hc0, Hc1, Hc2, Hc3, Hc4, Hc5, Hc6, Hc7, Hc8, Hc9, Hc10, Hc32, Hc33, Hc34, Hc35, Hc36, Hc37, Hc38, Hc39, Hc40⟩, HW, Hk⟩
    imod (Transfers.batch_alloc' (Lvl := ℕ) (countersEmb (U := Pipeline.UD sig nD τ)) (c : Thread nD τ) () 32768 (gDel c a3 s23 0) (sm := SemLoc.dma (cg 0).sem) (E := Set.univ)) $$ HB0 with HB0
    imod (Transfers.batch_alloc' (Lvl := ℕ) (countersEmb (U := Pipeline.UD sig nD τ)) (c : Thread nD τ) () 32768 (gDel c a3 s23 1) (sm := SemLoc.dma (cg 1).sem) (E := Set.univ)) $$ HB1 with HB1
    imod (Transfers.batch_alloc' (Lvl := ℕ) (countersEmb (U := Pipeline.UD sig nD τ)) (c : Thread nD τ) () 32768 (gDel c a3 s23 2) (sm := SemLoc.dma (cg 2).sem) (E := Set.univ)) $$ HB2 with HB2
    imod (Transfers.batch_alloc' (Lvl := ℕ) (countersEmb (U := Pipeline.UD sig nD τ)) (c : Thread nD τ) () 32768 (gDel c a3 s23 3) (sm := SemLoc.dma (cg 3).sem) (E := Set.univ)) $$ HB3 with HB3
    imod (Transfers.batch_alloc' (Lvl := ℕ) (countersEmb (U := Pipeline.UD sig nD τ)) (c : Thread nD τ) () 32768 (gDel c a3 s23 4) (sm := SemLoc.dma (cg 4).sem) (E := Set.univ)) $$ HB4 with HB4
    imod (Transfers.batch_alloc' (Lvl := ℕ) (countersEmb (U := Pipeline.UD sig nD τ)) (c : Thread nD τ) () 32768 (gDel c a3 s23 5) (sm := SemLoc.dma (cg 5).sem) (E := Set.univ)) $$ HB5 with HB5
    imod (Transfers.batch_alloc' (Lvl := ℕ) (countersEmb (U := Pipeline.UD sig nD τ)) (c : Thread nD τ) () 32768 (gDel c a3 s23 6) (sm := SemLoc.dma (cg 6).sem) (E := Set.univ)) $$ HB6 with HB6
    imod (Transfers.batch_alloc' (Lvl := ℕ) (countersEmb (U := Pipeline.UD sig nD τ)) (c : Thread nD τ) () 32768 (gDel c a3 s23 7) (sm := SemLoc.dma (cg 7).sem) (E := Set.univ)) $$ HB7 with HB7
    imod (Transfers.batch_alloc' (Lvl := ℕ) (countersEmb (U := Pipeline.UD sig nD τ)) (c : Thread nD τ) () 32768 (gDel c a3 s23 8) (sm := SemLoc.dma (cg 8).sem) (E := Set.univ)) $$ HB8 with HB8
    imod (Transfers.batch_alloc' (Lvl := ℕ) (countersEmb (U := Pipeline.UD sig nD τ)) (c : Thread nD τ) () 32768 (gDel c a3 s23 9) (sm := SemLoc.dma (cg 9).sem) (E := Set.univ)) $$ HB9 with HB9
    imod (Transfers.batch_alloc' (Lvl := ℕ) (countersEmb (U := Pipeline.UD sig nD τ)) (c : Thread nD τ) () 32768 (gDel c a3 s23 10) (sm := SemLoc.dma (cg 10).sem) (E := Set.univ)) $$ HB10 with HB10
    imod (Transfers.batch_alloc' (Lvl := ℕ) (countersEmb (U := Pipeline.UD sig nD τ)) (c : Thread nD τ) () 40960 (kvDel c a7 a8 s27 s28) (sm := SemLoc.dma 10) (E := Set.univ)) $$ Hc10 with Hc10
    unfold gDel kvDel
    sl_exec_parts
    ihave HG := (entails_of_eq (fam11 (gFly c a3 s23)).symm) $$ [HB0 HB1 HB2 HB3 HB4 HB5 HB6 HB7 HB8 HB9 HB10]
    · unfold gFly gDel
      isplitl [HB0]; · iexact HB0
      isplitl [HB1]; · iexact HB1
      isplitl [HB2]; · iexact HB2
      isplitl [HB3]; · iexact HB3
      isplitl [HB4]; · iexact HB4
      isplitl [HB5]; · iexact HB5
      isplitl [HB6]; · iexact HB6
      isplitl [HB7]; · iexact HB7
      isplitl [HB8]; · iexact HB8
      isplitl [HB9]; · iexact HB9
      iexact HB10
    ihave HO := (entails_of_eq (fam10 (oFly c a5 s25)).symm) $$ [HC0 HC1 HC2 HC3 HC4 HC5 HC6 HC7 HC8 HC9]
    · unfold oFly
      isplitl [HC0]; · iexact HC0
      isplitl [HC1]; · iexact HC1
      isplitl [HC2]; · iexact HC2
      isplitl [HC3]; · iexact HC3
      isplitl [HC4]; · iexact HC4
      isplitl [HC5]; · iexact HC5
      isplitl [HC6]; · iexact HC6
      isplitl [HC7]; · iexact HC7
      isplitl [HC8]; · iexact HC8
      iexact HC9
    sl_exec_parts
    ihave HG := (entails_of_eq (fam_done (gFly c a3 s23) (gDone c a3) (Scf.trips k0_t1_loop.lb k0_t1_loop.ub k0_t1_loop.st) (le_of_eq trips1.symm))) $$ [HG]
    · iexact HG
    ihave HO := (entails_of_eq (fam_done (oFly c a5 s25) (oDone c a5) (Scf.trips k0_t2_loop.lb k0_t2_loop.ub k0_t2_loop.st) (le_of_eq trips2.symm))) $$ [HO]
    · iexact HO
    rw [fam3 (qDone c a3)]
    sl_step
    iapply Hk
    isplitl [Hi0 Hi1 Hi2 Hi4 Hi6 Hi7 Hi8 Hi9 Hi10]
    · isplitl [Hi0]; · iexact Hi0
      isplitl [Hi1]; · iexact Hi1
      isplitl [Hi2]; · iexact Hi2
      isplitl [Hi4]; · iexact Hi4
      isplitl [Hi6]; · iexact Hi6
      isplitl [Hi7]; · iexact Hi7
      isplitl [Hi8]; · iexact Hi8
      isplitl [Hi9]; · iexact Hi9
      iexact Hi10
    isplitl [HQV0 HQH0 HQV1 HQH1 HQV2 HQH2]
    · isplitl [HQV0 HQH0]; · (isplitl [HQV0]; · iexact HQV0); iexact HQH0
      isplitl [HQV1 HQH1]; · (isplitl [HQV1]; · iexact HQV1); iexact HQH1
      isplitl [HQV2]; · iexact HQV2
      iexact HQH2
    isplitl [HG]; · iexact HG
    isplitl [HO]; · iexact HO
    isplitl [Hr11 Hr12 Hr13 Hr14 Hr15 Hr16 Hr17 Hr18 Hr19]
    · isplitl [Hr11]; · iexact Hr11
      isplitl [Hr12]; · iexact Hr12
      isplitl [Hr13]; · iexact Hr13
      isplitl [Hr14]; · iexact Hr14
      isplitl [Hr15]; · iexact Hr15
      isplitl [Hr16]; · iexact Hr16
      isplitl [Hr17]; · iexact Hr17
      isplitl [Hr18]; · iexact Hr18
      iexact Hr19
    isplitl [Hs20 Hs21 Hs22 Hs24 Hs26 Hc10_dst0 Hc10_dst1 Hs29 Hs30 Hs31 Hs32 Hs33 Hs34 Hs35 Hs36 Hs37 Hs38 Hs39 Hs40 Hs41 Hs42 Hs43 Hs44]
    · isplitl [Hs20]; · iexists _; iexact Hs20
      isplitl [Hs21]; · iexists _; iexact Hs21
      isplitl [Hs22]; · iexists _; iexact Hs22
      isplitl [Hs24]; · iexists _; iexact Hs24
      isplitl [Hs26]; · iexists _; iexact Hs26
      isplitl [Hc10_dst0]; · iexists _; iexact Hc10_dst0
      isplitl [Hc10_dst1]; · iexists _; iexact Hc10_dst1
      isplitl [Hs29]; · iexists _; iexact Hs29
      isplitl [Hs30]; · iexists _; iexact Hs30
      isplitl [Hs31]; · iexists _; iexact Hs31
      isplitl [Hs32]; · iexists _; iexact Hs32
      isplitl [Hs33]; · iexists _; iexact Hs33
      isplitl [Hs34]; · iexists _; iexact Hs34
      isplitl [Hs35]; · iexists _; iexact Hs35
      isplitl [Hs36]; · iexists _; iexact Hs36
      isplitl [Hs37]; · iexists _; iexact Hs37
      isplitl [Hs38]; · iexists _; iexact Hs38
      isplitl [Hs39]; · iexists _; iexact Hs39
      isplitl [Hs40]; · iexists _; iexact Hs40
      isplitl [Hs41]; · iexists _; iexact Hs41
      isplitl [Hs42]; · iexists _; iexact Hs42
      isplitl [Hs43]; · iexists _; iexact Hs43
      iexists _; iexact Hs44
    isplitl [Hc0 Hc1 Hc2 Hc3 Hc4 Hc5 Hc6 Hc7 Hc8 Hc9 Hc10 Hc32 Hc33 Hc34 Hc35 Hc36 Hc37 Hc38 Hc39 Hc40]
    · isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc32]; · iexact Hc32
      isplitl [Hc33]; · iexact Hc33
      isplitl [Hc34]; · iexact Hc34
      isplitl [Hc35]; · iexact Hc35
      isplitl [Hc36]; · iexact Hc36
      isplitl [Hc37]; · iexact Hc37
      isplitl [Hc38]; · iexact Hc38
      isplitl [Hc39]; · iexact Hc39
      iexact Hc40
    iexists _; iexact HW

end Run

end Cert.KernelIdeal.Hand
-- ==== Proof.LaunchIdeal.lean ====
/-
  The launch: the body's run over the kernel's buffers and cells as the launch hands them over, and the frame.
-/
module

public import proofs.«01_k».proof.Proof.SplitIdeal
public import proofs.«01_k».proof.Proof.RunIdeal
public import Idealize.ShloMosaic.Lib.Pipeline.FrameValue

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Whole
variable (c : Dev nD)

/-- The scratch buffers, each whole at some contents. -/
abbrev scopedG : sProp 𝕄 := iprop((∃ f, pt (F := F) c M20 f) ∗ (∃ f, pt (F := F) c M21 f) ∗ (∃ f, pt (F := F) c M22 f) ∗ (∃ f, pt (F := F) c M23 f) ∗ (∃ f, pt (F := F) c M24 f) ∗ (∃ f, pt (F := F) c M25 f) ∗ (∃ f, pt (F := F) c M26 f) ∗ (∃ f, pt (F := F) c M27 f) ∗ (∃ f, pt (F := F) c M28 f) ∗ (∃ f, pt (F := F) c M31 f) ∗ (∃ f, pt (F := F) c M32 f) ∗ (∃ f, pt (F := F) c M33 f) ∗ (∃ f, pt (F := F) c M34 f) ∗ (∃ f, pt (F := F) c M35 f) ∗ (∃ f, pt (F := F) c M36 f) ∗ (∃ f, pt (F := F) c M37 f) ∗ (∃ f, pt (F := F) c M38 f) ∗ (∃ f, pt (F := F) c M39 f) ∗ (∃ f, pt (F := F) c M40 f) ∗ (∃ f, pt (F := F) c M41 f) ∗ (∃ f, pt (F := F) c M42 f) ∗ (∃ f, pt (F := F) c M43 f) ∗ (∃ f, pt (F := F) c M44 f) ∗ (∃ f, pt (F := F) c M29 f) ∗ (∃ f, pt (F := F) c M30 f))
/-- The cells, at zero. -/
abbrev cellsG : sProp 𝕄 := iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0)
/-- The operands. -/
abbrev hbmG (a0 : Bf (F := F) c M0) (a1 : Bf (F := F) c M1) (a2 : Bf (F := F) c M2) (a3 : Bf (F := F) c M3) (a4 : Bf (F := F) c M4) (a5 : Bf (F := F) c M5) (a6 : Bf (F := F) c M6) (a7 : Bf (F := F) c M7) (a8 : Bf (F := F) c M8) (a9 : Bf (F := F) c M9) (a10 : Bf (F := F) c M10) : sProp 𝕄 := iprop(pt c M0 a0 ∗ pt c M1 a1 ∗ pt c M2 a2 ∗ pt c M3 a3 ∗ pt c M4 a4 ∗ pt c M5 a5 ∗ pt c M6 a6 ∗ pt c M7 a7 ∗ pt c M8 a8 ∗ pt c M9 a9 ∗ pt c M10 a10)
/-- The results, each whole at some contents. -/
abbrev resG : sProp 𝕄 := iprop((∃ f, pt (F := F) c M11 f) ∗ (∃ f, pt (F := F) c M12 f) ∗ (∃ f, pt (F := F) c M13 f) ∗ (∃ f, pt (F := F) c M14 f) ∗ (∃ f, pt (F := F) c M15 f) ∗ (∃ f, pt (F := F) c M16 f) ∗ (∃ f, pt (F := F) c M17 f) ∗ (∃ f, pt (F := F) c M18 f) ∗ (∃ f, pt (F := F) c M19 f))

set_option maxHeartbeats 4000000 in
/-- The body's run over whole buffers: it ends with the operands unchanged, the cells at zero, and the results at contents
    of which `P` holds. -/
theorem run_whole (a0 : Bf (F := F) c M0) (a1 : Bf (F := F) c M1) (a2 : Bf (F := F) c M2) (a3 : Bf (F := F) c M3) (a4 : Bf (F := F) c M4) (a5 : Bf (F := F) c M5) (a6 : Bf (F := F) c M6) (a7 : Bf (F := F) c M7) (a8 : Bf (F := F) c M8) (a9 : Bf (F := F) c M9) (a10 : Bf (F := F) c M10) (P : Outs F c → Prop)
    (hP : ∀ (r11 : Bf (F := F) c M11) (r12 : Bf (F := F) c M12) (r13 : Bf (F := F) c M13) (r14 : Bf (F := F) c M14) (r15 : Bf (F := F) c M15) (r16 : Bf (F := F) c M16) (r17 : Bf (F := F) c M17) (r18 : Bf (F := F) c M18) (r19 : Bf (F := F) c M19) (s20 : Bf (F := F) c M20) (s21 : Bf (F := F) c M21) (s22 : Bf (F := F) c M22) (s23 : Bf (F := F) c M23) (s24 : Bf (F := F) c M24) (s25 : Bf (F := F) c M25) (s26 : Bf (F := F) c M26) (s27 : Bf (F := F) c M27) (s28 : Bf (F := F) c M28) (s29 : Bf (F := F) c M29) (s30 : Bf (F := F) c M30) (s31 : Bf (F := F) c M31) (s32 : Bf (F := F) c M32) (s33 : Bf (F := F) c M33) (s34 : Bf (F := F) c M34) (s35 : Bf (F := F) c M35) (s36 : Bf (F := F) c M36) (s37 : Bf (F := F) c M37) (s38 : Bf (F := F) c M38) (s39 : Bf (F := F) c M39) (s40 : Bf (F := F) c M40) (s41 : Bf (F := F) c M41) (s42 : Bf (F := F) c M42) (s43 : Bf (F := F) c M43) (s44 : Bf (F := F) c M44), P (kernelRun c a0 a1 a2 a3 a4 a5 a6 a7 a8 a9 a10 r11 r12 r13 r14 r15 r16 r17 r18 r19 s20 s21 s22 s23 s24 s25 s26 s27 s28 s29 s30 s31 s32 s33 s34 s35 s36 s37 s38 s39 s40 s41 s42 s43 s44).1)
    (W : Waits sig Unit) (K : PUnit → sProp 𝕄) :
    iprop(scopedG c ∗ cellsG c ∗ hbmG c a0 a1 a2 a3 a4 a5 a6 a7 a8 a9 a10 ∗ resG c ∗ owes (c : Thread nD τ) 0 W
      ∗ (iprop(scopedG c ∗ cellsG c ∗ hbmG c a0 a1 a2 a3 a4 a5 a6 a7 a8 a9 a10 ∗ (∃ w : Outs F c, ⌜P w⌝ ∗ outsP c w) ∗ (∃ W', owes (c : Thread nD τ) 0 W')) -∗ K ⟨⟩))
      ⊢ wp frame (wpE (defs₀ (F := F)) Variants.none (c : Thread nD τ) none) Set.univ (bodyG (F := F)) K := by
  iintro ⟨⟨⟨%s20, Hs20⟩, ⟨%s21, Hs21⟩, ⟨%s22, Hs22⟩, ⟨%s23, Hs23⟩, ⟨%s24, Hs24⟩, ⟨%s25, Hs25⟩, ⟨%s26, Hs26⟩, ⟨%s27, Hs27⟩, ⟨%s28, Hs28⟩, ⟨%s31, Hs31⟩, ⟨%s32, Hs32⟩, ⟨%s33, Hs33⟩, ⟨%s34, Hs34⟩, ⟨%s35, Hs35⟩, ⟨%s36, Hs36⟩, ⟨%s37, Hs37⟩, ⟨%s38, Hs38⟩, ⟨%s39, Hs39⟩, ⟨%s40, Hs40⟩, ⟨%s41, Hs41⟩, ⟨%s42, Hs42⟩, ⟨%s43, Hs43⟩, ⟨%s44, Hs44⟩, ⟨%s29, Hs29⟩, ⟨%s30, Hs30⟩⟩, ⟨Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Hc26, Hc27, Hc28, Hc29, Hc30, Hc31, Hc32, Hc33, Hc34, Hc35, Hc36, Hc37, Hc38, Hc39, Hc40⟩, ⟨Hi0, Hi1, Hi2, Hi3, Hi4, Hi5, Hi6, Hi7, Hi8, Hi9, Hi10⟩, ⟨⟨%r11, Hr11⟩, ⟨%r12, Hr12⟩, ⟨%r13, Hr13⟩, ⟨%r14, Hr14⟩, ⟨%r15, Hr15⟩, ⟨%r16, Hr16⟩, ⟨%r17, Hr17⟩, ⟨%r18, Hr18⟩, ⟨%r19, Hr19⟩⟩, HW, Hk⟩
  ihave HQG := (start3 c a3 s23) $$ [Hi3 Hs23 Hc11 Hc12 Hc13 Hc14 Hc15 Hc16 Hc17 Hc18 Hc19 Hc20 Hc21]
  · isplitl [Hi3]; · iexact Hi3
    isplitl [Hs23]; · iexact Hs23
    rw [fam11 (fun k => cell c (cg k))]
    isplitl [Hc11]; · iexact Hc11
    isplitl [Hc12]; · iexact Hc12
    isplitl [Hc13]; · iexact Hc13
    isplitl [Hc14]; · iexact Hc14
    isplitl [Hc15]; · iexact Hc15
    isplitl [Hc16]; · iexact Hc16
    isplitl [Hc17]; · iexact Hc17
    isplitl [Hc18]; · iexact Hc18
    isplitl [Hc19]; · iexact Hc19
    isplitl [Hc20]; · iexact Hc20
    iexact Hc21
  ihave HO := (start5 c a5 s25) $$ [Hi5 Hs25 Hc22 Hc23 Hc24 Hc25 Hc26 Hc27 Hc28 Hc29 Hc30 Hc31]
  · isplitl [Hi5]; · iexact Hi5
    isplitl [Hs25]; · iexact Hs25
    rw [fam10 (fun k => cell c (co k))]
    isplitl [Hc22]; · iexact Hc22
    isplitl [Hc23]; · iexact Hc23
    isplitl [Hc24]; · iexact Hc24
    isplitl [Hc25]; · iexact Hc25
    isplitl [Hc26]; · iexact Hc26
    isplitl [Hc27]; · iexact Hc27
    isplitl [Hc28]; · iexact Hc28
    isplitl [Hc29]; · iexact Hc29
    isplitl [Hc30]; · iexact Hc30
    iexact Hc31
  icases HQG with ⟨HQ, HG⟩
  iapply ((kernelRun c a0 a1 a2 a3 a4 a5 a6 a7 a8 a9 a10 r11 r12 r13 r14 r15 r16 r17 r18 r19 s20 s21 s22 s23 s24 s25 s26 s27 s28 s29 s30 s31 s32 s33 s34 s35 s36 s37 s38 s39 s40 s41 s42 s43 s44).2 W K)
  isplitl [Hi0 Hi1 Hi2 Hi4 Hi6 Hi7 Hi8 Hi9 Hi10]
  · isplitl [Hi0]; · iexact Hi0
    isplitl [Hi1]; · iexact Hi1
    isplitl [Hi2]; · iexact Hi2
    isplitl [Hi4]; · iexact Hi4
    isplitl [Hi6]; · iexact Hi6
    isplitl [Hi7]; · iexact Hi7
    isplitl [Hi8]; · iexact Hi8
    isplitl [Hi9]; · iexact Hi9
    iexact Hi10
  isplitl [HQ]; · iexact HQ
  isplitl [HG]; · iexact HG
  isplitl [HO]; · iexact HO
  isplitl [Hr11 Hr12 Hr13 Hr14 Hr15 Hr16 Hr17 Hr18 Hr19]
  · isplitl [Hr11]; · iexact Hr11
    isplitl [Hr12]; · iexact Hr12
    isplitl [Hr13]; · iexact Hr13
    isplitl [Hr14]; · iexact Hr14
    isplitl [Hr15]; · iexact Hr15
    isplitl [Hr16]; · iexact Hr16
    isplitl [Hr17]; · iexact Hr17
    isplitl [Hr18]; · iexact Hr18
    iexact Hr19
  isplitl [Hs20 Hs21 Hs22 Hs24 Hs26 Hs27 Hs28 Hs29 Hs30 Hs31 Hs32 Hs33 Hs34 Hs35 Hs36 Hs37 Hs38 Hs39 Hs40 Hs41 Hs42 Hs43 Hs44]
  · isplitl [Hs20]; · iexact Hs20
    isplitl [Hs21]; · iexact Hs21
    isplitl [Hs22]; · iexact Hs22
    isplitl [Hs24]; · iexact Hs24
    isplitl [Hs26]; · iexact Hs26
    isplitl [Hs27]; · iexact Hs27
    isplitl [Hs28]; · iexact Hs28
    isplitl [Hs29]; · iexact Hs29
    isplitl [Hs30]; · iexact Hs30
    isplitl [Hs31]; · iexact Hs31
    isplitl [Hs32]; · iexact Hs32
    isplitl [Hs33]; · iexact Hs33
    isplitl [Hs34]; · iexact Hs34
    isplitl [Hs35]; · iexact Hs35
    isplitl [Hs36]; · iexact Hs36
    isplitl [Hs37]; · iexact Hs37
    isplitl [Hs38]; · iexact Hs38
    isplitl [Hs39]; · iexact Hs39
    isplitl [Hs40]; · iexact Hs40
    isplitl [Hs41]; · iexact Hs41
    isplitl [Hs42]; · iexact Hs42
    isplitl [Hs43]; · iexact Hs43
    iexact Hs44
  isplitl [Hc0 Hc1 Hc2 Hc3 Hc4 Hc5 Hc6 Hc7 Hc8 Hc9 Hc10 Hc32 Hc33 Hc34 Hc35 Hc36 Hc37 Hc38 Hc39 Hc40]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc32]; · iexact Hc32
    isplitl [Hc33]; · iexact Hc33
    isplitl [Hc34]; · iexact Hc34
    isplitl [Hc35]; · iexact Hc35
    isplitl [Hc36]; · iexact Hc36
    isplitl [Hc37]; · iexact Hc37
    isplitl [Hc38]; · iexact Hc38
    isplitl [Hc39]; · iexact Hc39
    iexact Hc40
  isplitl [HW]; · iexact HW
  iintro ⟨⟨Hi0, Hi1, Hi2, Hi4, Hi6, Hi7, Hi8, Hi9, Hi10⟩, HQ, HG, HO, HR, ⟨Hs20, Hs21, Hs22, Hs24, Hs26, Hs27, Hs28, Hs29, Hs30, Hs31, Hs32, Hs33, Hs34, Hs35, Hs36, Hs37, Hs38, Hs39, Hs40, Hs41, Hs42, Hs43, Hs44⟩, ⟨Hc0, Hc1, Hc2, Hc3, Hc4, Hc5, Hc6, Hc7, Hc8, Hc9, Hc10, Hc32, Hc33, Hc34, Hc35, Hc36, Hc37, Hc38, Hc39, Hc40⟩, HW⟩
  ihave H3 := (finish3 c a3 s23) $$ [HQ HG]
  · isplitl [HQ]; · iexact HQ
    iexact HG
  icases H3 with ⟨Hi3, Hs23, HG⟩
  ihave H5 := (finish5 c a5 s25) $$ [HO]
  · iexact HO
  icases H5 with ⟨Hi5, Hs25, HO⟩
  ihave HG := (entails_of_eq (fam11 (fun k => cell (F := F) c (cg k)))) $$ [HG]
  · iexact HG
  ihave HO := (entails_of_eq (fam10 (fun k => cell (F := F) c (co k)))) $$ [HO]
  · iexact HO
  icases HG with ⟨Hc11, Hc12, Hc13, Hc14, Hc15, Hc16, Hc17, Hc18, Hc19, Hc20, Hc21⟩
  icases HO with ⟨Hc22, Hc23, Hc24, Hc25, Hc26, Hc27, Hc28, Hc29, Hc30, Hc31⟩
  iapply Hk
  isplitl [Hs20 Hs21 Hs22 Hs23 Hs24 Hs25 Hs26 Hs27 Hs28 Hs31 Hs32 Hs33 Hs34 Hs35 Hs36 Hs37 Hs38 Hs39 Hs40 Hs41 Hs42 Hs43 Hs44 Hs29 Hs30]
  · isplitl [Hs20]; · iexact Hs20
    isplitl [Hs21]; · iexact Hs21
    isplitl [Hs22]; · iexact Hs22
    isplitl [Hs23]; · iexact Hs23
    isplitl [Hs24]; · iexact Hs24
    isplitl [Hs25]; · iexact Hs25
    isplitl [Hs26]; · iexact Hs26
    isplitl [Hs27]; · iexact Hs27
    isplitl [Hs28]; · iexact Hs28
    isplitl [Hs31]; · iexact Hs31
    isplitl [Hs32]; · iexact Hs32
    isplitl [Hs33]; · iexact Hs33
    isplitl [Hs34]; · iexact Hs34
    isplitl [Hs35]; · iexact Hs35
    isplitl [Hs36]; · iexact Hs36
    isplitl [Hs37]; · iexact Hs37
    isplitl [Hs38]; · iexact Hs38
    isplitl [Hs39]; · iexact Hs39
    isplitl [Hs40]; · iexact Hs40
    isplitl [Hs41]; · iexact Hs41
    isplitl [Hs42]; · iexact Hs42
    isplitl [Hs43]; · iexact Hs43
    isplitl [Hs44]; · iexact Hs44
    isplitl [Hs29]; · iexact Hs29
    iexact Hs30
  isplitl [Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25 Hc26 Hc27 Hc28 Hc29 Hc30 Hc31 Hc32 Hc33 Hc34 Hc35 Hc36 Hc37 Hc38 Hc39 Hc40]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    isplitl [Hc16]; · iexact Hc16
    isplitl [Hc17]; · iexact Hc17
    isplitl [Hc18]; · iexact Hc18
    isplitl [Hc19]; · iexact Hc19
    isplitl [Hc20]; · iexact Hc20
    isplitl [Hc21]; · iexact Hc21
    isplitl [Hc22]; · iexact Hc22
    isplitl [Hc23]; · iexact Hc23
    isplitl [Hc24]; · iexact Hc24
    isplitl [Hc25]; · iexact Hc25
    isplitl [Hc26]; · iexact Hc26
    isplitl [Hc27]; · iexact Hc27
    isplitl [Hc28]; · iexact Hc28
    isplitl [Hc29]; · iexact Hc29
    isplitl [Hc30]; · iexact Hc30
    isplitl [Hc31]; · iexact Hc31
    isplitl [Hc32]; · iexact Hc32
    isplitl [Hc33]; · iexact Hc33
    isplitl [Hc34]; · iexact Hc34
    isplitl [Hc35]; · iexact Hc35
    isplitl [Hc36]; · iexact Hc36
    isplitl [Hc37]; · iexact Hc37
    isplitl [Hc38]; · iexact Hc38
    isplitl [Hc39]; · iexact Hc39
    iexact Hc40
  isplitl [Hi0 Hi1 Hi2 Hi3 Hi4 Hi5 Hi6 Hi7 Hi8 Hi9 Hi10]
  · isplitl [Hi0]; · iexact Hi0
    isplitl [Hi1]; · iexact Hi1
    isplitl [Hi2]; · iexact Hi2
    isplitl [Hi3]; · iexact Hi3
    isplitl [Hi4]; · iexact Hi4
    isplitl [Hi5]; · iexact Hi5
    isplitl [Hi6]; · iexact Hi6
    isplitl [Hi7]; · iexact Hi7
    isplitl [Hi8]; · iexact Hi8
    isplitl [Hi9]; · iexact Hi9
    iexact Hi10
  isplitl [HR]
  · iexists (kernelRun c a0 a1 a2 a3 a4 a5 a6 a7 a8 a9 a10 r11 r12 r13 r14 r15 r16 r17 r18 r19 s20 s21 s22 s23 s24 s25 s26 s27 s28 s29 s30 s31 s32 s33 s34 s35 s36 s37 s38 s39 s40 s41 s42 s43 s44).1; isplitr
    · ipureintro; exact hP _ _ _ _ _ _ _ _ _ _ _ _ _ _ _ _ _ _ _ _ _ _ _ _ _ _ _ _ _ _ _ _ _ _
    iexact HR
  iexact HW

end Whole

/-! ## The launch's state -/

abbrev osem0 : Fin 41 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40] : Fin 41 → SemLoc sig) j
theorem ownSemFacts0 : Pipeline.OwnSemFacts cfg0.spec osem0 := by decide
theorem ownSems00_eq (c : Dev nD) :
    (Pipeline.ownSems0 (Ix := Unit) (Name := ℕ) (U := Pipeline.UD sig nD τ) (Lvl := ℕ) (Val := Elt F) (τ := τ) osem0 c : sProp 𝕄) = cellsG c := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36, 37, 38, 39, 40] (by decide) (by decide)]; rfl

/-- The operands the body's copies read; the results they write. -/
def H0 : Finset (Ref sig .tc) := {main_v0, main_v1, main_v2, main_arg3, main_v3, main_arg5, main_v4, main_arg7, main_arg8, main_arg9, main_arg10}
def R0 : Finset (Ref sig .tc) := {main_v5_0, main_v5_1, main_v5_2, main_v5_3, main_v5_4, main_v5_5, main_v5_6, main_v5_7, main_v5_8}
theorem H0_sub : H0 ⊆ Pipeline.restRefs sig cfg0.spec := by decide
theorem R0_sub : R0 ⊆ Pipeline.restRefs sig cfg0.spec \ H0 := by decide

section Launch
variable (m : (ℓ : Loc nD τ sig) → Buf (Elt F) ℓ) (ρ : Dev nD → PrngReg)

theorem hbmPts0_eq (c : Dev nD) :
    (bigSep H0 (fun b => ((c : Thread nD τ).loc b) ↦{fullShare} V m c b) : sProp 𝕄)
      = hbmG c (V m c main_v0) (V m c main_v1) (V m c main_v2) (V m c main_arg3) (V m c main_v3) (V m c main_arg5) (V m c main_v4) (V m c main_arg7) (V m c main_arg8) (V m c main_arg9) (V m c main_arg10) := by
  rw [BI.bigSep_eq_bigSepL_of_eq [main_v0, main_v1, main_v2, main_arg3, main_v3, main_arg5, main_v4, main_arg7, main_arg8, main_arg9, main_arg10] (by decide) (by decide)]; rfl
theorem ownedPts0_eq (c : Dev nD) : (Pipeline.owned R0 c : sProp 𝕄) = resG c := by
  unfold Pipeline.owned; rw [BI.bigSep_eq_bigSepL_of_eq [main_v5_0, main_v5_1, main_v5_2, main_v5_3, main_v5_4, main_v5_5, main_v5_6, main_v5_7, main_v5_8] (by decide) (by decide)]; rfl
theorem PhiDR0_eq (c : Dev nD) :
    (Pipeline.ΦDR osem0 (cfg0.spec) H0 R0 (V m) c : sProp 𝕄)
      = iprop(scopedG c ∗ (∃ r, prngReg c r) ∗ cellsG c ∗ hbmG c (V m c main_v0) (V m c main_v1) (V m c main_v2) (V m c main_arg3) (V m c main_v3) (V m c main_arg5) (V m c main_v4) (V m c main_arg7) (V m c main_arg8) (V m c main_arg9) (V m c main_arg10) ∗ resG c) := by
  rw [Pipeline.ΦDR_eq, show (Pipeline.scopedRest cfg0.spec c : sProp 𝕄) = scopedG c from scopedRest0_eq c, ownSems00_eq, hbmPts0_eq, ownedPts0_eq]

/-! ## The frame -/

def dats (_ : Fin 1) (c : Dev nD) : Dat τ (Elt F) Unit ℕ (Pipeline.UD sig nD τ) ℕ cfg0 c where
  A w := V m c (Pipeline.arrRef cfg0.spec w)
  after w _ := w.elim0
  Φ _ := Pipeline.ΦDR osem0 (cfg0.spec) H0 R0 (V m) c
  q _ := fullShare
  owed _ := 0

theorem A_eq (c : Dev nD) (w : Fin cfg0.W) : (dats m 0 c).A w = V m c (Pipeline.arrRef cfg0.spec w) := by
  dsimp only [dats]

theorem sound_body (c : Dev nD) (t : Fin cfg0.N) :
    (iprop((dats m 0 c).Φ t.castSucc ∗ (dats m 0 c).owesAt () t.castSucc) : sProp 𝕄)
      ⊢ wp frame (wpE (defs₀ (F := F)) Variants.none c none) Set.univ (bodyAt0 t)
        (fun _ => iprop((dats m 0 c).Φ t.succ ∗ (dats m 0 c).owesAt () t.succ)) := by
  rw [show (dats m 0 c).Φ t.succ = Pipeline.ΦDR osem0 (cfg0.spec) H0 R0 (V m) c from rfl,
    show (dats m 0 c).Φ t.castSucc = Pipeline.ΦDR osem0 (cfg0.spec) H0 R0 (V m) c from rfl, PhiDR0_eq]
  unfold Dat.owesAt Pipeline.owesWithin
  rw [show (dats m 0 c).owed t.castSucc = 0 from rfl, show (dats m 0 c).owed t.succ = 0 from rfl]
  iintro ⟨⟨HS, Hg, Hq, Hh, Ho⟩, ⟨%W, -, HW⟩⟩
  iapply (run_whole c (V m c main_v0) (V m c main_v1) (V m c main_v2) (V m c main_arg3) (V m c main_v3) (V m c main_arg5) (V m c main_v4) (V m c main_arg7) (V m c main_arg8) (V m c main_arg9) (V m c main_arg10) (fun _ => True) (fun _ _ _ _ _ _ _ _ _ _ _ _ _ _ _ _ _ _ _ _ _ _ _ _ _ _ _ _ _ _ _ _ _ _ => trivial) W _)
  isplitl [HS]; · iexact HS
  isplitl [Hq]; · iexact Hq
  isplitl [Hh]; · iexact Hh
  isplitl [Ho]; · iexact Ho
  isplitl [HW]; · iexact HW
  iintro ⟨HS, Hq, Hh, ⟨%w, -, ⟨Hr11, Hr12, Hr13, Hr14, Hr15, Hr16, Hr17, Hr18, Hr19⟩⟩, ⟨%W', HW⟩⟩
  isplitr [HW]
  · isplitl [HS]; · iexact HS
    isplitl [Hg]; · iexact Hg
    isplitl [Hq]; · iexact Hq
    isplitl [Hh]; · iexact Hh
    isplitl [Hr11]; · iexists _; iexact Hr11
    isplitl [Hr12]; · iexists _; iexact Hr12
    isplitl [Hr13]; · iexists _; iexact Hr13
    isplitl [Hr14]; · iexists _; iexact Hr14
    isplitl [Hr15]; · iexists _; iexact Hr15
    isplitl [Hr16]; · iexists _; iexact Hr16
    isplitl [Hr17]; · iexists _; iexact Hr17
    isplitl [Hr18]; · iexists _; iexact Hr18
    iexists _; iexact Hr19
  iexists W'; isplitr
  · ipureintro; exact fun _ _ => Or.inl trivial
  iexact HW

theorem defs₀_row (t : Fin cfg0.N) :
    defs₀ (F := F) .tc cfg0.body (cfg0.bodyArgs t (cfg0.slots t)) = bodyAt0 t := by
  unfold defs₀; rw [Defs.onTc_tc]

theorem bigSep_none (Φ : Fin cfg0.W → sProp 𝕄) : bigSep Finset.univ Φ = iprop(emp) := by
  rw [show (Finset.univ : Finset (Fin cfg0.W)) = ∅ from rfl, BI.bigSep_empty]; rfl
theorem emp_right (P Q : sProp 𝕄) : iprop(P ∗ Q ∗ emp) ⊢ iprop(P ∗ Q) := by
  iintro ⟨A, B, -⟩
  isplitl [A]; · iexact A
  iexact B
theorem right_emp (P Q : sProp 𝕄) : iprop(P ∗ Q) ⊢ iprop(P ∗ Q ∗ emp) := by
  iintro ⟨A, B⟩
  isplitl [A]; · iexact A
  isplitl [B]; · iexact B
  iempintro

theorem body_obligation (c : Dev nD) : BodyObligation (dats (F := F) m 0 c) (defs₀ (F := F)) Variants.none () Set.univ := fun t => by
  rw [bigSep_none, bigSep_none, defs₀_row]
  exact triple_restated (sound_body m c t) rfl (emp_right _ _) fun _ => right_emp _ _

theorem hmain0 (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain0 m Variants.none) (hA := A_eq m)
    (hin := fun _ => .rfl) (hout := fun _ => .rfl)

/-- The frame: the run ends, nothing faults, the arguments end unchanged and every cell at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c),
      ((h.1 c).2 main_arg7 (Finset.mem_sdiff.mpr ⟨Pipeline.mem_restRefs_of main_arg7 (by decide) (by decide), by decide⟩)).trans (V_main_arg7 m c),
      ((h.1 c).2 main_arg8 (Finset.mem_sdiff.mpr ⟨Pipeline.mem_restRefs_of main_arg8 (by decide) (by decide), by decide⟩)).trans (V_main_arg8 m c),
      ((h.1 c).2 main_arg9 (Finset.mem_sdiff.mpr ⟨Pipeline.mem_restRefs_of main_arg9 (by decide) (by decide), by decide⟩)).trans (V_main_arg9 m c),
      ((h.1 c).2 main_arg10 (Finset.mem_sdiff.mpr ⟨Pipeline.mem_restRefs_of main_arg10 (by decide) (by decide), by decide⟩)).trans (V_main_arg10 m c)⟩, h.2⟩) (run_main m ρ)

end Launch

end Cert.KernelIdeal.Hand
-- ==== Proof.PiecesKernel.lean ====
/-
  The same for the kernel as printed with its rounding formats. The kernel's buffers, cells and copies by name: the pieces the weight matrices are cut into, the semaphore cells,
  the closed forms of the two loops' offsets and what each copy delivers.
-/
module

public import proofs.«01_k».proof.Proof.PiecesIdeal
public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Affine
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the launch's, beside the transfers' counters. -/
local notation "𝕄" => MT nD τ sig Unit (Elt F) ℕ (Pipeline.UD sig nD τ) ℕ

/-! ## The operands, the results and the scratch buffers, whole, in the body's order -/

abbrev M0 : Memref sig .tc .hbm S4x2048 .bf16 := Memref.whole main_v0
abbrev M1 : Memref sig .tc .hbm S1x2048 .f32 := Memref.whole main_v1
abbrev M2 : Memref sig .tc .hbm S1x2048 .f32 := Memref.whole main_v2
abbrev M3 : Memref sig .tc .hbm S2048x13568 .fp8e4m3 := Memref.whole main_arg3
abbrev M4 : Memref sig .tc .hbm S1x13568 .f32 := Memref.whole main_v3
abbrev M5 : Memref sig .tc .hbm S7680x2048 .fp8e4m3 := Memref.whole main_arg5
abbrev M6 : Memref sig .tc .hbm S1x2048 .f32 := Memref.whole main_v4
abbrev M7 : Memref sig .tc .hbm S4x2560x128 .fp8e5m2 := Memref.whole main_arg7
abbrev M8 : Memref sig .tc .hbm S4x2560x128 .fp8e5m2 := Memref.whole main_arg8
abbrev M9 : Memref sig .tc .hbm S4 .i32 := Memref.whole main_arg9
abbrev M10 : Memref sig .tc .hbm S4 .i32 := Memref.whole main_arg10
abbrev M11 : Memref sig .tc .hbm S4x2048 .bf16 := Memref.whole main_v5_0
abbrev M12 : Memref sig .tc .hbm S4x13568 .bf16 := Memref.whole main_v5_1
abbrev M13 : Memref sig .tc .hbm S64x128 .f32 := Memref.whole main_v5_2
abbrev M14 : Memref sig .tc .hbm S4x2048 .fp8e4m3 := Memref.whole main_v5_3
abbrev M15 : Memref sig .tc .hbm S1x4 .f32 := Memref.whole main_v5_4
abbrev M16 : Memref sig .tc .hbm S4x128 .fp8e5m2 := Memref.whole main_v5_5
abbrev M17 : Memref sig .tc .hbm S4x128 .fp8e5m2 := Memref.whole main_v5_6
abbrev M18 : Memref sig .tc .hbm S4x7680 .fp8e4m3 := Memref.whole main_v5_7
abbrev M19 : Memref sig .tc .hbm S1x4 .f32 := Memref.whole main_v5_8
abbrev M20 : Memref sig .tc .vmem S4x2048 .bf16 := Memref.whole cc0_scratch0
abbrev M21 : Memref sig .tc .vmem S1x2048 .f32 := Memref.whole cc0_scratch1
abbrev M22 : Memref sig .tc .vmem S1x2048 .f32 := Memref.whole cc0_scratch2
abbrev M23 : Memref sig .tc .vmem S2048x13568 .fp8e4m3 := Memref.whole cc0_scratch3
abbrev M24 : Memref sig .tc .vmem S1x13568 .f32 := Memref.whole cc0_scratch4
abbrev M25 : Memref sig .tc .vmem S7680x2048 .fp8e4m3 := Memref.whole cc0_scratch5
abbrev M26 : Memref sig .tc .vmem S1x2048 .f32 := Memref.whole cc0_scratch6
abbrev M27 : Memref sig .tc .vmem S4x2560x128 .fp8e5m2 := Memref.whole cc0_scratch7
abbrev M28 : Memref sig .tc .vmem S4x2560x128 .fp8e5m2 := Memref.whole cc0_scratch8
abbrev M29 : Memref sig .tc .smem S4 .i32 := Memref.whole cc0_scratch9
abbrev M30 : Memref sig .tc .smem S4 .i32 := Memref.whole cc0_scratch10
abbrev M31 : Memref sig .tc .vmem S4x2048 .bf16 := Memref.whole cc0_scratch11
abbrev M32 : Memref sig .tc .vmem S4x13568 .bf16 := Memref.whole cc0_scratch12
abbrev M33 : Memref sig .tc .vmem S64x128 .f32 := Memref.whole cc0_scratch13
abbrev M34 : Memref sig .tc .vmem S4x2048 .fp8e4m3 := Memref.whole cc0_scratch14
abbrev M35 : Memref sig .tc .vmem S1x4 .f32 := Memref.whole cc0_scratch15
abbrev M36 : Memref sig .tc .vmem S4x128 .fp8e5m2 := Memref.whole cc0_scratch16
abbrev M37 : Memref sig .tc .vmem S4x128 .fp8e5m2 := Memref.whole cc0_scratch17
abbrev M38 : Memref sig .tc .vmem S4x7680 .fp8e4m3 := Memref.whole cc0_scratch18
abbrev M39 : Memref sig .tc .vmem S1x4 .f32 := Memref.whole cc0_scratch19
abbrev M40 : Memref sig .tc .vmem S32x2048 .fp8e4m3 := Memref.whole cc0_scratch20
abbrev M41 : Memref sig .tc .vmem S32x7680 .fp8e4m3 := Memref.whole cc0_scratch21
abbrev M42 : Memref sig .tc .vmem S144x128 .f32 := Memref.whole cc0_scratch22
abbrev M43 : Memref sig .tc .vmem S4x7680 .f32 := Memref.whole cc0_scratch23
abbrev M44 : Memref sig .tc .vmem S4x2048 .f32 := Memref.whole cc0_scratch24

abbrev Bf (c : Dev nD) {sp : Space} {S : Shape} {e : EltTy} (M : Memref sig .tc sp S e) : Type := Buf (Elt F) (M.view.loc (c : Thread nD τ))
/-- A buffer held whole. -/
abbrev pt (c : Dev nD) {sp : Space} {S : Shape} {e : EltTy} (M : Memref sig .tc sp S e) (f : Bf (F := F) c M) : sProp 𝕄 :=
  M.view.loc (c : Thread nD τ) ↦{fullShare} f
/-- A piece of a buffer: its elements, at the contents `f` of the whole. -/
abbrev pp (c : Dev nD) {sp : Space} {S : Shape} {e : EltTy} (M : Memref sig .tc sp S e) (f : Bf (F := F) c M) : sProp 𝕄 :=
  M.view.loc (c : Thread nD τ) ↦[M.view.set]{fullShare} f
/-- A cell at zero. -/
abbrev cell (c : Dev nD) (s : DmaSems sig S_) : sProp 𝕄 := semVal ((c : Thread nD τ), SemLoc.dma s.sem) 0

/-! ## The pieces of the two weight matrices -/

abbrev gOff (k : Fin 11) : Fin 2 → ℕ := ![0, 2304 + 512 * k.val]
theorem gOff_inb (k : Fin 11) : ∀ a, gOff k a + S2048x512.size a ≤ S2048x13568.size a := by
  have := k.isLt; intro a; fin_cases a
  · show 0 + 2048 ≤ 2048; omega
  · show 2304 + 512 * k.val + 512 ≤ 13568; omega
abbrev uOff (k : Fin 11) : Fin 2 → ℕ := ![0, 7936 + 512 * k.val]
theorem uOff_inb (k : Fin 11) : ∀ a, uOff k a + S2048x512.size a ≤ S2048x13568.size a := by
  have := k.isLt; intro a; fin_cases a
  · show 0 + 2048 ≤ 2048; omega
  · show 7936 + 512 * k.val + 512 ≤ 13568; omega
abbrev qOff (k : Fin 3) : Fin 2 → ℕ := ![0, 768 * k.val]
theorem qOff_inb (k : Fin 3) : ∀ a, qOff k a + S2048x768.size a ≤ S2048x13568.size a := by
  have := k.isLt; intro a; fin_cases a
  · show 0 + 2048 ≤ 2048; omega
  · show 768 * k.val + 768 ≤ 13568; omega
abbrev oOff (k : Fin 10) : Fin 2 → ℕ := ![768 * k.val, 0]
theorem oOff_inb (k : Fin 10) : ∀ a, oOff k a + S768x2048.size a ≤ S7680x2048.size a := by
  have := k.isLt; intro a; fin_cases a
  · show 768 * k.val + 768 ≤ 7680; omega
  · show 0 + 2048 ≤ 2048; omega
theorem c11_inb (k : Fin 11) : ∀ a, (![k.val] : Fin 1 → ℕ) a + S1.size a ≤ S11.size a := by
  have := k.isLt; intro a; fin_cases a; show k.val + 1 ≤ 11; omega
theorem c10_inb (k : Fin 10) : ∀ a, (![k.val] : Fin 1 → ℕ) a + S1.size a ≤ S10.size a := by
  have := k.isLt; intro a; fin_cases a; show k.val + 1 ≤ 10; omega

/-- Columns of the first weight matrix, in HBM and in the kernel's copy: the gate's, the up projection's, the query's
    and the new key's and value's; rows of the second. -/
abbrev gH (k : Fin 11) : Memref sig .tc .hbm S2048x512 .fp8e4m3 := M3.slice (Rect.unit (s := S2048x13568) (gOff k) S2048x512.size (gOff_inb k)) (fun _ => rfl)
abbrev gV (k : Fin 11) : Memref sig .tc .vmem S2048x512 .fp8e4m3 := M23.slice (Rect.unit (s := S2048x13568) (gOff k) S2048x512.size (gOff_inb k)) (fun _ => rfl)
abbrev uH (k : Fin 11) : Memref sig .tc .hbm S2048x512 .fp8e4m3 := M3.slice (Rect.unit (s := S2048x13568) (uOff k) S2048x512.size (uOff_inb k)) (fun _ => rfl)
abbrev uV (k : Fin 11) : Memref sig .tc .vmem S2048x512 .fp8e4m3 := M23.slice (Rect.unit (s := S2048x13568) (uOff k) S2048x512.size (uOff_inb k)) (fun _ => rfl)
abbrev qH (k : Fin 3) : Memref sig .tc .hbm S2048x768 .fp8e4m3 := M3.slice (Rect.unit (s := S2048x13568) (qOff k) S2048x768.size (qOff_inb k)) (fun _ => rfl)
abbrev qV (k : Fin 3) : Memref sig .tc .vmem S2048x768 .fp8e4m3 := M23.slice (Rect.unit (s := S2048x13568) (qOff k) S2048x768.size (qOff_inb k)) (fun _ => rfl)
abbrev oH (k : Fin 10) : Memref sig .tc .hbm S768x2048 .fp8e4m3 := M5.slice (Rect.unit (s := S7680x2048) (oOff k) S768x2048.size (oOff_inb k)) (fun _ => rfl)
abbrev oV (k : Fin 10) : Memref sig .tc .vmem S768x2048 .fp8e4m3 := M25.slice (Rect.unit (s := S7680x2048) (oOff k) S768x2048.size (oOff_inb k)) (fun _ => rfl)
abbrev cg (k : Fin 11) : DmaSems sig S_ := (cc0_scoped4.slice (Rect.unit (s := S11) ![k.val] S1.size (c11_inb k))).squeeze S_ squeezes_S1_S_
abbrev co (k : Fin 10) : DmaSems sig S_ := (cc0_scoped5.slice (Rect.unit (s := S10) ![k.val] S1.size (c10_inb k))).squeeze S_ squeezes_S1_S_

/-! ## The two loops' offsets in closed form -/

section Chain
open Affine

abbrev t11 (k : Fin k0_t1_loop.trips) : Fin 11 := ⟨k.val, Nat.lt_of_lt_of_eq k.isLt (by decide)⟩
abbrev t10 (k : Fin k0_t2_loop.trips) : Fin 10 := ⟨k.val, Nat.lt_of_lt_of_eq k.isLt (by decide)⟩

/-- The trip's number, as the loop counts it. -/
theorem isInt_iv {n : ℕ} (k : Fin n) (hn : n ≤ 11) : IsInt (Scf.iv 0#32 1#32 k.val) k.val :=
  iv (e := k.val) (ofNat (e := 0) 0 ⟨rfl, by decide⟩) (ofNat (e := 1) 1 ⟨rfl, by decide⟩) k.val ⟨by omega, by have := k.isLt; omega, by have := k.isLt; omega⟩
theorem isInt_t {n : ℕ} (k : Fin n) (hn : n ≤ 11) : IsInt (Scalar.addi 0#32 (Scalar.muli (Scf.iv 0#32 1#32 k.val) 1#32)) k.val := by
  have := k.isLt
  have h : IsInt (Scalar.muli (Scf.iv 0#32 1#32 k.val) 1#32) k.val :=
    muli (e := k.val) (isInt_iv k hn) (ofNat (e := 1) 1 ⟨rfl, by decide⟩) ⟨by omega, by omega, by omega⟩
  exact addi (e := k.val) (ofNat (e := 0) 0 ⟨rfl, by decide⟩) h ⟨by omega, by omega, by omega⟩
theorem isInt_512 {n : ℕ} (k : Fin n) (hn : n ≤ 11) : IsInt (Scalar.muli (Scalar.addi 0#32 (Scalar.muli (Scf.iv 0#32 1#32 k.val) 1#32)) 512#32) (512 * k.val : ℕ) := by
  have := k.isLt
  exact muli (e := (512 * k.val : ℕ)) (isInt_t k hn) (ofNat (e := 512) 512 ⟨rfl, by decide⟩) ⟨by push_cast; omega, by omega, by push_cast; omega⟩
theorem isInt_768 {n : ℕ} (k : Fin n) (hn : n ≤ 11) : IsInt (Scalar.muli (Scalar.addi 0#32 (Scalar.muli (Scf.iv 0#32 1#32 k.val) 1#32)) 768#32) (768 * k.val : ℕ) := by
  have := k.isLt
  exact muli (e := (768 * k.val : ℕ)) (isInt_t k hn) (ofNat (e := 768) 768 ⟨rfl, by decide⟩) ⟨by push_cast; omega, by omega, by push_cast; omega⟩
theorem isInt_add (b : ℕ) (hb : b ≤ 10000) {n : ℕ} (k : Fin n) (hn : n ≤ 11) :
    IsInt (Scalar.addi (BitVec.ofNat 32 b) (Scalar.muli (Scalar.addi 0#32 (Scalar.muli (Scf.iv 0#32 1#32 k.val) 1#32)) 512#32)) (b + 512 * k.val : ℕ) := by
  have := k.isLt
  exact addi (e := (b + 512 * k.val : ℕ)) (ofNat (e := b) b ⟨rfl, by omega⟩) (isInt_512 k hn) ⟨by push_cast; omega, by omega, by push_cast; omega⟩

theorem trips1 : k0_t1_loop.trips = 11 := by decide
theorem trips2 : k0_t2_loop.trips = 10 := by decide

theorem off1_eq (k : Fin k0_t1_loop.trips) : k0_off1 k = ![(t11 k).val] := vec_cons (isInt_t k trips1.le) rfl vec_nil
theorem off7_eq (k : Fin k0_t2_loop.trips) : k0_off7 k = ![(t10 k).val] := vec_cons (isInt_t k (trips2.le.trans (by decide))) rfl vec_nil
theorem vec2 {x : BitVec 32} {n : ℕ} (h : IsInt x n) : (![0, x.toNat] : Fin 2 → ℕ) = ![0, n] :=
  congrArg (Matrix.vecCons 0) (vec_cons h rfl vec_nil)
theorem off2g_eq (k : Fin k0_t1_loop.trips) : k0_off2 k 2304#32 = gOff (t11 k) := vec2 (isInt_add 2304 (by decide) k trips1.le)
theorem off2u_eq (k : Fin k0_t1_loop.trips) : k0_off2 k 7936#32 = uOff (t11 k) := vec2 (isInt_add 7936 (by decide) k trips1.le)
theorem off3g_eq (k : Fin k0_t1_loop.trips) : k0_off3 k 2304#32 = gOff (t11 k) := vec2 (indexCast (isInt_add 2304 (by decide) k trips1.le))
theorem off3u_eq (k : Fin k0_t1_loop.trips) : k0_off3 k 7936#32 = uOff (t11 k) := vec2 (indexCast (isInt_add 7936 (by decide) k trips1.le))
theorem off4g_eq (k : Fin k0_t1_loop.trips) : k0_off4 k 2304#32 = gOff (t11 k) := vec2 (indexCast (isInt_add 2304 (by decide) k trips1.le))
theorem off4u_eq (k : Fin k0_t1_loop.trips) : k0_off4 k 7936#32 = uOff (t11 k) := vec2 (indexCast (isInt_add 7936 (by decide) k trips1.le))
theorem off5g_eq (k : Fin k0_t1_loop.trips) : k0_off5 k 2304#32 = gOff (t11 k) := vec2 (indexCast (isInt_add 2304 (by decide) k trips1.le))
theorem off5u_eq (k : Fin k0_t1_loop.trips) : k0_off5 k 7936#32 = uOff (t11 k) := vec2 (indexCast (isInt_add 7936 (by decide) k trips1.le))
theorem off6_eq (k : Fin k0_t1_loop.trips) : k0_off6 k = ![0, 2048 + 512 * k.val] := vec2 (indexCast (isInt_add 2048 (by decide) k trips1.le))
theorem off8_eq (k : Fin k0_t2_loop.trips) : k0_off8 k = oOff (t10 k) := vec_cons (isInt_768 k (trips2.le.trans (by decide))) rfl rfl
theorem off9_eq (k : Fin k0_t2_loop.trips) : k0_off9 k = ![0, 768 * k.val] := vec2 (indexCast (isInt_768 k (trips2.le.trans (by decide))))
theorem off10_eq (k : Fin k0_t2_loop.trips) : k0_off10 k = oOff (t10 k) := vec_cons (indexCast (isInt_768 k (trips2.le.trans (by decide)))) rfl rfl

instance (k : Fin 11) : ClosedOff (gOff k) := ⟨gOff k, rfl⟩
instance (k : Fin 11) : ClosedOff (uOff k) := ⟨uOff k, rfl⟩
instance (k : Fin 10) : ClosedOff (oOff k) := ⟨oOff k, rfl⟩
instance (k : Fin k0_t1_loop.trips) : ClosedOff (k0_off3 k 2304#32) := ⟨gOff (t11 k), off3g_eq k⟩
instance (k : Fin k0_t1_loop.trips) : ClosedOff (k0_off3 k 7936#32) := ⟨uOff (t11 k), off3u_eq k⟩
instance (k : Fin k0_t1_loop.trips) : ClosedOff (k0_off4 k 2304#32) := ⟨gOff (t11 k), off4g_eq k⟩
instance (k : Fin k0_t1_loop.trips) : ClosedOff (k0_off4 k 7936#32) := ⟨uOff (t11 k), off4u_eq k⟩
instance (k : Fin k0_t1_loop.trips) : ClosedOff (k0_off5 k 2304#32) := ⟨gOff (t11 k), off5g_eq k⟩
instance (k : Fin k0_t1_loop.trips) : ClosedOff (k0_off5 k 7936#32) := ⟨uOff (t11 k), off5u_eq k⟩
instance (k : Fin k0_t1_loop.trips) : ClosedOff (k0_off6 k) := ⟨![0, 2048 + 512 * k.val], off6_eq k⟩
instance (k : Fin k0_t2_loop.trips) : ClosedOff (k0_off9 k) := ⟨![0, 768 * k.val], off9_eq k⟩
instance (k : Fin k0_t2_loop.trips) : ClosedOff (k0_off10 k) := ⟨oOff (t10 k), off10_eq k⟩

private theorem cg_congr {off : Fin 1 → ℕ} {k : Fin 11} (e : off = ![k.val]) (hh) :
    (cc0_scoped4.slice (Rect.unit (s := S11) off S1.size hh)).squeeze S_ squeezes_S1_S_ = cg k :=
  congrArg (fun A : DmaSems sig S1 => A.squeeze S_ squeezes_S1_S_) (SemArray.slice_unit_congr _ e _ _)
private theorem co_congr {off : Fin 1 → ℕ} {k : Fin 10} (e : off = ![k.val]) (hh) :
    (cc0_scoped5.slice (Rect.unit (s := S10) off S1.size hh)).squeeze S_ squeezes_S1_S_ = co k :=
  congrArg (fun A : DmaSems sig S1 => A.squeeze S_ squeezes_S1_S_) (SemArray.slice_unit_congr _ e _ _)

/-- The slices and cells of a trip, by name. -/
@[sl_canon] theorem cgK (k : Fin k0_t1_loop.trips) (hh) :
    (cc0_scoped4.slice (Rect.unit (s := S11) (k0_off1 k) S1.size hh)).squeeze S_ squeezes_S1_S_ = cg (t11 k) := cg_congr (off1_eq k) _
@[sl_canon] theorem coK (k : Fin k0_t2_loop.trips) (hh) :
    (cc0_scoped5.slice (Rect.unit (s := S10) (k0_off7 k) S1.size hh)).squeeze S_ squeezes_S1_S_ = co (t10 k) := co_congr (off7_eq k) _
@[sl_canon] theorem gHK (k : Fin k0_t1_loop.trips) (hh hs) : M3.slice (Rect.unit (s := S2048x13568) (k0_off2 k 2304#32) S2048x512.size hh) hs = gH (t11 k) := Memref.slice_unit_congr _ (off2g_eq k) _ _ _ _
@[sl_canon] theorem gVK (k : Fin k0_t1_loop.trips) (hh hs) : M23.slice (Rect.unit (s := S2048x13568) (k0_off2 k 2304#32) S2048x512.size hh) hs = gV (t11 k) := Memref.slice_unit_congr _ (off2g_eq k) _ _ _ _
@[sl_canon] theorem uHK (k : Fin k0_t1_loop.trips) (hh hs) : M3.slice (Rect.unit (s := S2048x13568) (k0_off2 k 7936#32) S2048x512.size hh) hs = uH (t11 k) := Memref.slice_unit_congr _ (off2u_eq k) _ _ _ _
@[sl_canon] theorem uVK (k : Fin k0_t1_loop.trips) (hh hs) : M23.slice (Rect.unit (s := S2048x13568) (k0_off2 k 7936#32) S2048x512.size hh) hs = uV (t11 k) := Memref.slice_unit_congr _ (off2u_eq k) _ _ _ _
@[sl_canon] theorem oHK (k : Fin k0_t2_loop.trips) (hh hs) : M5.slice (Rect.unit (s := S7680x2048) (k0_off8 k) S768x2048.size hh) hs = oH (t10 k) := Memref.slice_unit_congr _ (off8_eq k) _ _ _ _
@[sl_canon] theorem oVK (k : Fin k0_t2_loop.trips) (hh hs) : M25.slice (Rect.unit (s := S7680x2048) (k0_off8 k) S768x2048.size hh) hs = oV (t10 k) := Memref.slice_unit_congr _ (off8_eq k) _ _ _ _

end Chain

/-! ## What the copies deliver -/

section Flights
variable (c : Dev nD) (a3 : Bf (F := F) c M3) (a5 : Bf (F := F) c M5) (a7 : Bf (F := F) c M7) (a8 : Bf (F := F) c M8)
  (s3 : Bf (F := F) c M23) (s5 : Bf (F := F) c M25) (s7 : Bf (F := F) c M27) (s8 : Bf (F := F) c M28)

abbrev landed {sp sp' : Space} {S : Shape} {e : EltTy} (V : Memref sig .tc sp S e) (H : Memref sig .tc sp' S e)
    (f : Bf (F := F) c V) (g : Bf (F := F) c H) : Bf (F := F) c V :=
  V.view.writes (Elt F) f [⟨Rect.whole S, ReadAs.same.apply (H.view.read (Elt F) g)⟩]

/-- A piece after its copy, over contents nothing reads. -/
abbrev landedJ {sp sp' : Space} {S : Shape} {e : EltTy} (V : Memref sig .tc sp S e) (H : Memref sig .tc sp' S e)
    (g : Bf (F := F) c H) : Bf (F := F) c V :=
  V.view.writes (Elt F) V.view.junk [⟨Rect.whole S, ReadAs.same.apply (H.view.read (Elt F) g)⟩]

/-- Trip `k`'s two copies, which ride on one cell: the gate's columns and the up projection's. -/
def gDel (k : Fin 11) : Fin 2 → sProp 𝕄
  | 0 => iprop(pp c (gV k) (landed c (gV k) (gH k) s3 a3) ∗ pp c (gH k) a3)
  | 1 => iprop(pp c (uV k) (landed c (uV k) (uH k) s3 a3) ∗ pp c (uH k) a3)
instance (k : Fin 11) (t : Fin 2) : Storable (upEmb : UEmb _ 𝕄) (gDel c a3 s3 k t) := by
  fin_cases t <;> simp only [gDel] <;> infer_instance
/-- The key and the value cache's copies, which ride on one cell. -/
def kvDel : Fin 2 → sProp 𝕄
  | 0 => iprop(pt c M27 (View.write (Elt F) M27.view s7 (ReadAs.same.apply (M7.view.read (Elt F) a7)) Finset.univ) ∗ pp c M7 a7)
  | 1 => iprop(pt c M28 (View.write (Elt F) M28.view s8 (ReadAs.same.apply (M8.view.read (Elt F) a8)) Finset.univ) ∗ pp c M8 a8)
instance (t : Fin 2) : Storable (upEmb : UEmb _ 𝕄) (kvDel c a7 a8 s7 s8 t) := by
  fin_cases t <;> simp only [kvDel] <;> infer_instance

end Flights

end Cert.Kernel.Hand
-- ==== Proof.LoopsKernel.lean ====
/-
  The same for the kernel as printed with its rounding formats. One trip of each of the kernel's two loops, and the loops' invariants: trip `k`'s pieces of the weights are in flight
  before it and held after it.
-/
module

public import proofs.«01_k».proof.Proof.LoopsIdeal
public import proofs.«01_k».proof.Proof.PiecesKernel

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## A family of which the first `k` members are done -/

omit [FloatOps F] in
/-- Members `A j` still to come, `B j` done. -/
def fam {n : ℕ} (A B : Fin n → sProp 𝕄) (k : ℕ) : sProp 𝕄 := bigSep Finset.univ (fun j : Fin n => if j.val < k then B j else A j)
def famRest {n : ℕ} (A B : Fin n → sProp 𝕄) (k : Fin n) : sProp 𝕄 := bigSep (Finset.univ.erase k) (fun j : Fin n => if j.val < k.val then B j else A j)

omit [FloatOps F] in
theorem fam_here {n : ℕ} (A B : Fin n → sProp 𝕄) (k : Fin n) : fam A B k.val = iprop(A k ∗ famRest A B k) := by
  unfold fam famRest
  conv_lhs => rw [← Finset.insert_erase (Finset.mem_univ k), bigSep_insert (Finset.notMem_erase k _)]
  rw [if_neg (lt_irrefl _)]; rfl
omit [FloatOps F] in
theorem fam_next {n : ℕ} (A B : Fin n → sProp 𝕄) (k : Fin n) : fam A B (k.val + 1) = iprop(B k ∗ famRest A B k) := by
  unfold fam famRest
  conv_lhs => rw [← Finset.insert_erase (Finset.mem_univ k), bigSep_insert (Finset.notMem_erase k _)]
  rw [if_pos (Nat.lt_succ_self _)]
  refine congrArg (fun Q => iprop(B k ∗ Q)) (bigSep_congr fun j hj => ?_)
  have hne : j.val ≠ k.val := fun h => (Finset.ne_of_mem_erase hj) (Fin.ext h)
  by_cases h : j.val < k.val
  · rw [if_pos h, if_pos (by omega)]
  · rw [if_neg h, if_neg (by omega)]
omit [FloatOps F] in
@[sl_canon] theorem fam_zero {n : ℕ} (A B : Fin n → sProp 𝕄) : fam A B 0 = bigSep Finset.univ A :=
  bigSep_congr fun j _ => if_neg (Nat.not_lt_zero _)
omit [FloatOps F] in
theorem fam_all {n : ℕ} (A B : Fin n → sProp 𝕄) : fam A B n = bigSep Finset.univ B :=
  bigSep_congr fun j _ => if_pos j.isLt

/-! ## The first loop: the gate's and the up projection's columns -/

section Trips

variable (c : Dev nD)

abbrev gFly (a3 : Bf (F := F) c M3) (s3 : Bf (F := F) c M23) (j : Fin 11) : sProp 𝕄 :=
  Transfers.Batch (countersEmb (U := Pipeline.UD sig nD τ)) (c : Thread nD τ) (SemLoc.dma (cg j).sem) () 32768 (gDel c a3 s3 j) 2 0
abbrev gDone (a3 : Bf (F := F) c M3) (j : Fin 11) : sProp 𝕄 :=
  iprop(cell c (cg j)
    ∗ (pp c (gV j) (landedJ c (gV j) (gH j) a3) ∗ pp c (gH j) a3)
    ∗ (pp c (uV j) (landedJ c (uV j) (uH j) a3) ∗ pp c (uH j) a3))
abbrev oFly (a5 : Bf (F := F) c M5) (s5 : Bf (F := F) c M25) (j : Fin 10) : sProp 𝕄 :=
  Transfers.Flight (countersEmb (U := Pipeline.UD sig nD τ)) (c : Thread nD τ) (SemLoc.dma (co j).sem) () 49152
    iprop(pp c (oV j) (landed c (oV j) (oH j) s5 a5) ∗ pp c (oH j) a5)
abbrev oDone (a5 : Bf (F := F) c M5) (j : Fin 10) : sProp 𝕄 :=
  iprop(cell c (co j) ∗ pp c (oV j) (landedJ c (oV j) (oH j) a5) ∗ pp c (oH j) a5)

abbrev trip1 (v317 : FVec F S4x1 .f32) (v872 : Vec F S4x128 .f32) (k : Fin k0_t1_loop.trips) : Prog (TpuEff nD τ sig (Elt F) Λ₀ .tc) Unit :=
  k0_t1_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) M19 (Memref.isWhole_whole _) M20 (Memref.isWhole_whole _) M21 (Memref.isWhole_whole _) M22 (Memref.isWhole_whole _) M23 (Memref.isWhole_whole _) M24 (Memref.isWhole_whole _) M25 (Memref.isWhole_whole _) M26 (Memref.isWhole_whole _) M27 (Memref.isWhole_whole _) M28 (Memref.isWhole_whole _) M29 (Memref.isWhole_whole _) M30 (Memref.isWhole_whole _) M31 (Memref.isWhole_whole _) M32 (Memref.isWhole_whole _) M33 (Memref.isWhole_whole _) M34 (Memref.isWhole_whole _) M35 (Memref.isWhole_whole _) M36 (Memref.isWhole_whole _) M37 (Memref.isWhole_whole _) M38 (Memref.isWhole_whole _) M39 (Memref.isWhole_whole _) M40 (Memref.isWhole_whole _) M41 (Memref.isWhole_whole _) M42 (Memref.isWhole_whole _) M43 (Memref.isWhole_whole _) M44 (Memref.isWhole_whole _) cc0_scoped0 cc0_scoped1 cc0_scoped2 cc0_scoped3 cc0_scoped4 cc0_scoped5 cc0_scoped6 v317 v872 k ()
abbrev trip2 (v988 : FVec F S4x1 .f32) (k : Fin k0_t2_loop.trips) : Prog (TpuEff nD τ sig (Elt F) Λ₀ .tc) Unit :=
  k0_t2_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) M19 (Memref.isWhole_whole _) M20 (Memref.isWhole_whole _) M21 (Memref.isWhole_whole _) M22 (Memref.isWhole_whole _) M23 (Memref.isWhole_whole _) M24 (Memref.isWhole_whole _) M25 (Memref.isWhole_whole _) M26 (Memref.isWhole_whole _) M27 (Memref.isWhole_whole _) M28 (Memref.isWhole_whole _) M29 (Memref.isWhole_whole _) M30 (Memref.isWhole_whole _) M31 (Memref.isWhole_whole _) M32 (Memref.isWhole_whole _) M33 (Memref.isWhole_whole _) M34 (Memref.isWhole_whole _) M35 (Memref.isWhole_whole _) M36 (Memref.isWhole_whole _) M37 (Memref.isWhole_whole _) M38 (Memref.isWhole_whole _) M39 (Memref.isWhole_whole _) M40 (Memref.isWhole_whole _) M41 (Memref.isWhole_whole _) M42 (Memref.isWhole_whole _) M43 (Memref.isWhole_whole _) M44 (Memref.isWhole_whole _) cc0_scoped0 cc0_scoped1 cc0_scoped2 cc0_scoped3 cc0_scoped4 cc0_scoped5 cc0_scoped6 v988 k ()

/-- What the first loop's trip `k` is handed. -/
def res1 (a3 : Bf (F := F) c M3) (s3 : Bf (F := F) c M23) (f40 : Bf (F := F) c M40) (f24 : Bf (F := F) c M24)
    (k : ℕ) (o32 : Bf (F := F) c M32) (o43 : Bf (F := F) c M43) : sProp 𝕄 :=
  iprop(pt c M40 f40 ∗ pt c M24 f24 ∗ pt c M32 o32 ∗ pt c M43 o43 ∗ (∃ W, owes (c : Thread nD τ) 0 W)
    ∗ fam (gFly c a3 s3) (gDone c a3) k)

set_option backward.proofsInPublic true in
/-- One trip of the first loop, at a symbolic trip: the two copies waited for, the two tiles projected and stored. -/
def tripRun1 (a3 : Bf (F := F) c M3) (s3 : Bf (F := F) c M23) (f40 : Bf (F := F) c M40) (f24 : Bf (F := F) c M24)
    (v317 : FVec F S4x1 .f32) (v872 : Vec F S4x128 .f32) (k : Fin k0_t1_loop.trips) :
    { w : (Bf (F := F) c M32 → Bf (F := F) c M32) × (Bf (F := F) c M43 → Bf (F := F) c M43) // ∀ o32 o43,
      res1 c a3 s3 f40 f24 k o32 o43 ⊢ wp frame (wpE (defs₀ (F := F)) Variants.none (c : Thread nD τ) none) Set.univ (trip1 v317 v872 k)
        (fun _ => res1 c a3 s3 f40 f24 (k.val + 1) (w.1 o32) (w.2 o43)) } := by
  refine ⟨⟨?_, ?_⟩, fun o32 o43 => ?run⟩
  case run =>
    dsimp only
    unfold res1
    rw [show (k.val : ℕ) = (t11 k).val from rfl, fam_here, fam_next]
    unfold gFly
    iintro ⟨H40, H24, H32, H43, ⟨%W, HW⟩, HB, Hrest⟩
    dsimp only [trip1]
    sl_unfold [k0_t1_body]
    sl_exec
    sl_step
    isplitl [H40]; · iexact H40
    isplitl [H24]; · iexact H24
    isplitl [H32]; · iexact H32
    isplitl [H43]; · iexact H43
    isplitl [HW]; · iexists _; iexact HW
    isplitr [Hrest]
    · isplitl [HB]; · iexact HB
      isplitl [HB_dst0 HB_src0]
      · isplitl [HB_dst0]; · iexact HB_dst0
        iexact HB_src0
      isplitl [HB_dst1]; · iexact HB_dst1
      iexact HB_src1
    iexact Hrest

/-! ## The second loop: the output projection's rows -/

def res2 (a5 : Bf (F := F) c M5) (s5 : Bf (F := F) c M25) (f41 : Bf (F := F) c M41) (k : ℕ) (o44 : Bf (F := F) c M44) : sProp 𝕄 :=
  iprop(pt c M41 f41 ∗ pt c M44 o44 ∗ (∃ W, owes (c : Thread nD τ) 0 W) ∗ fam (oFly c a5 s5) (oDone c a5) k)

set_option backward.proofsInPublic true in
def tripRun2 (a5 : Bf (F := F) c M5) (s5 : Bf (F := F) c M25) (f41 : Bf (F := F) c M41)
    (v988 : FVec F S4x1 .f32) (k : Fin k0_t2_loop.trips) (o44 : Bf (F := F) c M44) :
    { w : Bf (F := F) c M44 //
      res2 c a5 s5 f41 k o44 ⊢ wp frame (wpE (defs₀ (F := F)) Variants.none (c : Thread nD τ) none) Set.univ (trip2 v988 k)
        (fun _ => res2 c a5 s5 f41 (k.val + 1) w) } := by
  refine ⟨?_, ?run⟩
  case run =>
    unfold res2
    rw [show (k.val : ℕ) = (t10 k).val from rfl, fam_here, fam_next]
    unfold oFly
    iintro ⟨H41, H44, ⟨%W, HW⟩, HB, Hrest⟩
    dsimp only [trip2]
    sl_unfold [k0_t2_body]
    sl_exec
    sl_step
    isplitl [H41]; · iexact H41
    isplitl [H44]; · iexact H44
    isplitl [HW]; · iexists _; iexact HW
    isplitr [Hrest]
    · isplitl [HB]; · iexact HB
      isplitl [HB_dst]; · iexact HB_dst
      iexact HB_src
    iexact Hrest

/-! ## The accumulations and the invariants -/

/-- The two buffers the first loop stores into, before trip `k`. -/
def acc32 (a3 : Bf (F := F) c M3) (s3 : Bf (F := F) c M23) (f40 : Bf (F := F) c M40) (f24 : Bf (F := F) c M24)
    (v317 : FVec F S4x1 .f32) (v872 : Vec F S4x128 .f32) (o : Bf (F := F) c M32) : ℕ → Bf (F := F) c M32
  | 0 => o
  | k + 1 =>
    if h : k < k0_t1_loop.trips then (tripRun1 c a3 s3 f40 f24 v317 v872 ⟨k, h⟩).1.1 (acc32 a3 s3 f40 f24 v317 v872 o k)
    else acc32 a3 s3 f40 f24 v317 v872 o k
def acc43 (a3 : Bf (F := F) c M3) (s3 : Bf (F := F) c M23) (f40 : Bf (F := F) c M40) (f24 : Bf (F := F) c M24)
    (v317 : FVec F S4x1 .f32) (v872 : Vec F S4x128 .f32) (o : Bf (F := F) c M43) : ℕ → Bf (F := F) c M43
  | 0 => o
  | k + 1 =>
    if h : k < k0_t1_loop.trips then (tripRun1 c a3 s3 f40 f24 v317 v872 ⟨k, h⟩).1.2 (acc43 a3 s3 f40 f24 v317 v872 o k)
    else acc43 a3 s3 f40 f24 v317 v872 o k

/-- The accumulator of the second loop, before trip `k`. -/
def acc44 (a5 : Bf (F := F) c M5) (s5 : Bf (F := F) c M25) (f41 : Bf (F := F) c M41)
    (v988 : FVec F S4x1 .f32) (o : Bf (F := F) c M44) : ℕ → Bf (F := F) c M44
  | 0 => o
  | k + 1 =>
    if h : k < k0_t2_loop.trips then (tripRun2 c a5 s5 f41 v988 ⟨k, h⟩ (acc44 a5 s5 f41 v988 o k)).1
    else acc44 a5 s5 f41 v988 o k

@[sl_canon] theorem acc32_zero (a3 : Bf (F := F) c M3) (s3 : Bf (F := F) c M23) (f40 : Bf (F := F) c M40) (f24 : Bf (F := F) c M24)
    (v317 : FVec F S4x1 .f32) (v872 : Vec F S4x128 .f32) (o : Bf (F := F) c M32) :
    acc32 c a3 s3 f40 f24 v317 v872 o 0 = o := rfl

@[sl_canon] theorem acc43_zero (a3 : Bf (F := F) c M3) (s3 : Bf (F := F) c M23) (f40 : Bf (F := F) c M40) (f24 : Bf (F := F) c M24)
    (v317 : FVec F S4x1 .f32) (v872 : Vec F S4x128 .f32) (o : Bf (F := F) c M43) :
    acc43 c a3 s3 f40 f24 v317 v872 o 0 = o := rfl

set_option warn.classDefReducibility false in
@[sl_loop] def loopInv1 (a3 : Bf (F := F) c M3) (s3 : Bf (F := F) c M23) (f40 : Bf (F := F) c M40) (f24 : Bf (F := F) c M24)
    (v317 : FVec F S4x1 .f32) (v872 : Vec F S4x128 .f32) (o32 : Bf (F := F) c M32) (o43 : Bf (F := F) c M43) :
    LoopInvTy_k0_t1 (F := F) Unit ℕ (Pipeline.UD sig nD τ) ℕ Variants.none c none Set.univ M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) M19 (Memref.isWhole_whole _) M20 (Memref.isWhole_whole _) M21 (Memref.isWhole_whole _) M22 (Memref.isWhole_whole _) M23 (Memref.isWhole_whole _) M24 (Memref.isWhole_whole _) M25 (Memref.isWhole_whole _) M26 (Memref.isWhole_whole _) M27 (Memref.isWhole_whole _) M28 (Memref.isWhole_whole _) M29 (Memref.isWhole_whole _) M30 (Memref.isWhole_whole _) M31 (Memref.isWhole_whole _) M32 (Memref.isWhole_whole _) M33 (Memref.isWhole_whole _) M34 (Memref.isWhole_whole _) M35 (Memref.isWhole_whole _) M36 (Memref.isWhole_whole _) M37 (Memref.isWhole_whole _) M38 (Memref.isWhole_whole _) M39 (Memref.isWhole_whole _) M40 (Memref.isWhole_whole _) M41 (Memref.isWhole_whole _) M42 (Memref.isWhole_whole _) M43 (Memref.isWhole_whole _) M44 (Memref.isWhole_whole _) cc0_scoped0 cc0_scoped1 cc0_scoped2 cc0_scoped3 cc0_scoped4 cc0_scoped5 cc0_scoped6 v317 v872 where
  inv k _ := res1 c a3 s3 f40 f24 k (acc32 c a3 s3 f40 f24 v317 v872 o32 k) (acc43 c a3 s3 f40 f24 v317 v872 o43 k)
  step k _ := by
    have e32 : acc32 c a3 s3 f40 f24 v317 v872 o32 (k.val + 1)
        = (tripRun1 c a3 s3 f40 f24 v317 v872 k).1.1 (acc32 c a3 s3 f40 f24 v317 v872 o32 k) := by
      rw [acc32, dif_pos k.isLt]
    have e43 : acc43 c a3 s3 f40 f24 v317 v872 o43 (k.val + 1)
        = (tripRun1 c a3 s3 f40 f24 v317 v872 k).1.2 (acc43 c a3 s3 f40 f24 v317 v872 o43 k) := by
      rw [acc43, dif_pos k.isLt]
    rw [e32, e43]
    exact (tripRun1 c a3 s3 f40 f24 v317 v872 k).2 _ _

@[sl_canon] theorem acc44_zero (a5 : Bf (F := F) c M5) (s5 : Bf (F := F) c M25) (f41 : Bf (F := F) c M41)
    (v988 : FVec F S4x1 .f32) (o : Bf (F := F) c M44) : acc44 c a5 s5 f41 v988 o 0 = o := rfl

set_option warn.classDefReducibility false in
@[sl_loop] def loopInv2 (a5 : Bf (F := F) c M5) (s5 : Bf (F := F) c M25) (f41 : Bf (F := F) c M41)
    (v988 : FVec F S4x1 .f32) (o44 : Bf (F := F) c M44) :
    LoopInvTy_k0_t2 (F := F) Unit ℕ (Pipeline.UD sig nD τ) ℕ Variants.none c none Set.univ M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) M19 (Memref.isWhole_whole _) M20 (Memref.isWhole_whole _) M21 (Memref.isWhole_whole _) M22 (Memref.isWhole_whole _) M23 (Memref.isWhole_whole _) M24 (Memref.isWhole_whole _) M25 (Memref.isWhole_whole _) M26 (Memref.isWhole_whole _) M27 (Memref.isWhole_whole _) M28 (Memref.isWhole_whole _) M29 (Memref.isWhole_whole _) M30 (Memref.isWhole_whole _) M31 (Memref.isWhole_whole _) M32 (Memref.isWhole_whole _) M33 (Memref.isWhole_whole _) M34 (Memref.isWhole_whole _) M35 (Memref.isWhole_whole _) M36 (Memref.isWhole_whole _) M37 (Memref.isWhole_whole _) M38 (Memref.isWhole_whole _) M39 (Memref.isWhole_whole _) M40 (Memref.isWhole_whole _) M41 (Memref.isWhole_whole _) M42 (Memref.isWhole_whole _) M43 (Memref.isWhole_whole _) M44 (Memref.isWhole_whole _) cc0_scoped0 cc0_scoped1 cc0_scoped2 cc0_scoped3 cc0_scoped4 cc0_scoped5 cc0_scoped6 v988 where
  inv k _ := res2 c a5 s5 f41 k (acc44 c a5 s5 f41 v988 o44 k)
  step k _ := by
    have e : acc44 c a5 s5 f41 v988 o44 (k.val + 1) = (tripRun2 c a5 s5 f41 v988 k (acc44 c a5 s5 f41 v988 o44 k)).1 := by
      rw [acc44, dif_pos k.isLt]
    rw [e]
    exact (tripRun2 c a5 s5 f41 v988 k _).2

end Trips

end Cert.Kernel.Hand
-- ==== Proof.StateKernel.lean ====
/-
  The same for the kernel as printed with its rounding formats. The run of the kernel's whole body: every copy issued and waited for, the two loops by their invariants, and the nine
  results as the run leaves them.
-/
module

public import proofs.«01_k».proof.Proof.StateIdeal
public import proofs.«01_k».proof.Proof.LoopsKernel

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Run

variable (c : Dev nD)

/-! ## A family, member by member -/

omit [FloatOps F] in
theorem fam3 (Φ : Fin 3 → sProp 𝕄) : bigSep Finset.univ Φ = iprop(Φ 0 ∗ Φ 1 ∗ Φ 2) := by
  rw [bigSep_univ_eq_bigSepL [0, 1, 2] (by decide) (by decide) Φ]; rfl
omit [FloatOps F] in
theorem fam11 (Φ : Fin 11 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10) := by
  rw [bigSep_univ_eq_bigSepL [0, 1, 2, 3, 4, 5, 6, 7, 8, 9, 10] (by decide) (by decide) Φ]; rfl
omit [FloatOps F] in
theorem fam10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) := by
  rw [bigSep_univ_eq_bigSepL [0, 1, 2, 3, 4, 5, 6, 7, 8, 9] (by decide) (by decide) Φ]; rfl

omit [FloatOps F] in
theorem entails_of_eq {P Q : sProp 𝕄} (e : P = Q) : P ⊢ Q := e ▸ .rfl

omit [FloatOps F] in
theorem fam_done {n : ℕ} (A B : Fin n → sProp 𝕄) (m : ℕ) (h : n ≤ m) :
    (bigSep Finset.univ fun j : Fin n => if j.val < m then B j else A j) = bigSep Finset.univ B :=
  bigSep_congr fun j _ => if_pos (lt_of_lt_of_le j.isLt h)

/-! ## What the body is handed and what it leaves -/

/-- One trip's pieces of the first weight matrix and their cell, before anything is issued; -/
abbrev gStart (a3 : Bf (F := F) c M3) (s23 : Bf (F := F) c M23) (j : Fin 11) : sProp 𝕄 :=
  iprop(cell c (cg j) ∗ (pp c (gV j) s23 ∗ pp c (gH j) a3) ∗ (pp c (uV j) s23 ∗ pp c (uH j) a3))
/-- of the second; -/
abbrev oStart (a5 : Bf (F := F) c M5) (s25 : Bf (F := F) c M25) (j : Fin 10) : sProp 𝕄 :=
  iprop(cell c (co j) ∗ pp c (oV j) s25 ∗ pp c (oH j) a5)
/-- the query's, the new key's and the new value's columns. -/
abbrev qStart (a3 : Bf (F := F) c M3) (s23 : Bf (F := F) c M23) (j : Fin 3) : sProp 𝕄 :=
  iprop(pp c (qV j) s23 ∗ pp c (qH j) a3)
/-- The query's columns after their copy. -/
abbrev qDone (a3 : Bf (F := F) c M3) (j : Fin 3) : sProp 𝕄 :=
  iprop(pp c (qV j) (landedJ c (qV j) (qH j) a3) ∗ pp c (qH j) a3)

/-- The operands the body reads whole. -/
abbrev insP (a0 : Bf (F := F) c M0) (a1 : Bf (F := F) c M1) (a2 : Bf (F := F) c M2) (a4 : Bf (F := F) c M4) (a6 : Bf (F := F) c M6) (a7 : Bf (F := F) c M7) (a8 : Bf (F := F) c M8) (a9 : Bf (F := F) c M9) (a10 : Bf (F := F) c M10) : sProp 𝕄 :=
  iprop(pt c M0 a0 ∗ pt c M1 a1 ∗ pt c M2 a2 ∗ pt c M4 a4 ∗ pt c M6 a6 ∗ pt c M7 a7 ∗ pt c M8 a8 ∗ pt c M9 a9 ∗ pt c M10 a10)
/-- The nine results. -/
structure Outs (F : FTy → Type) (c : Dev nD) where
  x11 : Bf (F := F) c M11
  x12 : Bf (F := F) c M12
  x13 : Bf (F := F) c M13
  x14 : Bf (F := F) c M14
  x15 : Bf (F := F) c M15
  x16 : Bf (F := F) c M16
  x17 : Bf (F := F) c M17
  x18 : Bf (F := F) c M18
  x19 : Bf (F := F) c M19
abbrev outsP (w : Outs F c) : sProp 𝕄 :=
  iprop(pt c M11 w.x11 ∗ pt c M12 w.x12 ∗ pt c M13 w.x13 ∗ pt c M14 w.x14 ∗ pt c M15 w.x15 ∗ pt c M16 w.x16 ∗ pt c M17 w.x17 ∗ pt c M18 w.x18 ∗ pt c M19 w.x19)
/-- The cells outside the two loops, at zero. -/
abbrev cellsP : sProp 𝕄 :=
  iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0)
/-- The scratch buffers held whole, at some contents. -/
abbrev scratchP : sProp 𝕄 :=
  iprop((∃ f, pt c M20 f) ∗ (∃ f, pt c M21 f) ∗ (∃ f, pt c M22 f) ∗ (∃ f, pt c M24 f) ∗ (∃ f, pt c M26 f) ∗ (∃ f, pt c M27 f) ∗ (∃ f, pt c M28 f) ∗ (∃ f, pt c M29 f) ∗ (∃ f, pt c M30 f) ∗ (∃ f, pt c M31 f) ∗ (∃ f, pt c M32 f) ∗ (∃ f, pt c M33 f) ∗ (∃ f, pt c M34 f) ∗ (∃ f, pt c M35 f) ∗ (∃ f, pt c M36 f) ∗ (∃ f, pt c M37 f) ∗ (∃ f, pt c M38 f) ∗ (∃ f, pt c M39 f) ∗ (∃ f, pt c M40 f) ∗ (∃ f, pt c M41 f) ∗ (∃ f, pt c M42 f) ∗ (∃ f, pt c M43 f) ∗ (∃ f, pt c M44 f))

abbrev bodyG : Prog (TpuEff nD τ sig (Elt F) Λ₀ .tc) PUnit :=
  cc0_parallel_block (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) M19 (Memref.isWhole_whole _) M20 (Memref.isWhole_whole _) M21 (Memref.isWhole_whole _) M22 (Memref.isWhole_whole _) M23 (Memref.isWhole_whole _) M24 (Memref.isWhole_whole _) M25 (Memref.isWhole_whole _) M26 (Memref.isWhole_whole _) M27 (Memref.isWhole_whole _) M28 (Memref.isWhole_whole _) M29 (Memref.isWhole_whole _) M30 (Memref.isWhole_whole _) M31 (Memref.isWhole_whole _) M32 (Memref.isWhole_whole _) M33 (Memref.isWhole_whole _) M34 (Memref.isWhole_whole _) M35 (Memref.isWhole_whole _) M36 (Memref.isWhole_whole _) M37 (Memref.isWhole_whole _) M38 (Memref.isWhole_whole _) M39 (Memref.isWhole_whole _) M40 (Memref.isWhole_whole _) M41 (Memref.isWhole_whole _) M42 (Memref.isWhole_whole _) M43 (Memref.isWhole_whole _) M44 (Memref.isWhole_whole _) cc0_scoped0 cc0_scoped1 cc0_scoped2 cc0_scoped3 cc0_scoped4 cc0_scoped5 cc0_scoped6

end Run

end Cert.Kernel.Hand
-- ==== Proof.SplitKernel.lean ====
/-
  The same for the kernel as printed with its rounding formats. The two weight matrices and their scratch copies, whole and in the pieces the copies move.
-/
module

public import proofs.«01_k».proof.Proof.SplitIdeal
public import proofs.«01_k».proof.Proof.StateKernel
public import proofs.«01_k».proof.Proof.Gen.Kernel.Launch
public import proofs.«01_k».proof.Proof.Gen.Kernel.Frame
public import Idealize.ShloMosaic.Lib.Ring

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The pieces' element sets -/

/-- The first weight matrix by column blocks: the three heads', the gate's and the up projection's. -/
def CB : Fin 3 ⊕ (Fin 11 ⊕ Fin 11) → Finset S2048x13568.Idx
  | .inl k => (Rect.unit (s := S2048x13568) (qOff k) S2048x768.size (qOff_inb k)).set
  | .inr (.inl k) => (Rect.unit (s := S2048x13568) (gOff k) S2048x512.size (gOff_inb k)).set
  | .inr (.inr k) => (Rect.unit (s := S2048x13568) (uOff k) S2048x512.size (uOff_inb k)).set
/-- The second by row blocks. -/
def RB (k : Fin 10) : Finset S7680x2048.Idx := (Rect.unit (s := S7680x2048) (oOff k) S768x2048.size (oOff_inb k)).set

theorem mem_CBq (k : Fin 3) (y : S2048x13568.Idx) : y ∈ CB (.inl k) ↔ 768 * k.val ≤ (y 1).val ∧ (y 1).val < 768 * k.val + 768 := by
  unfold CB; rw [Rect.mem_set_unit]
  have h0 : (y 0).val < 2048 := (y 0).isLt
  constructor
  · intro H; exact H 1
  · intro H i; fin_cases i
    · show 0 ≤ (y 0).val ∧ (y 0).val < 0 + 2048; omega
    · exact H
theorem mem_CBg (k : Fin 11) (y : S2048x13568.Idx) : y ∈ CB (.inr (.inl k)) ↔ 2304 + 512 * k.val ≤ (y 1).val ∧ (y 1).val < 2304 + 512 * k.val + 512 := by
  unfold CB; rw [Rect.mem_set_unit]
  have h0 : (y 0).val < 2048 := (y 0).isLt
  constructor
  · intro H; exact H 1
  · intro H i; fin_cases i
    · show 0 ≤ (y 0).val ∧ (y 0).val < 0 + 2048; omega
    · exact H
theorem mem_CBu (k : Fin 11) (y : S2048x13568.Idx) : y ∈ CB (.inr (.inr k)) ↔ 7936 + 512 * k.val ≤ (y 1).val ∧ (y 1).val < 7936 + 512 * k.val + 512 := by
  unfold CB; rw [Rect.mem_set_unit]
  have h0 : (y 0).val < 2048 := (y 0).isLt
  constructor
  · intro H; exact H 1
  · intro H i; fin_cases i
    · show 0 ≤ (y 0).val ∧ (y 0).val < 0 + 2048; omega
    · exact H
theorem mem_RB (k : Fin 10) (y : S7680x2048.Idx) : y ∈ RB k ↔ 768 * k.val ≤ (y 0).val ∧ (y 0).val < 768 * k.val + 768 := by
  unfold RB; rw [Rect.mem_set_unit]
  have h0 : (y 1).val < 2048 := (y 1).isLt
  constructor
  · intro H; exact H 0
  · intro H i; fin_cases i
    · exact H
    · show 0 ≤ (y 1).val ∧ (y 1).val < 0 + 2048; omega

theorem CB_disjoint : ∀ b b', b ≠ b' → Disjoint (CB b) (CB b') := by
  intro b b' hne; rw [Finset.disjoint_left]; intro y hy hy'; apply hne
  rcases b with k | k | k <;> rcases b' with k' | k' | k' <;>
    simp only [mem_CBq, mem_CBg, mem_CBu] at hy hy' <;> have := k.isLt <;> have := k'.isLt
  all_goals first
    | exact absurd hy (by omega)
    | exact congrArg Sum.inl (Fin.ext (by omega))
    | exact congrArg (Sum.inr ∘ Sum.inl) (Fin.ext (by omega))
    | exact congrArg (Sum.inr ∘ Sum.inr) (Fin.ext (by omega))
theorem CB_cover : Finset.univ.biUnion CB = Finset.univ := by
  ext y; simp only [Finset.mem_biUnion, Finset.mem_univ, true_and, iff_true]
  have h1 : (y 1).val < 13568 := (y 1).isLt
  by_cases h : (y 1).val < 2304
  · exact ⟨.inl ⟨(y 1).val / 768, by omega⟩, (mem_CBq _ _).mpr ⟨by show 768 * ((y 1).val / 768) ≤ _; omega, by show _ < 768 * ((y 1).val / 768) + 768; omega⟩⟩
  by_cases h' : (y 1).val < 7936
  · exact ⟨.inr (.inl ⟨((y 1).val - 2304) / 512, by omega⟩), (mem_CBg _ _).mpr
      ⟨by show 2304 + 512 * (((y 1).val - 2304) / 512) ≤ _; omega, by show _ < 2304 + 512 * (((y 1).val - 2304) / 512) + 512; omega⟩⟩
  · exact ⟨.inr (.inr ⟨((y 1).val - 7936) / 512, by omega⟩), (mem_CBu _ _).mpr
      ⟨by show 7936 + 512 * (((y 1).val - 7936) / 512) ≤ _; omega, by show _ < 7936 + 512 * (((y 1).val - 7936) / 512) + 512; omega⟩⟩
theorem RB_disjoint : ∀ b b', b ≠ b' → Disjoint (RB b) (RB b') := by
  intro b b' hne; rw [Finset.disjoint_left]; intro y hy hy'; rw [mem_RB] at hy hy'; exact hne (Fin.ext (by omega))
theorem RB_cover : Finset.univ.biUnion RB = Finset.univ := by
  ext y; simp only [Finset.mem_biUnion, Finset.mem_univ, true_and, iff_true]
  have h1 : (y 0).val < 7680 := (y 0).isLt
  exact ⟨⟨(y 0).val / 768, by omega⟩, (mem_RB _ _).mpr ⟨by show 768 * ((y 0).val / 768) ≤ _; omega, by show _ < 768 * ((y 0).val / 768) + 768; omega⟩⟩

theorem qH_set (k : Fin 3) : (qH k).view.set = CB (.inl k) := View.set_slice_whole _ _
theorem qV_set (k : Fin 3) : (qV k).view.set = CB (.inl k) := View.set_slice_whole _ _
theorem gH_set (k : Fin 11) : (gH k).view.set = CB (.inr (.inl k)) := View.set_slice_whole _ _
theorem gV_set (k : Fin 11) : (gV k).view.set = CB (.inr (.inl k)) := View.set_slice_whole _ _
theorem uH_set (k : Fin 11) : (uH k).view.set = CB (.inr (.inr k)) := View.set_slice_whole _ _
theorem uV_set (k : Fin 11) : (uV k).view.set = CB (.inr (.inr k)) := View.set_slice_whole _ _
theorem oH_set (k : Fin 10) : (oH k).view.set = RB k := View.set_slice_whole _ _
theorem oV_set (k : Fin 10) : (oV k).view.set = RB k := View.set_slice_whole _ _

section Split
variable (c : Dev nD)

/-! ## Whole and in pieces -/

omit [FloatOps F] in
theorem fam_mono {n : ℕ} {A B : Fin n → sProp 𝕄} (h : ∀ j, A j ⊢ B j) : bigSep Finset.univ A ⊢ bigSep Finset.univ B :=
  BI.bigSep_mono fun j _ => h j

omit [FloatOps F] in
theorem fam_sep {n : ℕ} (A B : Fin n → sProp 𝕄) :
    bigSep Finset.univ (fun j => iprop(A j ∗ B j)) = iprop(bigSep Finset.univ A ∗ bigSep Finset.univ B) := BI.bigSep_sep _ _ _

omit [FloatOps F] in
theorem sep_eq {P P' Q Q' : sProp 𝕄} (h : P = P') (h' : Q = Q') : iprop(P ∗ Q) = iprop(P' ∗ Q') := by rw [h, h']

omit [FloatOps F] in
theorem split3 (a3 : Bf (F := F) c M3) : (pt c M3 a3 : sProp 𝕄) = iprop(bigSep Finset.univ (fun k => pp c (qH k) a3)
    ∗ bigSep Finset.univ (fun k => pp c (gH k) a3) ∗ bigSep Finset.univ (fun k => pp c (uH k) a3)) := by
  show ((c : Thread nD τ).loc main_arg3 ↦{fullShare} a3 : sProp 𝕄) = _
  rw [Ring.pointsTo_blocks (ℓ := (c : Thread nD τ).loc main_arg3) CB CB_disjoint CB_cover a3, BI.bigSep_univ_sum, BI.bigSep_univ_sum]
  refine sep_eq ?_ (sep_eq ?_ ?_)
  · exact bigSep_congr fun k _ => by unfold pp; rw [qH_set]
  · exact bigSep_congr fun k _ => by unfold pp; rw [gH_set]
  · exact bigSep_congr fun k _ => by unfold pp; rw [uH_set]
omit [FloatOps F] in
theorem split23 (s : Bf (F := F) c M23) : (pt c M23 s : sProp 𝕄) = iprop(bigSep Finset.univ (fun k => pp c (qV k) s)
    ∗ bigSep Finset.univ (fun k => pp c (gV k) s) ∗ bigSep Finset.univ (fun k => pp c (uV k) s)) := by
  show ((c : Thread nD τ).loc cc0_scratch3 ↦{fullShare} s : sProp 𝕄) = _
  rw [Ring.pointsTo_blocks (ℓ := (c : Thread nD τ).loc cc0_scratch3) CB CB_disjoint CB_cover s, BI.bigSep_univ_sum, BI.bigSep_univ_sum]
  refine sep_eq ?_ (sep_eq ?_ ?_)
  · exact bigSep_congr fun k _ => by unfold pp; rw [qV_set]
  · exact bigSep_congr fun k _ => by unfold pp; rw [gV_set]
  · exact bigSep_congr fun k _ => by unfold pp; rw [uV_set]
omit [FloatOps F] in
theorem split5 (a5 : Bf (F := F) c M5) : (pt c M5 a5 : sProp 𝕄) = bigSep Finset.univ (fun k => pp c (oH k) a5) := by
  show ((c : Thread nD τ).loc main_arg5 ↦{fullShare} a5 : sProp 𝕄) = _
  rw [Ring.pointsTo_blocks (ℓ := (c : Thread nD τ).loc main_arg5) RB RB_disjoint RB_cover a5]
  exact bigSep_congr fun k _ => by unfold pp; rw [oH_set]
omit [FloatOps F] in
theorem split25 (s : Bf (F := F) c M25) : (pt c M25 s : sProp 𝕄) = bigSep Finset.univ (fun k => pp c (oV k) s) := by
  show ((c : Thread nD τ).loc cc0_scratch5 ↦{fullShare} s : sProp 𝕄) = _
  rw [Ring.pointsTo_blocks (ℓ := (c : Thread nD τ).loc cc0_scratch5) RB RB_disjoint RB_cover s]
  exact bigSep_congr fun k _ => by unfold pp; rw [oV_set]

omit [FloatOps F] in
theorem join23 (f₀ : Bf (F := F) c M23) : (iprop(bigSep Finset.univ (fun k => iprop(∃ f, pp c (qV k) f))
    ∗ bigSep Finset.univ (fun k => iprop(∃ f, pp c (gV k) f)) ∗ bigSep Finset.univ (fun k => iprop(∃ f, pp c (uV k) f))) : sProp 𝕄) ⊢ iprop(∃ f, pt c M23 f) := by
  refine .trans (entails_of_eq ?_) (Ring.pointsTo_blocks_join_exists (ℓ := (c : Thread nD τ).loc cc0_scratch3) CB CB_disjoint CB_cover (q := fullShare) f₀)
  rw [BI.bigSep_univ_sum, BI.bigSep_univ_sum]
  refine sep_eq ?_ (sep_eq ?_ ?_)
  · exact bigSep_congr fun k _ => by unfold pp; rw [qV_set]
  · exact bigSep_congr fun k _ => by unfold pp; rw [gV_set]
  · exact bigSep_congr fun k _ => by unfold pp; rw [uV_set]
omit [FloatOps F] in
theorem join25 (f₀ : Bf (F := F) c M25) : (bigSep Finset.univ (fun k => iprop(∃ f, pp c (oV k) f)) : sProp 𝕄) ⊢ iprop(∃ f, pt c M25 f) := by
  refine .trans (entails_of_eq ?_) (Ring.pointsTo_blocks_join_exists (ℓ := (c : Thread nD τ).loc cc0_scratch5) RB RB_disjoint RB_cover (q := fullShare) f₀)
  exact bigSep_congr fun k _ => by unfold pp; rw [oV_set]

/-! ## What the body's run starts from and leaves, whole -/

omit [FloatOps F] in
theorem start3 (a3 : Bf (F := F) c M3) (s : Bf (F := F) c M23) :
    (iprop(pt c M3 a3 ∗ pt c M23 s ∗ bigSep Finset.univ (fun k : Fin 11 => cell c (cg k))) : sProp 𝕄)
      ⊢ iprop(bigSep Finset.univ (qStart c a3 s) ∗ bigSep Finset.univ (gStart c a3 s)) := by
  rw [split3, split23]
  rw [show bigSep Finset.univ (qStart c a3 s) = _ from fam_sep _ _,
    show bigSep Finset.univ (gStart c a3 s) = _ from (fam_sep _ _).trans (sep_eq rfl ((fam_sep _ _).trans
      (sep_eq (fam_sep _ _) (fam_sep _ _))))]
  iintro ⟨⟨H1, H2, H3⟩, ⟨H4, H5, H6⟩, H7⟩
  isplitl [H1 H4]
  · isplitl [H4]; · iexact H4
    iexact H1
  isplitl [H7]; · iexact H7
  isplitl [H2 H5]
  · isplitl [H5]; · iexact H5
    iexact H2
  isplitl [H6]; · iexact H6
  iexact H3
omit [FloatOps F] in
theorem start5 (a5 : Bf (F := F) c M5) (s : Bf (F := F) c M25) :
    (iprop(pt c M5 a5 ∗ pt c M25 s ∗ bigSep Finset.univ (fun k : Fin 10 => cell c (co k))) : sProp 𝕄)
      ⊢ bigSep Finset.univ (oStart c a5 s) := by
  rw [split5, split25]
  rw [show bigSep Finset.univ (oStart c a5 s) = _ from (fam_sep _ _).trans (sep_eq rfl (fam_sep _ _))]
  iintro ⟨H1, H2, H3⟩
  isplitl [H3]; · iexact H3
  isplitl [H2]; · iexact H2
  iexact H1
theorem finish3 (a3 : Bf (F := F) c M3) (f₀ : Bf (F := F) c M23) :
    (iprop(bigSep Finset.univ (qDone c a3) ∗ bigSep Finset.univ (gDone c a3)) : sProp 𝕄)
      ⊢ iprop(pt c M3 a3 ∗ (∃ f, pt c M23 f) ∗ bigSep Finset.univ (fun k : Fin 11 => cell c (cg k))) := by
  rw [split3]
  rw [show bigSep Finset.univ (qDone c a3) = _ from fam_sep _ _,
    show bigSep Finset.univ (gDone c a3) = _ from (fam_sep _ _).trans (sep_eq rfl ((fam_sep _ _).trans
      (sep_eq (fam_sep _ _) (fam_sep _ _))))]
  iintro ⟨⟨H1, H2⟩, H3, ⟨H4, H5⟩, ⟨H6, H7⟩⟩
  isplitl [H2 H5 H7]
  · isplitl [H2]; · iexact H2
    isplitl [H5]; · iexact H5
    iexact H7
  isplitr [H3]
  · iapply (join23 c f₀)
    isplitl [H1]
    · iapply (fam_mono fun k => (by iintro H; iexists _; iexact H : pp c (qV k) (landedJ c (qV k) (qH k) a3) ⊢ iprop(∃ f, pp c (qV k) f)))
      iexact H1
    isplitl [H4]
    · iapply (fam_mono fun k => (by iintro H; iexists _; iexact H : pp c (gV k) (landedJ c (gV k) (gH k) a3) ⊢ iprop(∃ f, pp c (gV k) f)))
      iexact H4
    iapply (fam_mono fun k => (by iintro H; iexists _; iexact H : pp c (uV k) (landedJ c (uV k) (uH k) a3) ⊢ iprop(∃ f, pp c (uV k) f)))
    iexact H6
  iexact H3
theorem finish5 (a5 : Bf (F := F) c M5) (f₀ : Bf (F := F) c M25) :
    (bigSep Finset.univ (oDone c a5) : sProp 𝕄)
      ⊢ iprop(pt c M5 a5 ∗ (∃ f, pt c M25 f) ∗ bigSep Finset.univ (fun k : Fin 10 => cell c (co k))) := by
  rw [split5]
  rw [show bigSep Finset.univ (oDone c a5) = _ from (fam_sep _ _).trans (sep_eq rfl (fam_sep _ _))]
  iintro ⟨H1, H2, H3⟩
  isplitl [H3]; · iexact H3
  isplitl [H2]
  · iapply (join25 c f₀)
    iapply (fam_mono fun k => (by iintro H; iexists _; iexact H : pp c (oV k) (landedJ c (oV k) (oH k) a5) ⊢ iprop(∃ f, pp c (oV k) f)))
    iexact H2
  iexact H1

end Split

end Cert.Kernel.Hand
-- ==== Proof.RunKernel.lean ====
/-
  The same for the kernel as printed with its rounding formats. The run of the kernel's whole body: every copy issued and waited for, the two loops by their invariants, and the nine
  results as the run leaves them.
-/
module

public import proofs.«01_k».proof.Proof.RunIdeal
public import proofs.«01_k».proof.Proof.StateKernel

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Run

variable (c : Dev nD)

set_option sl_exec.resultNames true in
set_option maxHeartbeats 8000000 in
set_option backward.proofsInPublic true in
/-- The body's run, the results to be found. -/
def kernelRun (a0 : Bf (F := F) c M0) (a1 : Bf (F := F) c M1) (a2 : Bf (F := F) c M2) (a3 : Bf (F := F) c M3) (a4 : Bf (F := F) c M4) (a5 : Bf (F := F) c M5) (a6 : Bf (F := F) c M6) (a7 : Bf (F := F) c M7) (a8 : Bf (F := F) c M8) (a9 : Bf (F := F) c M9) (a10 : Bf (F := F) c M10) (r11 : Bf (F := F) c M11) (r12 : Bf (F := F) c M12) (r13 : Bf (F := F) c M13) (r14 : Bf (F := F) c M14) (r15 : Bf (F := F) c M15) (r16 : Bf (F := F) c M16) (r17 : Bf (F := F) c M17) (r18 : Bf (F := F) c M18) (r19 : Bf (F := F) c M19) (s20 : Bf (F := F) c M20) (s21 : Bf (F := F) c M21) (s22 : Bf (F := F) c M22) (s23 : Bf (F := F) c M23) (s24 : Bf (F := F) c M24) (s25 : Bf (F := F) c M25) (s26 : Bf (F := F) c M26) (s27 : Bf (F := F) c M27) (s28 : Bf (F := F) c M28) (s29 : Bf (F := F) c M29) (s30 : Bf (F := F) c M30) (s31 : Bf (F := F) c M31) (s32 : Bf (F := F) c M32) (s33 : Bf (F := F) c M33) (s34 : Bf (F := F) c M34) (s35 : Bf (F := F) c M35) (s36 : Bf (F := F) c M36) (s37 : Bf (F := F) c M37) (s38 : Bf (F := F) c M38) (s39 : Bf (F := F) c M39) (s40 : Bf (F := F) c M40) (s41 : Bf (F := F) c M41) (s42 : Bf (F := F) c M42) (s43 : Bf (F := F) c M43) (s44 : Bf (F := F) c M44) :
    { w : Outs F c // ∀ (W : Waits sig Unit) (K : PUnit → sProp 𝕄),
      iprop(insP c a0 a1 a2 a4 a6 a7 a8 a9 a10
          ∗ bigSep Finset.univ (qStart c a3 s23) ∗ bigSep Finset.univ (gStart c a3 s23) ∗ bigSep Finset.univ (oStart c a5 s25)
          ∗ iprop(pt c M11 r11 ∗ pt c M12 r12 ∗ pt c M13 r13 ∗ pt c M14 r14 ∗ pt c M15 r15 ∗ pt c M16 r16 ∗ pt c M17 r17 ∗ pt c M18 r18 ∗ pt c M19 r19)
          ∗ iprop(pt c M20 s20 ∗ pt c M21 s21 ∗ pt c M22 s22 ∗ pt c M24 s24 ∗ pt c M26 s26 ∗ pt c M27 s27 ∗ pt c M28 s28 ∗ pt c M29 s29 ∗ pt c M30 s30 ∗ pt c M31 s31 ∗ pt c M32 s32 ∗ pt c M33 s33 ∗ pt c M34 s34 ∗ pt c M35 s35 ∗ pt c M36 s36 ∗ pt c M37 s37 ∗ pt c M38 s38 ∗ pt c M39 s39 ∗ pt c M40 s40 ∗ pt c M41 s41 ∗ pt c M42 s42 ∗ pt c M43 s43 ∗ pt c M44 s44)
          ∗ cellsP c
          ∗ owes (c : Thread nD τ) 0 W
          ∗ (iprop(insP c a0 a1 a2 a4 a6 a7 a8 a9 a10
              ∗ bigSep Finset.univ (qDone c a3) ∗ bigSep Finset.univ (gDone c a3) ∗ bigSep Finset.univ (oDone c a5)
              ∗ outsP c w ∗ scratchP c ∗ cellsP c ∗ (∃ W', owes (c : Thread nD τ) 0 W')) -∗ K ⟨⟩))
        ⊢ wp frame (wpE (defs₀ (F := F)) Variants.none (c : Thread nD τ) none) Set.univ (bodyG (F := F)) K } := by
  refine ⟨⟨?_, ?_, ?_, ?_, ?_, ?_, ?_, ?_, ?_⟩, fun W K => ?run⟩
  case run =>
    unfold bodyG
    simp only [cc0_parallel_block_eq_skeleton]; unfold cc0_parallel_block_skel
    rw [fam3 (qStart c a3 s23), fam11 (gStart c a3 s23), fam10 (oStart c a5 s25)]
    iintro ⟨⟨Hi0, Hi1, Hi2, Hi4, Hi6, Hi7, Hi8, Hi9, Hi10⟩, ⟨⟨HQV0, HQH0⟩, ⟨HQV1, HQH1⟩, ⟨HQV2, HQH2⟩⟩,
      ⟨⟨HB0, ⟨HGV0, HGH0⟩, ⟨HUV0, HUH0⟩⟩, ⟨HB1, ⟨HGV1, HGH1⟩, ⟨HUV1, HUH1⟩⟩, ⟨HB2, ⟨HGV2, HGH2⟩, ⟨HUV2, HUH2⟩⟩, ⟨HB3, ⟨HGV3, HGH3⟩, ⟨HUV3, HUH3⟩⟩, ⟨HB4, ⟨HGV4, HGH4⟩, ⟨HUV4, HUH4⟩⟩, ⟨HB5, ⟨HGV5, HGH5⟩, ⟨HUV5, HUH5⟩⟩, ⟨HB6, ⟨HGV6, HGH6⟩, ⟨HUV6, HUH6⟩⟩, ⟨HB7, ⟨HGV7, HGH7⟩, ⟨HUV7, HUH7⟩⟩, ⟨HB8, ⟨HGV8, HGH8⟩, ⟨HUV8, HUH8⟩⟩, ⟨HB9, ⟨HGV9, HGH9⟩, ⟨HUV9, HUH9⟩⟩, ⟨HB10, ⟨HGV10, HGH10⟩, ⟨HUV10, HUH10⟩⟩⟩,
      ⟨⟨HC0, HOV0, HOH0⟩, ⟨HC1, HOV1, HOH1⟩, ⟨HC2, HOV2, HOH2⟩, ⟨HC3, HOV3, HOH3⟩, ⟨HC4, HOV4, HOH4⟩, ⟨HC5, HOV5, HOH5⟩, ⟨HC6, HOV6, HOH6⟩, ⟨HC7, HOV7, HOH7⟩, ⟨HC8, HOV8, HOH8⟩, ⟨HC9, HOV9, HOH9⟩⟩,
      ⟨Hr11, Hr12, Hr13, Hr14, Hr15, Hr16, Hr17, Hr18, Hr19⟩, ⟨Hs20, Hs21, Hs22, Hs24, Hs26, Hs27, Hs28, Hs29, Hs30, Hs31, Hs32, Hs33, Hs34, Hs35, Hs36, Hs37, Hs38, Hs39, Hs40, Hs41, Hs42, Hs43, Hs44⟩, ⟨Hc0, Hc1, Hc2, Hc3, Hc4, Hc5, Hc6, Hc7, Hc8, Hc9, Hc10, Hc32, Hc33, Hc34, Hc35, Hc36, Hc37, Hc38, Hc39, Hc40⟩, HW, Hk⟩
    imod (Transfers.batch_alloc' (Lvl := ℕ) (countersEmb (U := Pipeline.UD sig nD τ)) (c : Thread nD τ) () 32768 (gDel c a3 s23 0) (sm := SemLoc.dma (cg 0).sem) (E := Set.univ)) $$ HB0 with HB0
    imod (Transfers.batch_alloc' (Lvl := ℕ) (countersEmb (U := Pipeline.UD sig nD τ)) (c : Thread nD τ) () 32768 (gDel c a3 s23 1) (sm := SemLoc.dma (cg 1).sem) (E := Set.univ)) $$ HB1 with HB1
    imod (Transfers.batch_alloc' (Lvl := ℕ) (countersEmb (U := Pipeline.UD sig nD τ)) (c : Thread nD τ) () 32768 (gDel c a3 s23 2) (sm := SemLoc.dma (cg 2).sem) (E := Set.univ)) $$ HB2 with HB2
    imod (Transfers.batch_alloc' (Lvl := ℕ) (countersEmb (U := Pipeline.UD sig nD τ)) (c : Thread nD τ) () 32768 (gDel c a3 s23 3) (sm := SemLoc.dma (cg 3).sem) (E := Set.univ)) $$ HB3 with HB3
    imod (Transfers.batch_alloc' (Lvl := ℕ) (countersEmb (U := Pipeline.UD sig nD τ)) (c : Thread nD τ) () 32768 (gDel c a3 s23 4) (sm := SemLoc.dma (cg 4).sem) (E := Set.univ)) $$ HB4 with HB4
    imod (Transfers.batch_alloc' (Lvl := ℕ) (countersEmb (U := Pipeline.UD sig nD τ)) (c : Thread nD τ) () 32768 (gDel c a3 s23 5) (sm := SemLoc.dma (cg 5).sem) (E := Set.univ)) $$ HB5 with HB5
    imod (Transfers.batch_alloc' (Lvl := ℕ) (countersEmb (U := Pipeline.UD sig nD τ)) (c : Thread nD τ) () 32768 (gDel c a3 s23 6) (sm := SemLoc.dma (cg 6).sem) (E := Set.univ)) $$ HB6 with HB6
    imod (Transfers.batch_alloc' (Lvl := ℕ) (countersEmb (U := Pipeline.UD sig nD τ)) (c : Thread nD τ) () 32768 (gDel c a3 s23 7) (sm := SemLoc.dma (cg 7).sem) (E := Set.univ)) $$ HB7 with HB7
    imod (Transfers.batch_alloc' (Lvl := ℕ) (countersEmb (U := Pipeline.UD sig nD τ)) (c : Thread nD τ) () 32768 (gDel c a3 s23 8) (sm := SemLoc.dma (cg 8).sem) (E := Set.univ)) $$ HB8 with HB8
    imod (Transfers.batch_alloc' (Lvl := ℕ) (countersEmb (U := Pipeline.UD sig nD τ)) (c : Thread nD τ) () 32768 (gDel c a3 s23 9) (sm := SemLoc.dma (cg 9).sem) (E := Set.univ)) $$ HB9 with HB9
    imod (Transfers.batch_alloc' (Lvl := ℕ) (countersEmb (U := Pipeline.UD sig nD τ)) (c : Thread nD τ) () 32768 (gDel c a3 s23 10) (sm := SemLoc.dma (cg 10).sem) (E := Set.univ)) $$ HB10 with HB10
    imod (Transfers.batch_alloc' (Lvl := ℕ) (countersEmb (U := Pipeline.UD sig nD τ)) (c : Thread nD τ) () 40960 (kvDel c a7 a8 s27 s28) (sm := SemLoc.dma 10) (E := Set.univ)) $$ Hc10 with Hc10
    unfold gDel kvDel
    sl_exec_parts
    ihave HG := (entails_of_eq (fam11 (gFly c a3 s23)).symm) $$ [HB0 HB1 HB2 HB3 HB4 HB5 HB6 HB7 HB8 HB9 HB10]
    · unfold gFly gDel
      isplitl [HB0]; · iexact HB0
      isplitl [HB1]; · iexact HB1
      isplitl [HB2]; · iexact HB2
      isplitl [HB3]; · iexact HB3
      isplitl [HB4]; · iexact HB4
      isplitl [HB5]; · iexact HB5
      isplitl [HB6]; · iexact HB6
      isplitl [HB7]; · iexact HB7
      isplitl [HB8]; · iexact HB8
      isplitl [HB9]; · iexact HB9
      iexact HB10
    ihave HO := (entails_of_eq (fam10 (oFly c a5 s25)).symm) $$ [HC0 HC1 HC2 HC3 HC4 HC5 HC6 HC7 HC8 HC9]
    · unfold oFly
      isplitl [HC0]; · iexact HC0
      isplitl [HC1]; · iexact HC1
      isplitl [HC2]; · iexact HC2
      isplitl [HC3]; · iexact HC3
      isplitl [HC4]; · iexact HC4
      isplitl [HC5]; · iexact HC5
      isplitl [HC6]; · iexact HC6
      isplitl [HC7]; · iexact HC7
      isplitl [HC8]; · iexact HC8
      iexact HC9
    sl_exec_parts
    ihave HG := (entails_of_eq (fam_done (gFly c a3 s23) (gDone c a3) (Scf.trips k0_t1_loop.lb k0_t1_loop.ub k0_t1_loop.st) (le_of_eq trips1.symm))) $$ [HG]
    · iexact HG
    ihave HO := (entails_of_eq (fam_done (oFly c a5 s25) (oDone c a5) (Scf.trips k0_t2_loop.lb k0_t2_loop.ub k0_t2_loop.st) (le_of_eq trips2.symm))) $$ [HO]
    · iexact HO
    rw [fam3 (qDone c a3)]
    sl_step
    iapply Hk
    isplitl [Hi0 Hi1 Hi2 Hi4 Hi6 Hi7 Hi8 Hi9 Hi10]
    · isplitl [Hi0]; · iexact Hi0
      isplitl [Hi1]; · iexact Hi1
      isplitl [Hi2]; · iexact Hi2
      isplitl [Hi4]; · iexact Hi4
      isplitl [Hi6]; · iexact Hi6
      isplitl [Hi7]; · iexact Hi7
      isplitl [Hi8]; · iexact Hi8
      isplitl [Hi9]; · iexact Hi9
      iexact Hi10
    isplitl [HQV0 HQH0 HQV1 HQH1 HQV2 HQH2]
    · isplitl [HQV0 HQH0]; · (isplitl [HQV0]; · iexact HQV0); iexact HQH0
      isplitl [HQV1 HQH1]; · (isplitl [HQV1]; · iexact HQV1); iexact HQH1
      isplitl [HQV2]; · iexact HQV2
      iexact HQH2
    isplitl [HG]; · iexact HG
    isplitl [HO]; · iexact HO
    isplitl [Hr11 Hr12 Hr13 Hr14 Hr15 Hr16 Hr17 Hr18 Hr19]
    · isplitl [Hr11]; · iexact Hr11
      isplitl [Hr12]; · iexact Hr12
      isplitl [Hr13]; · iexact Hr13
      isplitl [Hr14]; · iexact Hr14
      isplitl [Hr15]; · iexact Hr15
      isplitl [Hr16]; · iexact Hr16
      isplitl [Hr17]; · iexact Hr17
      isplitl [Hr18]; · iexact Hr18
      iexact Hr19
    isplitl [Hs20 Hs21 Hs22 Hs24 Hs26 Hc10_dst0 Hc10_dst1 Hs29 Hs30 Hs31 Hs32 Hs33 Hs34 Hs35 Hs36 Hs37 Hs38 Hs39 Hs40 Hs41 Hs42 Hs43 Hs44]
    · isplitl [Hs20]; · iexists _; iexact Hs20
      isplitl [Hs21]; · iexists _; iexact Hs21
      isplitl [Hs22]; · iexists _; iexact Hs22
      isplitl [Hs24]; · iexists _; iexact Hs24
      isplitl [Hs26]; · iexists _; iexact Hs26
      isplitl [Hc10_dst0]; · iexists _; iexact Hc10_dst0
      isplitl [Hc10_dst1]; · iexists _; iexact Hc10_dst1
      isplitl [Hs29]; · iexists _; iexact Hs29
      isplitl [Hs30]; · iexists _; iexact Hs30
      isplitl [Hs31]; · iexists _; iexact Hs31
      isplitl [Hs32]; · iexists _; iexact Hs32
      isplitl [Hs33]; · iexists _; iexact Hs33
      isplitl [Hs34]; · iexists _; iexact Hs34
      isplitl [Hs35]; · iexists _; iexact Hs35
      isplitl [Hs36]; · iexists _; iexact Hs36
      isplitl [Hs37]; · iexists _; iexact Hs37
      isplitl [Hs38]; · iexists _; iexact Hs38
      isplitl [Hs39]; · iexists _; iexact Hs39
      isplitl [Hs40]; · iexists _; iexact Hs40
      isplitl [Hs41]; · iexists _; iexact Hs41
      isplitl [Hs42]; · iexists _; iexact Hs42
      isplitl [Hs43]; · iexists _; iexact Hs43
      iexists _; iexact Hs44
    isplitl [Hc0 Hc1 Hc2 Hc3 Hc4 Hc5 Hc6 Hc7 Hc8 Hc9 Hc10 Hc32 Hc33 Hc34 Hc35 Hc36 Hc37 Hc38 Hc39 Hc40]
    · isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc32]; · iexact Hc32
      isplitl [Hc33]; · iexact Hc33
      isplitl [Hc34]; · iexact Hc34
      isplitl [Hc35]; · iexact Hc35
      isplitl [Hc36]; · iexact Hc36
      isplitl [Hc37]; · iexact Hc37
      isplitl [Hc38]; · iexact Hc38
      isplitl [Hc39]; · iexact Hc39
      iexact Hc40
    iexists _; iexact HW

end Run

end Cert.Kernel.Hand
-- ==== Proof.LaunchKernel.lean ====
/-
  The same for the kernel as printed with its rounding formats. The launch: the body's run over the kernel's buffers and cells as the launch hands them over, and the frame.
-/
module

public import proofs.«01_k».proof.Proof.LaunchIdeal
public import proofs.«01_k».proof.Proof.SplitKernel
public import proofs.«01_k».proof.Proof.RunKernel
public import Idealize.ShloMosaic.Lib.Pipeline.FrameValue

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Whole
variable (c : Dev nD)

/-- The scratch buffers, each whole at some contents. -/
abbrev scopedG : sProp 𝕄 := iprop((∃ f, pt (F := F) c M20 f) ∗ (∃ f, pt (F := F) c M21 f) ∗ (∃ f, pt (F := F) c M22 f) ∗ (∃ f, pt (F := F) c M23 f) ∗ (∃ f, pt (F := F) c M24 f) ∗ (∃ f, pt (F := F) c M25 f) ∗ (∃ f, pt (F := F) c M26 f) ∗ (∃ f, pt (F := F) c M27 f) ∗ (∃ f, pt (F := F) c M28 f) ∗ (∃ f, pt (F := F) c M31 f) ∗ (∃ f, pt (F := F) c M32 f) ∗ (∃ f, pt (F := F) c M33 f) ∗ (∃ f, pt (F := F) c M34 f) ∗ (∃ f, pt (F := F) c M35 f) ∗ (∃ f, pt (F := F) c M36 f) ∗ (∃ f, pt (F := F) c M37 f) ∗ (∃ f, pt (F := F) c M38 f) ∗ (∃ f, pt (F := F) c M39 f) ∗ (∃ f, pt (F := F) c M40 f) ∗ (∃ f, pt (F := F) c M41 f) ∗ (∃ f, pt (F := F) c M42 f) ∗ (∃ f, pt (F := F) c M43 f) ∗ (∃ f, pt (F := F) c M44 f) ∗ (∃ f, pt (F := F) c M29 f) ∗ (∃ f, pt (F := F) c M30 f))
/-- The cells, at zero. -/
abbrev cellsG : sProp 𝕄 := iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0)
/-- The operands. -/
abbrev hbmG (a0 : Bf (F := F) c M0) (a1 : Bf (F := F) c M1) (a2 : Bf (F := F) c M2) (a3 : Bf (F := F) c M3) (a4 : Bf (F := F) c M4) (a5 : Bf (F := F) c M5) (a6 : Bf (F := F) c M6) (a7 : Bf (F := F) c M7) (a8 : Bf (F := F) c M8) (a9 : Bf (F := F) c M9) (a10 : Bf (F := F) c M10) : sProp 𝕄 := iprop(pt c M0 a0 ∗ pt c M1 a1 ∗ pt c M2 a2 ∗ pt c M3 a3 ∗ pt c M4 a4 ∗ pt c M5 a5 ∗ pt c M6 a6 ∗ pt c M7 a7 ∗ pt c M8 a8 ∗ pt c M9 a9 ∗ pt c M10 a10)
/-- The results, each whole at some contents. -/
abbrev resG : sProp 𝕄 := iprop((∃ f, pt (F := F) c M11 f) ∗ (∃ f, pt (F := F) c M12 f) ∗ (∃ f, pt (F := F) c M13 f) ∗ (∃ f, pt (F := F) c M14 f) ∗ (∃ f, pt (F := F) c M15 f) ∗ (∃ f, pt (F := F) c M16 f) ∗ (∃ f, pt (F := F) c M17 f) ∗ (∃ f, pt (F := F) c M18 f) ∗ (∃ f, pt (F := F) c M19 f))

set_option maxHeartbeats 4000000 in
/-- The body's run over whole buffers: it ends with the operands unchanged, the cells at zero, and the results at contents
    of which `P` holds. -/
theorem run_whole (a0 : Bf (F := F) c M0) (a1 : Bf (F := F) c M1) (a2 : Bf (F := F) c M2) (a3 : Bf (F := F) c M3) (a4 : Bf (F := F) c M4) (a5 : Bf (F := F) c M5) (a6 : Bf (F := F) c M6) (a7 : Bf (F := F) c M7) (a8 : Bf (F := F) c M8) (a9 : Bf (F := F) c M9) (a10 : Bf (F := F) c M10) (P : Outs F c → Prop)
    (hP : ∀ (r11 : Bf (F := F) c M11) (r12 : Bf (F := F) c M12) (r13 : Bf (F := F) c M13) (r14 : Bf (F := F) c M14) (r15 : Bf (F := F) c M15) (r16 : Bf (F := F) c M16) (r17 : Bf (F := F) c M17) (r18 : Bf (F := F) c M18) (r19 : Bf (F := F) c M19) (s20 : Bf (F := F) c M20) (s21 : Bf (F := F) c M21) (s22 : Bf (F := F) c M22) (s23 : Bf (F := F) c M23) (s24 : Bf (F := F) c M24) (s25 : Bf (F := F) c M25) (s26 : Bf (F := F) c M26) (s27 : Bf (F := F) c M27) (s28 : Bf (F := F) c M28) (s29 : Bf (F := F) c M29) (s30 : Bf (F := F) c M30) (s31 : Bf (F := F) c M31) (s32 : Bf (F := F) c M32) (s33 : Bf (F := F) c M33) (s34 : Bf (F := F) c M34) (s35 : Bf (F := F) c M35) (s36 : Bf (F := F) c M36) (s37 : Bf (F := F) c M37) (s38 : Bf (F := F) c M38) (s39 : Bf (F := F) c M39) (s40 : Bf (F := F) c M40) (s41 : Bf (F := F) c M41) (s42 : Bf (F := F) c M42) (s43 : Bf (F := F) c M43) (s44 : Bf (F := F) c M44), P (kernelRun c a0 a1 a2 a3 a4 a5 a6 a7 a8 a9 a10 r11 r12 r13 r14 r15 r16 r17 r18 r19 s20 s21 s22 s23 s24 s25 s26 s27 s28 s29 s30 s31 s32 s33 s34 s35 s36 s37 s38 s39 s40 s41 s42 s43 s44).1)
    (W : Waits sig Unit) (K : PUnit → sProp 𝕄) :
    iprop(scopedG c ∗ cellsG c ∗ hbmG c a0 a1 a2 a3 a4 a5 a6 a7 a8 a9 a10 ∗ resG c ∗ owes (c : Thread nD τ) 0 W
      ∗ (iprop(scopedG c ∗ cellsG c ∗ hbmG c a0 a1 a2 a3 a4 a5 a6 a7 a8 a9 a10 ∗ (∃ w : Outs F c, ⌜P w⌝ ∗ outsP c w) ∗ (∃ W', owes (c : Thread nD τ) 0 W')) -∗ K ⟨⟩))
      ⊢ wp frame (wpE (defs₀ (F := F)) Variants.none (c : Thread nD τ) none) Set.univ (bodyG (F := F)) K := by
  iintro ⟨⟨⟨%s20, Hs20⟩, ⟨%s21, Hs21⟩, ⟨%s22, Hs22⟩, ⟨%s23, Hs23⟩, ⟨%s24, Hs24⟩, ⟨%s25, Hs25⟩, ⟨%s26, Hs26⟩, ⟨%s27, Hs27⟩, ⟨%s28, Hs28⟩, ⟨%s31, Hs31⟩, ⟨%s32, Hs32⟩, ⟨%s33, Hs33⟩, ⟨%s34, Hs34⟩, ⟨%s35, Hs35⟩, ⟨%s36, Hs36⟩, ⟨%s37, Hs37⟩, ⟨%s38, Hs38⟩, ⟨%s39, Hs39⟩, ⟨%s40, Hs40⟩, ⟨%s41, Hs41⟩, ⟨%s42, Hs42⟩, ⟨%s43, Hs43⟩, ⟨%s44, Hs44⟩, ⟨%s29, Hs29⟩, ⟨%s30, Hs30⟩⟩, ⟨Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Hc26, Hc27, Hc28, Hc29, Hc30, Hc31, Hc32, Hc33, Hc34, Hc35, Hc36, Hc37, Hc38, Hc39, Hc40⟩, ⟨Hi0, Hi1, Hi2, Hi3, Hi4, Hi5, Hi6, Hi7, Hi8, Hi9, Hi10⟩, ⟨⟨%r11, Hr11⟩, ⟨%r12, Hr12⟩, ⟨%r13, Hr13⟩, ⟨%r14, Hr14⟩, ⟨%r15, Hr15⟩, ⟨%r16, Hr16⟩, ⟨%r17, Hr17⟩, ⟨%r18, Hr18⟩, ⟨%r19, Hr19⟩⟩, HW, Hk⟩
  ihave HQG := (start3 c a3 s23) $$ [Hi3 Hs23 Hc11 Hc12 Hc13 Hc14 Hc15 Hc16 Hc17 Hc18 Hc19 Hc20 Hc21]
  · isplitl [Hi3]; · iexact Hi3
    isplitl [Hs23]; · iexact Hs23
    rw [fam11 (fun k => cell c (cg k))]
    isplitl [Hc11]; · iexact Hc11
    isplitl [Hc12]; · iexact Hc12
    isplitl [Hc13]; · iexact Hc13
    isplitl [Hc14]; · iexact Hc14
    isplitl [Hc15]; · iexact Hc15
    isplitl [Hc16]; · iexact Hc16
    isplitl [Hc17]; · iexact Hc17
    isplitl [Hc18]; · iexact Hc18
    isplitl [Hc19]; · iexact Hc19
    isplitl [Hc20]; · iexact Hc20
    iexact Hc21
  ihave HO := (start5 c a5 s25) $$ [Hi5 Hs25 Hc22 Hc23 Hc24 Hc25 Hc26 Hc27 Hc28 Hc29 Hc30 Hc31]
  · isplitl [Hi5]; · iexact Hi5
    isplitl [Hs25]; · iexact Hs25
    rw [fam10 (fun k => cell c (co k))]
    isplitl [Hc22]; · iexact Hc22
    isplitl [Hc23]; · iexact Hc23
    isplitl [Hc24]; · iexact Hc24
    isplitl [Hc25]; · iexact Hc25
    isplitl [Hc26]; · iexact Hc26
    isplitl [Hc27]; · iexact Hc27
    isplitl [Hc28]; · iexact Hc28
    isplitl [Hc29]; · iexact Hc29
    isplitl [Hc30]; · iexact Hc30
    iexact Hc31
  icases HQG with ⟨HQ, HG⟩
  iapply ((kernelRun c a0 a1 a2 a3 a4 a5 a6 a7 a8 a9 a10 r11 r12 r13 r14 r15 r16 r17 r18 r19 s20 s21 s22 s23 s24 s25 s26 s27 s28 s29 s30 s31 s32 s33 s34 s35 s36 s37 s38 s39 s40 s41 s42 s43 s44).2 W K)
  isplitl [Hi0 Hi1 Hi2 Hi4 Hi6 Hi7 Hi8 Hi9 Hi10]
  · isplitl [Hi0]; · iexact Hi0
    isplitl [Hi1]; · iexact Hi1
    isplitl [Hi2]; · iexact Hi2
    isplitl [Hi4]; · iexact Hi4
    isplitl [Hi6]; · iexact Hi6
    isplitl [Hi7]; · iexact Hi7
    isplitl [Hi8]; · iexact Hi8
    isplitl [Hi9]; · iexact Hi9
    iexact Hi10
  isplitl [HQ]; · iexact HQ
  isplitl [HG]; · iexact HG
  isplitl [HO]; · iexact HO
  isplitl [Hr11 Hr12 Hr13 Hr14 Hr15 Hr16 Hr17 Hr18 Hr19]
  · isplitl [Hr11]; · iexact Hr11
    isplitl [Hr12]; · iexact Hr12
    isplitl [Hr13]; · iexact Hr13
    isplitl [Hr14]; · iexact Hr14
    isplitl [Hr15]; · iexact Hr15
    isplitl [Hr16]; · iexact Hr16
    isplitl [Hr17]; · iexact Hr17
    isplitl [Hr18]; · iexact Hr18
    iexact Hr19
  isplitl [Hs20 Hs21 Hs22 Hs24 Hs26 Hs27 Hs28 Hs29 Hs30 Hs31 Hs32 Hs33 Hs34 Hs35 Hs36 Hs37 Hs38 Hs39 Hs40 Hs41 Hs42 Hs43 Hs44]
  · isplitl [Hs20]; · iexact Hs20
    isplitl [Hs21]; · iexact Hs21
    isplitl [Hs22]; · iexact Hs22
    isplitl [Hs24]; · iexact Hs24
    isplitl [Hs26]; · iexact Hs26
    isplitl [Hs27]; · iexact Hs27
    isplitl [Hs28]; · iexact Hs28
    isplitl [Hs29]; · iexact Hs29
    isplitl [Hs30]; · iexact Hs30
    isplitl [Hs31]; · iexact Hs31
    isplitl [Hs32]; · iexact Hs32
    isplitl [Hs33]; · iexact Hs33
    isplitl [Hs34]; · iexact Hs34
    isplitl [Hs35]; · iexact Hs35
    isplitl [Hs36]; · iexact Hs36
    isplitl [Hs37]; · iexact Hs37
    isplitl [Hs38]; · iexact Hs38
    isplitl [Hs39]; · iexact Hs39
    isplitl [Hs40]; · iexact Hs40
    isplitl [Hs41]; · iexact Hs41
    isplitl [Hs42]; · iexact Hs42
    isplitl [Hs43]; · iexact Hs43
    iexact Hs44
  isplitl [Hc0 Hc1 Hc2 Hc3 Hc4 Hc5 Hc6 Hc7 Hc8 Hc9 Hc10 Hc32 Hc33 Hc34 Hc35 Hc36 Hc37 Hc38 Hc39 Hc40]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc32]; · iexact Hc32
    isplitl [Hc33]; · iexact Hc33
    isplitl [Hc34]; · iexact Hc34
    isplitl [Hc35]; · iexact Hc35
    isplitl [Hc36]; · iexact Hc36
    isplitl [Hc37]; · iexact Hc37
    isplitl [Hc38]; · iexact Hc38
    isplitl [Hc39]; · iexact Hc39
    iexact Hc40
  isplitl [HW]; · iexact HW
  iintro ⟨⟨Hi0, Hi1, Hi2, Hi4, Hi6, Hi7, Hi8, Hi9, Hi10⟩, HQ, HG, HO, HR, ⟨Hs20, Hs21, Hs22, Hs24, Hs26, Hs27, Hs28, Hs29, Hs30, Hs31, Hs32, Hs33, Hs34, Hs35, Hs36, Hs37, Hs38, Hs39, Hs40, Hs41, Hs42, Hs43, Hs44⟩, ⟨Hc0, Hc1, Hc2, Hc3, Hc4, Hc5, Hc6, Hc7, Hc8, Hc9, Hc10, Hc32, Hc33, Hc34, Hc35, Hc36, Hc37, Hc38, Hc39, Hc40⟩, HW⟩
  ihave H3 := (finish3 c a3 s23) $$ [HQ HG]
  · isplitl [HQ]; · iexact HQ
    iexact HG
  icases H3 with ⟨Hi3, Hs23, HG⟩
  ihave H5 := (finish5 c a5 s25) $$ [HO]
  · iexact HO
  icases H5 with ⟨Hi5, Hs25, HO⟩
  ihave HG := (entails_of_eq (fam11 (fun k => cell (F := F) c (cg k)))) $$ [HG]
  · iexact HG
  ihave HO := (entails_of_eq (fam10 (fun k => cell (F := F) c (co k)))) $$ [HO]
  · iexact HO
  icases HG with ⟨Hc11, Hc12, Hc13, Hc14, Hc15, Hc16, Hc17, Hc18, Hc19, Hc20, Hc21⟩
  icases HO with ⟨Hc22, Hc23, Hc24, Hc25, Hc26, Hc27, Hc28, Hc29, Hc30, Hc31⟩
  iapply Hk
  isplitl [Hs20 Hs21 Hs22 Hs23 Hs24 Hs25 Hs26 Hs27 Hs28 Hs31 Hs32 Hs33 Hs34 Hs35 Hs36 Hs37 Hs38 Hs39 Hs40 Hs41 Hs42 Hs43 Hs44 Hs29 Hs30]
  · isplitl [Hs20]; · iexact Hs20
    isplitl [Hs21]; · iexact Hs21
    isplitl [Hs22]; · iexact Hs22
    isplitl [Hs23]; · iexact Hs23
    isplitl [Hs24]; · iexact Hs24
    isplitl [Hs25]; · iexact Hs25
    isplitl [Hs26]; · iexact Hs26
    isplitl [Hs27]; · iexact Hs27
    isplitl [Hs28]; · iexact Hs28
    isplitl [Hs31]; · iexact Hs31
    isplitl [Hs32]; · iexact Hs32
    isplitl [Hs33]; · iexact Hs33
    isplitl [Hs34]; · iexact Hs34
    isplitl [Hs35]; · iexact Hs35
    isplitl [Hs36]; · iexact Hs36
    isplitl [Hs37]; · iexact Hs37
    isplitl [Hs38]; · iexact Hs38
    isplitl [Hs39]; · iexact Hs39
    isplitl [Hs40]; · iexact Hs40
    isplitl [Hs41]; · iexact Hs41
    isplitl [Hs42]; · iexact Hs42
    isplitl [Hs43]; · iexact Hs43
    isplitl [Hs44]; · iexact Hs44
    isplitl [Hs29]; · iexact Hs29
    iexact Hs30
  isplitl [Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25 Hc26 Hc27 Hc28 Hc29 Hc30 Hc31 Hc32 Hc33 Hc34 Hc35 Hc36 Hc37 Hc38 Hc39 Hc40]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    isplitl [Hc16]; · iexact Hc16
    isplitl [Hc17]; · iexact Hc17
    isplitl [Hc18]; · iexact Hc18
    isplitl [Hc19]; · iexact Hc19
    isplitl [Hc20]; · iexact Hc20
    isplitl [Hc21]; · iexact Hc21
    isplitl [Hc22]; · iexact Hc22
    isplitl [Hc23]; · iexact Hc23
    isplitl [Hc24]; · iexact Hc24
    isplitl [Hc25]; · iexact Hc25
    isplitl [Hc26]; · iexact Hc26
    isplitl [Hc27]; · iexact Hc27
    isplitl [Hc28]; · iexact Hc28
    isplitl [Hc29]; · iexact Hc29
    isplitl [Hc30]; · iexact Hc30
    isplitl [Hc31]; · iexact Hc31
    isplitl [Hc32]; · iexact Hc32
    isplitl [Hc33]; · iexact Hc33
    isplitl [Hc34]; · iexact Hc34
    isplitl [Hc35]; · iexact Hc35
    isplitl [Hc36]; · iexact Hc36
    isplitl [Hc37]; · iexact Hc37
    isplitl [Hc38]; · iexact Hc38
    isplitl [Hc39]; · iexact Hc39
    iexact Hc40
  isplitl [Hi0 Hi1 Hi2 Hi3 Hi4 Hi5 Hi6 Hi7 Hi8 Hi9 Hi10]
  · isplitl [Hi0]; · iexact Hi0
    isplitl [Hi1]; · iexact Hi1
    isplitl [Hi2]; · iexact Hi2
    isplitl [Hi3]; · iexact Hi3
    isplitl [Hi4]; · iexact Hi4
    isplitl [Hi5]; · iexact Hi5
    isplitl [Hi6]; · iexact Hi6
    isplitl [Hi7]; · iexact Hi7
    isplitl [Hi8]; · iexact Hi8
    isplitl [Hi9]; · iexact Hi9
    iexact Hi10
  isplitl [HR]
  · iexists (kernelRun c a0 a1 a2 a3 a4 a5 a6 a7 a8 a9 a10 r11 r12 r13 r14 r15 r16 r17 r18 r19 s20 s21 s22 s23 s24 s25 s26 s27 s28 s29 s30 s31 s32 s33 s34 s35 s36 s37 s38 s39 s40 s41 s42 s43 s44).1; isplitr
    · ipureintro; exact hP _ _ _ _ _ _ _ _ _ _ _ _ _ _ _ _ _ _ _ _ _ _ _ _ _ _ _ _ _ _ _ _ _ _
    iexact HR
  iexact HW

end Whole

/-! ## The launch's state -/

abbrev osem0 : Fin 41 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40] : Fin 41 → SemLoc sig) j
theorem ownSemFacts0 : Pipeline.OwnSemFacts cfg0.spec osem0 := by decide
theorem ownSems00_eq (c : Dev nD) :
    (Pipeline.ownSems0 (Ix := Unit) (Name := ℕ) (U := Pipeline.UD sig nD τ) (Lvl := ℕ) (Val := Elt F) (τ := τ) osem0 c : sProp 𝕄) = cellsG c := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36, 37, 38, 39, 40] (by decide) (by decide)]; rfl

/-- The operands the body's copies read; the results they write. -/
def H0 : Finset (Ref sig .tc) := {main_v0, main_v1, main_v2, main_arg3, main_v3, main_arg5, main_v4, main_arg7, main_arg8, main_arg9, main_arg10}
def R0 : Finset (Ref sig .tc) := {main_v5_0, main_v5_1, main_v5_2, main_v5_3, main_v5_4, main_v5_5, main_v5_6, main_v5_7, main_v5_8}
theorem H0_sub : H0 ⊆ Pipeline.restRefs sig cfg0.spec := by decide
theorem R0_sub : R0 ⊆ Pipeline.restRefs sig cfg0.spec \ H0 := by decide

section Launch
variable (m : (ℓ : Loc nD τ sig) → Buf (Elt F) ℓ) (ρ : Dev nD → PrngReg)

theorem hbmPts0_eq (c : Dev nD) :
    (bigSep H0 (fun b => ((c : Thread nD τ).loc b) ↦{fullShare} V m c b) : sProp 𝕄)
      = hbmG c (V m c main_v0) (V m c main_v1) (V m c main_v2) (V m c main_arg3) (V m c main_v3) (V m c main_arg5) (V m c main_v4) (V m c main_arg7) (V m c main_arg8) (V m c main_arg9) (V m c main_arg10) := by
  rw [BI.bigSep_eq_bigSepL_of_eq [main_v0, main_v1, main_v2, main_arg3, main_v3, main_arg5, main_v4, main_arg7, main_arg8, main_arg9, main_arg10] (by decide) (by decide)]; rfl
theorem ownedPts0_eq (c : Dev nD) : (Pipeline.owned R0 c : sProp 𝕄) = resG c := by
  unfold Pipeline.owned; rw [BI.bigSep_eq_bigSepL_of_eq [main_v5_0, main_v5_1, main_v5_2, main_v5_3, main_v5_4, main_v5_5, main_v5_6, main_v5_7, main_v5_8] (by decide) (by decide)]; rfl
theorem PhiDR0_eq (c : Dev nD) :
    (Pipeline.ΦDR osem0 (cfg0.spec) H0 R0 (V m) c : sProp 𝕄)
      = iprop(scopedG c ∗ (∃ r, prngReg c r) ∗ cellsG c ∗ hbmG c (V m c main_v0) (V m c main_v1) (V m c main_v2) (V m c main_arg3) (V m c main_v3) (V m c main_arg5) (V m c main_v4) (V m c main_arg7) (V m c main_arg8) (V m c main_arg9) (V m c main_arg10) ∗ resG c) := by
  rw [Pipeline.ΦDR_eq, show (Pipeline.scopedRest cfg0.spec c : sProp 𝕄) = scopedG c from scopedRest0_eq c, ownSems00_eq, hbmPts0_eq, ownedPts0_eq]

/-! ## The frame -/

def dats (_ : Fin 1) (c : Dev nD) : Dat τ (Elt F) Unit ℕ (Pipeline.UD sig nD τ) ℕ cfg0 c where
  A w := V m c (Pipeline.arrRef cfg0.spec w)
  after w _ := w.elim0
  Φ _ := Pipeline.ΦDR osem0 (cfg0.spec) H0 R0 (V m) c
  q _ := fullShare
  owed _ := 0

theorem A_eq (c : Dev nD) (w : Fin cfg0.W) : (dats m 0 c).A w = V m c (Pipeline.arrRef cfg0.spec w) := by
  dsimp only [dats]

theorem sound_body (c : Dev nD) (t : Fin cfg0.N) :
    (iprop((dats m 0 c).Φ t.castSucc ∗ (dats m 0 c).owesAt () t.castSucc) : sProp 𝕄)
      ⊢ wp frame (wpE (defs₀ (F := F)) Variants.none c none) Set.univ (bodyAt0 t)
        (fun _ => iprop((dats m 0 c).Φ t.succ ∗ (dats m 0 c).owesAt () t.succ)) := by
  rw [show (dats m 0 c).Φ t.succ = Pipeline.ΦDR osem0 (cfg0.spec) H0 R0 (V m) c from rfl,
    show (dats m 0 c).Φ t.castSucc = Pipeline.ΦDR osem0 (cfg0.spec) H0 R0 (V m) c from rfl, PhiDR0_eq]
  unfold Dat.owesAt Pipeline.owesWithin
  rw [show (dats m 0 c).owed t.castSucc = 0 from rfl, show (dats m 0 c).owed t.succ = 0 from rfl]
  iintro ⟨⟨HS, Hg, Hq, Hh, Ho⟩, ⟨%W, -, HW⟩⟩
  iapply (run_whole c (V m c main_v0) (V m c main_v1) (V m c main_v2) (V m c main_arg3) (V m c main_v3) (V m c main_arg5) (V m c main_v4) (V m c main_arg7) (V m c main_arg8) (V m c main_arg9) (V m c main_arg10) (fun _ => True) (fun _ _ _ _ _ _ _ _ _ _ _ _ _ _ _ _ _ _ _ _ _ _ _ _ _ _ _ _ _ _ _ _ _ _ => trivial) W _)
  isplitl [HS]; · iexact HS
  isplitl [Hq]; · iexact Hq
  isplitl [Hh]; · iexact Hh
  isplitl [Ho]; · iexact Ho
  isplitl [HW]; · iexact HW
  iintro ⟨HS, Hq, Hh, ⟨%w, -, ⟨Hr11, Hr12, Hr13, Hr14, Hr15, Hr16, Hr17, Hr18, Hr19⟩⟩, ⟨%W', HW⟩⟩
  isplitr [HW]
  · isplitl [HS]; · iexact HS
    isplitl [Hg]; · iexact Hg
    isplitl [Hq]; · iexact Hq
    isplitl [Hh]; · iexact Hh
    isplitl [Hr11]; · iexists _; iexact Hr11
    isplitl [Hr12]; · iexists _; iexact Hr12
    isplitl [Hr13]; · iexists _; iexact Hr13
    isplitl [Hr14]; · iexists _; iexact Hr14
    isplitl [Hr15]; · iexists _; iexact Hr15
    isplitl [Hr16]; · iexists _; iexact Hr16
    isplitl [Hr17]; · iexists _; iexact Hr17
    isplitl [Hr18]; · iexists _; iexact Hr18
    iexists _; iexact Hr19
  iexists W'; isplitr
  · ipureintro; exact fun _ _ => Or.inl trivial
  iexact HW

theorem defs₀_row (t : Fin cfg0.N) :
    defs₀ (F := F) .tc cfg0.body (cfg0.bodyArgs t (cfg0.slots t)) = bodyAt0 t := by
  unfold defs₀; rw [Defs.onTc_tc]

theorem bigSep_none (Φ : Fin cfg0.W → sProp 𝕄) : bigSep Finset.univ Φ = iprop(emp) := by
  rw [show (Finset.univ : Finset (Fin cfg0.W)) = ∅ from rfl, BI.bigSep_empty]; rfl
theorem emp_right (P Q : sProp 𝕄) : iprop(P ∗ Q ∗ emp) ⊢ iprop(P ∗ Q) := by
  iintro ⟨A, B, -⟩
  isplitl [A]; · iexact A
  iexact B
theorem right_emp (P Q : sProp 𝕄) : iprop(P ∗ Q) ⊢ iprop(P ∗ Q ∗ emp) := by
  iintro ⟨A, B⟩
  isplitl [A]; · iexact A
  isplitl [B]; · iexact B
  iempintro

theorem body_obligation (c : Dev nD) : BodyObligation (dats (F := F) m 0 c) (defs₀ (F := F)) Variants.none () Set.univ := fun t => by
  rw [bigSep_none, bigSep_none, defs₀_row]
  exact triple_restated (sound_body m c t) rfl (emp_right _ _) fun _ => right_emp _ _

theorem hmain0 (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain0 m Variants.none) (hA := A_eq m)
    (hin := fun _ => .rfl) (hout := fun _ => .rfl)

/-- The frame: the run ends, nothing faults, the arguments end unchanged and every cell at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c),
      ((h.1 c).2 main_arg7 (Finset.mem_sdiff.mpr ⟨Pipeline.mem_restRefs_of main_arg7 (by decide) (by decide), by decide⟩)).trans (V_main_arg7 m c),
      ((h.1 c).2 main_arg8 (Finset.mem_sdiff.mpr ⟨Pipeline.mem_restRefs_of main_arg8 (by decide) (by decide), by decide⟩)).trans (V_main_arg8 m c),
      ((h.1 c).2 main_arg9 (Finset.mem_sdiff.mpr ⟨Pipeline.mem_restRefs_of main_arg9 (by decide) (by decide), by decide⟩)).trans (V_main_arg9 m c),
      ((h.1 c).2 main_arg10 (Finset.mem_sdiff.mpr ⟨Pipeline.mem_restRefs_of main_arg10 (by decide) (by decide), by decide⟩)).trans (V_main_arg10 m c)⟩, h.2⟩) (run_main m ρ)

end Launch

end Cert.Kernel.Hand
-- ==== Proof.ValueIdeal.lean ====
/-
  The kernel's run with its results named: whatever holds of the nine contents the body's run finds holds of the result
  arrays at the end, and the arguments end unchanged.
-/
module

public import proofs.«01_k».proof.Proof.LaunchIdeal

@[expose] public section

noncomputable section

namespace Cert.KernelIdeal.Hand

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Value
variable (m : (ℓ : Loc nD τ sig) → Buf (Elt F) ℓ) (ρ : Dev nD → PrngReg)

/-- The results' contents, as one record. -/
def outsOf (c : Dev nD) (G : (b : Ref sig .tc) → Buf (Elt F) ((c.tc : Thread nD τ).loc b)) : Outs F c := ⟨G main_v5_0, G main_v5_1, G main_v5_2, G main_v5_3, G main_v5_4, G main_v5_5, G main_v5_6, G main_v5_7, G main_v5_8⟩

include m in
/-- The results held at the contents `w`, read as held at contents of which `P` holds. -/
theorem routed_of_outs (c : Dev nD) (P : Outs F c → Prop) (w : Outs F c) (hw : P w) :
    (outsP c w : sProp 𝕄) ⊢ Pipeline.routedSat R0 c (fun G => P (outsOf c G)) := by
  obtain ⟨G, rfl⟩ : ∃ G : (b : Ref sig .tc) → Buf (Elt F) ((c.tc : Thread nD τ).loc b), outsOf c G = w :=
    ⟨fun b => if h : b = main_v5_0 then h ▸ w.x11 else if h : b = main_v5_1 then h ▸ w.x12 else if h : b = main_v5_2 then h ▸ w.x13
      else if h : b = main_v5_3 then h ▸ w.x14 else if h : b = main_v5_4 then h ▸ w.x15 else if h : b = main_v5_5 then h ▸ w.x16
      else if h : b = main_v5_6 then h ▸ w.x17 else if h : b = main_v5_7 then h ▸ w.x18 else if h : b = main_v5_8 then h ▸ w.x19 else V m c b, rfl⟩
  have e : (Pipeline.routed R0 c G : sProp 𝕄) = outsP c (outsOf c G) := by
    unfold Pipeline.routed
    rw [BI.bigSep_eq_bigSepL_of_eq [main_v5_0, main_v5_1, main_v5_2, main_v5_3, main_v5_4, main_v5_5, main_v5_6, main_v5_7, main_v5_8] (by decide) (by decide)]
    rfl
  unfold Pipeline.routedSat
  iintro H
  iexists G
  isplitr
  · ipureintro; exact hw
  rw [e]
  iexact H

theorem routed_res (c : Dev nD) :
    (Pipeline.routed R0 c (V m c) : sProp 𝕄) ⊢ resG c := by
  rw [← ownedPts0_eq]; exact Pipeline.routed_owned R0 c (V m c)

variable (P : (c : Dev nD) → Outs F c → Prop)

def datsV (_ : Fin 1) (c : Dev nD) : Dat τ (Elt F) Unit ℕ (Pipeline.UD sig nD τ) ℕ cfg0 c where
  A w := V m c (Pipeline.arrRef cfg0.spec w)
  after w _ := w.elim0
  Φ t := if t.val = 0 then Pipeline.ΦDRG osem0 (cfg0.spec) H0 R0 (V m) (V m) c
    else iprop(Pipeline.ΦD osem0 (cfg0.spec) H0 (V m) c ∗ Pipeline.routedSat R0 c (fun G => P c (outsOf c G)))
  q _ := fullShare
  owed _ := 0

theorem datsV_zero (c : Dev nD) (t : Fin (cfg0.N + 1)) (h : t.val = 0) :
    (datsV m P 0 c).Φ t = Pipeline.ΦDRG osem0 (cfg0.spec) H0 R0 (V m) (V m) c := by
  show (if t.val = 0 then _ else _) = _
  rw [if_pos h]

theorem datsV_succ (c : Dev nD) (t : Fin (cfg0.N + 1)) (h : ¬ t.val = 0) :
    (datsV m P 0 c).Φ t = iprop(Pipeline.ΦD osem0 (cfg0.spec) H0 (V m) c ∗ Pipeline.routedSat R0 c (fun G => P c (outsOf c G))) := by
  show (if t.val = 0 then _ else _) = _
  rw [if_neg h]

theorem PhiD0_eq (c : Dev nD) :
    (Pipeline.ΦD osem0 (cfg0.spec) H0 (V m) c : sProp 𝕄)
      = iprop(scopedG c ∗ (∃ r, prngReg c r) ∗ cellsG c ∗ hbmG c (V m c main_v0) (V m c main_v1) (V m c main_v2) (V m c main_arg3) (V m c main_v3) (V m c main_arg5) (V m c main_v4) (V m c main_arg7) (V m c main_arg8) (V m c main_arg9) (V m c main_arg10)) := by
  rw [Pipeline.ΦD_eq, show (Pipeline.scopedRest cfg0.spec c : sProp 𝕄) = scopedG c from scopedRest0_eq c, ownSems00_eq, hbmPts0_eq]

variable (hP : ∀ (c : Dev nD) (r11 : Bf (F := F) c M11) (r12 : Bf (F := F) c M12) (r13 : Bf (F := F) c M13) (r14 : Bf (F := F) c M14) (r15 : Bf (F := F) c M15) (r16 : Bf (F := F) c M16) (r17 : Bf (F := F) c M17) (r18 : Bf (F := F) c M18) (r19 : Bf (F := F) c M19) (s20 : Bf (F := F) c M20) (s21 : Bf (F := F) c M21) (s22 : Bf (F := F) c M22) (s23 : Bf (F := F) c M23) (s24 : Bf (F := F) c M24) (s25 : Bf (F := F) c M25) (s26 : Bf (F := F) c M26) (s27 : Bf (F := F) c M27) (s28 : Bf (F := F) c M28) (s29 : Bf (F := F) c M29) (s30 : Bf (F := F) c M30) (s31 : Bf (F := F) c M31) (s32 : Bf (F := F) c M32) (s33 : Bf (F := F) c M33) (s34 : Bf (F := F) c M34) (s35 : Bf (F := F) c M35) (s36 : Bf (F := F) c M36) (s37 : Bf (F := F) c M37) (s38 : Bf (F := F) c M38) (s39 : Bf (F := F) c M39) (s40 : Bf (F := F) c M40) (s41 : Bf (F := F) c M41) (s42 : Bf (F := F) c M42) (s43 : Bf (F := F) c M43) (s44 : Bf (F := F) c M44),
  P c (kernelRun c (V m c main_v0) (V m c main_v1) (V m c main_v2) (V m c main_arg3) (V m c main_v3) (V m c main_arg5) (V m c main_v4) (V m c main_arg7) (V m c main_arg8) (V m c main_arg9) (V m c main_arg10) r11 r12 r13 r14 r15 r16 r17 r18 r19 s20 s21 s22 s23 s24 s25 s26 s27 s28 s29 s30 s31 s32 s33 s34 s35 s36 s37 s38 s39 s40 s41 s42 s43 s44).1)

include hP in
theorem sound_bodyV (c : Dev nD) (t : Fin cfg0.N) :
    (iprop((datsV m P 0 c).Φ t.castSucc ∗ (datsV m P 0 c).owesAt () t.castSucc) : sProp 𝕄)
      ⊢ wp Idealize.ShloMosaic.frame (wpE (defs₀ (F := F)) Variants.none c none) Set.univ (bodyAt0 t)
        (fun _ => iprop((datsV m P 0 c).Φ t.succ ∗ (datsV m P 0 c).owesAt () t.succ)) := by
  have ht : t.val = 0 := by have h : t.val < 1 := t.isLt; omega
  rw [datsV_succ m P c t.succ (by simp), datsV_zero m P c t.castSucc ht]
  unfold Pipeline.ΦDRG
  rw [PhiD0_eq]
  unfold Dat.owesAt Pipeline.owesWithin
  rw [show (datsV m P 0 c).owed t.castSucc = 0 from rfl, show (datsV m P 0 c).owed t.succ = 0 from rfl]
  iintro ⟨⟨⟨HS, Hg, Hq, Hh⟩, Ho⟩, ⟨%W, -, HW⟩⟩
  ihave Ho := (routed_res m c) $$ [Ho]
  · iexact Ho
  iapply (run_whole c (V m c main_v0) (V m c main_v1) (V m c main_v2) (V m c main_arg3) (V m c main_v3) (V m c main_arg5) (V m c main_v4) (V m c main_arg7) (V m c main_arg8) (V m c main_arg9) (V m c main_arg10) (P c) (hP c) W _)
  isplitl [HS]; · iexact HS
  isplitl [Hq]; · iexact Hq
  isplitl [Hh]; · iexact Hh
  isplitl [Ho]; · iexact Ho
  isplitl [HW]; · iexact HW
  iintro ⟨HS, Hq, Hh, ⟨%w, %hw, Hr⟩, ⟨%W', HW⟩⟩
  ihave Hr := (routed_of_outs m c (P c) w hw) $$ [Hr]
  · iexact Hr
  isplitr [HW]
  · isplitr [Hr]
    · isplitl [HS]; · iexact HS
      isplitl [Hg]; · iexact Hg
      isplitl [Hq]; · iexact Hq
      iexact Hh
    iexact Hr
  iexists W'; isplitr
  · ipureintro; exact fun _ _ => Or.inl trivial
  iexact HW

include hP in
theorem body_obligationV (c : Dev nD) : BodyObligation (datsV (F := F) m P 0 c) (defs₀ (F := F)) Variants.none () Set.univ := fun t => by
  rw [bigSep_none, bigSep_none, defs₀_row]
  exact triple_restated (sound_bodyV m P hP c t) rfl (emp_right _ _) fun _ => right_emp _ _

/-- The post: of each core's results `P` holds, and its arguments are unchanged. -/
def ValuePost (r : PUnit × MemSt nD τ sig (Elt F)) : Prop :=
  ∀ c : Dev nD, P c (outsOf c fun b => r.2.mem ((c.tc : Thread nD τ).loc b))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)

theorem post_of (r : PUnit × MemSt nD τ sig (Elt F))
    (h : Pipeline.RDat.FramePostR cfg0 (fun c => (datsV m P 0 c).toR) R0 (V m) r
      ∧ ∀ c : Dev nD, ∃ W : (b : Ref sig .tc) → Buf (Elt F) ((c.tc : Thread nD τ).loc b),
          P c (outsOf c W) ∧ ∀ b ∈ R0, r.2.mem ((c.tc : Thread nD τ).loc b) = W b) : ValuePost m P r := fun c => by
  obtain ⟨W, hW, hr⟩ := h.2 c
  refine ⟨?_, ((h.1 c).2 main_arg0 (Finset.mem_sdiff.mpr ⟨Pipeline.mem_restRefs_of main_arg0 (by decide) (by decide), by decide⟩)).trans (V_main_arg0 m c),
    ((h.1 c).2 main_arg1 (Finset.mem_sdiff.mpr ⟨Pipeline.mem_restRefs_of main_arg1 (by decide) (by decide), by decide⟩)).trans (V_main_arg1 m c),
    ((h.1 c).2 main_arg2 (Finset.mem_sdiff.mpr ⟨Pipeline.mem_restRefs_of main_arg2 (by decide) (by decide), by decide⟩)).trans (V_main_arg2 m c),
    ((h.1 c).2 main_arg3 (Finset.mem_sdiff.mpr ⟨Pipeline.mem_restRefs_of main_arg3 (by decide) (by decide), by decide⟩)).trans (V_main_arg3 m c),
    ((h.1 c).2 main_arg4 (Finset.mem_sdiff.mpr ⟨Pipeline.mem_restRefs_of main_arg4 (by decide) (by decide), by decide⟩)).trans (V_main_arg4 m c),
    ((h.1 c).2 main_arg5 (Finset.mem_sdiff.mpr ⟨Pipeline.mem_restRefs_of main_arg5 (by decide) (by decide), by decide⟩)).trans (V_main_arg5 m c),
    ((h.1 c).2 main_arg6 (Finset.mem_sdiff.mpr ⟨Pipeline.mem_restRefs_of main_arg6 (by decide) (by decide), by decide⟩)).trans (V_main_arg6 m c),
    ((h.1 c).2 main_arg7 (Finset.mem_sdiff.mpr ⟨Pipeline.mem_restRefs_of main_arg7 (by decide) (by decide), by decide⟩)).trans (V_main_arg7 m c),
    ((h.1 c).2 main_arg8 (Finset.mem_sdiff.mpr ⟨Pipeline.mem_restRefs_of main_arg8 (by decide) (by decide), by decide⟩)).trans (V_main_arg8 m c),
    ((h.1 c).2 main_arg9 (Finset.mem_sdiff.mpr ⟨Pipeline.mem_restRefs_of main_arg9 (by decide) (by decide), by decide⟩)).trans (V_main_arg9 m c),
    ((h.1 c).2 main_arg10 (Finset.mem_sdiff.mpr ⟨Pipeline.mem_restRefs_of main_arg10 (by decide) (by decide), by decide⟩)).trans (V_main_arg10 m c)⟩
  have e : (outsOf c fun b => r.2.mem ((c.tc : Thread nD τ).loc b)) = outsOf c W := by
    unfold outsOf
    dsimp only
    rw [hr main_v5_0 (by decide), hr main_v5_1 (by decide), hr main_v5_2 (by decide), hr main_v5_3 (by decide), hr main_v5_4 (by decide), hr main_v5_5 (by decide), hr main_v5_6 (by decide), hr main_v5_7 (by decide), hr main_v5_8 (by decide)]
  rw [e]; exact hW

set_option backward.isDefEq.respectTransparency.types false in
include hP in
theorem run_value : θ_run defs (onTc (τ := τ) (main (F := F))) (s₀ m ρ) (ValuePost m P) :=
  have hrest : Pipeline.restRefs sig cfg0.spec ⊆ Pipeline.restRefsP sig Pipeline.Prefetch.none cfg0.spec :=
    fun b hb => Finset.mem_sdiff.mpr ⟨hb, fun h => ((Finset.mem_image.mp h).elim fun k _ => k.elim0)⟩
  (θ_run defs _ _).mono (fun r h => post_of m P r h) <|
  Pipeline.RDat.θ_run_frameP_dmaRSat_shared (Q' := _) (fun q => (cfgs q).toPCfg (Val := Elt F)) (fun q => (cfgs q).toPCfg_adm) (0 : Fin 1)
    launch0.toP.to₀ osem0 defs₀ Variants.none (fun c => (datsV m P 0 c).toR) ownSemFacts0 H0 R0
    (H0_sub.trans hrest) (R0_sub.trans (Finset.sdiff_subset_sdiff hrest subset_rfl)) m ρ main
    (hbody := fun c => (body_obligationV m P hP c).loose.toR)
    (hq := fun _ w => w.elim0) (howed := fun _ _ => rfl) (V := V m) (hmain := hmain0 m Variants.none) (hA := fun _ w => w.elim0)
    (hpf := fun _ k => k.elim0) (PG := fun c G => P c (outsOf c G))
    (hin := fun c => (show _ ⊢ Pipeline.ΦDRG osem0 (cfg0.spec) H0 R0 (V m) (V m) c from by iintro ⟨H, -⟩; iexact H))
    (hout := fun _ => .rfl)

end Value

end Cert.KernelIdeal.Hand
-- ==== Proof.FieldIdeal.lean ====
/-
  The quantiser's exponent, in scalars.

  The kernel finds the greatest exponent field `n` whose power of two is at most
  `t` by eight halvings, reading the field shifted into place as a float.  The
  reference counts the powers of two `2^(k - 126)`, `k < 252`, that are at most
  `t`.  Both are the same number, and the scale and its inverse that each side
  makes of it are the same power of two.
-/
module

public import Idealize.ShloMosaic.PureOps.Ideal
public import Idealize.ShloMosaic.PureOps.Ideal.Laws

@[expose] public section

noncomputable section

namespace Cert.Quant

open Idealize.ShloMosaic

/-! ### A power of two by its exponent field -/

/-- The power of two `2^k` as an extended real. -/
def pow2 (k : ℤ) : EReal := (((2 : ℝ) ^ k : ℝ) : EReal)

theorem pow2_le_pow2 {a b : ℤ} : pow2 a ≤ pow2 b ↔ a ≤ b := by
  unfold pow2
  rw [EReal.coe_le_coe_iff]
  exact zpow_le_zpow_iff_right₀ (by norm_num)

theorem shl_toNat (m : ℕ) (h : m ≤ 255) :
    (BitVec.ofNat 32 m <<< (BitVec.ofNat 32 23)) = BitVec.ofNat 32 (m * 8388608) := by
  apply BitVec.eq_of_toNat_eq
  rw [BitVec.shiftLeft_eq', BitVec.toNat_shiftLeft, Nat.shiftLeft_eq]
  simp only [BitVec.toNat_ofNat]
  norm_num

/-- A positive pattern with a zero fraction is the power of two of its exponent field. -/
theorem ofBits_of_field (b : BitVec 32) (m : ℕ) (h0 : 1 ≤ m) (h : m ≤ 254)
    (hsg : b.extractLsb' 31 1 = 0#1) (hex : (b.extractLsb' 23 8).toNat = m)
    (hfr : (b.extractLsb' 0 23).toNat = 0) :
    Ideal.ofBits .f32 b = pow2 (m - 127) := by
  show Ideal.ieee 8 23 b = _
  unfold Ideal.ieee
  simp only [show 8 + 23 = 31 from rfl, hsg, hex, hfr]
  rw [if_neg (by omega), if_neg (by omega)]
  unfold pow2
  congr 1
  have : ((m : ℤ) - 127) = 23 + ((m : ℤ) - (2 ^ (8 - 1) - 1) - (23 : ℕ)) := by norm_num
  rw [this, zpow_add₀ (by norm_num)]
  norm_num

theorem field_parts : ∀ m : Fin 256,
    (BitVec.ofNat 32 (m.val * 8388608)).extractLsb' 31 1 = 0#1 ∧
    ((BitVec.ofNat 32 (m.val * 8388608)).extractLsb' 23 8).toNat = m.val ∧
    ((BitVec.ofNat 32 (m.val * 8388608)).extractLsb' 0 23).toNat = 0 := by
  decide +kernel

/-- An exponent field `1 .. 254` shifted into place is the power of two of its value. -/
theorem ofBits_field (m : ℕ) (h0 : 1 ≤ m) (h : m ≤ 254) :
    Ideal.ofBits .f32 (BitVec.ofNat 32 (m * 8388608)) = pow2 (m - 127) := by
  obtain ⟨h1, h2, h3⟩ := field_parts ⟨m, by omega⟩
  exact ofBits_of_field _ m h0 h h1 h2 h3

theorem ofBits_field_top :
    Ideal.ofBits .f32 (BitVec.ofNat 32 (255 * 8388608)) = ⊤ := by
  simp [Ideal.ofBits, Ideal.ieee]

theorem ofBits_p125 : Ideal.ofBits .f32 0x7E000000#32 = pow2 125 := by
  have := ofBits_field 252 (by norm_num) (by norm_num)
  norm_num at this
  exact this

theorem ofBits_126 : Ideal.ofBits .f32 0x42FC0000#32 = ((126 : ℝ) : EReal) := by
  simp [Ideal.ofBits, Ideal.ieee, -EReal.coe_mul]; norm_num

theorem ofBits_one : Ideal.ofBits .f32 0x3F800000#32 = 1 := by
  simp [Ideal.ofBits, Ideal.ieee, -EReal.coe_mul]; norm_num

theorem ofBits_zero : Ideal.ofBits .f32 0x00000000#32 = 0 := by
  simp [Ideal.ofBits, Ideal.ieee]

/-! ### The count -/

/-- How many of the powers `2^(k - 126)`, `k < 252`, are at most `t`. -/
def cnt (t : EReal) : ℕ := by
  classical exact Nat.count (fun k : ℕ => pow2 ((k : ℤ) - 126) ≤ t) 252

theorem count_down (p : ℕ → Prop) [DecidablePred p] (hp : ∀ k, p (k + 1) → p k) (N : ℕ) :
    Nat.count p N ≤ N ∧ ∀ k, k < N → (p k ↔ k < Nat.count p N) := by
  have hd : ∀ d k, p (k + d) → p k := by
    intro d
    induction d with
    | zero => intro k h; exact h
    | succ d ih => intro k h; exact ih k (hp _ h)
  refine ⟨Nat.count_le _, ?_⟩
  induction N with
  | zero => intro k h; omega
  | succ N ih =>
    intro k hk
    rw [Nat.count_succ]
    by_cases hN : p N
    · have hall : ∀ j, j < N → p j := fun j hj => hd (N - j) j (by rwa [Nat.add_sub_cancel' hj.le])
      have hc : Nat.count p N = N := by
        rw [Nat.count_iff_forall]
        exact fun {n} hn => hall n hn
      rw [if_pos hN, hc]
      constructor
      · intro _; exact hk
      · intro _
        rcases Nat.lt_succ_iff_lt_or_eq.mp hk with h | h
        · exact hall k h
        · exact h ▸ hN
    · rw [if_neg hN]
      rcases Nat.lt_succ_iff_lt_or_eq.mp hk with h | h
      · exact ih k h
      · subst h
        have := Nat.count_le p (n := k)
        exact ⟨fun h => absurd h hN, fun h => by omega⟩

theorem cnt_le (t : EReal) : cnt t ≤ 252 := by
  classical
  exact Nat.count_le _

theorem cnt_iff (t : EReal) (k : ℕ) (hk : k < 252) :
    pow2 ((k : ℤ) - 126) ≤ t ↔ k < cnt t := by
  classical
  refine (count_down (fun k : ℕ => pow2 ((k : ℤ) - 126) ≤ t) ?_ 252).2 k hk
  intro k h
  refine le_trans (pow2_le_pow2.mpr ?_) h
  push_cast
  omega

/-- The field `m` shifted into place is at most `min t 2^125` exactly for the counted fields. -/
theorem field_le_iff (t : EReal) (m : ℕ) (h0 : 1 ≤ m) (h : m ≤ 255) :
    Ideal.ofBits .f32 (BitVec.ofNat 32 (m * 8388608)) ≤ min t (pow2 125) ↔ m ≤ cnt t := by
  have hc := cnt_le t
  by_cases h5 : m = 255
  · subst h5
    rw [ofBits_field_top, top_le_iff]
    constructor
    · intro hh
      have := min_le_right t (pow2 125)
      rw [hh] at this
      exact absurd (top_le_iff.mp this) (EReal.coe_ne_top _)
    · intro hh; omega
  rw [ofBits_field m h0 (by omega), le_min_iff, pow2_le_pow2]
  by_cases hm : m ≤ 252
  · have := cnt_iff t (m - 1) (by omega)
    rw [show (((m - 1 : ℕ) : ℤ) - 126) = (m : ℤ) - 127 by omega] at this
    rw [this]
    omega
  · omega

/-! ### The search -/

theorem select_oge {α : Type} (t x : EReal) (a b : α) :
    Scalar.select (Ideal.cmp .oge t x) a b = if x ≤ t then a else b := by
  unfold Scalar.select Ideal.cmp
  by_cases h : x ≤ t <;> simp [h]

theorem select_oeq {α : Type} (t x : EReal) (a b : α) :
    Scalar.select (Ideal.cmp .oeq t x) a b = if t = x then a else b := by
  unfold Scalar.select Ideal.cmp
  by_cases h : t = x <;> simp [h]

theorem select_ole {α : Type} (t x : EReal) (a b : α) :
    Scalar.select (Ideal.cmp .ole t x) a b = if t ≤ x then a else b := by
  unfold Scalar.select Ideal.cmp
  by_cases h : t ≤ x <;> simp [h]

/-- One halving: the field `n + s` is kept when its power of two is at most `t`. -/
def step (t : EReal) (s n : BitVec 32) : BitVec 32 :=
  Scalar.select (Ideal.cmp .oge t (Ideal.ofBits .f32 ((n + s) <<< 23#32))) (n + s) n

theorem step_ofNat (t : EReal) (a b : ℕ) (h0 : 1 ≤ a + b) (h : a + b ≤ 255) :
    step (min t (pow2 125)) (BitVec.ofNat 32 b) (BitVec.ofNat 32 a) =
      BitVec.ofNat 32 (if a + b ≤ cnt t then a + b else a) := by
  unfold step
  rw [← BitVec.ofNat_add, shl_toNat _ h, select_oge]
  have := field_le_iff t (a + b) h0 h
  by_cases hc : a + b ≤ cnt t
  · rw [if_pos hc, if_pos (this.mpr hc)]
  · rw [if_neg hc, if_neg (mt this.mp hc)]

/-- The eight halvings find the count. -/
theorem search_eq (t : EReal) :
    step (min t (pow2 125)) 1#32 (step (min t (pow2 125)) 2#32 (step (min t (pow2 125)) 4#32
      (step (min t (pow2 125)) 8#32 (step (min t (pow2 125)) 16#32 (step (min t (pow2 125)) 32#32
        (step (min t (pow2 125)) 64#32 (step (min t (pow2 125)) 128#32 0#32))))))) =
      BitVec.ofNat 32 (cnt t) := by
  have hc := cnt_le t
  have one : ∀ b : ℕ, 1 ≤ b → (cnt t / (2 * b)) * (2 * b) + b ≤ 255 →
      step (min t (pow2 125)) (BitVec.ofNat 32 b) (BitVec.ofNat 32 ((cnt t / (2 * b)) * (2 * b))) =
        BitVec.ofNat 32 ((cnt t / b) * b) := by
    intro b hb hle
    rw [step_ofNat t _ b (by omega) hle]
    congr 1
    have h1 := Nat.div_add_mod (cnt t) (2 * b)
    have h2 := Nat.mod_lt (cnt t) (show 0 < 2 * b by omega)
    have h3 : cnt t / (2 * b) * (2 * b) = 2 * (cnt t / (2 * b)) * b := by ring
    have h4 : 2 * b * (cnt t / (2 * b)) = 2 * (cnt t / (2 * b)) * b := by ring
    split
    · rename_i hh
      have : cnt t / b = 2 * (cnt t / (2 * b)) + 1 := by
        refine Nat.div_eq_of_lt_le ?_ ?_
        · rw [Nat.add_mul]; omega
        · rw [Nat.add_mul, Nat.add_mul]; omega
      rw [this]; ring
    · rename_i hh
      have : cnt t / b = 2 * (cnt t / (2 * b)) := by
        refine Nat.div_eq_of_lt_le ?_ ?_
        · omega
        · rw [Nat.add_mul]; omega
      rw [this]; ring
  have s0 : (0#32 : BitVec 32) = BitVec.ofNat 32 ((cnt t / (2 * 128)) * (2 * 128)) := by
    rw [show cnt t / (2 * 128) = 0 by omega]
  rw [s0, one 128 (by omega) (by omega), one 64 (by omega) (by omega),
    one 32 (by omega) (by omega), one 16 (by omega) (by omega), one 8 (by omega) (by omega),
    one 4 (by omega) (by omega), one 2 (by omega) (by omega), one 1 (by omega) (by omega)]
  congr 1
  omega

/-! ### The scale and its inverse -/

/-- The reference's exponent of `t`. -/
def expo (t : EReal) : ℤ := if t = 0 then 0 else (cnt t : ℤ) - 126

/-- The kernel's exponent word. -/
def expoW (t : EReal) : BitVec 32 :=
  Scalar.select (Ideal.cmp .oeq t 0) 0#32 (BitVec.ofNat 32 (cnt t) - 126#32)

theorem expo_bounds (t : EReal) : -126 ≤ expo t ∧ expo t ≤ 126 := by
  have := cnt_le t
  unfold expo
  split <;> omega

theorem scaleW (t : EReal) :
    Ideal.ofBits .f32 ((expoW t + 127#32) <<< 23#32) = pow2 (expo t) := by
  have hc := cnt_le t
  unfold expoW expo
  rw [select_oeq]
  by_cases h : t = 0
  · rw [if_pos h, if_pos h]
    exact ofBits_field 127 (by omega) (by omega)
  · rw [if_neg h, if_neg h]
    have : BitVec.ofNat 32 (cnt t) - 126#32 + 127#32 = BitVec.ofNat 32 (cnt t + 1) := by
      apply BitVec.eq_of_toNat_eq
      simp only [BitVec.toNat_add, BitVec.toNat_sub, BitVec.toNat_ofNat]
      omega
    rw [this, shl_toNat _ (by omega), ofBits_field _ (by omega) (by omega)]
    congr 1
    push_cast
    omega

theorem invW (t : EReal) :
    Ideal.ofBits .f32 ((127#32 - expoW t) <<< 23#32) = pow2 (-expo t) := by
  have hc := cnt_le t
  unfold expoW expo
  rw [select_oeq]
  by_cases h : t = 0
  · rw [if_pos h, if_pos h]
    exact ofBits_field 127 (by omega) (by omega)
  · rw [if_neg h, if_neg h]
    have : 127#32 - (BitVec.ofNat 32 (cnt t) - 126#32) = BitVec.ofNat 32 (253 - cnt t) := by
      apply BitVec.eq_of_toNat_eq
      simp only [BitVec.toNat_sub, BitVec.toNat_ofNat]
      omega
    rw [this, shl_toNat _ (by omega), ofBits_field _ (by omega) (by omega)]
    congr 1
    omega

/-- The reference's exponent as it is written: a sum of indicators less 126. -/
theorem sum_ind (t : EReal) :
    (∑ k : Fin 252, (if pow2 ((k.val : ℤ) - 126) ≤ t then (1 : EReal) else 0)) = ((cnt t : ℝ) : EReal) := by
  classical
  rw [Fin.sum_univ_eq_sum_range (fun k : ℕ => if pow2 ((k : ℤ) - 126) ≤ t then (1 : EReal) else 0) 252,
    Finset.sum_boole, ← Nat.count_eq_card_filter_range]
  unfold cnt
  norm_cast

theorem exp2_int (e : ℤ) : Ideal.exp2 ((e : ℝ) : EReal) = pow2 e := by
  unfold pow2
  show ((Real.rpow 2 (e : ℝ) : ℝ) : EReal) = _
  congr 1
  exact Real.rpow_intCast 2 e

end Cert.Quant
-- ==== Proof.FrontIdeal.lean ====
/-
  The block's front in both programs: the layer norm of the hidden rows, its
  quantiser's scale and its codes.

  The kernel searches for the exponent; the reference counts.  `Field` proves the
  two numbers equal, and here the two programs' stored values are shown to be
  made of them at every index.
-/
module

public import proofs.«01_k».proof.Proof.FieldIdeal
public import proofs.«01_k».proof.Proof.Gen.KernelIdeal.Skeleton
public import proofs.«01_k».proof.Proof.Gen.ReferenceIdeal.Skeleton
public import Idealize.ShloMosaic.Lib.ValueIdx
public import Idealize.ShloMosaic.Lib.ValueLayoutCasts

@[expose] public section

noncomputable section

namespace Cert.Quant

open Idealize.ShloMosaic

local notation "Row" => (⟨2, ![4, 2048]⟩ : Shape)
local notation "Vec1" => (⟨2, ![1, 2048]⟩ : Shape)
local notation "Col" => (⟨2, ![4, 1]⟩ : Shape)

/-! ### The normalised rows and their scaled maxima -/

theorem norm_eq (x : Vec Ideal Row .bf16) (g b : Vec Ideal Vec1 .f32) :
    Cert.KernelIdeal.Gen.k0_pay6 (Cert.KernelIdeal.Gen.k0_pay4 x)
        (Cert.KernelIdeal.Gen.k0_pay5 x) g b
      = Cert.ReferenceIdeal.Gen.k0_pay6 x g b := by
  unfold Cert.KernelIdeal.Gen.k0_pay6 Cert.KernelIdeal.Gen.k0_pay5 Cert.KernelIdeal.Gen.k0_pay4
    Cert.ReferenceIdeal.Gen.k0_pay6 Cert.ReferenceIdeal.Gen.k0_pay5
  simp only [shapeCast_self]

theorem top_eq (x : Vec Ideal Row .bf16) (g b : Vec Ideal Vec1 .f32) :
    Cert.KernelIdeal.Gen.k0_pay7 (Cert.KernelIdeal.Gen.k0_pay4 x)
        (Cert.KernelIdeal.Gen.k0_pay5 x) g b
      = Cert.ReferenceIdeal.Gen.k0_pay7 x g b := by
  unfold Cert.KernelIdeal.Gen.k0_pay7 Cert.ReferenceIdeal.Gen.k0_pay7
  rw [norm_eq]

/-! ### The kernel's search at an index -/

section Kernel
open Cert.KernelIdeal Cert.KernelIdeal.Gen

variable (x : FVec Ideal Row .f32) (v : FVec Ideal Col .f32) (g b : Vec Ideal Vec1 .f32)

theorem stepV (t : FVec Ideal Col .f32) (n : IVec Col 32) (s : BitVec 32) (i : (Shape.Idx Col)) :
    select (cmpf .oge t (bitcastToFloat .f32 (shli (addi n (broadcast Col s)) (broadcast Col 23#32))))
      (addi n (broadcast Col s)) n i = step (t i) s (n i) := rfl

theorem last_step (t : FVec Ideal Col .f32) (n : IVec Col 32) (p : IVec Col 1) (q : IVec Col 32)
    (i : (Shape.Idx Col)) :
    k0_pay15 t n p q i = Scalar.select (Ideal.cmp .oeq (t i) (Ideal.ofBits .f32 0x00000000#32)) 0#32
      (select p q n i - 126#32) := rfl

theorem scale_step (t : FVec Ideal Col .f32) (n : IVec Col 32) (p : IVec Col 1) (q : IVec Col 32)
    (i : (Shape.Idx Col)) :
    k0_pay16 t n p q i = Ideal.ofBits .f32 ((k0_pay15 t n p q i + 127#32) <<< 23#32) := rfl

theorem inv_step (t : FVec Ideal Col .f32) (n : IVec Col 32) (p : IVec Col 1) (q : IVec Col 32)
    (i : (Shape.Idx Col)) :
    k0_pay17 t n p q i = Ideal.ofBits .f32 ((127#32 - k0_pay15 t n p q i) <<< 23#32) := rfl

/-- The exponent the kernel reads the scale from, at an index. -/
theorem expo_apply (i : (Shape.Idx Col)) :
    k0_pay15 (k0_pay7 x v g b)
      (k0_pay12 (k0_pay8 x v g b) (k0_pay9 x v g b) (k0_pay10 x v g b) (k0_pay11 x v g b))
      (k0_pay13 (k0_pay8 x v g b) (k0_pay9 x v g b) (k0_pay10 x v g b) (k0_pay11 x v g b))
      (k0_pay14 (k0_pay8 x v g b) (k0_pay9 x v g b) (k0_pay10 x v g b) (k0_pay11 x v g b)) i
      = expoW (k0_pay7 x v g b i) := by
  have h8 : k0_pay8 x v g b i = min (k0_pay7 x v g b i) (pow2 125) := by
    rw [← ofBits_p125]; rfl
  have hs := search_eq (k0_pay7 x v g b i)
  rw [← h8] at hs
  have e9 : k0_pay9 x v g b i = step (k0_pay8 x v g b i) 64#32 (step (k0_pay8 x v g b i) 128#32 0#32) :=
    (stepV _ _ 64#32 i).trans (congrArg _ (stepV _ (broadcast Col 0#32) 128#32 i))
  have e11 : select (k0_pay10 x v g b) (k0_pay11 x v g b) (k0_pay9 x v g b) i
      = step (k0_pay8 x v g b i) 32#32 (k0_pay9 x v g b i) := stepV _ _ 32#32 i
  have e12 : k0_pay12 (k0_pay8 x v g b) (k0_pay9 x v g b) (k0_pay10 x v g b) (k0_pay11 x v g b) i
      = step (k0_pay8 x v g b i) 2#32 (step (k0_pay8 x v g b i) 4#32 (step (k0_pay8 x v g b i) 8#32
          (step (k0_pay8 x v g b i) 16#32
            (select (k0_pay10 x v g b) (k0_pay11 x v g b) (k0_pay9 x v g b) i)))) :=
    (stepV _ _ 2#32 i).trans (congrArg _ ((stepV _ _ 4#32 i).trans
      (congrArg _ ((stepV _ _ 8#32 i).trans (congrArg _ (stepV _ _ 16#32 i))))))
  rw [e11, e9] at e12
  have e15 : select (k0_pay13 (k0_pay8 x v g b) (k0_pay9 x v g b) (k0_pay10 x v g b) (k0_pay11 x v g b))
      (k0_pay14 (k0_pay8 x v g b) (k0_pay9 x v g b) (k0_pay10 x v g b) (k0_pay11 x v g b))
      (k0_pay12 (k0_pay8 x v g b) (k0_pay9 x v g b) (k0_pay10 x v g b) (k0_pay11 x v g b)) i
      = BitVec.ofNat 32 (cnt (k0_pay7 x v g b i)) := by
    rw [← hs, ← e12]
    exact stepV _ _ 1#32 i
  unfold expoW
  rw [← e15, ← ofBits_zero]
  exact last_step _ _ _ _ i

theorem scale_apply (i : (Shape.Idx Col)) :
    k0_pay16 (k0_pay7 x v g b)
      (k0_pay12 (k0_pay8 x v g b) (k0_pay9 x v g b) (k0_pay10 x v g b) (k0_pay11 x v g b))
      (k0_pay13 (k0_pay8 x v g b) (k0_pay9 x v g b) (k0_pay10 x v g b) (k0_pay11 x v g b))
      (k0_pay14 (k0_pay8 x v g b) (k0_pay9 x v g b) (k0_pay10 x v g b) (k0_pay11 x v g b)) i
      = pow2 (expo (k0_pay7 x v g b i)) := by
  rw [scale_step, expo_apply, scaleW]

theorem inv_apply (i : (Shape.Idx Col)) :
    k0_pay17 (k0_pay7 x v g b)
      (k0_pay12 (k0_pay8 x v g b) (k0_pay9 x v g b) (k0_pay10 x v g b) (k0_pay11 x v g b))
      (k0_pay13 (k0_pay8 x v g b) (k0_pay9 x v g b) (k0_pay10 x v g b) (k0_pay11 x v g b))
      (k0_pay14 (k0_pay8 x v g b) (k0_pay9 x v g b) (k0_pay10 x v g b) (k0_pay11 x v g b)) i
      = pow2 (-expo (k0_pay7 x v g b i)) := by
  rw [inv_step, expo_apply, invW]

end Kernel

/-! ### The reference's count at an index -/

section Reference
open Cert.ReferenceIdeal Cert.ReferenceIdeal.Gen

variable (x : Vec Ideal Row .bf16) (g b : Vec Ideal Vec1 .f32) (t : FVec Ideal Col .f32)

/-- The powers of two not above each row's `t`, as ones. -/
def below : FVec Ideal S4x252 .f32 :=
  select (cmpf .ole
      (exp2 (subf (sitofp .f32 (iota .tc S4x252 32 [1] iota_S4x252_d1_w32))
        (broadcast S4x252 (Scalar.ofBits .f32 0x42FC0000#32 : Ideal .f32))))
      (broadcastTo S4x252 t broadcasts_S4x1_S4x252))
    (broadcast S4x252 (Scalar.ofBits .f32 0x3F800000#32 : Ideal .f32))
    (broadcast S4x252 (Scalar.ofBits .f32 0x00000000#32 : Ideal .f32))

theorem below_eq : k0_pay8 x g b = below (k0_pay7 x g b) := rfl

theorem below_apply (i : (⟨2, ![4, 252]⟩ : Shape).Idx) :
    below t i
      = if pow2 ((i 1).val - 126) ≤ t (ValueIdx.ix2 (i 0) 0) then 1 else 0 := by
  have hb : broadcastTo S4x252 t broadcasts_S4x1_S4x252 i
      = t (ValueIdx.ix2 (i 0) 0) :=
    broadcastTo_apply _ _ _ _ fun a => by
      match a with
      | ⟨0, _⟩ => rfl
      | ⟨1, _⟩ => rfl
  show Scalar.select (Ideal.cmp .ole
      (Ideal.exp2 ((((BitVec.ofNat 32 (0 * 252 + (i 1).val)).toInt : ℝ) : EReal)
        - Ideal.ofBits .f32 0x42FC0000#32))
      (broadcastTo S4x252 t broadcasts_S4x1_S4x252 i))
      (Ideal.ofBits .f32 0x3F800000#32) (Ideal.ofBits .f32 0x00000000#32) = _
  have hk : (i 1).val < 252 := (i 1).isLt
  have hi : (BitVec.ofNat 32 (0 * 252 + (i 1).val)).toInt = ((i 1).val : ℤ) := by
    rw [BitVec.toInt_eq_toNat_of_lt (by simp only [BitVec.toNat_ofNat]; omega)]
    simp only [BitVec.toNat_ofNat]
    omega
  rw [hb, ofBits_126, ofBits_one, ofBits_zero, hi, ← EReal.coe_sub, select_ole, ← exp2_int]
  push_cast
  rfl

theorem count_apply (i : (Shape.Idx Col)) :
    shapeCast S4x1 (multiReduction .add [1] S4 (below t) 0x00000000#32 reduces_S4x252_S4
        (.inl rfl) rfl) shapeCasts_S4_S4x1 i
      = ((cnt (t i) : ℝ) : EReal) := by
  have h1 : (i 1).val = 0 := by have : (i 1).val < 1 := (i 1).isLt; omega
  refine (shapeCast_apply _ _ i (ValueIdx.ix1 (i 0)) (by
    rw [Shape.rowMajor_val_two, Shape.rowMajor_val_one, h1]
    show (i 0).val = (i 0).val * 1 + 0
    omega)).trans ?_
  refine (Ideal.multiReduction_add_single _ _ _ _ _ _).trans ?_
  rw [← sum_ind]
  refine Finset.sum_congr rfl fun k _ => ?_
  rw [below_apply]
  have hc : ValueIdx.ix2 (n0 := 4) (n1 := 1) (i 0) 0 = i := by
    funext a
    match a with
    | ⟨0, _⟩ => rfl
    | ⟨1, _⟩ => exact Fin.ext h1.symm
  rw [← hc]
  rfl

theorem expo_ref (i : (Shape.Idx Col)) :
    k0_pay9 t (below t) i = ((expo (t i) : ℝ) : EReal) := by
  have hc := count_apply t i
  unfold k0_pay9
  generalize below t = u at hc ⊢
  show Scalar.select (Ideal.cmp .oeq (t i) (Ideal.ofBits .f32 0x00000000#32))
    (Ideal.ofBits .f32 0x00000000#32)
    (shapeCast S4x1 (multiReduction .add [1] S4 u 0x00000000#32 reduces_S4x252_S4
        (.inl rfl) rfl) shapeCasts_S4_S4x1 i - Ideal.ofBits .f32 0x42FC0000#32) = _
  rw [hc, ofBits_126, ofBits_zero, select_oeq]
  unfold expo
  split
  · simp
  · rw [← EReal.coe_sub]
    push_cast
    rfl

theorem exp_apply (u : FVec Ideal S4x252 .f32) (i : (Shape.Idx Col)) :
    k0_pay10 t u i = Ideal.exp2 (k0_pay9 t u i) := rfl

theorem neg_apply (e : FVec Ideal Col .f32) (i : (Shape.Idx Col)) :
    exp2 (subf (broadcast S4x1 (Scalar.ofBits .f32 0x00000000#32 : Ideal .f32)) e) i
      = Ideal.exp2 (Ideal.ofBits .f32 0x00000000#32 - e i) := rfl

theorem scale_ref (i : (Shape.Idx Col)) :
    k0_pay10 (k0_pay7 x g b) (k0_pay8 x g b) i = pow2 (expo (k0_pay7 x g b i)) := by
  rw [exp_apply, below_eq, expo_ref, exp2_int]

theorem inv_ref (i : (Shape.Idx Col)) :
    exp2 (subf (broadcast S4x1 (Scalar.ofBits .f32 0x00000000#32 : Ideal .f32))
        (k0_pay9 (k0_pay7 x g b) (k0_pay8 x g b))) i
      = pow2 (-expo (k0_pay7 x g b i)) := by
  rw [neg_apply, below_eq, expo_ref, ofBits_zero, zero_sub, ← EReal.coe_neg, ← Int.cast_neg, exp2_int]

end Reference

/-! ### The two programs' codes and scales -/

section Both
open Cert.KernelIdeal Cert.KernelIdeal.Gen

variable (x : Vec Ideal Row .bf16) (g b : Vec Ideal Vec1 .f32)

theorem scales_eq :
    k0_pay16 (k0_pay7 (k0_pay4 x) (k0_pay5 x) g b)
      (k0_pay12 (k0_pay8 (k0_pay4 x) (k0_pay5 x) g b) (k0_pay9 (k0_pay4 x) (k0_pay5 x) g b)
        (k0_pay10 (k0_pay4 x) (k0_pay5 x) g b) (k0_pay11 (k0_pay4 x) (k0_pay5 x) g b))
      (k0_pay13 (k0_pay8 (k0_pay4 x) (k0_pay5 x) g b) (k0_pay9 (k0_pay4 x) (k0_pay5 x) g b)
        (k0_pay10 (k0_pay4 x) (k0_pay5 x) g b) (k0_pay11 (k0_pay4 x) (k0_pay5 x) g b))
      (k0_pay14 (k0_pay8 (k0_pay4 x) (k0_pay5 x) g b) (k0_pay9 (k0_pay4 x) (k0_pay5 x) g b)
        (k0_pay10 (k0_pay4 x) (k0_pay5 x) g b) (k0_pay11 (k0_pay4 x) (k0_pay5 x) g b))
      = Cert.ReferenceIdeal.Gen.k0_pay10 (Cert.ReferenceIdeal.Gen.k0_pay7 x g b)
          (Cert.ReferenceIdeal.Gen.k0_pay8 x g b) := by
  funext i
  rw [scale_ref, scale_apply, top_eq]

theorem codes_of (h : FVec Ideal Row .f32) (t : FVec Ideal Col .f32) (n : IVec Col 32)
    (p : IVec Col 1) (q : IVec Col 32) (t' : FVec Ideal Col .f32)
    (u' : FVec Ideal Cert.ReferenceIdeal.S4x252 .f32)
    (hi : ∀ i, k0_pay17 t n p q i
      = exp2 (subf (broadcast S4x1 (Scalar.ofBits .f32 0x00000000#32 : Ideal .f32))
          (Cert.ReferenceIdeal.Gen.k0_pay9 t' u')) i) :
    k0_pay18 h t n p q = Cert.ReferenceIdeal.Gen.k0_pay11 h t' u' := by
  unfold k0_pay18 Cert.ReferenceIdeal.Gen.k0_pay11
  rw [funext hi]
  simp only [shapeCast_self]

theorem codes_eq :
    k0_pay18 (k0_pay6 (k0_pay4 x) (k0_pay5 x) g b) (k0_pay7 (k0_pay4 x) (k0_pay5 x) g b)
      (k0_pay12 (k0_pay8 (k0_pay4 x) (k0_pay5 x) g b) (k0_pay9 (k0_pay4 x) (k0_pay5 x) g b)
        (k0_pay10 (k0_pay4 x) (k0_pay5 x) g b) (k0_pay11 (k0_pay4 x) (k0_pay5 x) g b))
      (k0_pay13 (k0_pay8 (k0_pay4 x) (k0_pay5 x) g b) (k0_pay9 (k0_pay4 x) (k0_pay5 x) g b)
        (k0_pay10 (k0_pay4 x) (k0_pay5 x) g b) (k0_pay11 (k0_pay4 x) (k0_pay5 x) g b))
      (k0_pay14 (k0_pay8 (k0_pay4 x) (k0_pay5 x) g b) (k0_pay9 (k0_pay4 x) (k0_pay5 x) g b)
        (k0_pay10 (k0_pay4 x) (k0_pay5 x) g b) (k0_pay11 (k0_pay4 x) (k0_pay5 x) g b))
      = Cert.ReferenceIdeal.Gen.k0_pay11 (Cert.ReferenceIdeal.Gen.k0_pay6 x g b)
          (Cert.ReferenceIdeal.Gen.k0_pay7 x g b) (Cert.ReferenceIdeal.Gen.k0_pay8 x g b) := by
  rw [← norm_eq]
  exact codes_of _ _ _ _ _ _ _ fun i => by rw [inv_apply, inv_ref, top_eq]

/-- The kernel's turn of a column into a row — the column against the identity, summed over the
rows — is the column read as a row. -/
theorem as_row (col : FVec Ideal Col .f32) :
    k0_pay20 col = Cert.ReferenceIdeal.Gen.k0_pay3 col := by
  funext j
  have h0 : (j 0).val = 0 := by have : (j 0).val < 1 := (j 0).isLt; omega
  obtain ⟨q, hq⟩ : ∃ q : Fin 4, q = j 1 := ⟨_, rfl⟩
  have h1 := q.isLt
  have hr : Cert.ReferenceIdeal.Gen.k0_pay3 col j = col (ValueIdx.ix2 q 0) := by
    unfold Cert.ReferenceIdeal.Gen.k0_pay3
    refine shapeCast_apply _ _ j _ ?_
    rw [Shape.rowMajor_val_two, Shape.rowMajor_val_two, h0, ← hq]
    show q.val * 1 + 0 = 0 * 4 + q.val
    omega
  rw [hr]
  unfold k0_pay20
  simp only [shapeCast_self]
  rw [extractStridedSlice_apply _ _ _ j (ValueIdx.ix2 0 ⟨q.val, by omega⟩) (by
    intro a
    match a with
    | ⟨0, _⟩ => exact (congrArg (0 + ·) h0).symm
    | ⟨1, _⟩ => exact (Nat.zero_add _).symm ▸ congrArg Fin.val hq)]
  rw [shapeCast_apply _ _ _ (ValueIdx.ix1 ⟨q.val, by omega⟩) (by
    rw [Shape.rowMajor_val_two, Shape.rowMajor_val_one]
    show q.val = 0 * 128 + q.val
    omega)]
  refine (Ideal.multiReduction_add_single _ _ _ _ _ _).trans ?_
  have : ∀ k : Fin 4, select (cmpi .eq (iota .tc S4x128 32 [0] iota_S4x128_d0_w32)
        (iota .tc S4x128 32 [1] iota_S4x128_d1_w32))
      (broadcastTo S4x128 col broadcasts_S4x1_S4x128)
      (broadcast S4x128 (Scalar.ofBits .f32 0x00000000#32 : Ideal .f32))
      (reduces_S4x128_S128.lift (ValueIdx.ix1 ⟨q.val, by omega⟩) k)
      = if k = q then col (ValueIdx.ix2 k 0) else 0 := by
    intro k
    have hb : broadcastTo S4x128 col broadcasts_S4x1_S4x128
        (reduces_S4x128_S128.lift (ValueIdx.ix1 ⟨q.val, by omega⟩) k) = col (ValueIdx.ix2 k 0) :=
      broadcastTo_apply _ _ _ _ fun a => by
        match a with
        | ⟨0, _⟩ => rfl
        | ⟨1, _⟩ => rfl
    show Scalar.select (Scalar.cmpi .eq (BitVec.ofNat 32 (0 * 4 + k.val)) (BitVec.ofNat 32 (0 * 128 + q.val)))
      (broadcastTo S4x128 col broadcasts_S4x1_S4x128
        (reduces_S4x128_S128.lift (ValueIdx.ix1 ⟨q.val, by omega⟩) k))
      (Ideal.ofBits .f32 0x00000000#32) = _
    rw [hb, ofBits_zero]
    have : ∀ k l : Fin 4, Scalar.cmpi .eq (BitVec.ofNat 32 (0 * 4 + k.val)) (BitVec.ofNat 32 (0 * 128 + l.val))
        = if k = l then 1#1 else 0#1 := by decide +kernel
    rw [this k q]
    by_cases hk : k = q
    · rw [if_pos hk, if_pos hk]; rfl
    · rw [if_neg hk, if_neg hk]; rfl
  refine (Finset.sum_congr rfl fun k _ => this k).trans ?_
  exact (Finset.sum_ite_eq' (Finset.univ : Finset (Fin 4)) q fun k => col (ValueIdx.ix2 k 0)).trans
    (if_pos (Finset.mem_univ q))

end Both

end Cert.Quant
-- ==== Proof.HeadIdeal.lean ====
/-
  What the kernel's run leaves in its code and scale results, as the reference's
  quantiser of the same rows.
-/
module

public import proofs.«01_k».proof.Proof.RunIdeal
public import proofs.«01_k».proof.Proof.FrontIdeal
public import Idealize.ShloMosaic.Lib.VecWindow

@[expose] public section

noncomputable section

namespace Cert.KernelIdeal.Hand

open Cert.KernelIdeal Idealize.ShloMosaic Idealize.ShloMosaic.TcCoe Idealize.SL.Sem

/-- A load of a whole buffer after a write of it all reads what was written. -/
theorem load_written {sig : RefSig} {κ : Kind} {sp : Space} {s : Shape} {e : EltTy} {Val : EltTy → Type}
    (v : View sig κ sp s e) (f : v.ty.Contents Val) (w : s.Idx → Val e) {off : Fin s.rank → ℕ}
    (inb : ∀ a, off a + s.size a ≤ s.size a) :
    v.readAt Val (Rect.unit off s.size inb).toLoadRect (v.write Val f w Finset.univ) = w := by
  rw [View.readAt_full, View.read_write_univ]

variable (c : Dev nD) (a0 : Bf (F := Ideal) c M0) (a1 : Bf (F := Ideal) c M1) (a2 : Bf (F := Ideal) c M2)
  (s20 : Bf (F := Ideal) c M20) (s21 : Bf (F := Ideal) c M21) (s22 : Bf (F := Ideal) c M22)

theorem rows_eq : View.readAt (Elt Ideal) M20.view (Rect.unit ![0, 0] S4x2048.size Gen.inb_S4x2048_S4x2048_0_0).toLoadRect
    (View.write (Elt Ideal) M20.view s20 (kernelRun.sl.dma0 c a0) Finset.univ) = a0 :=
  load_written _ _ _ _
theorem gain_eq : View.readAt (Elt Ideal) M21.view (Rect.unit ![0, 0] S1x2048.size Gen.inb_S1x2048_S1x2048_0_0).toLoadRect
    (View.write (Elt Ideal) M21.view s21 (kernelRun.sl.dma0_1 c a1) Finset.univ) = a1 :=
  load_written _ _ _ _
theorem shift_eq : View.readAt (Elt Ideal) M22.view (Rect.unit ![0, 0] S1x2048.size Gen.inb_S1x2048_S1x2048_0_0).toLoadRect
    (View.write (Elt Ideal) M22.view s22 (kernelRun.sl.dma0_2 c a2) Finset.univ) = a2 :=
  load_written _ _ _ _

theorem scale_val : kernelRun.sl.v317_r0 c a0 a1 a2 s20 s21 s22
    = Cert.ReferenceIdeal.Gen.k0_pay10 (Cert.ReferenceIdeal.Gen.k0_pay7 a0 a1 a2)
        (Cert.ReferenceIdeal.Gen.k0_pay8 a0 a1 a2) := by
  unfold kernelRun.sl.v317_r0 kernelRun.sl.v305_r0 kernelRun.sl.v303_r0 kernelRun.sl.v297_r0
    kernelRun.sl.v260_r0 kernelRun.sl.v258_r0 kernelRun.sl.v252_r0 kernelRun.sl.v233_r0 kernelRun.sl.v231_r0
    kernelRun.sl.v217_r0 kernelRun.sl.v210_r0
  rw [rows_eq, gain_eq, shift_eq]
  exact Cert.Quant.scales_eq a0 a1 a2

theorem codes_val (s34 : Bf (F := Ideal) c M34) : kernelRun.sl.dma142 c a0 a1 a2 s20 s21 s22 s34
    = Cert.ReferenceIdeal.Gen.k0_pay11 (Cert.ReferenceIdeal.Gen.k0_pay6 a0 a1 a2)
        (Cert.ReferenceIdeal.Gen.k0_pay7 a0 a1 a2) (Cert.ReferenceIdeal.Gen.k0_pay8 a0 a1 a2) := by
  unfold kernelRun.sl.dma142 kernelRun.sl.Hs34_1
  refine (View.read_writes_full _ _ _ _ _).trans ?_
  unfold kernelRun.sl.v226_r0 kernelRun.sl.v305_r0 kernelRun.sl.v303_r0 kernelRun.sl.v297_r0
    kernelRun.sl.v260_r0 kernelRun.sl.v258_r0 kernelRun.sl.v252_r0 kernelRun.sl.v233_r0 kernelRun.sl.v231_r0
    kernelRun.sl.v217_r0 kernelRun.sl.v210_r0
  rw [rows_eq, gain_eq, shift_eq]
  exact Cert.Quant.codes_eq a0 a1 a2

theorem scales_val (s35 : Bf (F := Ideal) c M35) : kernelRun.sl.dma142_1 c a0 a1 a2 s20 s21 s22 s35
    = Cert.ReferenceIdeal.Gen.k0_pay3 (Cert.ReferenceIdeal.Gen.k0_pay10 (Cert.ReferenceIdeal.Gen.k0_pay7 a0 a1 a2)
        (Cert.ReferenceIdeal.Gen.k0_pay8 a0 a1 a2)) := by
  unfold kernelRun.sl.dma142_1 kernelRun.sl.Hs35_1
  refine (View.read_writes_full _ _ _ _ _).trans ?_
  rw [scale_val]
  exact Cert.Quant.as_row _

/-- The code and scale results of a run are the reference's codes and scales of the rows it was given. -/
def HeadP (x : S4x2048.Idx → Elt Ideal .bf16) (g b : S1x2048.Idx → Elt Ideal .f32) (w : Outs Ideal c) : Prop :=
  w.x14 = Cert.ReferenceIdeal.Gen.k0_pay11 (Cert.ReferenceIdeal.Gen.k0_pay6 x g b)
        (Cert.ReferenceIdeal.Gen.k0_pay7 x g b) (Cert.ReferenceIdeal.Gen.k0_pay8 x g b)
  ∧ w.x15 = Cert.ReferenceIdeal.Gen.k0_pay3 (Cert.ReferenceIdeal.Gen.k0_pay10 (Cert.ReferenceIdeal.Gen.k0_pay7 x g b)
        (Cert.ReferenceIdeal.Gen.k0_pay8 x g b))

variable (a3 : Bf (F := Ideal) c M3) (a4 : Bf (F := Ideal) c M4) (a5 : Bf (F := Ideal) c M5) (a6 : Bf (F := Ideal) c M6) (a7 : Bf (F := Ideal) c M7) (a8 : Bf (F := Ideal) c M8) (a9 : Bf (F := Ideal) c M9) (a10 : Bf (F := Ideal) c M10) (r11 : Bf (F := Ideal) c M11) (r12 : Bf (F := Ideal) c M12) (r13 : Bf (F := Ideal) c M13) (r14 : Bf (F := Ideal) c M14) (r15 : Bf (F := Ideal) c M15) (r16 : Bf (F := Ideal) c M16) (r17 : Bf (F := Ideal) c M17) (r18 : Bf (F := Ideal) c M18) (r19 : Bf (F := Ideal) c M19) (s23 : Bf (F := Ideal) c M23) (s24 : Bf (F := Ideal) c M24) (s25 : Bf (F := Ideal) c M25) (s26 : Bf (F := Ideal) c M26) (s27 : Bf (F := Ideal) c M27) (s28 : Bf (F := Ideal) c M28) (s29 : Bf (F := Ideal) c M29) (s30 : Bf (F := Ideal) c M30) (s31 : Bf (F := Ideal) c M31) (s32 : Bf (F := Ideal) c M32) (s33 : Bf (F := Ideal) c M33) (s34 : Bf (F := Ideal) c M34) (s35 : Bf (F := Ideal) c M35) (s36 : Bf (F := Ideal) c M36) (s37 : Bf (F := Ideal) c M37) (s38 : Bf (F := Ideal) c M38) (s39 : Bf (F := Ideal) c M39) (s40 : Bf (F := Ideal) c M40) (s41 : Bf (F := Ideal) c M41) (s42 : Bf (F := Ideal) c M42) (s43 : Bf (F := Ideal) c M43) (s44 : Bf (F := Ideal) c M44)
theorem head_run : HeadP c a0 a1 a2 (kernelRun c a0 a1 a2 a3 a4 a5 a6 a7 a8 a9 a10 r11 r12 r13 r14 r15 r16 r17 r18 r19 s20 s21 s22 s23 s24 s25 s26 s27 s28 s29 s30 s31 s32 s33 s34 s35 s36 s37 s38 s39 s40 s41 s42 s43 s44).1 :=
  ⟨(View.read_write_univ (v := M14.view) r14 _).trans (codes_val c a0 a1 a2 s20 s21 s22 s34),
   (View.read_write_univ (v := M15.view) r15 _).trans (scales_val c a0 a1 a2 s20 s21 s22 s35)⟩

end Cert.KernelIdeal.Hand
-- ==== Proof.ProjIdeal.lean ====
/-
  The projection of the normalised rows at an index: a column of the kernel's chunk is
  the reference's column at the chunk's offset.
-/
module

public import proofs.«01_k».proof.Proof.FrontIdeal
public import Idealize.ShloMosaic.Lib.MatmulPlain
public import Idealize.ShloMosaic.Lib.Pipeline.Value

@[expose] public section

noncomputable section

namespace Cert.Quant

open Idealize.ShloMosaic Idealize.ShloMosaic.ValueIdx

/-- A two-axis index is its coordinates. -/
theorem ix2_coords {n0 n1 : ℕ} (i : (⟨2, ![n0, n1]⟩ : Shape).Idx) : ix2 (n0 := n0) (n1 := n1) (i 0) (i 1) = i := by
  funext a
  match a with
  | ⟨0, _⟩ => rfl
  | ⟨1, _⟩ => rfl

/-- The zero a product accumulates onto. -/
theorem zero_acc {s : Shape} (i : s.Idx) : (constant s .f32 0x00000000#32 : FVec Ideal s .f32) i = 0 :=
  ofBits_zero

/-- A column of scales at a row. -/
theorem col_apply {M N : ℕ} (v : FVec Ideal ⟨2, ![M, 1]⟩ .f32) (hb : (⟨2, ![M, 1]⟩ : Shape).Broadcasts ⟨2, ![M, N]⟩)
    (r : Fin M) (n : Fin N) : broadcastTo ⟨2, ![M, N]⟩ v hb (ix2 r n) = v (ix2 r 0) :=
  broadcastTo_apply _ _ _ _ fun a => by
    match a with
    | ⟨0, _⟩ =>
      show r.val = if M = 1 then 0 else r.val
      split
      · have := r.isLt; omega
      · rfl
    | ⟨1, _⟩ => rfl

/-- A row of scales at a column. -/
theorem row_apply {M N : ℕ} (v : FVec Ideal ⟨2, ![1, N]⟩ .f32) (hb : (⟨2, ![1, N]⟩ : Shape).Broadcasts ⟨2, ![M, N]⟩)
    (r : Fin M) (n : Fin N) : broadcastTo ⟨2, ![M, N]⟩ v hb (ix2 r n) = v (ix2 0 n) :=
  broadcastTo_apply _ _ _ _ fun a => by
    match a with
    | ⟨0, _⟩ => rfl
    | ⟨1, _⟩ =>
      show n.val = if N = 1 then 0 else n.val
      split
      · have := n.isLt; omega
      · rfl

section Reference
open Cert.ReferenceIdeal Cert.ReferenceIdeal.Gen

theorem proj_ref (h : FVec Ideal S4x2048 .f32) (t : FVec Ideal S4x1 .f32) (u : FVec Ideal S4x252 .f32)
    (w : Vec Ideal S2048x13568 .fp8e4m3) (s : Vec Ideal S1x13568 .f32) (r : Fin 4) (n : Fin 13568) :
    k0_pay13 h t u w s (ix2 r n)
      = (∑ k : Fin 2048, k0_pay11 h t u (ix2 r k) * w (ix2 k n)) * k0_pay10 t u (ix2 r 0) * s (ix2 0 n) := by
  unfold k0_pay13 k0_pay12
  generalize k0_pay11 h t u = q
  generalize k0_pay10 t u = e
  show matmul (DotDims.plain 4 2048 13568) none q w (constant S4x13568 .f32 0x00000000#32) (ix2 r n)
      * broadcastTo S4x13568 e broadcasts_S4x1_S4x13568 (ix2 r n)
      * broadcastTo S4x13568 (shapeCast S1x13568 s shapeCasts_S1x13568_S1x13568) broadcasts_S1x13568_S4x13568 (ix2 r n) = _
  rw [col_apply, row_apply, shapeCast_self]
  refine congrArg (· * _ * _) ((Ideal.matmul_plain_apply none q w _ r n).trans ?_)
  rw [zero_acc, zero_add]

end Reference

section Kernel
open Cert.KernelIdeal Cert.KernelIdeal.Gen

theorem proj_chunk (e : FVec Ideal S4x1 .f32) (q : Vec Ideal S32x2048 .fp8e4m3) (w : Vec Ideal S2048x768 .fp8e4m3)
    (s : Vec Ideal S1x768 .f32) (r : Fin 4) (n : Fin 768) :
    k0_pay43 e q w s (ix2 r n)
      = (∑ k : Fin 2048, q (ix2 (r.castLE (by decide)) k) * w (ix2 k n)) * e (ix2 r 0) * s (ix2 0 n) := by
  unfold k0_pay43 k0_pay41
  show extractStridedSlice S4x768 ![0, 0] (matmul (DotDims.plain 32 2048 768) none q w (constant S32x768 .f32 0x00000000#32))
        slices_S32x768_o0_0_S4x768 (ix2 r n)
      * broadcastTo S4x768 e broadcasts_S4x1_S4x768 (ix2 r n)
      * broadcastTo S4x768 s broadcasts_S1x768_S4x768 (ix2 r n) = _
  rw [col_apply, row_apply, extractStridedSlice_apply _ _ _ (ix2 r n) (ix2 (r.castLE (by decide)) n) (by
    intro a
    match a with
    | ⟨0, _⟩ => exact (Nat.zero_add _).symm
    | ⟨1, _⟩ => exact (Nat.zero_add _).symm)]
  refine congrArg (· * _ * _) ((Ideal.matmul_plain_apply none q w _ _ n).trans ?_)
  rw [zero_acc, zero_add]

/-- The padded codes on the rows that are not padding. -/
theorem padded_codes (h : FVec Ideal S4x2048 .f32) (t : FVec Ideal S4x1 .f32) (n : IVec S4x1 32)
    (p : IVec S4x1 1) (q : IVec S4x1 32) (r : Fin 4) (k : Fin 2048) :
    k0_pay19 h t n p q (ix2 (r.castLE (by decide)) k) = k0_pay18 h t n p q (ix2 r k) := by
  unfold k0_pay19 k0_pay18
  generalize k0_pay17 t n p q = e
  simp only [shapeCast_self]
  have e1 : concatenate S32x2048 0 [⟨S4x2048, h⟩, ⟨S28x2048, broadcast S28x2048 (Scalar.ofBits .f32 0x00000000#32 : Ideal .f32)⟩]
      concatenates_S4x2048_S28x2048_S32x2048_d0 (ix2 (r.castLE (by decide)) k) = h (ix2 r k) :=
    concatenate_pair_apply_left (t := S32x2048) (s₁ := S4x2048) (s₂ := S28x2048) 0 h _ _ _ rfl (ix2 r k) fun b => by
      match b with
      | ⟨0, _⟩ => rfl
      | ⟨1, _⟩ => rfl
  have e2 : concatenate S32x1 0 [⟨S4x1, e⟩, ⟨S28x1, broadcast S28x1 (Scalar.ofBits .f32 0x00000000#32 : Ideal .f32)⟩]
      concatenates_S4x1_S28x1_S32x1_d0 (ix2 (r.castLE (by decide)) 0) = e (ix2 r 0) :=
    concatenate_pair_apply_left (t := S32x1) (s₁ := S4x1) (s₂ := S28x1) 0 e _ _ _ rfl (ix2 r 0) fun b => by
      match b with
      | ⟨0, _⟩ => rfl
      | ⟨1, _⟩ => rfl
  show min (Ideal.ofBits .f32 0x43E00000#32) (max (Ideal.ofBits .f32 0xC3E00000#32)
      (concatenate S32x2048 0 [⟨S4x2048, h⟩, ⟨S28x2048, broadcast S28x2048 (Scalar.ofBits .f32 0x00000000#32 : Ideal .f32)⟩]
          concatenates_S4x2048_S28x2048_S32x2048_d0 (ix2 (r.castLE (by decide)) k)
        * broadcastTo S32x2048 (concatenate S32x1 0 [⟨S4x1, e⟩, ⟨S28x1, broadcast S28x1 (Scalar.ofBits .f32 0x00000000#32 : Ideal .f32)⟩]
            concatenates_S4x1_S28x1_S32x1_d0) broadcasts_S32x1_S32x2048 (ix2 (r.castLE (by decide)) k)))
    = min (Ideal.ofBits .f32 0x43E00000#32) (max (Ideal.ofBits .f32 0xC3E00000#32)
      (h (ix2 r k) * broadcastTo S4x2048 e broadcasts_S4x1_S4x2048 (ix2 r k)))
  rw [col_apply, col_apply, e1, e2]

end Kernel

end Cert.Quant
-- ==== Proof.RopeIdeal.lean ====
/-
  The rotary embedding of the key: the kernel's rotation of a row with a signed sine is the
  reference's pair of halves.
-/
module

public import proofs.«01_k».proof.Proof.ProjIdeal
public import Idealize.ShloMosaic.Lib.KernelVsHost

@[expose] public section

noncomputable section

namespace Cert.Quant

open Idealize.ShloMosaic Idealize.ShloMosaic.ValueIdx

/-- The angle of the pair `j` at the position `p`. -/
def angle (p j : BitVec 32) : Ideal .f32 :=
  FloatOps.mulf (FloatOps.sitofp .f32 p) (FloatOps.powf (FloatOps.ofBits .f32 0x461C4000#32)
    (FloatOps.divf (FloatOps.subf (FloatOps.ofBits .f32 0x00000000#32)
      (FloatOps.mulf (FloatOps.ofBits .f32 0x40000000#32) (FloatOps.sitofp .f32 j))) (FloatOps.ofBits .f32 0x43000000#32)))

/-- The clip to the cache's element type. -/
def clip (v : EReal) : EReal := min (Ideal.ofBits .f32 0x47600000#32) (max (Ideal.ofBits .f32 0xC7600000#32) v)

theorem lane_eq : ∀ n : Fin 128,
    Scalar.select (Scalar.cmpi .slt (BitVec.ofNat 32 (0 * 128 + n.val)) 64#32) (BitVec.ofNat 32 (0 * 128 + n.val))
      (BitVec.ofNat 32 (0 * 128 + n.val) - 64#32) = BitVec.ofNat 32 (n.val % 64) := by decide +kernel

theorem lane_lt : ∀ n : Fin 128,
    Scalar.cmpi .slt (BitVec.ofNat 32 (0 * 128 + n.val)) 64#32 = if n.val < 64 then 1#1 else 0#1 := by decide +kernel

theorem row_is : ∀ r q : Fin 4,
    Scalar.cmpi .eq (BitVec.ofNat 32 (0 * 4 + r.val)) (BitVec.ofNat 32 q.val) = if r = q then 1#1 else 0#1 := by
  decide +kernel

section Reference
open Cert.ReferenceIdeal Cert.ReferenceIdeal.Gen

theorem angle_ref (pos : Vec Ideal S4x1 .i32) (r : Fin 4) (j : Fin 64) :
    k0_pay21 k0_pay19 k0_pay20 pos (ix2 r j) = angle (pos (ix2 r 0)) (BitVec.ofNat 32 j.val) := by
  unfold k0_pay21 k0_pay19 k0_pay20
  rw [shapeCast_self]
  have hj : BitVec.ofNat 32 (0 * 64 + j.val) = BitVec.ofNat 32 j.val := by rw [Nat.zero_mul, Nat.zero_add]
  rw [← hj]
  show FloatOps.mulf (broadcastTo S4x64 (sitofp .f32 pos) broadcasts_S4x1_S4x64 (ix2 r j)) _ = _
  rw [col_apply]
  rfl

theorem half_apply (k : FVec Ideal S4x128 .f32) (r : Fin 4) (j : Fin 64) :
    extractStridedSlice S4x64 ![0, 0] k slices_S4x128_o0_0_S4x64 (ix2 r j) = k (ix2 r (j.castLE (by decide)))
    ∧ extractStridedSlice S4x64 ![0, 64] k slices_S4x128_o0_64_S4x64 (ix2 r j) = k (ix2 r (Fin.natAdd 64 j)) :=
  ⟨extractStridedSlice_apply _ _ _ (ix2 r j) (ix2 r (j.castLE (by decide))) (by
    intro a
    match a with
    | ⟨0, _⟩ => exact (Nat.zero_add _).symm
    | ⟨1, _⟩ => exact (Nat.zero_add _).symm),
   extractStridedSlice_apply _ _ _ (ix2 r j) (ix2 r (Fin.natAdd 64 j)) (by
    intro a
    match a with
    | ⟨0, _⟩ => exact (Nat.zero_add _).symm
    | ⟨1, _⟩ => rfl)⟩

theorem low_ref (k : FVec Ideal S4x128 .f32) (pos : Vec Ideal S4x1 .i32) (r : Fin 4) (j : Fin 64) :
    k0_pay24 k k0_pay19 k0_pay20 pos (ix2 r (j.castLE (by decide)))
      = clip (k (ix2 r (j.castLE (by decide))) * Ideal.cos (angle (pos (ix2 r 0)) (BitVec.ofNat 32 j.val))
        - k (ix2 r (Fin.natAdd 64 j)) * Ideal.sin (angle (pos (ix2 r 0)) (BitVec.ofNat 32 j.val))) := by
  rw [← (half_apply k r j).1, ← (half_apply k r j).2, ← angle_ref]
  refine congrArg clip (concatenate_pair_apply_left (t := S4x128) (s₁ := S4x64) (s₂ := S4x64) 1 _ _ _
    (ix2 r (j.castLE (by decide))) rfl (ix2 r j) fun b => ?_)
  match b with
  | ⟨0, _⟩ => rfl
  | ⟨1, _⟩ => rfl

theorem high_ref (k : FVec Ideal S4x128 .f32) (pos : Vec Ideal S4x1 .i32) (r : Fin 4) (j : Fin 64) :
    k0_pay24 k k0_pay19 k0_pay20 pos (ix2 r (Fin.natAdd 64 j))
      = clip (k (ix2 r (Fin.natAdd 64 j)) * Ideal.cos (angle (pos (ix2 r 0)) (BitVec.ofNat 32 j.val))
        + k (ix2 r (j.castLE (by decide))) * Ideal.sin (angle (pos (ix2 r 0)) (BitVec.ofNat 32 j.val))) := by
  rw [← (half_apply k r j).1, ← (half_apply k r j).2, ← angle_ref]
  refine congrArg clip (concatenate_pair_apply_right (t := S4x128) (s₁ := S4x64) (s₂ := S4x64) 1 _ _ _
    (ix2 r (Fin.natAdd 64 j)) rfl rfl (ix2 r j) (fun b hb => ?_) ?_)
  · match b with
    | ⟨0, _⟩ => rfl
    | ⟨1, _⟩ => exact absurd rfl hb
  · exact Nat.add_comm _ _

end Reference

section Kernel
open Cert.KernelIdeal Cert.KernelIdeal.Gen

variable (p : Fin 4 → BitVec 32)

/-- The kernel's angles, from the four positions it reads one by one. -/
abbrev angles : FVec Ideal S4x128 .f32 :=
  k0_pay54 (F := Ideal) (iota .tc S4x128 32 [0] iota_S4x128_d0_w32) k0_pay50 (k0_pay51 (F := Ideal) (p 0)) k0_pay52
    (k0_pay53 (F := Ideal) (p 1)) (p 2) (p 3)

theorem freq_apply (r : Fin 4) (n : Fin 128) :
    k0_pay50 (F := Ideal) (ix2 r n) = FloatOps.powf (FloatOps.ofBits .f32 0x461C4000#32)
      (FloatOps.divf (FloatOps.subf (FloatOps.ofBits .f32 0x00000000#32)
        (FloatOps.mulf (FloatOps.ofBits .f32 0x40000000#32) (FloatOps.sitofp .f32 (BitVec.ofNat 32 (n.val % 64)))))
          (FloatOps.ofBits .f32 0x43000000#32)) := by
  rw [← lane_eq n, show ∀ a b : Ideal .f32, FloatOps.mulf a b = FloatOps.mulf b a from fun a b => mul_comm (a : EReal) b]
  rfl

theorem angles_apply (r : Fin 4) (n : Fin 128) : angles p (ix2 r n) = angle (p r) (BitVec.ofNat 32 (n.val % 64)) := by
  unfold angle
  rw [← freq_apply r n]
  show FloatOps.mulf (Scalar.select (Scalar.cmpi .eq (BitVec.ofNat 32 (0 * 4 + r.val)) (BitVec.ofNat 32 (3 : Fin 4).val))
      (FloatOps.sitofp .f32 (p 3) : Ideal .f32)
      (Scalar.select (Scalar.cmpi .eq (BitVec.ofNat 32 (0 * 4 + r.val)) (BitVec.ofNat 32 (2 : Fin 4).val))
        (FloatOps.sitofp .f32 (p 2))
        (Scalar.select (Scalar.cmpi .eq (BitVec.ofNat 32 (0 * 4 + r.val)) (BitVec.ofNat 32 (1 : Fin 4).val))
          (FloatOps.sitofp .f32 (p 1))
          (Scalar.select (Scalar.cmpi .eq (BitVec.ofNat 32 (0 * 4 + r.val)) (BitVec.ofNat 32 (0 : Fin 4).val))
            (FloatOps.sitofp .f32 (p 0)) (FloatOps.ofBits .f32 0x00000000#32)))))
      (k0_pay50 (F := Ideal) (ix2 r n)) = _
  rw [row_is, row_is, row_is, row_is]
  match r with
  | 0 => rfl
  | 1 => rfl
  | 2 => rfl
  | 3 => rfl

theorem turn_apply (k : FVec Ideal S4x128 .f32) (r : Fin 4) (n m : Fin 128) (h : m.val = (n.val + 64) % 128) :
    dynamicRotate 1 64#32 none k rotates_S4x128_d1 (ix2 r n) = k (ix2 r m) :=
  dynamicRotate_apply (s := S4x128) 1 64#32 k _ (ix2 r n) (ix2 r m) fun b => by
    match b with
    | ⟨0, _⟩ => rfl
    | ⟨1, _⟩ => exact h

theorem key_apply (k : FVec Ideal S4x128 .f32) (r : Fin 4) (n m : Fin 128) (h : m.val = (n.val + 64) % 128) :
    k0_pay59 (F := Ideal) (iota .tc S4x128 32 [1] iota_S4x128_d1_w32) (iota .tc S4x128 32 [0] iota_S4x128_d0_w32)
        k0_pay50 (k0_pay51 (F := Ideal) (p 0)) k0_pay52 (k0_pay53 (F := Ideal) (p 1)) (p 2) (p 3) k (ix2 r n)
      = clip (k (ix2 r n) * Ideal.cos (angle (p r) (BitVec.ofNat 32 (n.val % 64)))
        + k (ix2 r m) * (if n.val < 64 then 0 - Ideal.sin (angle (p r) (BitVec.ofNat 32 (n.val % 64)))
            else Ideal.sin (angle (p r) (BitVec.ofNat 32 (n.val % 64))))) := by
  have hs : (if n.val < 64 then 0 - Ideal.sin (angle (p r) (BitVec.ofNat 32 (n.val % 64)))
            else Ideal.sin (angle (p r) (BitVec.ofNat 32 (n.val % 64))))
      = Scalar.select (Scalar.cmpi .slt (BitVec.ofNat 32 (0 * 128 + n.val)) 64#32)
          (Ideal.ofBits .f32 0x00000000#32 - Ideal.sin (angle (p r) (BitVec.ofNat 32 (n.val % 64))))
          (Ideal.sin (angle (p r) (BitVec.ofNat 32 (n.val % 64)))) := by
    rw [lane_lt, ofBits_zero]
    split <;> rfl
  rw [hs, ← angles_apply, ← turn_apply k r n m h]
  unfold k0_pay59
  rw [shapeCast_self]
  rfl

end Kernel

theorem key_eq (p : Fin 4 → BitVec 32) (k : FVec Ideal Cert.KernelIdeal.S4x128 .f32)
    (pos : Vec Ideal Cert.ReferenceIdeal.S4x1 .i32) (hp : ∀ r, pos (ix2 r 0) = p r) :
    Cert.KernelIdeal.Gen.k0_pay59 (F := Ideal) (iota .tc Cert.KernelIdeal.S4x128 32 [1] Cert.KernelIdeal.Gen.iota_S4x128_d1_w32)
        (iota .tc Cert.KernelIdeal.S4x128 32 [0] Cert.KernelIdeal.Gen.iota_S4x128_d0_w32)
        Cert.KernelIdeal.Gen.k0_pay50 (Cert.KernelIdeal.Gen.k0_pay51 (F := Ideal) (p 0)) Cert.KernelIdeal.Gen.k0_pay52
        (Cert.KernelIdeal.Gen.k0_pay53 (F := Ideal) (p 1)) (p 2) (p 3) k
      = Cert.ReferenceIdeal.Gen.k0_pay24 k Cert.ReferenceIdeal.Gen.k0_pay19 Cert.ReferenceIdeal.Gen.k0_pay20 pos := by
  funext i
  obtain ⟨r, n, rfl⟩ : ∃ (r : Fin 4) (n : Fin 128), i = ix2 r n := ⟨i 0, i 1, (ix2_coords i).symm⟩
  by_cases hn : n.val < 64
  · obtain ⟨j, rfl⟩ : ∃ j : Fin 64, n = j.castLE (by decide) := ⟨⟨n.val, hn⟩, rfl⟩
    have hj : j.val % 64 = j.val := Nat.mod_eq_of_lt j.isLt
    rw [low_ref, hp, key_apply p k r _ (Fin.natAdd 64 j) (by
      show 64 + j.val = (j.val + 64) % 128
      omega), if_pos hn]
    show clip (_ * Ideal.cos (angle _ (BitVec.ofNat 32 (j.val % 64)))
      + _ * (0 - Ideal.sin (angle _ (BitVec.ofNat 32 (j.val % 64))))) = _
    rw [hj, zero_sub, mul_neg, sub_eq_add_neg]
  · obtain ⟨j, rfl⟩ : ∃ j : Fin 64, n = Fin.natAdd 64 j :=
      ⟨⟨n.val - 64, by omega⟩, Fin.ext (by show n.val = 64 + (n.val - 64); omega)⟩
    have hj : (64 + j.val) % 64 = j.val := by omega
    rw [high_ref, hp, key_apply p k r _ (j.castLE (by decide)) (by
      show j.val = (64 + j.val + 64) % 128
      omega), if_neg hn]
    show clip (_ * Ideal.cos (angle _ (BitVec.ofNat 32 ((64 + j.val) % 64)))
      + _ * Ideal.sin (angle _ (BitVec.ofNat 32 ((64 + j.val) % 64)))) = _
    rw [hj]

end Cert.Quant
-- ==== Proof.KeyIdeal.lean ====
/-
  What the kernel's run leaves in its new key and new value, as the reference's columns of
  the projection of the same rows.
-/
module

public import proofs.«01_k».proof.Proof.HeadIdeal
public import proofs.«01_k».proof.Proof.RopeIdeal
public import Idealize.ShloMosaic.Lib.Pipeline.Value

@[expose] public section

noncomputable section

namespace Cert.KernelIdeal.Hand

open Cert.KernelIdeal Idealize.ShloMosaic Idealize.ShloMosaic.TcCoe Idealize.SL.Sem Idealize.ShloMosaic.ValueIdx

variable (c : Dev nD)

/-- The reference's projection of the rows. -/
abbrev refProj (x : S4x2048.Idx → Elt Ideal .bf16) (g b : S1x2048.Idx → Elt Ideal .f32)
    (w : S2048x13568.Idx → Elt Ideal .fp8e4m3) (s : S1x13568.Idx → Elt Ideal .f32) :
    FVec Ideal Cert.ReferenceIdeal.S4x13568 .f32 :=
  Cert.ReferenceIdeal.Gen.k0_pay13 (Cert.ReferenceIdeal.Gen.k0_pay6 x g b)
    (Cert.ReferenceIdeal.Gen.k0_pay7 x g b) (Cert.ReferenceIdeal.Gen.k0_pay8 x g b) w s

/-! ### The third chunk of the weights -/

theorem chunk_weight (a3 : Bf (F := Ideal) c M3) (k : Fin 2048) (n : Fin 768) :
    kernelRun.sl.v457_r0 c a3 (ix2 k n) = a3 (ix2 k ⟨1536 + n.val, by omega⟩) := by
  have e : kernelRun.sl.v457_r0 c a3 = kernelRun.sl.dma0_9 c a3 := by
    unfold kernelRun.sl.v457_r0
    exact View.read_writes_full (qV 2).view _ _ _ _
  rw [e]
  refine congrArg a3 (funext fun a => ?_)
  match a with
  | ⟨0, _⟩ => exact Fin.ext (show 0 + 1 * k.val = k.val by omega)
  | ⟨1, _⟩ => exact Fin.ext (show 1536 + 1 * n.val = 1536 + n.val by omega)

theorem chunk_scale (a4 : Bf (F := Ideal) c M4) (s24 : Bf (F := Ideal) c M24) (n : Fin 768) :
    View.readAt (Elt Ideal) M24.view (Rect.unit (s := S1x13568) ![0, 1536] S1x768.size Gen.inb_S1x13568_S1x768_0_1536).toLoadRect
      (View.write (Elt Ideal) M24.view s24 (kernelRun.sl.dma0_5 c a4) Finset.univ) (ix2 0 n)
      = a4 (ix2 0 ⟨1536 + n.val, by omega⟩) := by
  rw [View.readAt_apply, View.read_write_univ]
  refine congrArg a4 (funext fun a => ?_)
  match a with
  | ⟨0, _⟩ => rfl
  | ⟨1, _⟩ => exact Fin.ext (show 1536 + 1 * n.val = 1536 + n.val by omega)

variable (a0 : Bf (F := Ideal) c M0) (a1 : Bf (F := Ideal) c M1) (a2 : Bf (F := Ideal) c M2)
  (a3 : Bf (F := Ideal) c M3) (a4 : Bf (F := Ideal) c M4)
  (s20 : Bf (F := Ideal) c M20) (s21 : Bf (F := Ideal) c M21) (s22 : Bf (F := Ideal) c M22) (s24 : Bf (F := Ideal) c M24)

theorem padded_val (r : Fin 4) (k : Fin 2048) :
    kernelRun.sl.v372_r0 c a0 a1 a2 s20 s21 s22 (ix2 (r.castLE (by decide)) k)
      = Cert.ReferenceIdeal.Gen.k0_pay11 (Cert.ReferenceIdeal.Gen.k0_pay6 a0 a1 a2)
        (Cert.ReferenceIdeal.Gen.k0_pay7 a0 a1 a2) (Cert.ReferenceIdeal.Gen.k0_pay8 a0 a1 a2) (ix2 r k) := by
  unfold kernelRun.sl.v372_r0 kernelRun.sl.Hs40_1
  rw [View.readCov_full, Cert.Quant.padded_codes]
  unfold kernelRun.sl.v226_r0 kernelRun.sl.v305_r0 kernelRun.sl.v303_r0 kernelRun.sl.v297_r0
    kernelRun.sl.v260_r0 kernelRun.sl.v258_r0 kernelRun.sl.v252_r0 kernelRun.sl.v233_r0 kernelRun.sl.v231_r0
    kernelRun.sl.v217_r0 kernelRun.sl.v210_r0
  rw [rows_eq, gain_eq, shift_eq]
  exact congrFun (Cert.Quant.codes_eq a0 a1 a2) _

theorem chunk_val (r : Fin 4) (n : Fin 768) :
    kernelRun.sl.v469_r0 c a0 a1 a2 a3 a4 s20 s21 s22 s24 (ix2 r n)
      = refProj a0 a1 a2 a3 a4 (ix2 r ⟨1536 + n.val, by omega⟩) := by
  unfold kernelRun.sl.v469_r0
  unfold refProj
  rw [Cert.Quant.proj_chunk, Cert.Quant.proj_ref, scale_val, chunk_scale]
  simp only [padded_val, chunk_weight]

/-! ### The new value -/

theorem value_cols : kernelRun.sl.v544_r0 c a0 a1 a2 a3 a4 s20 s21 s22 s24
    = extractStridedSlice Cert.ReferenceIdeal.S4x128 ![0, 2176] (refProj a0 a1 a2 a3 a4)
        Cert.ReferenceIdeal.Gen.slices_S4x13568_o0_2176_S4x128 := by
  unfold kernelRun.sl.v544_r0 kernelRun.sl.Hs42_18
  refine (View.readCov_cons_toLoadRect _ _ _ _).trans ?_
  funext i
  obtain ⟨r, n, rfl⟩ : ∃ (r : Fin 4) (n : Fin 128), i = ix2 r n := ⟨i 0, i 1, (Cert.Quant.ix2_coords i).symm⟩
  unfold Gen.k0_pay49
  rw [shapeCast_self, extractStridedSlice_apply _ _ _ (ix2 r n) (ix2 r ⟨640 + n.val, by omega⟩) (by
      intro a
      match a with
      | ⟨0, _⟩ => exact (Nat.zero_add _).symm
      | ⟨1, _⟩ => rfl), chunk_val]
  refine (extractStridedSlice_apply _ _ _ (ix2 r n) _ ?_).symm
  intro a
  match a with
  | ⟨0, _⟩ => exact (Nat.zero_add _).symm
  | ⟨1, _⟩ => exact (show 1536 + (640 + n.val) = 2176 + n.val by omega)

theorem key_cols : kernelRun.sl.v543_r0 c a0 a1 a2 a3 a4 s20 s21 s22 s24
    = extractStridedSlice Cert.ReferenceIdeal.S4x128 ![0, 2048] (refProj a0 a1 a2 a3 a4)
        Cert.ReferenceIdeal.Gen.slices_S4x13568_o0_2048_S4x128 := by
  unfold kernelRun.sl.v543_r0 kernelRun.sl.Hs42_18
  refine (View.readCov_cons_of_disjoint _ _ _ _ (Rect.disjoint_of_axis _ _ 0 fun j₁ h₁ j₂ h₂ => by
      have h : j₂ < 4 := h₂
      show 136 + 1 * j₁ ≠ 128 + 1 * j₂
      omega)).trans ((View.readCov_cons_toLoadRect _ _ _ _).trans ?_)
  funext i
  obtain ⟨r, n, rfl⟩ : ∃ (r : Fin 4) (n : Fin 128), i = ix2 r n := ⟨i 0, i 1, (Cert.Quant.ix2_coords i).symm⟩
  unfold Gen.k0_pay48
  rw [shapeCast_self, extractStridedSlice_apply _ _ _ (ix2 r n) (ix2 r ⟨512 + n.val, by omega⟩) (by
      intro a
      match a with
      | ⟨0, _⟩ => exact (Nat.zero_add _).symm
      | ⟨1, _⟩ => rfl), chunk_val]
  refine (extractStridedSlice_apply _ _ _ (ix2 r n) _ ?_).symm
  intro a
  match a with
  | ⟨0, _⟩ => exact (Nat.zero_add _).symm
  | ⟨1, _⟩ => exact (show 1536 + (512 + n.val) = 2048 + n.val by omega)

theorem value_val (s37 : Bf (F := Ideal) c M37) : kernelRun.sl.dma142_3 c a0 a1 a2 a3 a4 s20 s21 s22 s24 s37
    = Cert.ReferenceIdeal.Gen.k0_pay25 (Cert.ReferenceIdeal.Gen.k0_pay16 (Cert.ReferenceIdeal.Gen.k0_pay6 a0 a1 a2)
        (Cert.ReferenceIdeal.Gen.k0_pay7 a0 a1 a2) (Cert.ReferenceIdeal.Gen.k0_pay8 a0 a1 a2) a3 a4) := by
  unfold kernelRun.sl.dma142_3 kernelRun.sl.Hs37_1
  refine (View.read_writes_full _ _ _ _ _).trans ?_
  unfold kernelRun.sl.v558_r0 Gen.k0_pay60
  rw [shapeCast_self, value_cols]
  rfl

/-! ### The new key -/

section Positions
variable (a10 : Bf (F := Ideal) c M10) (s30 : Bf (F := Ideal) c M30)
theorem pos_0 : kernelRun.sl.v513_r0 c a10 s30 = a10 (ix1 0) := by
  unfold kernelRun.sl.v513_r0
  rw [View.readAt_apply, View.read_write_univ]
  exact congrArg a10 (funext fun a => match a with | ⟨0, _⟩ => rfl)
theorem pos_1 : kernelRun.sl.v519_r0 c a10 s30 = a10 (ix1 1) := by
  unfold kernelRun.sl.v519_r0
  rw [View.readAt_apply, View.read_write_univ]
  exact congrArg a10 (funext fun a => match a with | ⟨0, _⟩ => rfl)
theorem pos_2 : kernelRun.sl.v525_r0 c a10 s30 = a10 (ix1 2) := by
  unfold kernelRun.sl.v525_r0
  rw [View.readAt_apply, View.read_write_univ]
  exact congrArg a10 (funext fun a => match a with | ⟨0, _⟩ => rfl)
theorem pos_3 : kernelRun.sl.v531_r0 c a10 s30 = a10 (ix1 3) := by
  unfold kernelRun.sl.v531_r0
  rw [View.readAt_apply, View.read_write_univ]
  exact congrArg a10 (funext fun a => match a with | ⟨0, _⟩ => rfl)
end Positions

theorem key_val (a10 : Bf (F := Ideal) c M10) (s30 : Bf (F := Ideal) c M30) (s36 : Bf (F := Ideal) c M36)
    (pos : Cert.ReferenceIdeal.S4x1.Idx → Elt Ideal .i32) (hp : ∀ r : Fin 4, pos (ix2 r 0) = a10 (ix1 r)) :
    kernelRun.sl.dma142_2 c a0 a1 a2 a3 a4 a10 s20 s21 s22 s24 s30 s36
    = Cert.ReferenceIdeal.Gen.k0_pay24 (Cert.ReferenceIdeal.Gen.k0_pay15 (Cert.ReferenceIdeal.Gen.k0_pay6 a0 a1 a2)
        (Cert.ReferenceIdeal.Gen.k0_pay7 a0 a1 a2) (Cert.ReferenceIdeal.Gen.k0_pay8 a0 a1 a2) a3 a4)
        Cert.ReferenceIdeal.Gen.k0_pay19 Cert.ReferenceIdeal.Gen.k0_pay20 pos := by
  unfold kernelRun.sl.dma142_2 kernelRun.sl.Hs36_1
  refine (View.read_writes_full _ _ _ _ _).trans ?_
  unfold kernelRun.sl.v516_r0 kernelRun.sl.v520_r0 kernelRun.sl.v494_r0 kernelRun.sl.v495_r0
  rw [pos_0, pos_1, pos_2, pos_3, key_cols]
  exact Cert.Quant.key_eq (fun r => a10 (ix1 r)) _ pos hp

/-- The new key and the new value of a run are the reference's, of the rows, the weights and the positions it was
given. -/
def KeyP (x : S4x2048.Idx → Elt Ideal .bf16) (g b : S1x2048.Idx → Elt Ideal .f32)
    (w : S2048x13568.Idx → Elt Ideal .fp8e4m3) (s : S1x13568.Idx → Elt Ideal .f32)
    (pos : Cert.ReferenceIdeal.S4x1.Idx → Elt Ideal .i32) (o : Outs Ideal c) : Prop :=
  o.x16 = Cert.ReferenceIdeal.Gen.k0_pay24 (Cert.ReferenceIdeal.Gen.k0_pay15 (Cert.ReferenceIdeal.Gen.k0_pay6 x g b) (Cert.ReferenceIdeal.Gen.k0_pay7 x g b)
        (Cert.ReferenceIdeal.Gen.k0_pay8 x g b) w s) Cert.ReferenceIdeal.Gen.k0_pay19 Cert.ReferenceIdeal.Gen.k0_pay20 pos
  ∧ o.x17 = Cert.ReferenceIdeal.Gen.k0_pay25 (Cert.ReferenceIdeal.Gen.k0_pay16 (Cert.ReferenceIdeal.Gen.k0_pay6 x g b) (Cert.ReferenceIdeal.Gen.k0_pay7 x g b)
        (Cert.ReferenceIdeal.Gen.k0_pay8 x g b) w s)

variable (a5 : Bf (F := Ideal) c M5) (a6 : Bf (F := Ideal) c M6) (a7 : Bf (F := Ideal) c M7) (a8 : Bf (F := Ideal) c M8) (a9 : Bf (F := Ideal) c M9) (a10 : Bf (F := Ideal) c M10) (r11 : Bf (F := Ideal) c M11) (r12 : Bf (F := Ideal) c M12) (r13 : Bf (F := Ideal) c M13) (r14 : Bf (F := Ideal) c M14) (r15 : Bf (F := Ideal) c M15) (r16 : Bf (F := Ideal) c M16) (r17 : Bf (F := Ideal) c M17) (r18 : Bf (F := Ideal) c M18) (r19 : Bf (F := Ideal) c M19) (s23 : Bf (F := Ideal) c M23) (s25 : Bf (F := Ideal) c M25) (s26 : Bf (F := Ideal) c M26) (s27 : Bf (F := Ideal) c M27) (s28 : Bf (F := Ideal) c M28) (s29 : Bf (F := Ideal) c M29) (s30 : Bf (F := Ideal) c M30) (s31 : Bf (F := Ideal) c M31) (s32 : Bf (F := Ideal) c M32) (s33 : Bf (F := Ideal) c M33) (s34 : Bf (F := Ideal) c M34) (s35 : Bf (F := Ideal) c M35) (s36 : Bf (F := Ideal) c M36) (s37 : Bf (F := Ideal) c M37) (s38 : Bf (F := Ideal) c M38) (s39 : Bf (F := Ideal) c M39) (s40 : Bf (F := Ideal) c M40) (s41 : Bf (F := Ideal) c M41) (s42 : Bf (F := Ideal) c M42) (s43 : Bf (F := Ideal) c M43) (s44 : Bf (F := Ideal) c M44)
theorem key_run (pos : Cert.ReferenceIdeal.S4x1.Idx → Elt Ideal .i32) (hp : ∀ r : Fin 4, pos (ix2 r 0) = a10 (ix1 r)) :
    KeyP c a0 a1 a2 a3 a4 pos (kernelRun c a0 a1 a2 a3 a4 a5 a6 a7 a8 a9 a10 r11 r12 r13 r14 r15 r16 r17 r18 r19 s20 s21 s22 s23 s24 s25 s26 s27 s28 s29 s30 s31 s32 s33 s34 s35 s36 s37 s38 s39 s40 s41 s42 s43 s44).1 :=
  ⟨(View.read_write_univ (v := M16.view) r16 _).trans (key_val c a0 a1 a2 a3 a4 s20 s21 s22 s24 a10 s30 s36 pos hp),
   (View.read_write_univ (v := M17.view) r17 _).trans (value_val c a0 a1 a2 a3 a4 s20 s21 s22 s24 s37)⟩

end Cert.KernelIdeal.Hand
-- ==== Proof.ProjRunIdeal.lean ====
/-
  What the kernel's run leaves in its projection: three chunks stored before the first
  loop, then a gate tile and an up tile a trip, each being the reference's columns.
-/
module

public import proofs.«01_k».proof.Proof.KeyIdeal
public import Idealize.ShloMosaic.Lib.VecWindow

@[expose] public section

noncomputable section

namespace Cert.KernelIdeal.Hand

open Cert.KernelIdeal Idealize.ShloMosaic Idealize.ShloMosaic.TcCoe Idealize.SL.Sem Idealize.ShloMosaic.ValueIdx

/-! ### A window of columns put over an array -/

section Put
variable {α : Type} {M N W o : ℕ} (x : (⟨2, ![M, N]⟩ : Shape).Idx → α) (w : (⟨2, ![M, W]⟩ : Shape).Idx → α)

/-- Inside the window the array has the window's value. -/
theorem put_cols_in (r : Fin M) (n : Fin W) (h : o + n.val < N) :
    VecWindow.put (s := ⟨2, ![M, N]⟩) x ![0, o] ![M, W] w (ix2 r ⟨o + n.val, h⟩) = w (ix2 r n) := by
  unfold VecWindow.put
  rw [dif_pos (fun a => match a with
    | ⟨0, _⟩ => ⟨Nat.zero_le _, by show r.val < 0 + M; have := r.isLt; omega⟩
    | ⟨1, _⟩ => ⟨by show o ≤ o + n.val; omega, by show o + n.val < o + W; have := n.isLt; omega⟩)]
  refine congrArg w (funext fun a => ?_)
  match a with
  | ⟨0, _⟩ => exact Fin.ext (show r.val - 0 = r.val from rfl)
  | ⟨1, _⟩ => exact Fin.ext (show o + n.val - o = n.val by omega)

/-- Outside the window it is unchanged. -/
theorem put_cols_out (r : Fin M) (n : Fin N) (h : n.val < o ∨ o + W ≤ n.val) :
    VecWindow.put (s := ⟨2, ![M, N]⟩) x ![0, o] ![M, W] w (ix2 r n) = x (ix2 r n) := by
  unfold VecWindow.put
  refine dif_neg fun hall => ?_
  have h1 := hall ⟨1, Nat.lt_succ_self 1⟩
  have h2 : o ≤ n.val ∧ n.val < o + W := h1
  omega

end Put

/-- A column inside a window is one of the window's. -/
theorem col_split {N W : ℕ} (n : Fin N) (o : ℕ) (h1 : o ≤ n.val) (h2 : n.val < o + W) :
    ∃ (j : Fin W) (hj : o + j.val < N), n = ⟨o + j.val, hj⟩ :=
  ⟨⟨n.val - o, by omega⟩, by have := n.isLt; show o + (n.val - o) < N; omega, Fin.ext (by show n.val = o + (n.val - o); omega)⟩

/-- A store over a window of columns, read inside the window. -/
theorem writes_cols_in {sig : RefSig} {κ : Kind} {sp : Space} {e : EltTy} {Val : EltTy → Type} {M N W o : ℕ}
    (v : View sig κ sp ⟨2, ![M, N]⟩ e) (f : v.ty.Contents Val) {off : Fin 2 → ℕ} (inb) (w : (⟨2, ![M, W]⟩ : Shape).Idx → Val e)
    (L : List (View.Piece Val ⟨2, ![M, N]⟩ e)) (h : off = ![0, o]) (r : Fin M) (n : Fin W) (hn : o + n.val < N) :
    v.read Val (v.writes Val f (⟨Rect.unit (s := ⟨2, ![M, N]⟩) off ![M, W] inb, w⟩ :: L)) (ix2 r ⟨o + n.val, hn⟩) = w (ix2 r n) :=
  (congrFun (View.read_writes_cons_put v f inb w L h) _).trans (put_cols_in _ w r n hn)

/-- A store over a window of columns, read outside the window. -/
theorem writes_cols_out {sig : RefSig} {κ : Kind} {sp : Space} {e : EltTy} {Val : EltTy → Type} {M N W o : ℕ}
    (v : View sig κ sp ⟨2, ![M, N]⟩ e) (f : v.ty.Contents Val) {off : Fin 2 → ℕ} (inb) (w : (⟨2, ![M, W]⟩ : Shape).Idx → Val e)
    (L : List (View.Piece Val ⟨2, ![M, N]⟩ e)) (h : off = ![0, o]) (r : Fin M) (n : Fin N) (hn : n.val < o ∨ o + W ≤ n.val) :
    v.read Val (v.writes Val f (⟨Rect.unit (s := ⟨2, ![M, N]⟩) off ![M, W] inb, w⟩ :: L)) (ix2 r n) = v.read Val (v.writes Val f L) (ix2 r n) :=
  (congrFun (View.read_writes_cons_put v f inb w L h) _).trans (put_cols_out _ w r n hn)

/-! ### A tile of the projection -/

theorem gate_tile (e : FVec Ideal S4x1 .f32) (q : Vec Ideal S32x2048 .fp8e4m3) (w : Vec Ideal S2048x512 .fp8e4m3)
    (s : Vec Ideal S1x512 .f32) (r : Fin 4) (n : Fin 512) :
    Gen.k0_pay2 e q w s (ix2 r n)
      = (∑ k : Fin 2048, q (ix2 (r.castLE (by decide)) k) * w (ix2 k n)) * e (ix2 r 0) * s (ix2 0 n) := by
  unfold Gen.k0_pay2 Gen.k0_pay1
  rw [shapeCast_self]
  show extractStridedSlice S4x512 ![0, 0] (matmul (DotDims.plain 32 2048 512) none q w (constant S32x512 .f32 0x00000000#32))
        Gen.slices_S32x512_o0_0_S4x512 (ix2 r n)
      * broadcastTo S4x512 e Gen.broadcasts_S4x1_S4x512 (ix2 r n)
      * broadcastTo S4x512 s Gen.broadcasts_S1x512_S4x512 (ix2 r n) = _
  rw [Cert.Quant.col_apply, Cert.Quant.row_apply, extractStridedSlice_apply _ _ _ (ix2 r n) (ix2 (r.castLE (by decide)) n) (by
    intro a
    match a with
    | ⟨0, _⟩ => exact (Nat.zero_add _).symm
    | ⟨1, _⟩ => exact (Nat.zero_add _).symm)]
  refine congrArg (· * _ * _) ((Ideal.matmul_plain_apply none q w _ _ n).trans ?_)
  rw [Cert.Quant.zero_acc, zero_add]

theorem up_tile (e : FVec Ideal S4x1 .f32) (q : Vec Ideal S32x2048 .fp8e4m3) (w : Vec Ideal S2048x512 .fp8e4m3)
    (s : Vec Ideal S1x512 .f32) : Gen.k0_pay98 e q w s = Gen.k0_pay2 e q w s := rfl

variable (c : Dev nD)

/-! ### A trip's operands -/

section Trip
variable (a3 : Bf (F := Ideal) c M3) (f24 : Bf (F := Ideal) c M24) (t : Fin k0_t1_loop.trips)

theorem trip_lt (t : Fin k0_t1_loop.trips) : t.val < 11 := (t11 t).isLt

theorem gate_weight (k : Fin 2048) (n : Fin 512) :
    tripRun1.sl.v1094_r0 c a3 t (ix2 k n) = a3 (ix2 k ⟨2304 + 512 * t.val + n.val, by have := trip_lt t; have := n.isLt; omega⟩) := by
  have e : tripRun1.sl.v1094_r0 c a3 t = View.read (Elt Ideal) (gH (t11 t)).view a3 := by
    unfold tripRun1.sl.v1094_r0
    rw [View.readAt_unit M23.view _ _ (off3g_eq t) (gOff_inb (t11 t))]
    exact View.read_writes_full (gV (t11 t)).view _ _ _ _
  rw [e]
  refine congrArg a3 (funext fun a => ?_)
  match a with
  | ⟨0, _⟩ => exact Fin.ext (show 0 + 1 * k.val = k.val by omega)
  | ⟨1, _⟩ => exact Fin.ext (show 2304 + 512 * t.val + 1 * n.val = 2304 + 512 * t.val + n.val by omega)

theorem up_weight (k : Fin 2048) (n : Fin 512) :
    tripRun1.sl.v1114_r0 c a3 t (ix2 k n) = a3 (ix2 k ⟨7936 + 512 * t.val + n.val, by have := trip_lt t; have := n.isLt; omega⟩) := by
  have e : tripRun1.sl.v1114_r0 c a3 t = View.read (Elt Ideal) (uH (t11 t)).view a3 := by
    unfold tripRun1.sl.v1114_r0
    rw [View.readAt_unit M23.view _ _ (off3u_eq t) (uOff_inb (t11 t))]
    exact View.read_writes_full (uV (t11 t)).view _ _ _ _
  rw [e]
  refine congrArg a3 (funext fun a => ?_)
  match a with
  | ⟨0, _⟩ => exact Fin.ext (show 0 + 1 * k.val = k.val by omega)
  | ⟨1, _⟩ => exact Fin.ext (show 7936 + 512 * t.val + 1 * n.val = 7936 + 512 * t.val + n.val by omega)

theorem tile_scale {off : Fin 2 → ℕ} (o : ℕ) (e : off = ![0, o]) (inb) (n : Fin 512) (h : o + n.val < 13568) :
    View.readAt (Elt Ideal) M24.view (Rect.unit (s := S1x13568) off S1x512.size inb).toLoadRect f24 (ix2 0 n)
      = f24 (ix2 0 ⟨o + n.val, h⟩) := by
  subst e
  refine congrArg f24 (funext fun a => ?_)
  match a with
  | ⟨0, _⟩ => rfl
  | ⟨1, _⟩ => exact Fin.ext (show o + 1 * n.val = o + n.val by omega)

end Trip

/-! ### The first loop's projection -/

/-- The projection's column, of the padded codes and the scales the loop reads. -/
def colVal (w : S2048x13568.Idx → Elt Ideal .fp8e4m3) (q : S32x2048.Idx → Elt Ideal .fp8e4m3) (s : S1x13568.Idx → Elt Ideal .f32)
    (e : FVec Ideal S4x1 .f32) (r : Fin 4) (n : Fin 13568) : Ideal .f32 :=
  (∑ k : Fin 2048, q (ix2 (r.castLE (by decide)) k) * w (ix2 k n)) * e (ix2 r 0) * s (ix2 0 n)

section Loop
variable (a3 : Bf (F := Ideal) c M3) (s3 : Bf (F := Ideal) c M23) (f40 : Bf (F := Ideal) c M40) (f24 : Bf (F := Ideal) c M24)
  (e : FVec Ideal S4x1 .f32) (v872 : Vec Ideal S4x128 .f32)

theorem rows_whole : View.readAt (Elt Ideal) M40.view (Rect.unit (s := S32x2048) ![0, 0] S32x2048.size Gen.inb_S32x2048_S32x2048_0_0).toLoadRect f40 = f40 :=
  View.readAt_full _ _ _

theorem gate_val (t : Fin k0_t1_loop.trips) (inb) (r : Fin 4) (n : Fin 512) :
    Gen.k0_pay2 e (View.readAt (Elt Ideal) M40.view (Rect.unit (s := S32x2048) ![0, 0] S32x2048.size Gen.inb_S32x2048_S32x2048_0_0).toLoadRect f40)
        (tripRun1.sl.v1094_r0 c a3 t)
        (View.readAt (Elt Ideal) M24.view (Rect.unit (s := S1x13568) (k0_off4 t 2304#32) S1x512.size inb).toLoadRect f24) (ix2 r n)
      = colVal a3 f40 f24 e r ⟨2304 + 512 * t.val + n.val, by have := trip_lt t; have := n.isLt; omega⟩ := by
  rw [gate_tile, rows_whole, tile_scale c f24 _ (off4g_eq t)]
  simp only [gate_weight]
  rfl

theorem up_val (t : Fin k0_t1_loop.trips) (inb) (r : Fin 4) (n : Fin 512) :
    Gen.k0_pay98 e (View.readAt (Elt Ideal) M40.view (Rect.unit (s := S32x2048) ![0, 0] S32x2048.size Gen.inb_S32x2048_S32x2048_0_0).toLoadRect f40)
        (tripRun1.sl.v1114_r0 c a3 t)
        (View.readAt (Elt Ideal) M24.view (Rect.unit (s := S1x13568) (k0_off4 t 7936#32) S1x512.size inb).toLoadRect f24) (ix2 r n)
      = colVal a3 f40 f24 e r ⟨7936 + 512 * t.val + n.val, by have := trip_lt t; have := n.isLt; omega⟩ := by
  rw [up_tile, gate_tile, rows_whole, tile_scale c f24 _ (off4u_eq t)]
  simp only [up_weight]
  rfl

theorem read32 (f : Bf (F := Ideal) c M32) : View.read (Elt Ideal) M32.view f = f := rfl

theorem trip_proj (t : Fin k0_t1_loop.trips) (o : Bf (F := Ideal) c M32) (r : Fin 4) (n : Fin 13568) :
    (tripRun1 c a3 s3 f40 f24 e v872 t).1.1 o (ix2 r n)
      = if (2304 + 512 * t.val ≤ n.val ∧ n.val < 2304 + 512 * t.val + 512) ∨ (7936 + 512 * t.val ≤ n.val ∧ n.val < 7936 + 512 * t.val + 512)
        then colVal a3 f40 f24 e r n else o (ix2 r n) := by
  have ht := (t11 t).isLt
  have ht' : (t11 t).val = t.val := rfl
  unfold tripRun1
  dsimp only
  refine (congrFun (read32 c _).symm (ix2 r n)).trans ?_
  by_cases hu : 7936 + 512 * t.val ≤ n.val ∧ n.val < 7936 + 512 * t.val + 512
  · rw [if_pos (.inr hu)]
    obtain ⟨j, hj, rfl⟩ := col_split (W := 512) n (7936 + 512 * t.val) (by omega) (by omega)
    exact (writes_cols_in (M := 4) (N := 13568) (W := 512) M32.view o _ _ _ (off5u_eq t) r j _).trans (up_val c a3 f40 f24 e t _ r j)
  · refine (writes_cols_out (M := 4) (N := 13568) (W := 512) M32.view o _ _ _ (off5u_eq t) r n (by show n.val < 7936 + 512 * t.val ∨ 7936 + 512 * t.val + 512 ≤ n.val; omega)).trans ?_
    by_cases hg : 2304 + 512 * t.val ≤ n.val ∧ n.val < 2304 + 512 * t.val + 512
    · rw [if_pos (.inl hg)]
      obtain ⟨j, hj, rfl⟩ := col_split (W := 512) n (2304 + 512 * t.val) (by omega) (by omega)
      exact (writes_cols_in (M := 4) (N := 13568) (W := 512) M32.view o _ _ _ (off5g_eq t) r j _).trans (gate_val c a3 f40 f24 e t _ r j)
    · rw [if_neg (not_or.mpr ⟨hg, hu⟩)]
      exact (writes_cols_out (M := 4) (N := 13568) (W := 512) M32.view o _ _ _ (off5g_eq t) r n (by show n.val < 2304 + 512 * t.val ∨ 2304 + 512 * t.val + 512 ≤ n.val; omega)).trans (congrFun (read32 c o) _)

theorem loop_proj (o : Bf (F := Ideal) c M32) (ho : ∀ (r : Fin 4) (n : Fin 13568), n.val < 2304 → o (ix2 r n) = colVal a3 f40 f24 e r n) (k : ℕ) (hk : k ≤ 11) (r : Fin 4) (n : Fin 13568)
    (hn : n.val < 2304 + 512 * k ∨ 7936 ≤ n.val ∧ n.val < 7936 + 512 * k) :
    acc32 c a3 s3 f40 f24 e v872 o k (ix2 r n) = colVal a3 f40 f24 e r n := by
  induction k with
  | zero => exact ho r n (by omega)
  | succ k ih =>
    have hlt : k < k0_t1_loop.trips := trips1.symm ▸ (show k < 11 by omega)
    rw [acc32, dif_pos hlt, trip_proj]
    split
    · rfl
    · rename_i hnot
      have hnot' : ¬ ((2304 + 512 * k ≤ n.val ∧ n.val < 2304 + 512 * k + 512) ∨ (7936 + 512 * k ≤ n.val ∧ n.val < 7936 + 512 * k + 512)) := hnot
      exact ih (by omega) (by omega)

end Loop

/-! ### The three chunks before the loop -/

variable (a0 : Bf (F := Ideal) c M0) (a1 : Bf (F := Ideal) c M1) (a2 : Bf (F := Ideal) c M2)
  (a3 : Bf (F := Ideal) c M3) (a4 : Bf (F := Ideal) c M4)
  (s20 : Bf (F := Ideal) c M20) (s21 : Bf (F := Ideal) c M21) (s22 : Bf (F := Ideal) c M22) (s24 : Bf (F := Ideal) c M24)

theorem chunk0_weight (k : Fin 2048) (n : Fin 768) :
    kernelRun.sl.v373_r0 c a3 (ix2 k n) = a3 (ix2 k ⟨0 + n.val, by omega⟩) := by
  have e : kernelRun.sl.v373_r0 c a3 = kernelRun.sl.dma0_7 c a3 := by
    unfold kernelRun.sl.v373_r0
    exact View.read_writes_full (qV 0).view _ _ _ _
  rw [e]
  refine congrArg a3 (funext fun a => ?_)
  match a with
  | ⟨0, _⟩ => exact Fin.ext (show 0 + 1 * k.val = k.val by omega)
  | ⟨1, _⟩ => exact Fin.ext (show 0 + 1 * n.val = 0 + n.val by omega)

theorem chunk1_weight (k : Fin 2048) (n : Fin 768) :
    kernelRun.sl.v415_r0 c a3 (ix2 k n) = a3 (ix2 k ⟨768 + n.val, by omega⟩) := by
  have e : kernelRun.sl.v415_r0 c a3 = kernelRun.sl.dma0_8 c a3 := by
    unfold kernelRun.sl.v415_r0
    exact View.read_writes_full (qV 1).view _ _ _ _
  rw [e]
  refine congrArg a3 (funext fun a => ?_)
  match a with
  | ⟨0, _⟩ => exact Fin.ext (show 0 + 1 * k.val = k.val by omega)
  | ⟨1, _⟩ => exact Fin.ext (show 768 + 1 * n.val = 768 + n.val by omega)

theorem chunk_scale_at (o : ℕ) (inb) (n : Fin 768) (h : o + n.val < 13568) :
    View.readAt (Elt Ideal) M24.view (Rect.unit (s := S1x13568) ![0, o] S1x768.size inb).toLoadRect
      (View.write (Elt Ideal) M24.view s24 (kernelRun.sl.dma0_5 c a4) Finset.univ) (ix2 0 n)
      = a4 (ix2 0 ⟨o + n.val, h⟩) := by
  rw [View.readAt_apply, View.read_write_univ]
  refine congrArg a4 (funext fun a => ?_)
  match a with
  | ⟨0, _⟩ => rfl
  | ⟨1, _⟩ => exact Fin.ext (show o + 1 * n.val = o + n.val by omega)

theorem chunk0_val (r : Fin 4) (n : Fin 768) :
    kernelRun.sl.v380_r0 c a0 a1 a2 a3 a4 s20 s21 s22 s24 (ix2 r n)
      = refProj a0 a1 a2 a3 a4 (ix2 r ⟨0 + n.val, by omega⟩) := by
  unfold kernelRun.sl.v380_r0 refProj
  refine (Cert.Quant.proj_chunk _ _ _ _ r n).trans ?_
  rw [Cert.Quant.proj_ref, scale_val, chunk_scale_at c a4 s24 0 _ n (by omega)]
  simp only [padded_val, chunk0_weight]

theorem chunk1_val (r : Fin 4) (n : Fin 768) :
    Gen.k0_pay43 (kernelRun.sl.v317_r0 c a0 a1 a2 s20 s21 s22) (kernelRun.sl.v372_r0 c a0 a1 a2 s20 s21 s22) (kernelRun.sl.v415_r0 c a3)
      (View.readAt (Elt Ideal) M24.view (Rect.unit (s := S1x13568) ![0, 768] S1x768.size Gen.inb_S1x13568_S1x768_0_768).toLoadRect
        (View.write (Elt Ideal) M24.view s24 (kernelRun.sl.dma0_5 c a4) Finset.univ)) (ix2 r n)
      = refProj a0 a1 a2 a3 a4 (ix2 r ⟨768 + n.val, by omega⟩) := by
  unfold refProj
  rw [Cert.Quant.proj_chunk, Cert.Quant.proj_ref, scale_val, chunk_scale_at c a4 s24 768 _ n (by omega)]
  simp only [padded_val, chunk1_weight]

theorem chunks_proj (s32 : Bf (F := Ideal) c M32) (r : Fin 4) (n : Fin 13568) (hn : n.val < 2304) :
    M32.view.writes (Elt Ideal) s32 (kernelRun.sl.Hs32_3 c a0 a1 a2 a3 a4 s20 s21 s22 s24) (ix2 r n) = refProj a0 a1 a2 a3 a4 (ix2 r n) := by
  unfold kernelRun.sl.Hs32_3 kernelRun.sl.Hs32_2 kernelRun.sl.Hs32_1
  refine (congrFun (read32 c _).symm (ix2 r n)).trans ?_
  by_cases h2 : 1536 ≤ n.val
  · obtain ⟨j, hj, rfl⟩ := col_split (W := 768) n (1536) (by omega) (by omega)
    refine (writes_cols_in (M := 4) (N := 13568) (W := 768) (o := 1536) M32.view s32 _ _ _ rfl r j _).trans ?_
    unfold Gen.k0_pay42
    rw [shapeCast_self]
    exact chunk_val c a0 a1 a2 a3 a4 s20 s21 s22 s24 r j
  refine (writes_cols_out (M := 4) (N := 13568) (W := 768) (o := 1536) M32.view s32 _ _ _ rfl r n (.inl (by omega))).trans ?_
  by_cases h1 : 768 ≤ n.val
  · obtain ⟨j, hj, rfl⟩ := col_split (W := 768) n (768) (by omega) (by omega)
    refine (writes_cols_in (M := 4) (N := 13568) (W := 768) (o := 768) M32.view s32 _ _ _ rfl r j _).trans ?_
    unfold Gen.k0_pay32
    rw [shapeCast_self]
    exact chunk1_val c a0 a1 a2 a3 a4 s20 s21 s22 s24 r j
  refine (writes_cols_out (M := 4) (N := 13568) (W := 768) (o := 768) M32.view s32 _ _ _ rfl r n (.inl (by omega))).trans ?_
  obtain ⟨j, hj, rfl⟩ := col_split (W := 768) n (0) (by omega) (by omega)
  refine (writes_cols_in (M := 4) (N := 13568) (W := 768) (o := 0) M32.view s32 _ _ _ rfl r j _).trans ?_
  unfold Gen.k0_pay23
  rw [shapeCast_self]
  exact chunk0_val c a0 a1 a2 a3 a4 s20 s21 s22 s24 r j

/-! ### The projection -/

/-- The loop's column is the reference's. -/
theorem colVal_eq (r : Fin 4) (n : Fin 13568) :
    colVal a3 (M40.view.writes (Elt Ideal) M40.view.junk (kernelRun.sl.Hs40_1 c a0 a1 a2 s20 s21 s22))
      (View.write (Elt Ideal) M24.view s24 (kernelRun.sl.dma0_5 c a4) Finset.univ) (kernelRun.sl.v317_r0 c a0 a1 a2 s20 s21 s22) r n
      = refProj a0 a1 a2 a3 a4 (ix2 r n) := by
  have hq : ∀ k : Fin 2048, M40.view.writes (Elt Ideal) M40.view.junk (kernelRun.sl.Hs40_1 c a0 a1 a2 s20 s21 s22) (ix2 (r.castLE (by decide)) k)
      = Cert.ReferenceIdeal.Gen.k0_pay11 (Cert.ReferenceIdeal.Gen.k0_pay6 a0 a1 a2)
        (Cert.ReferenceIdeal.Gen.k0_pay7 a0 a1 a2) (Cert.ReferenceIdeal.Gen.k0_pay8 a0 a1 a2) (ix2 r k) := fun k => by
    rw [← padded_val c a0 a1 a2 s20 s21 s22 r k]
    unfold kernelRun.sl.v372_r0 View.readCov
    rw [rows_whole c]
  have hs : View.write (Elt Ideal) M24.view s24 (kernelRun.sl.dma0_5 c a4) Finset.univ (ix2 0 n) = a4 (ix2 0 n) := by
    rw [View.write_whole_univ]
    rfl
  unfold colVal refProj
  rw [Cert.Quant.proj_ref, hs, scale_val]
  simp only [hq]

variable (a7 : Bf (F := Ideal) c M7) (a8 : Bf (F := Ideal) c M8) (a9 : Bf (F := Ideal) c M9) (a10 : Bf (F := Ideal) c M10)
  (s23 : Bf (F := Ideal) c M23) (s27 : Bf (F := Ideal) c M27) (s28 : Bf (F := Ideal) c M28) (s29 : Bf (F := Ideal) c M29) (s30 : Bf (F := Ideal) c M30) (s32 : Bf (F := Ideal) c M32)

theorem proj_val : kernelRun.sl.dma0_20 c a0 a1 a2 a3 a4 a7 a8 a9 a10 s20 s21 s22 s23 s24 s27 s28 s29 s30 s32
    = refProj a0 a1 a2 a3 a4 := by
  funext i
  obtain ⟨r, n, rfl⟩ : ∃ (r : Fin 4) (n : Fin 13568), i = ix2 r n := ⟨i 0, i 1, (Cert.Quant.ix2_coords i).symm⟩
  unfold kernelRun.sl.dma0_20
  have hT : Scf.trips k0_t1_loop.lb k0_t1_loop.ub k0_t1_loop.st = 11 := trips1
  rw [hT]
  exact (loop_proj c a3 s23 _ _ _ _ _ (fun r n hn => (chunks_proj c a0 a1 a2 a3 a4 s20 s21 s22 s24 s32 r n hn).trans
      (colVal_eq c a0 a1 a2 a3 a4 s20 s21 s22 s24 r n).symm) 11 le_rfl r n (by have := n.isLt; omega)).trans
    (colVal_eq c a0 a1 a2 a3 a4 s20 s21 s22 s24 r n)

/-- The projection of a run is the reference's, of the rows and the weights it was given. -/
def ProjP (x : S4x2048.Idx → Elt Ideal .bf16) (g b : S1x2048.Idx → Elt Ideal .f32)
    (w : S2048x13568.Idx → Elt Ideal .fp8e4m3) (s : S1x13568.Idx → Elt Ideal .f32) (o : Outs Ideal c) : Prop :=
  o.x12 = Cert.ReferenceIdeal.Gen.k0_pay12 (Cert.ReferenceIdeal.Gen.k0_pay6 x g b) (Cert.ReferenceIdeal.Gen.k0_pay7 x g b)
        (Cert.ReferenceIdeal.Gen.k0_pay8 x g b) w s

variable (a5 : Bf (F := Ideal) c M5) (a6 : Bf (F := Ideal) c M6) (r11 : Bf (F := Ideal) c M11) (r12 : Bf (F := Ideal) c M12) (r13 : Bf (F := Ideal) c M13) (r14 : Bf (F := Ideal) c M14) (r15 : Bf (F := Ideal) c M15) (r16 : Bf (F := Ideal) c M16) (r17 : Bf (F := Ideal) c M17) (r18 : Bf (F := Ideal) c M18) (r19 : Bf (F := Ideal) c M19) (s25 : Bf (F := Ideal) c M25) (s26 : Bf (F := Ideal) c M26) (s31 : Bf (F := Ideal) c M31) (s33 : Bf (F := Ideal) c M33) (s34 : Bf (F := Ideal) c M34) (s35 : Bf (F := Ideal) c M35) (s36 : Bf (F := Ideal) c M36) (s37 : Bf (F := Ideal) c M37) (s38 : Bf (F := Ideal) c M38) (s39 : Bf (F := Ideal) c M39) (s40 : Bf (F := Ideal) c M40) (s41 : Bf (F := Ideal) c M41) (s42 : Bf (F := Ideal) c M42) (s43 : Bf (F := Ideal) c M43) (s44 : Bf (F := Ideal) c M44)
set_option maxRecDepth 40000 in
theorem proj_run : ProjP c a0 a1 a2 a3 a4 (kernelRun c a0 a1 a2 a3 a4 a5 a6 a7 a8 a9 a10 r11 r12 r13 r14 r15 r16 r17 r18 r19 s20 s21 s22 s23 s24 s25 s26 s27 s28 s29 s30 s31 s32 s33 s34 s35 s36 s37 s38 s39 s40 s41 s42 s43 s44).1 :=
  (View.read_write_univ (v := M12.view) r12 _).trans (proj_val c a0 a1 a2 a3 a4 s20 s21 s22 s24 a7 a8 a9 a10 s23 s27 s28 s29 s30 s32)

end Cert.KernelIdeal.Hand
-- ==== Proof.SoftIdeal.lean ====
/-
  One row of the attention: the kernel's head of one batch row and the reference's
  batched product are the same weighted mean of the cached values and the new one.
-/
module

public import proofs.«01_k».proof.Proof.RopeIdeal
public import Idealize.ShloMosaic.Lib.MatmulPlain
public import Idealize.ShloMosaic.Lib.Pointwise.Contract

@[expose] public section

noncomputable section

namespace Cert.Quant

open Idealize.ShloMosaic hiding ix1 ix2 ix3
open Idealize.ShloMosaic.ValueIdx

/-- The weighted mean of the values `v` and `w`, the weights the powers of two of the scores `s` and `e` less their
rounded-up maximum. -/
def soft (s v : Fin 2560 → EReal) (e w : EReal) : EReal :=
  let m := FloatOps.ceil (F := Ideal) (φ := .f32) (max ((Finset.univ : Finset (Fin 2560)).fold max (FloatOps.ofBits (F := Ideal) .f32 0xFF800000#32) s) e)
  FloatOps.divf (F := Ideal) (φ := .f32) ((∑ t, FloatOps.exp2 (F := Ideal) (φ := .f32) (s t - m) * v t) + FloatOps.exp2 (F := Ideal) (φ := .f32) (e - m) * w)
    ((∑ t, FloatOps.exp2 (F := Ideal) (φ := .f32) (s t - m)) + FloatOps.exp2 (F := Ideal) (φ := .f32) (e - m))

/-- The score of a cached position, in powers of two: the scaled product where the position is before the row's length,
the least value elsewhere. -/
def masked (t : Fin 2560) (len : BitVec 32) (x : EReal) : EReal :=
  Scalar.select (Scalar.cmpi .slt (BitVec.ofNat 32 (0 * 2560 + t.val)) len) (x * Ideal.ofBits .f32 0x3FB8AA3B#32)
    (Ideal.ofBits .f32 0xFF800000#32)

/-! ### Sums, maxima and columns of two- and three-axis arrays -/

section Two
variable {M N : ℕ}

theorem column {φ : FTy} (x : FVec Ideal ⟨1, ![M]⟩ φ) (hc : (⟨1, ![M]⟩ : Shape).ShapeCasts ⟨2, ![M, 1]⟩) (r : Fin M) :
    shapeCast ⟨2, ![M, 1]⟩ x hc (ix2 r 0) = x (ix1 r) := by
  refine shapeCast_apply _ _ _ (ix1 r) ?_
  rw [Shape.rowMajor_val_two, Shape.rowMajor_val_one]
  show r.val = r.val * 1 + 0
  omega

theorem sum_row (x : FVec Ideal ⟨2, ![M, N]⟩ .f32) (h : (⟨2, ![M, N]⟩ : Shape).Reduces [1] ⟨1, ![M]⟩) (hφ hacc) (r : Fin M) :
    multiReduction .add [1] ⟨1, ![M]⟩ x 0x00000000#32 h hφ hacc (ix1 r) = ∑ n : Fin N, x (ix2 r n) := by
  refine (Ideal.multiReduction_add_single x _ h hφ hacc (ix1 r)).trans ?_
  refine Finset.sum_congr rfl fun n _ => congrArg x (funext fun a => ?_)
  match a with
  | ⟨0, _⟩ => rfl
  | ⟨1, _⟩ => rfl

theorem max_row (x : FVec Ideal ⟨2, ![M, N]⟩ .f32) (h : (⟨2, ![M, N]⟩ : Shape).Reduces [1] ⟨1, ![M]⟩) (hφ hacc) (r : Fin M) :
    multiReduction .maximumf [1] ⟨1, ![M]⟩ x 0xFF800000#32 h hφ hacc (ix1 r)
      = (Finset.univ : Finset (Fin N)).fold max (FloatOps.ofBits (F := Ideal) .f32 0xFF800000#32) fun n => x (ix2 r n) := by
  refine (Ideal.multiReduction_maximumf_single x _ h hφ hacc (ix1 r)).trans ?_
  refine Finset.fold_congr fun n _ => congrArg x (funext fun a => ?_)
  match a with
  | ⟨0, _⟩ => rfl
  | ⟨1, _⟩ => rfl

end Two

section Three
variable {B M N : ℕ}

theorem column3 {φ : FTy} (x : FVec Ideal ⟨2, ![B, M]⟩ φ) (hc : (⟨2, ![B, M]⟩ : Shape).ShapeCasts ⟨3, ![B, M, 1]⟩) (b : Fin B) (r : Fin M) :
    shapeCast ⟨3, ![B, M, 1]⟩ x hc (ix3 b r 0) = x (ix2 b r) := by
  refine shapeCast_apply _ _ _ (ix2 b r) ?_
  rw [Shape.rowMajor_val_two, Shape.rowMajor_val_three]
  show b.val * M + r.val = (b.val * M + r.val) * 1 + 0
  omega

theorem sum_row3 (x : FVec Ideal ⟨3, ![B, M, N]⟩ .f32) (h : (⟨3, ![B, M, N]⟩ : Shape).Reduces [2] ⟨2, ![B, M]⟩) (hφ hacc) (b : Fin B) (r : Fin M) :
    multiReduction .add [2] ⟨2, ![B, M]⟩ x 0x00000000#32 h hφ hacc (ix2 b r) = ∑ n : Fin N, x (ix3 b r n) := by
  refine (Ideal.multiReduction_add_single x _ h hφ hacc (ix2 b r)).trans ?_
  refine Finset.sum_congr rfl fun n _ => congrArg x (funext fun a => ?_)
  match a with
  | ⟨0, _⟩ => rfl
  | ⟨1, _⟩ => rfl
  | ⟨2, _⟩ => rfl

theorem max_row3 (x : FVec Ideal ⟨3, ![B, M, N]⟩ .f32) (h : (⟨3, ![B, M, N]⟩ : Shape).Reduces [2] ⟨2, ![B, M]⟩) (hφ hacc) (b : Fin B) (r : Fin M) :
    multiReduction .maximumf [2] ⟨2, ![B, M]⟩ x 0xFF800000#32 h hφ hacc (ix2 b r)
      = (Finset.univ : Finset (Fin N)).fold max (FloatOps.ofBits (F := Ideal) .f32 0xFF800000#32) fun n => x (ix3 b r n) := by
  refine (Ideal.multiReduction_maximumf_single x _ h hφ hacc (ix2 b r)).trans ?_
  refine Finset.fold_congr fun n _ => congrArg x (funext fun a => ?_)
  match a with
  | ⟨0, _⟩ => rfl
  | ⟨1, _⟩ => rfl
  | ⟨2, _⟩ => rfl

theorem col3_apply {φ : FTy} (v : FVec Ideal ⟨3, ![B, M, 1]⟩ φ) (hb : (⟨3, ![B, M, 1]⟩ : Shape).Broadcasts ⟨3, ![B, M, N]⟩)
    (b : Fin B) (r : Fin M) (n : Fin N) : broadcastTo ⟨3, ![B, M, N]⟩ v hb (ix3 b r n) = v (ix3 b r 0) :=
  broadcastTo_apply _ _ _ _ fun a => by
    match a with
    | ⟨0, _⟩ =>
      show b.val = if B = 1 then 0 else b.val
      split
      · have := b.isLt; omega
      · rfl
    | ⟨1, _⟩ =>
      show r.val = if M = 1 then 0 else r.val
      split
      · have := r.isLt; omega
      · rfl
    | ⟨2, _⟩ => rfl

/-- A row for every batch row, the same for all the heads. -/
theorem row3_apply {φ : FTy} (v : FVec Ideal ⟨2, ![B, N]⟩ φ) (hc : (⟨2, ![B, N]⟩ : Shape).ShapeCasts ⟨3, ![B, 1, N]⟩)
    (hb : (⟨3, ![B, 1, N]⟩ : Shape).Broadcasts ⟨3, ![B, M, N]⟩) (b : Fin B) (r : Fin M) (n : Fin N) :
    broadcastTo ⟨3, ![B, M, N]⟩ (shapeCast ⟨3, ![B, 1, N]⟩ v hc) hb (ix3 b r n) = v (ix2 b n) := by
  refine (broadcastTo_apply _ _ _ (ix3 b 0 n) fun a => ?_).trans (shapeCast_apply _ _ _ (ix2 b n) ?_)
  · match a with
    | ⟨0, _⟩ =>
      show b.val = if B = 1 then 0 else b.val
      split
      · have := b.isLt; omega
      · rfl
    | ⟨1, _⟩ => rfl
    | ⟨2, _⟩ =>
      show n.val = if N = 1 then 0 else n.val
      split
      · have := n.isLt; omega
      · rfl
  · rw [Shape.rowMajor_val_two, Shape.rowMajor_val_three]
    show b.val * N + n.val = (b.val * 1 + 0) * N + n.val
    rw [Nat.mul_one, Nat.add_zero]

/-- A batch row of a cache, its unit axis dropped. -/
theorem drop_unit {φ : FTy} (v : FVec Ideal ⟨3, ![1, M, N]⟩ φ) (hc : (⟨3, ![1, M, N]⟩ : Shape).ShapeCasts ⟨2, ![M, N]⟩) (r : Fin M) (n : Fin N) :
    shapeCast ⟨2, ![M, N]⟩ v hc (ix2 r n) = v (ix3 0 r n) := by
  refine shapeCast_apply _ _ _ (ix3 0 r n) ?_
  rw [Shape.rowMajor_val_two, Shape.rowMajor_val_three]
  show (0 * M + r.val) * N + n.val = r.val * N + n.val
  rw [Nat.zero_mul, Nat.zero_add]

end Three

section Kernel
open Cert.KernelIdeal Cert.KernelIdeal.Gen

variable (v566 : FVec Ideal S4x128 .f32) (v595 : FVec Ideal S16x1 .f32) (v602 : FVec Ideal S16x2560 .f32) (vc : Vec Ideal S1x2560x128 .fp8e5m2)
  (h : Fin 16)

theorem first_row (v : FVec Ideal S4x128 .f32) (n : Fin 128) :
    broadcastTo S16x128 (extractStridedSlice S1x128 ![0, 0] v slices_S4x128_o0_0_S1x128) broadcasts_S1x128_S16x128 (ix2 h n) = v (ix2 0 n) := by
  rw [row_apply]
  refine extractStridedSlice_apply _ _ _ (ix2 0 n) (ix2 0 n) fun a => ?_
  match a with
  | ⟨0, _⟩ => rfl
  | ⟨1, _⟩ => exact (Nat.zero_add _).symm

theorem mean_apply (d : Fin 128) :
    k0_pay66 v566 v595 v602 vc (ix2 h d)
      = soft (fun t => v602 (ix2 h t)) (fun t => vc (ix3 0 t d)) (v595 (ix2 h 0) * Ideal.ofBits .f32 0x3FB8AA3B#32) (v566 (ix2 0 d)) := by
  have em : ceil (maximumf (shapeCast S16x1 (multiReduction .maximumf [1] S16 v602 0xFF800000#32 reduces_S16x2560_S16 (.inl rfl) rfl) shapeCasts_S16_S16x1)
        (mulf v595 (broadcast S16x1 (Scalar.ofBits .f32 0x3FB8AA3B#32)))) (ix2 h 0)
      = FloatOps.ceil (F := Ideal) (φ := .f32) (max ((Finset.univ : Finset (Fin 2560)).fold max (FloatOps.ofBits (F := Ideal) .f32 0xFF800000#32)
          fun t => v602 (ix2 h t)) (v595 (ix2 h 0) * Ideal.ofBits .f32 0x3FB8AA3B#32)) :=
    congrArg (fun x => FloatOps.ceil (F := Ideal) (φ := .f32) (max x (v595 (ix2 h 0) * Ideal.ofBits .f32 0x3FB8AA3B#32)))
      ((column _ _ h).trans (max_row v602 _ _ _ h))
  unfold k0_pay66
  rw [shapeCast_self]
  dsimp only
  revert em
  generalize hm : ceil (maximumf (shapeCast S16x1 (multiReduction .maximumf [1] S16 v602 0xFF800000#32 reduces_S16x2560_S16 (.inl rfl) rfl) shapeCasts_S16_S16x1)
        (mulf v595 (broadcast S16x1 (Scalar.ofBits .f32 0x3FB8AA3B#32)))) = m
  intro em
  unfold soft
  rw [← em]
  have ep : ∀ t : Fin 2560, exp2 (subf v602 (broadcastTo S16x2560 m broadcasts_S16x1_S16x2560)) (ix2 h t)
      = FloatOps.exp2 (F := Ideal) (φ := .f32) (v602 (ix2 h t) - m (ix2 h 0)) := fun t =>
    congrArg (fun x => FloatOps.exp2 (F := Ideal) (φ := .f32) (v602 (ix2 h t) - x)) (col_apply m _ h t)
  refine congr (congrArg (FloatOps.divf (F := Ideal) (φ := .f32)) ?_) ?_
  · refine congr (congrArg (HAdd.hAdd (α := EReal)) ?_) ?_
    · refine (Ideal.matmul_plain_apply none _ _ _ h d).trans ?_
      rw [zero_acc, zero_add]
      exact Finset.sum_congr rfl fun t _ => congr (congrArg (HMul.hMul (α := EReal)) (ep t)) (drop_unit (φ := .fp8e5m2) vc _ t d)
    · exact congr (congrArg (HMul.hMul (α := EReal)) (col_apply _ _ h d)) (first_row h v566 d)
  · refine (col_apply _ _ h d).trans ?_
    refine congrArg (fun x : EReal => x + _) ((column _ _ h).trans ((sum_row _ _ _ _ h).trans ?_))
    exact Finset.sum_congr rfl fun t _ => ep t

/-- The head turned by the angles of the first batch row. -/
theorem turned_apply (v536 v542 : FVec Ideal S4x128 .f32) (q : Vec Ideal S16x128 .f32) (n m : Fin 128) (hm : m.val = (n.val + 64) % 128) :
    k0_pay63 v536 v542 q (ix2 h n) = q (ix2 h n) * v536 (ix2 0 n) + q (ix2 h m) * v542 (ix2 0 n) := by
  unfold k0_pay63
  refine congr (congrArg (HAdd.hAdd (α := EReal)) (congrArg (fun x : EReal => q (ix2 h n) * x) (first_row h v536 n)))
    (congr (congrArg (HMul.hMul (α := EReal)) ?_) (first_row h v542 n))
  refine dynamicRotate_apply (s := S16x128) 1 64#32 q _ (ix2 h n) (ix2 h m) fun b => ?_
  match b with
  | ⟨0, _⟩ => rfl
  | ⟨1, _⟩ => exact hm

theorem new_score (v536 v542 : FVec Ideal S4x128 .f32) (v553 : FVec Ideal S4x128 .fp8e5m2) (q : Vec Ideal S16x128 .f32) :
    k0_pay64 v536 v542 v553 q (ix2 h 0)
      = (∑ k : Fin 128, k0_pay63 v536 v542 q (ix2 h k) * v553 (ix2 0 k)) * Ideal.ofBits .f32 0x3DB504F3#32 := by
  unfold k0_pay64
  refine congrArg (fun x : EReal => x * Ideal.ofBits .f32 0x3DB504F3#32) ((column _ _ h).trans ((sum_row _ _ _ _ h).trans ?_))
  exact Finset.sum_congr rfl fun k _ => congrArg (fun x : EReal => k0_pay63 v536 v542 q (ix2 h k) * x) (first_row h (k0_pay61 v553) k)

theorem old_score (v536 v542 : FVec Ideal S4x128 .f32) (q : Vec Ideal S16x128 .f32) (kc : Vec Ideal S1x2560x128 .fp8e5m2) (len : Elt Ideal .i32)
    (t : Fin 2560) :
    k0_pay65 v536 v542 q kc len (ix2 h t)
      = masked t len ((∑ k : Fin 128, k0_pay63 v536 v542 q (ix2 h k) * kc (ix3 0 t k)) * Ideal.ofBits .f32 0x3DB504F3#32) := by
  have e : matmul dot_S16x128_S2560x128_S16x2560_1_1_0_0_n_n none (k0_pay63 v536 v542 q)
        (extf .bf16 (shapeCast S2560x128 kc shapeCasts_S1x2560x128_S2560x128 : FVec Ideal S2560x128 .fp8e5m2) bitsLt_fp8e5m2_bf16)
        (constant S16x2560 .f32 0x00000000#32) (ix2 h t)
      = ∑ k : Fin 128, k0_pay63 v536 v542 q (ix2 h k) * kc (ix3 0 t k) := by
    refine (Ideal.matmul_transposedRhs_apply none _ _ _ h t).trans ?_
    rw [zero_acc, zero_add]
    exact Finset.sum_congr rfl fun k _ => congrArg (fun x : EReal => k0_pay63 v536 v542 q (ix2 h k) * x) (drop_unit (φ := .fp8e5m2) kc _ t k)
  unfold k0_pay65
  rw [← e]
  rfl

end Kernel

section Reference
open Cert.ReferenceIdeal Cert.ReferenceIdeal.Gen

/-- A batched product of rows with rows. -/
theorem batch_rows (x : FVec Ideal S4x16x128 .bf16) (y : FVec Ideal S4x2560x128 .bf16) (b : Fin 4) (h : Fin 16) (t : Fin 2560) :
    matmul dot_S4x16x128_S4x2560x128_S4x16x2560_2_2_1_1_0_0 none x y (constant S4x16x2560 .f32 0x00000000#32) (ix3 b h t)
      = ∑ k : Fin 128, x (ix3 b h k) * y (ix3 b t k) := by
  refine (Ideal.matmul_apply₁_of (a := 2) (K := 128) _ rfl rfl x y _ _ (fun k => ix3 b h k) (fun k => ix3 b t k) (fun k => ?_) (fun k => ?_)).trans ?_
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl
  · rw [zero_acc, zero_add]

/-- A batched product of rows with columns. -/
theorem batch_cols (x : FVec Ideal S4x16x2560 .bf16) (y : FVec Ideal S4x2560x128 .bf16) (b : Fin 4) (h : Fin 16) (d : Fin 128) :
    matmul dot_S4x16x2560_S4x2560x128_S4x16x128_2_1_1_2_0_0 none x y (constant S4x16x128 .f32 0x00000000#32) (ix3 b h d)
      = ∑ t : Fin 2560, x (ix3 b h t) * y (ix3 b t d) := by
  refine (Ideal.matmul_apply₁_of (a := 2) (K := 2560) _ rfl rfl x y _ _ (fun k => ix3 b h k) (fun k => ix3 b k d) (fun k => ?_) (fun k => ?_)).trans ?_
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl
  · rw [zero_acc, zero_add]

theorem scores_ref (q : FVec Ideal S4x16x128 .f32) (f g : FVec Ideal S4x64 .f32) (pos : Vec Ideal S4x1 .i32) (kc : Vec Ideal S4x2560x128 .fp8e5m2)
    (b : Fin 4) (h : Fin 16) (t : Fin 2560) :
    k0_pay27 q f g pos kc (ix3 b h t)
      = (∑ k : Fin 128, k0_pay26 q f g pos (ix3 b h k) * kc (ix3 b t k)) * Ideal.ofBits .f32 0x3DB504F3#32 := by
  unfold k0_pay27
  exact congrArg (fun x : EReal => x * Ideal.ofBits .f32 0x3DB504F3#32) (batch_rows _ _ b h t)

theorem mean_ref (kn vn : FVec Ideal S4x128 .fp8e5m2) (s : FVec Ideal S4x16x2560 .f32) (q : FVec Ideal S4x16x128 .f32) (len : Vec Ideal S4x1 .i32)
    (vc : Vec Ideal S4x2560x128 .fp8e5m2) (b : Fin 4) (h : Fin 16) (d : Fin 128) :
    k0_pay29 kn vn s q len vc (ix3 b h d)
      = soft (fun t => masked t (len (ix2 b 0)) (s (ix3 b h t))) (fun t => vc (ix3 b t d))
          ((∑ k : Fin 128, q (ix3 b h k) * kn (ix2 b k)) * Ideal.ofBits .f32 0x3DB504F3#32 * Ideal.ofBits .f32 0x3FB8AA3B#32) (vn (ix2 b d)) := by
  have es : ∀ t : Fin 2560, select (cmpi .slt (iota .tc S4x16x2560 32 [2] iota_S4x16x2560_d2_w32)
        (broadcastTo S4x16x2560 (shapeCast S4x1x1 (shapeCast S4x1 len shapeCasts_S4x1_S4x1) shapeCasts_S4x1_S4x1x1) broadcasts_S4x1x1_S4x16x2560))
        (mulf s (broadcast S4x16x2560 (Scalar.ofBits .f32 0x3FB8AA3B#32))) (broadcast S4x16x2560 (Scalar.ofBits .f32 0xFF800000#32)) (ix3 b h t)
      = masked t (len (ix2 b 0)) (s (ix3 b h t)) := fun t => by
    have el : broadcastTo S4x16x2560 (shapeCast S4x1x1 (shapeCast S4x1 len shapeCasts_S4x1_S4x1) shapeCasts_S4x1_S4x1x1) broadcasts_S4x1x1_S4x16x2560 (ix3 b h t)
        = len (ix2 b 0) := by
      rw [shapeCast_self]
      refine (broadcastTo_apply _ _ _ (ix3 b 0 0) fun a => ?_).trans (shapeCast_apply _ _ _ (ix2 b 0) ?_)
      · match a with
        | ⟨0, _⟩ => rfl
        | ⟨1, _⟩ => rfl
        | ⟨2, _⟩ => rfl
      · rw [Shape.rowMajor_val_two, Shape.rowMajor_val_three]
        change b.val * 1 + 0 = (b.val * 1 + 0) * 1 + 0
        omega
    unfold masked
    rw [← el]
    rfl
  have ee : mulf (mulf (shapeCast S4x16x1 (multiReduction .add [2] S4x16 (mulf q (broadcastTo S4x16x128 (shapeCast S4x1x128 (extf .f32 kn bitsLt_fp8e5m2_f32) shapeCasts_S4x128_S4x1x128) broadcasts_S4x1x128_S4x16x128))
          0x00000000#32 reduces_S4x16x128_S4x16 (.inl rfl) rfl) shapeCasts_S4x16_S4x16x1) (broadcast S4x16x1 (Scalar.ofBits .f32 0x3DB504F3#32)))
        (broadcast S4x16x1 (Scalar.ofBits .f32 0x3FB8AA3B#32)) (ix3 b h 0)
      = (∑ k : Fin 128, q (ix3 b h k) * kn (ix2 b k)) * Ideal.ofBits .f32 0x3DB504F3#32 * Ideal.ofBits .f32 0x3FB8AA3B#32 := by
    refine congrArg (fun x : EReal => x * Ideal.ofBits .f32 0x3DB504F3#32 * Ideal.ofBits .f32 0x3FB8AA3B#32)
      ((column3 _ _ b h).trans ((sum_row3 _ _ _ _ b h).trans ?_))
    exact Finset.sum_congr rfl fun k _ => congrArg (fun x : EReal => q (ix3 b h k) * x) (row3_apply (φ := .f32) _ _ _ b h k)
  unfold k0_pay29
  dsimp only
  revert es ee
  generalize select (cmpi .slt (iota .tc S4x16x2560 32 [2] iota_S4x16x2560_d2_w32)
        (broadcastTo S4x16x2560 (shapeCast S4x1x1 (shapeCast S4x1 len shapeCasts_S4x1_S4x1) shapeCasts_S4x1_S4x1x1) broadcasts_S4x1x1_S4x16x2560))
        (mulf s (broadcast S4x16x2560 (Scalar.ofBits .f32 0x3FB8AA3B#32))) (broadcast S4x16x2560 (Scalar.ofBits .f32 0xFF800000#32)) = S
  generalize mulf (mulf (shapeCast S4x16x1 (multiReduction .add [2] S4x16 (mulf q (broadcastTo S4x16x128 (shapeCast S4x1x128 (extf .f32 kn bitsLt_fp8e5m2_f32) shapeCasts_S4x128_S4x1x128) broadcasts_S4x1x128_S4x16x128))
          0x00000000#32 reduces_S4x16x128_S4x16 (.inl rfl) rfl) shapeCasts_S4x16_S4x16x1) (broadcast S4x16x1 (Scalar.ofBits .f32 0x3DB504F3#32)))
        (broadcast S4x16x1 (Scalar.ofBits .f32 0x3FB8AA3B#32)) = E
  intro es ee
  rw [← ee, ← funext es]
  have em : ceil (maximumf (shapeCast S4x16x1 (multiReduction .maximumf [2] S4x16 S 0xFF800000#32 reduces_S4x16x2560_S4x16 (.inl rfl) rfl) shapeCasts_S4x16_S4x16x1) E) (ix3 b h 0)
      = FloatOps.ceil (F := Ideal) (φ := .f32) (max ((Finset.univ : Finset (Fin 2560)).fold max (FloatOps.ofBits (F := Ideal) .f32 0xFF800000#32)
          fun t => S (ix3 b h t)) (E (ix3 b h 0))) :=
    congrArg (fun x => FloatOps.ceil (F := Ideal) (φ := .f32) (max x (E (ix3 b h 0))))
      ((column3 _ _ b h).trans (max_row3 S _ _ _ b h))
  revert em
  generalize ceil (maximumf (shapeCast S4x16x1 (multiReduction .maximumf [2] S4x16 S 0xFF800000#32 reduces_S4x16x2560_S4x16 (.inl rfl) rfl) shapeCasts_S4x16_S4x16x1) E) = m
  intro em
  unfold soft
  rw [← em]
  have ep : ∀ t : Fin 2560, exp2 (subf S (broadcastTo S4x16x2560 m broadcasts_S4x16x1_S4x16x2560)) (ix3 b h t)
      = FloatOps.exp2 (F := Ideal) (φ := .f32) (S (ix3 b h t) - m (ix3 b h 0)) := fun t =>
    congrArg (fun x => FloatOps.exp2 (F := Ideal) (φ := .f32) (S (ix3 b h t) - x)) (col3_apply m _ b h t)
  refine congr (congrArg (FloatOps.divf (F := Ideal) (φ := .f32)) ?_) ?_
  · refine congr (congrArg (HAdd.hAdd (α := EReal)) ?_) ?_
    · refine (batch_cols _ _ b h d).trans ?_
      exact Finset.sum_congr rfl fun t _ => congrArg (fun x : EReal => x * vc (ix3 b t d)) (ep t)
    · exact congr (congrArg (HMul.hMul (α := EReal)) (col3_apply _ _ b h d)) (row3_apply (φ := .f32) _ _ _ b h d)
  · refine (col3_apply _ _ b h d).trans ?_
    refine congrArg (fun x : EReal => x + _) ((column3 _ _ b h).trans ((sum_row3 _ _ _ _ b h).trans ?_))
    exact Finset.sum_congr rfl fun t _ => ep t

end Reference

end Cert.Quant
-- ==== Proof.AttnIdeal.lean ====
/-
  The attention of one head: the kernel's value for a batch row and a head, each of its four
  spellings, is the reference's entry of that row and head.
-/
module

public import proofs.«01_k».proof.Proof.SoftIdeal

@[expose] public section

noncomputable section

namespace Cert.Quant

open Idealize.ShloMosaic hiding ix1 ix2 ix3
open Idealize.ShloMosaic.ValueIdx

/-- The head `x` at the position `p`, its two halves turned. -/
def rot (x : Fin 128 → EReal) (p : BitVec 32) (n : Fin 128) : EReal :=
  x n * Ideal.cos (angle p (BitVec.ofNat 32 (n.val % 64)))
    + x ⟨(n.val + 64) % 128, Nat.mod_lt _ (by decide)⟩ * (if n.val < 64 then 0 - Ideal.sin (angle p (BitVec.ofNat 32 (n.val % 64)))
            else Ideal.sin (angle p (BitVec.ofNat 32 (n.val % 64))))

/-- The attention of the head `q` at the position `p`: over the cached keys and values and the new ones. -/
def attn (q kn vn : Fin 128 → EReal) (kc vc : Fin 2560 → Fin 128 → EReal) (len p : BitVec 32) (d : Fin 128) : EReal :=
  soft (fun t => masked t len ((∑ k : Fin 128, rot q p k * kc t k) * Ideal.ofBits .f32 0x3DB504F3#32)) (fun t => vc t d)
    ((∑ k : Fin 128, rot q p k * kn k) * Ideal.ofBits .f32 0x3DB504F3#32 * Ideal.ofBits .f32 0x3FB8AA3B#32) (vn d)

section Kernel
open Cert.KernelIdeal Cert.KernelIdeal.Gen

variable (p : Fin 4 → BitVec 32)

theorem cos_apply (r : Fin 4) (n : Fin 128) :
    k0_pay55 (F := Ideal) (iota .tc S4x128 32 [0] iota_S4x128_d0_w32) k0_pay50 (k0_pay51 (F := Ideal) (p 0)) k0_pay52
        (k0_pay53 (F := Ideal) (p 1)) (p 2) (p 3) (ix2 r n)
      = Ideal.cos (angle (p r) (BitVec.ofNat 32 (n.val % 64))) := by
  rw [← angles_apply]
  rfl

theorem sin_apply (r : Fin 4) (n : Fin 128) :
    k0_pay56 (F := Ideal) (iota .tc S4x128 32 [1] iota_S4x128_d1_w32) (iota .tc S4x128 32 [0] iota_S4x128_d0_w32) k0_pay50
        (k0_pay51 (F := Ideal) (p 0)) k0_pay52 (k0_pay53 (F := Ideal) (p 1)) (p 2) (p 3) (ix2 r n)
      = if n.val < 64 then 0 - Ideal.sin (angle (p r) (BitVec.ofNat 32 (n.val % 64)))
            else Ideal.sin (angle (p r) (BitVec.ofNat 32 (n.val % 64))) := by
  have hs : (if n.val < 64 then 0 - Ideal.sin (angle (p r) (BitVec.ofNat 32 (n.val % 64)))
            else Ideal.sin (angle (p r) (BitVec.ofNat 32 (n.val % 64))))
      = Scalar.select (Scalar.cmpi .slt (BitVec.ofNat 32 (0 * 128 + n.val)) 64#32)
          (Ideal.ofBits .f32 0x00000000#32 - Ideal.sin (angle (p r) (BitVec.ofNat 32 (n.val % 64))))
          (Ideal.sin (angle (p r) (BitVec.ofNat 32 (n.val % 64)))) := by
    rw [lane_lt, ofBits_zero]
    split <;> rfl
  rw [hs, ← angles_apply]
  rfl

/-- Every row the row `b` of `x`. -/
def all {φ : FTy} (b : Fin 4) (x : FVec Ideal S4x128 φ) : FVec Ideal S4x128 φ := fun i => x (ix2 b (i 1))

theorem all_slice (b : Fin 4) (x : FVec Ideal S4x128 .f32) (w : Fin 2 → ℕ) (hw : w = ![b.val, 0]) (h : Shape.Slices S4x128 w S1x128) :
    extractStridedSlice S1x128 w x h = extractStridedSlice S1x128 ![0, 0] (all b x) slices_S4x128_o0_0_S1x128 := by
  subst hw
  funext i
  refine (extractStridedSlice_apply _ _ _ i (ix2 b (i 1)) ?_).trans
    (extractStridedSlice_apply _ (all b x) _ i (ix2 0 (i 1)) ?_).symm
  · intro a
    match a with
    | ⟨0, _⟩ =>
      have h0 : (i 0).val = 0 := by have := (i 0).isLt; exact Nat.lt_one_iff.mp this
      show b.val = b.val + (i 0).val
      omega
    | ⟨1, _⟩ => exact (Nat.zero_add _).symm
  · intro a
    match a with
    | ⟨0, _⟩ =>
      have h0 : (i 0).val = 0 := by have := (i 0).isLt; exact Nat.lt_one_iff.mp this
      show 0 = 0 + (i 0).val
      omega
    | ⟨1, _⟩ => exact (Nat.zero_add _).symm

/-- The kernel's heads of the first batch row. -/
def heads (v536 v542 : FVec Ideal S4x128 .f32) (v553 : FVec Ideal S4x128 .fp8e5m2) (v566 : FVec Ideal S4x128 .f32)
    (q : Vec Ideal S16x128 .f32) (kc vc : Vec Ideal S1x2560x128 .fp8e5m2) (len : Elt Ideal .i32) : FVec Ideal S16x128 .f32 :=
  k0_pay66 v566 (k0_pay64 v536 v542 v553 q) (k0_pay65 v536 v542 q kc len) vc

variable (v536 v542 : FVec Ideal S4x128 .f32) (v553 : FVec Ideal S4x128 .fp8e5m2) (v566 : FVec Ideal S4x128 .f32)
    (q : Vec Ideal S16x128 .f32) (kc vc : Vec Ideal S1x2560x128 .fp8e5m2) (len : Elt Ideal .i32)

theorem heads_0 : k0_pay66 v566 (k0_pay64 v536 v542 v553 q) (k0_pay65 v536 v542 q kc len) vc
    = heads (all 0 v536) (all 0 v542) (all 0 v553) (all 0 v566) q kc vc len := by
  unfold heads k0_pay66 k0_pay64 k0_pay65 k0_pay63
  rw [all_slice 0 v566 ![0, 0] rfl, all_slice 0 v536 ![0, 0] rfl, all_slice 0 v542 ![0, 0] rfl, all_slice 0 (k0_pay61 v553) ![0, 0] rfl]
  rfl

theorem heads_1 : k0_pay70 (k0_pay69 (k0_pay61 v553) v566 (iota .tc S16x2560 32 [1] iota_S16x2560_d1_w32) (k0_pay67 v536 v542 q) (k0_pay68 kc) len vc)
    = heads (all 1 v536) (all 1 v542) (all 1 v553) (all 1 v566) q kc vc len := by
  unfold heads k0_pay70 k0_pay69 k0_pay68 k0_pay67 k0_pay66 k0_pay64 k0_pay65 k0_pay63
  simp only [all_slice 1 _ ![1, 0] rfl]
  rfl

theorem heads_2 : k0_pay76 v566 (k0_pay73 v536 v542 (k0_pay61 v553) q)
      (k0_pay74 v536 v542 (k0_pay61 v553) (iota .tc S16x2560 32 [1] iota_S16x2560_d1_w32) q kc len)
      (k0_pay75 v536 v542 (k0_pay61 v553) (iota .tc S16x2560 32 [1] iota_S16x2560_d1_w32) q kc len) vc
    = heads (all 2 v536) (all 2 v542) (all 2 v553) (all 2 v566) q kc vc len := by
  unfold heads k0_pay76 k0_pay75 k0_pay74 k0_pay73 k0_pay72 k0_pay71 k0_pay66 k0_pay64 k0_pay65 k0_pay63
  simp only [all_slice 2 _ ![2, 0] rfl]
  rfl

theorem heads_3 : k0_pay80 v566 (iota .tc S16x2560 32 [1] iota_S16x2560_d1_w32) (k0_pay78 v536 v542 q kc) (k0_pay79 v536 v542 (k0_pay61 v553) q) len vc
    = heads (all 3 v536) (all 3 v542) (all 3 v553) (all 3 v566) q kc vc len := by
  unfold heads k0_pay80 k0_pay79 k0_pay78 k0_pay77 k0_pay66 k0_pay64 k0_pay65 k0_pay63
  simp only [all_slice 3 _ ![3, 0] rfl]
  rfl

theorem heads_apply (b : Fin 4) (pb : BitVec 32)
    (hc : ∀ n : Fin 128, v536 (ix2 b n) = Ideal.cos (angle pb (BitVec.ofNat 32 (n.val % 64))))
    (hs : ∀ n : Fin 128, v542 (ix2 b n) = if n.val < 64 then 0 - Ideal.sin (angle pb (BitVec.ofNat 32 (n.val % 64)))
            else Ideal.sin (angle pb (BitVec.ofNat 32 (n.val % 64)))) (h : Fin 16) (d : Fin 128) :
    heads (all b v536) (all b v542) (all b v553) (all b v566) q kc vc len (ix2 h d)
      = attn (fun k => q (ix2 h k)) (fun k => v553 (ix2 b k)) (fun k => v566 (ix2 b k)) (fun t k => kc (ix3 0 t k))
          (fun t k => vc (ix3 0 t k)) len pb d := by
  have ht : ∀ k : Fin 128, k0_pay63 (all b v536) (all b v542) q (ix2 h k) = rot (fun k => q (ix2 h k)) pb k := fun k => by
    rw [turned_apply h _ _ q k ⟨(k.val + 64) % 128, Nat.mod_lt _ (by decide)⟩ rfl]
    show q (ix2 h k) * v536 (ix2 b k) + q _ * v542 (ix2 b k) = _
    rw [hc, hs]
    rfl
  unfold heads attn
  rw [mean_apply, new_score]
  simp only [old_score, ht]
  rfl

end Kernel

section Reference
open Cert.ReferenceIdeal Cert.ReferenceIdeal.Gen

theorem unit_row (x : FVec Ideal S4x64 .f32) (b : Fin 4) (h : Fin 16) (j : Fin 64) :
    broadcastTo S4x16x64 (shapeCast S4x1x64 x shapeCasts_S4x64_S4x1x64) broadcasts_S4x1x64_S4x16x64 (ix3 b h j) = x (ix2 b j) := by
  refine (broadcastTo_apply _ _ _ (ix3 b 0 j) fun a => ?_).trans (shapeCast_apply _ _ _ (ix2 b j) ?_)
  · match a with
    | ⟨0, _⟩ => rfl
    | ⟨1, _⟩ => rfl
    | ⟨2, _⟩ => rfl
  · rw [Shape.rowMajor_val_two, Shape.rowMajor_val_three]
    change b.val * 64 + j.val = (b.val * 1 + 0) * 64 + j.val
    omega

theorem half3_apply (k : FVec Ideal S4x16x128 .f32) (b : Fin 4) (h : Fin 16) (j : Fin 64) :
    extractStridedSlice S4x16x64 ![0, 0, 0] k slices_S4x16x128_o0_0_0_S4x16x64 (ix3 b h j) = k (ix3 b h (j.castLE (by decide)))
    ∧ extractStridedSlice S4x16x64 ![0, 0, 64] k slices_S4x16x128_o0_0_64_S4x16x64 (ix3 b h j) = k (ix3 b h (Fin.natAdd 64 j)) :=
  ⟨extractStridedSlice_apply _ _ _ (ix3 b h j) (ix3 b h (j.castLE (by decide))) (by
    intro a
    match a with
    | ⟨0, _⟩ => exact (Nat.zero_add _).symm
    | ⟨1, _⟩ => exact (Nat.zero_add _).symm
    | ⟨2, _⟩ => exact (Nat.zero_add _).symm),
   extractStridedSlice_apply _ _ _ (ix3 b h j) (ix3 b h (Fin.natAdd 64 j)) (by
    intro a
    match a with
    | ⟨0, _⟩ => exact (Nat.zero_add _).symm
    | ⟨1, _⟩ => exact (Nat.zero_add _).symm
    | ⟨2, _⟩ => rfl)⟩

theorem low3_ref (q : FVec Ideal S4x16x128 .f32) (pos : Vec Ideal S4x1 .i32) (b : Fin 4) (h : Fin 16) (j : Fin 64) :
    k0_pay26 q k0_pay19 k0_pay20 pos (ix3 b h (j.castLE (by decide)))
      = q (ix3 b h (j.castLE (by decide))) * Ideal.cos (angle (pos (ix2 b 0)) (BitVec.ofNat 32 j.val))
        - q (ix3 b h (Fin.natAdd 64 j)) * Ideal.sin (angle (pos (ix2 b 0)) (BitVec.ofNat 32 j.val)) := by
  rw [← (half3_apply q b h j).1, ← (half3_apply q b h j).2, ← angle_ref]
  refine (concatenate_pair_apply_left (t := S4x16x128) (s₁ := S4x16x64) (s₂ := S4x16x64) 2 _ _ concatenates_S4x16x64_S4x16x64_S4x16x128_d2
    (ix3 b h (j.castLE (by decide))) rfl (ix3 b h j) fun b => ?_).trans ?_
  · match b with
    | ⟨0, _⟩ => rfl
    | ⟨1, _⟩ => rfl
    | ⟨2, _⟩ => rfl
  · exact congr (congrArg (HSub.hSub (α := EReal)) (congrArg (fun x : EReal => _ * x) (unit_row _ b h j)))
      (congrArg (fun x : EReal => _ * x) (unit_row _ b h j))

theorem high3_ref (q : FVec Ideal S4x16x128 .f32) (pos : Vec Ideal S4x1 .i32) (b : Fin 4) (h : Fin 16) (j : Fin 64) :
    k0_pay26 q k0_pay19 k0_pay20 pos (ix3 b h (Fin.natAdd 64 j))
      = q (ix3 b h (Fin.natAdd 64 j)) * Ideal.cos (angle (pos (ix2 b 0)) (BitVec.ofNat 32 j.val))
        + q (ix3 b h (j.castLE (by decide))) * Ideal.sin (angle (pos (ix2 b 0)) (BitVec.ofNat 32 j.val)) := by
  rw [← (half3_apply q b h j).1, ← (half3_apply q b h j).2, ← angle_ref]
  refine (concatenate_pair_apply_right (t := S4x16x128) (s₁ := S4x16x64) (s₂ := S4x16x64) 2 _ _ concatenates_S4x16x64_S4x16x64_S4x16x128_d2
    (ix3 b h (Fin.natAdd 64 j)) rfl rfl (ix3 b h j) (fun b hb => ?_) ?_).trans ?_
  · match b with
    | ⟨0, _⟩ => rfl
    | ⟨1, _⟩ => rfl
    | ⟨2, _⟩ => exact absurd rfl hb
  · exact Nat.add_comm _ _
  · exact congr (congrArg (HAdd.hAdd (α := EReal)) (congrArg (fun x : EReal => _ * x) (unit_row _ b h j)))
      (congrArg (fun x : EReal => _ * x) (unit_row _ b h j))

theorem rot_ref (q : FVec Ideal S4x16x128 .f32) (pos : Vec Ideal S4x1 .i32) (b : Fin 4) (h : Fin 16) (n : Fin 128) :
    k0_pay26 q k0_pay19 k0_pay20 pos (ix3 b h n) = rot (fun k => q (ix3 b h k)) (pos (ix2 b 0)) n := by
  unfold rot
  by_cases hn : n.val < 64
  · obtain ⟨j, rfl⟩ : ∃ j : Fin 64, n = j.castLE (by decide) := ⟨⟨n.val, hn⟩, rfl⟩
    have hj : j.val % 64 = j.val := Nat.mod_eq_of_lt j.isLt
    have hm : (⟨((j.castLE (by decide) : Fin 128).val + 64) % 128, Nat.mod_lt _ (by decide)⟩ : Fin 128) = Fin.natAdd 64 j :=
      Fin.ext (by show (j.val + 64) % 128 = 64 + j.val; omega)
    rw [low3_ref, if_pos hn, hm]
    show _ = _ * Ideal.cos (angle _ (BitVec.ofNat 32 (j.val % 64))) + _ * (0 - Ideal.sin (angle _ (BitVec.ofNat 32 (j.val % 64))))
    rw [hj, zero_sub, mul_neg, sub_eq_add_neg]
  · obtain ⟨j, rfl⟩ : ∃ j : Fin 64, n = Fin.natAdd 64 j :=
      ⟨⟨n.val - 64, by omega⟩, Fin.ext (by show n.val = 64 + (n.val - 64); omega)⟩
    have hj : (64 + j.val) % 64 = j.val := by omega
    have hm : (⟨((Fin.natAdd 64 j : Fin 128).val + 64) % 128, Nat.mod_lt _ (by decide)⟩ : Fin 128) = j.castLE (by decide) :=
      Fin.ext (by show (64 + j.val + 64) % 128 = j.val; omega)
    rw [high3_ref, if_neg hn, hm]
    show _ = _ * Ideal.cos (angle _ (BitVec.ofNat 32 ((64 + j.val) % 64))) + _ * Ideal.sin (angle _ (BitVec.ofNat 32 ((64 + j.val) % 64)))
    rw [hj]

/-- The reference's attention, of the heads, the new key and value, the positions, the caches and the lengths. -/
abbrev refAttn (q : FVec Ideal S4x16x128 .f32) (kn vn : FVec Ideal S4x128 .fp8e5m2) (pos len : Vec Ideal S4x1 .i32)
    (kc vc : Vec Ideal S4x2560x128 .fp8e5m2) : FVec Ideal S64x128 .f32 :=
  k0_pay2 (k0_pay29 kn vn (k0_pay27 q k0_pay19 k0_pay20 pos kc) (k0_pay28 q k0_pay19 k0_pay20 pos) len vc)

theorem attn_ref (q : FVec Ideal S4x16x128 .f32) (kn vn : FVec Ideal S4x128 .fp8e5m2) (pos len : Vec Ideal S4x1 .i32)
    (kc vc : Vec Ideal S4x2560x128 .fp8e5m2) (b : Fin 4) (h : Fin 16) (d : Fin 128) :
    refAttn q kn vn pos len kc vc (ix2 ⟨16 * b.val + h.val, by omega⟩ d)
      = attn (fun k => q (ix3 b h k)) (fun k => kn (ix2 b k)) (fun k => vn (ix2 b k)) (fun t k => kc (ix3 b t k))
          (fun t k => vc (ix3 b t k)) (len (ix2 b 0)) (pos (ix2 b 0)) d := by
  unfold refAttn k0_pay2
  rw [shapeCast_apply _ _ _ (ix3 b h d) (by
    rw [Shape.rowMajor_val_two, Shape.rowMajor_val_three]
    change (b.val * 16 + h.val) * 128 + d.val = (16 * b.val + h.val) * 128 + d.val
    omega), mean_ref]
  unfold attn
  simp only [scores_ref, ← rot_ref]
  rfl

end Reference

end Cert.Quant
-- ==== Proof.AttnRunIdeal.lean ====
/-
  What the kernel's run leaves in its attention: the heads read from the eighteen pieces of
  the projection, one batch row at a time, each being the reference's rows.
-/
module

public import proofs.«01_k».proof.Proof.AttnIdeal
public import proofs.«01_k».proof.Proof.ProjRunIdeal
public import Idealize.ShloMosaic.Lib.Pipeline.FrameBody

@[expose] public section

noncomputable section

namespace Cert.KernelIdeal.Hand

open Cert.KernelIdeal Idealize.SL.Sem Idealize.ShloMosaic.TcCoe
open Idealize.ShloMosaic hiding ix1 ix2 ix3
open Idealize.ShloMosaic.ValueIdx

variable (c : Dev nD)
variable (a0 : Bf (F := Ideal) c M0) (a1 : Bf (F := Ideal) c M1) (a2 : Bf (F := Ideal) c M2)
  (a3 : Bf (F := Ideal) c M3) (a4 : Bf (F := Ideal) c M4)
  (s20 : Bf (F := Ideal) c M20) (s21 : Bf (F := Ideal) c M21) (s22 : Bf (F := Ideal) c M22) (s24 : Bf (F := Ideal) c M24)

/-! ### The heads -/

/-- The heads' buffer: eight rows a block of 128 columns of the projection, the first four of them the batch rows. -/
def blocks (P : FVec Ideal Cert.ReferenceIdeal.S4x13568 .f32) (y : S144x128.Idx) : Ideal .f32 :=
  P (ix2 ⟨(y 0).val % 8 % 4, Nat.mod_lt _ (by decide)⟩
    ⟨128 * ((y 0).val / 8) + (y 1).val, by
      have h0 : (y 0).val < 144 := (y 0).isLt
      have h1 : (y 1).val < 128 := (y 1).isLt
      omega⟩)

/-- A block cut from a chunk of the projection. -/
theorem block_ok (P : FVec Ideal Cert.ReferenceIdeal.S4x13568 .f32) (n base w : ℕ) (hn : n < 18) (hb : base + w = 128 * n) (hw : w ≤ 640)
    (v : FVec Ideal S4x768 .f32) (hv : ∀ (r : Fin 4) (k : Fin 768) (hk : base + k.val < 13568), v (ix2 r k) = P (ix2 r ⟨base + k.val, hk⟩))
    (hs : S4x768.Slices ![0, w] S4x128) (inb) (x : S4x128.Idx) :
    shapeCast S4x128 (extractStridedSlice S4x128 ![0, w] v hs) Gen.shapeCasts_S4x128_S4x128 x
      = blocks P ((Rect.unit (s := S144x128) ![8 * n, 0] S4x128.size inb).emb x) := by
  obtain ⟨r, k, rfl⟩ : ∃ (r : Fin 4) (k : Fin 128), x = ix2 r k := ⟨x 0, x 1, (Cert.Quant.ix2_coords x).symm⟩
  have hr := r.isLt
  have hk := k.isLt
  rw [shapeCast_self, extractStridedSlice_apply _ _ _ (ix2 r k) (ix2 r ⟨w + k.val, by omega⟩) (by
    intro a
    match a with
    | ⟨0, _⟩ => exact (Nat.zero_add _).symm
    | ⟨1, _⟩ => rfl), hv r _ (by show base + (w + k.val) < 13568; omega)]
  unfold blocks
  refine congrArg P (funext fun a => ?_)
  match a with
  | ⟨0, _⟩ => exact Fin.ext (show r.val = (8 * n + 1 * r.val) % 8 % 4 by omega)
  | ⟨1, _⟩ => exact Fin.ext (show base + (w + k.val) = 128 * ((8 * n + 1 * r.val) / 8) + (0 + 1 * k.val) by omega)

theorem block_mem (o : ℕ) (inb) (y : S144x128.Idx) :
    y ∈ (Rect.unit (s := S144x128) ![o, 0] ![4, 128] inb).set ↔ o ≤ (y 0).val ∧ (y 0).val < o + 4 := by
  rw [Rect.mem_set_unit]
  refine ⟨fun h => h 0, fun h a => ?_⟩
  match a with
  | ⟨0, _⟩ => exact h
  | ⟨1, _⟩ => exact ⟨Nat.zero_le _, by have h1 : (y 1).val < 128 := (y 1).isLt; show (y 1).val < 0 + 128; omega⟩

theorem blocks_read (y : S144x128.Idx) (hy : (y 0).val % 8 < 4) :
    View.canon (kernelRun.sl.Hs42_18 c a0 a1 a2 a3 a4 s20 s21 s22 s24) y = blocks (refProj a0 a1 a2 a3 a4) y := by
  have h0 := fun (r : Fin 4) (k : Fin 768) (_ : 0 + k.val < 13568) => chunk0_val c a0 a1 a2 a3 a4 s20 s21 s22 s24 r k
  have h1 := fun (r : Fin 4) (k : Fin 768) (_ : 768 + k.val < 13568) => chunk1_val c a0 a1 a2 a3 a4 s20 s21 s22 s24 r k
  have h2 := fun (r : Fin 4) (k : Fin 768) (_ : 1536 + k.val < 13568) => chunk_val c a0 a1 a2 a3 a4 s20 s21 s22 s24 r k
  unfold kernelRun.sl.Hs42_18 kernelRun.sl.Hs42_14 kernelRun.sl.Hs42_11 kernelRun.sl.Hs42_6
  refine View.canon_apply_of_pieces (Val := Elt Ideal) (e := .f32) (blocks (refProj a0 a1 a2 a3 a4)) _ ?_ y ?_
  · simp only [List.forall_mem_cons]
    exact ⟨
      block_ok _ 17 1536 640 (by decide) rfl (by decide) _ h2 Gen.slices_S4x768_o0_640_S4x128 _,
      block_ok _ 16 1536 512 (by decide) rfl (by decide) _ h2 Gen.slices_S4x768_o0_512_S4x128 _,
      block_ok _ 15 1536 384 (by decide) rfl (by decide) _ h2 Gen.slices_S4x768_o0_384_S4x128 _,
      block_ok _ 14 1536 256 (by decide) rfl (by decide) _ h2 Gen.slices_S4x768_o0_256_S4x128 _,
      block_ok _ 13 1536 128 (by decide) rfl (by decide) _ h2 Gen.slices_S4x768_o0_128_S4x128 _,
      block_ok _ 12 1536 0 (by decide) rfl (by decide) _ h2 Gen.slices_S4x768_o0_0_S4x128 _,
      block_ok _ 11 768 640 (by decide) rfl (by decide) _ h1 Gen.slices_S4x768_o0_640_S4x128 _,
      block_ok _ 10 768 512 (by decide) rfl (by decide) _ h1 Gen.slices_S4x768_o0_512_S4x128 _,
      block_ok _ 9 768 384 (by decide) rfl (by decide) _ h1 Gen.slices_S4x768_o0_384_S4x128 _,
      block_ok _ 8 768 256 (by decide) rfl (by decide) _ h1 Gen.slices_S4x768_o0_256_S4x128 _,
      block_ok _ 7 768 128 (by decide) rfl (by decide) _ h1 Gen.slices_S4x768_o0_128_S4x128 _,
      block_ok _ 6 768 0 (by decide) rfl (by decide) _ h1 Gen.slices_S4x768_o0_0_S4x128 _,
      block_ok _ 5 0 640 (by decide) rfl (by decide) _ h0 Gen.slices_S4x768_o0_640_S4x128 _,
      block_ok _ 4 0 512 (by decide) rfl (by decide) _ h0 Gen.slices_S4x768_o0_512_S4x128 _,
      block_ok _ 3 0 384 (by decide) rfl (by decide) _ h0 Gen.slices_S4x768_o0_384_S4x128 _,
      block_ok _ 2 0 256 (by decide) rfl (by decide) _ h0 Gen.slices_S4x768_o0_256_S4x128 _,
      block_ok _ 1 0 128 (by decide) rfl (by decide) _ h0 Gen.slices_S4x768_o0_128_S4x128 _,
      block_ok _ 0 0 0 (by decide) rfl (by decide) _ h0 Gen.slices_S4x768_o0_0_S4x128 _,
      fun _ h => absurd h List.not_mem_nil⟩
  · have hlt : (y 0).val < 144 := (y 0).isLt
    simp only [List.exists_mem_cons_iff, block_mem]
    omega

theorem head_read (b : Fin 4) (inb) (h : Fin 16) (k : Fin 128) :
    M42.view.readCov (kernelRun.sl.Hs42_18 c a0 a1 a2 a3 a4 s20 s21 s22 s24)
        ({ off := ![b.val, 0], size := S16x128.size, stride := ![8, 1], inb := inb } : LoadRect S144x128) (ix2 h k)
      = refProj a0 a1 a2 a3 a4 (ix2 b ⟨128 * h.val + k.val, by omega⟩) := by
  have hb := b.isLt
  have hh := h.isLt
  rw [View.readCov_eq_canon']
  refine (blocks_read c a0 a1 a2 a3 a4 s20 s21 s22 s24 _ (by
    show (b.val + 8 * h.val) % 8 < 4
    omega)).trans ?_
  unfold blocks
  refine congrArg (refProj a0 a1 a2 a3 a4) (funext fun a => ?_)
  match a with
  | ⟨0, _⟩ => exact Fin.ext (show (b.val + 8 * h.val) % 8 % 4 = b.val by omega)
  | ⟨1, _⟩ => exact Fin.ext (show 128 * ((b.val + 8 * h.val) / 8) + (0 + 1 * k.val) = 128 * h.val + k.val by omega)

theorem heads_cols (b : Fin 4) (h : Fin 16) (k : Fin 128) :
    Cert.ReferenceIdeal.Gen.k0_pay14 (Cert.ReferenceIdeal.Gen.k0_pay6 a0 a1 a2) (Cert.ReferenceIdeal.Gen.k0_pay7 a0 a1 a2)
        (Cert.ReferenceIdeal.Gen.k0_pay8 a0 a1 a2) a3 a4 (ix3 b h k)
      = refProj a0 a1 a2 a3 a4 (ix2 b ⟨128 * h.val + k.val, by omega⟩) := by
  unfold Cert.ReferenceIdeal.Gen.k0_pay14
  rw [shapeCast_apply _ _ _ (ix2 b ⟨128 * h.val + k.val, by omega⟩) (by
    rw [Shape.rowMajor_val_two, Shape.rowMajor_val_three]
    change b.val * 2048 + (128 * h.val + k.val) = (b.val * 16 + h.val) * 128 + k.val
    omega)]
  refine extractStridedSlice_apply _ _ _ _ (ix2 b ⟨128 * h.val + k.val, by omega⟩) ?_
  intro a
  match a with
  | ⟨0, _⟩ => exact (Nat.zero_add _).symm
  | ⟨1, _⟩ => exact (Nat.zero_add _).symm

/-! ### The caches and the lengths -/

section Reads
variable (a7 : Bf (F := Ideal) c M7) (a8 : Bf (F := Ideal) c M8) (a9 : Bf (F := Ideal) c M9)
  (s27 : Bf (F := Ideal) c M27) (s28 : Bf (F := Ideal) c M28) (s29 : Bf (F := Ideal) c M29)

theorem keys_read (b : Fin 4) (inb) (t : Fin 2560) (k : Fin 128) :
    View.readAt (Elt Ideal) M27.view (Rect.unit (s := S4x2560x128) ![b.val, 0, 0] S1x2560x128.size inb).toLoadRect
      (View.write (Elt Ideal) M27.view s27 (ReadAs.same.apply (View.read (Elt Ideal) M7.view a7)) Finset.univ) (ix3 0 t k)
      = a7 (ix3 b t k) := by
  rw [View.readAt_apply, View.read_write_univ]
  refine congrArg a7 (funext fun a => ?_)
  match a with
  | ⟨0, _⟩ => rfl
  | ⟨1, _⟩ => exact Fin.ext (show 0 + 1 * t.val = t.val by omega)
  | ⟨2, _⟩ => exact Fin.ext (show 0 + 1 * k.val = k.val by omega)

theorem values_read (b : Fin 4) (inb) (t : Fin 2560) (k : Fin 128) :
    View.readAt (Elt Ideal) M28.view (Rect.unit (s := S4x2560x128) ![b.val, 0, 0] S1x2560x128.size inb).toLoadRect
      (View.write (Elt Ideal) M28.view s28 (ReadAs.same.apply (View.read (Elt Ideal) M8.view a8)) Finset.univ) (ix3 0 t k)
      = a8 (ix3 b t k) := by
  rw [View.readAt_apply, View.read_write_univ]
  refine congrArg a8 (funext fun a => ?_)
  match a with
  | ⟨0, _⟩ => rfl
  | ⟨1, _⟩ => exact Fin.ext (show 0 + 1 * t.val = t.val by omega)
  | ⟨2, _⟩ => exact Fin.ext (show 0 + 1 * k.val = k.val by omega)

theorem len_0 : kernelRun.sl.v596_r0 c a9 s29 = a9 (ix1 0) := by
  unfold kernelRun.sl.v596_r0
  rw [View.readAt_apply, View.read_write_univ]
  exact congrArg a9 (funext fun a => match a with | ⟨0, _⟩ => rfl)
theorem len_1 : kernelRun.sl.v658_r0 c a9 s29 = a9 (ix1 1) := by
  unfold kernelRun.sl.v658_r0
  rw [View.readAt_apply, View.read_write_univ]
  exact congrArg a9 (funext fun a => match a with | ⟨0, _⟩ => rfl)
theorem len_2 : kernelRun.sl.v720_r0 c a9 s29 = a9 (ix1 2) := by
  unfold kernelRun.sl.v720_r0
  rw [View.readAt_apply, View.read_write_univ]
  exact congrArg a9 (funext fun a => match a with | ⟨0, _⟩ => rfl)
theorem len_3 : kernelRun.sl.v782_r0 c a9 s29 = a9 (ix1 3) := by
  unfold kernelRun.sl.v782_r0
  rw [View.readAt_apply, View.read_write_univ]
  exact congrArg a9 (funext fun a => match a with | ⟨0, _⟩ => rfl)
end Reads

/-! ### The attention -/

/-- The reference's attention of the rows, the weights, the caches, the lengths and the positions. -/
abbrev refMean (x : S4x2048.Idx → Elt Ideal .bf16) (g b : S1x2048.Idx → Elt Ideal .f32)
    (w : S2048x13568.Idx → Elt Ideal .fp8e4m3) (s : S1x13568.Idx → Elt Ideal .f32) (kc vc : S4x2560x128.Idx → Elt Ideal .fp8e5m2)
    (len pos : Cert.ReferenceIdeal.S4x1.Idx → Elt Ideal .i32) : FVec Ideal Cert.ReferenceIdeal.S64x128 .f32 :=
  Cert.Quant.refAttn (Cert.ReferenceIdeal.Gen.k0_pay14 (Cert.ReferenceIdeal.Gen.k0_pay6 x g b) (Cert.ReferenceIdeal.Gen.k0_pay7 x g b)
      (Cert.ReferenceIdeal.Gen.k0_pay8 x g b) w s)
    (Cert.ReferenceIdeal.Gen.k0_pay24 (Cert.ReferenceIdeal.Gen.k0_pay15 (Cert.ReferenceIdeal.Gen.k0_pay6 x g b) (Cert.ReferenceIdeal.Gen.k0_pay7 x g b)
      (Cert.ReferenceIdeal.Gen.k0_pay8 x g b) w s) Cert.ReferenceIdeal.Gen.k0_pay19 Cert.ReferenceIdeal.Gen.k0_pay20 pos)
    (Cert.ReferenceIdeal.Gen.k0_pay25 (Cert.ReferenceIdeal.Gen.k0_pay16 (Cert.ReferenceIdeal.Gen.k0_pay6 x g b) (Cert.ReferenceIdeal.Gen.k0_pay7 x g b)
      (Cert.ReferenceIdeal.Gen.k0_pay8 x g b) w s)) pos len kc vc

section Attention
variable (a7 : Bf (F := Ideal) c M7) (a8 : Bf (F := Ideal) c M8) (a9 : Bf (F := Ideal) c M9) (a10 : Bf (F := Ideal) c M10)
  (s27 : Bf (F := Ideal) c M27) (s28 : Bf (F := Ideal) c M28) (s29 : Bf (F := Ideal) c M29) (s30 : Bf (F := Ideal) c M30)
  (len pos : Cert.ReferenceIdeal.S4x1.Idx → Elt Ideal .i32)

theorem new_value : kernelRun.sl.v566_r0 c a0 a1 a2 a3 a4 s20 s21 s22 s24
    = Cert.ReferenceIdeal.Gen.k0_pay25 (Cert.ReferenceIdeal.Gen.k0_pay16 (Cert.ReferenceIdeal.Gen.k0_pay6 a0 a1 a2)
        (Cert.ReferenceIdeal.Gen.k0_pay7 a0 a1 a2) (Cert.ReferenceIdeal.Gen.k0_pay8 a0 a1 a2) a3 a4) := by
  unfold kernelRun.sl.v566_r0 kernelRun.sl.v558_r0
  rw [value_cols]
  rfl

theorem new_key (hp : ∀ r : Fin 4, pos (ix2 r 0) = a10 (ix1 r)) : kernelRun.sl.v553_r0 c a0 a1 a2 a3 a4 a10 s20 s21 s22 s24 s30
    = Cert.ReferenceIdeal.Gen.k0_pay24 (Cert.ReferenceIdeal.Gen.k0_pay15 (Cert.ReferenceIdeal.Gen.k0_pay6 a0 a1 a2)
        (Cert.ReferenceIdeal.Gen.k0_pay7 a0 a1 a2) (Cert.ReferenceIdeal.Gen.k0_pay8 a0 a1 a2) a3 a4)
        Cert.ReferenceIdeal.Gen.k0_pay19 Cert.ReferenceIdeal.Gen.k0_pay20 pos := by
  unfold kernelRun.sl.v553_r0 kernelRun.sl.v516_r0 kernelRun.sl.v520_r0 kernelRun.sl.v494_r0 kernelRun.sl.v495_r0
  rw [pos_0, pos_1, pos_2, pos_3, key_cols]
  refine Eq.trans ?_ (Cert.Quant.key_eq (fun r => a10 (ix1 r)) _ pos hp)
  unfold Gen.k0_pay59
  rw [shapeCast_self]
  rfl

/-- A batch row of the kernel's heads is the reference's. -/
theorem row_heads (hl : ∀ r : Fin 4, len (ix2 r 0) = a9 (ix1 r)) (hp : ∀ r : Fin 4, pos (ix2 r 0) = a10 (ix1 r)) (b : Fin 4)
    (q : Vec Ideal S16x128 .f32) (hq : ∀ (h : Fin 16) (k : Fin 128), q (ix2 h k) = refProj a0 a1 a2 a3 a4 (ix2 b ⟨128 * h.val + k.val, by omega⟩))
    (kc vc : Vec Ideal S1x2560x128 .fp8e5m2) (hkc : ∀ t k, kc (ix3 0 t k) = a7 (ix3 b t k)) (hvc : ∀ t k, vc (ix3 0 t k) = a8 (ix3 b t k))
    (l : Elt Ideal .i32) (hlen : l = a9 (ix1 b)) (h : Fin 16) (d : Fin 128) :
    Cert.Quant.heads (Cert.Quant.all b (kernelRun.sl.v536_r0 c a10 s30)) (Cert.Quant.all b (kernelRun.sl.v542_r0 c a10 s30))
        (Cert.Quant.all b (kernelRun.sl.v553_r0 c a0 a1 a2 a3 a4 a10 s20 s21 s22 s24 s30))
        (Cert.Quant.all b (kernelRun.sl.v566_r0 c a0 a1 a2 a3 a4 s20 s21 s22 s24)) q kc vc l (ix2 h d)
      = refMean a0 a1 a2 a3 a4 a7 a8 len pos (ix2 ⟨16 * b.val + h.val, by omega⟩ d) := by
  refine (Cert.Quant.heads_apply _ _ _ _ q kc vc l b (a10 (ix1 b)) (fun n => ?_) (fun n => ?_) h d).trans ?_
  · unfold kernelRun.sl.v536_r0 kernelRun.sl.v516_r0 kernelRun.sl.v520_r0 kernelRun.sl.v495_r0
    rw [pos_0, pos_1, pos_2, pos_3]
    exact Cert.Quant.cos_apply (fun r => a10 (ix1 r)) b n
  · unfold kernelRun.sl.v542_r0 kernelRun.sl.v516_r0 kernelRun.sl.v520_r0 kernelRun.sl.v494_r0 kernelRun.sl.v495_r0
    rw [pos_0, pos_1, pos_2, pos_3]
    exact Cert.Quant.sin_apply (fun r => a10 (ix1 r)) b n
  · unfold refMean
    rw [Cert.Quant.attn_ref, new_key c a0 a1 a2 a3 a4 s20 s21 s22 s24 a10 s30 pos hp, new_value, hlen, hl, hp]
    simp only [hq, hkc, hvc, heads_cols]

theorem rows_mem (o : ℕ) (inb) (y : S64x128.Idx) :
    y ∈ (Rect.unit (s := S64x128) ![o, 0] ![16, 128] inb).set ↔ o ≤ (y 0).val ∧ (y 0).val < o + 16 := by
  rw [Rect.mem_set_unit]
  refine ⟨fun h => h 0, fun h a => ?_⟩
  match a with
  | ⟨0, _⟩ => exact h
  | ⟨1, _⟩ => exact ⟨Nat.zero_le _, by have h1 : (y 1).val < 128 := (y 1).isLt; show (y 1).val < 0 + 128; omega⟩

theorem rows_ok (G : FVec Ideal S64x128 .f32) (b : Fin 4) (v : FVec Ideal S16x128 .f32)
    (hv : ∀ (h : Fin 16) (d : Fin 128), v (ix2 h d) = G (ix2 ⟨16 * b.val + h.val, by omega⟩ d)) (inb) (x : S16x128.Idx) :
    v x = G ((Rect.unit (s := S64x128) ![16 * b.val, 0] S16x128.size inb).emb x) := by
  obtain ⟨h, d, rfl⟩ : ∃ (h : Fin 16) (d : Fin 128), x = ix2 h d := ⟨x 0, x 1, (Cert.Quant.ix2_coords x).symm⟩
  rw [hv]
  refine congrArg G (funext fun a => ?_)
  match a with
  | ⟨0, _⟩ => exact Fin.ext (show 16 * b.val + h.val = 16 * b.val + 1 * h.val by omega)
  | ⟨1, _⟩ => exact Fin.ext (show d.val = 0 + 1 * d.val by omega)

theorem mean_canon (hl : ∀ r : Fin 4, len (ix2 r 0) = a9 (ix1 r)) (hp : ∀ r : Fin 4, pos (ix2 r 0) = a10 (ix1 r)) (y : S64x128.Idx) :
    View.canon (kernelRun.sl.Hs33_4 c a0 a1 a2 a3 a4 a7 a8 a9 a10 s20 s21 s22 s24 s27 s28 s29 s30) y
      = refMean a0 a1 a2 a3 a4 a7 a8 len pos y := by
  have hr := fun b q hq kc vc hkc hvc l hlen => row_heads c a0 a1 a2 a3 a4 s20 s21 s22 s24 a7 a8 a9 a10 s30 len pos hl hp b q hq kc vc hkc hvc l hlen
  unfold kernelRun.sl.Hs33_4 kernelRun.sl.Hs33_3 kernelRun.sl.Hs33_2 kernelRun.sl.Hs33_1
  refine View.canon_apply_of_pieces (Val := Elt Ideal) (e := .f32) (refMean a0 a1 a2 a3 a4 a7 a8 len pos) _ ?_ y ?_
  · simp only [List.forall_mem_cons]
    refine ⟨rows_ok _ 3 _ (fun h d => ?_) _, rows_ok _ 2 _ (fun h d => ?_) _, rows_ok _ 1 _ (fun h d => ?_) _,
      rows_ok _ 0 _ (fun h d => ?_) _, fun _ h => absurd h List.not_mem_nil⟩
    · unfold kernelRun.sl.v773_r0 kernelRun.sl.v777_r0 kernelRun.sl.v565_r0 kernelRun.sl.v571_r0
      refine (congrFun (Cert.Quant.heads_3 _ _ _ _ _ _ _ _) _).trans (hr 3 _ (fun h k => ?_) _ _ (fun t k => ?_) (fun t k => ?_) _ ?_ h d)
      · exact head_read c a0 a1 a2 a3 a4 s20 s21 s22 s24 3 _ h k
      · exact keys_read c a7 s27 3 _ t k
      · exact values_read c a8 s28 3 _ t k
      · exact len_3 c a9 s29
    · unfold kernelRun.sl.v728_r0 kernelRun.sl.v732_r0 kernelRun.sl.v734_r0 kernelRun.sl.v565_r0 kernelRun.sl.v571_r0
      refine (congrFun (Cert.Quant.heads_2 _ _ _ _ _ _ _ _) _).trans (hr 2 _ (fun h k => ?_) _ _ (fun t k => ?_) (fun t k => ?_) _ ?_ h d)
      · exact head_read c a0 a1 a2 a3 a4 s20 s21 s22 s24 2 _ h k
      · exact keys_read c a7 s27 2 _ t k
      · exact values_read c a8 s28 2 _ t k
      · exact len_2 c a9 s29
    · unfold kernelRun.sl.v692_r0 kernelRun.sl.v643_r0 kernelRun.sl.v646_r0 kernelRun.sl.v565_r0 kernelRun.sl.v571_r0
      refine (congrFun (Cert.Quant.heads_1 _ _ _ _ _ _ _ _) _).trans (hr 1 _ (fun h k => ?_) _ _ (fun t k => ?_) (fun t k => ?_) _ ?_ h d)
      · exact head_read c a0 a1 a2 a3 a4 s20 s21 s22 s24 1 _ h k
      · exact keys_read c a7 s27 1 _ t k
      · exact values_read c a8 s28 1 _ t k
      · exact len_1 c a9 s29
    · unfold kernelRun.sl.v595_r0 kernelRun.sl.v602_r0
      refine (congrFun (Cert.Quant.heads_0 _ _ _ _ _ _ _ _) _).trans (hr 0 _ (fun h k => ?_) _ _ (fun t k => ?_) (fun t k => ?_) _ ?_ h d)
      · exact head_read c a0 a1 a2 a3 a4 s20 s21 s22 s24 0 _ h k
      · exact keys_read c a7 s27 0 _ t k
      · exact values_read c a8 s28 0 _ t k
      · exact len_0 c a9 s29
  · have hlt : (y 0).val < 64 := (y 0).isLt
    simp only [List.exists_mem_cons_iff, rows_mem]
    omega

theorem mean_val (s33 : Bf (F := Ideal) c M33) (hl : ∀ r : Fin 4, len (ix2 r 0) = a9 (ix1 r)) (hp : ∀ r : Fin 4, pos (ix2 r 0) = a10 (ix1 r)) :
    kernelRun.sl.dma142_4 c a0 a1 a2 a3 a4 a7 a8 a9 a10 s20 s21 s22 s24 s27 s28 s29 s30 s33
      = refMean a0 a1 a2 a3 a4 a7 a8 len pos := by
  unfold kernelRun.sl.dma142_4
  funext y
  have hlt : (y 0).val < 64 := (y 0).isLt
  refine (View.read_writes_apply_eq_canon M33.view s33 y _ ?_).trans
    (mean_canon c a0 a1 a2 a3 a4 s20 s21 s22 s24 a7 a8 a9 a10 s27 s28 s29 s30 len pos hl hp y)
  unfold kernelRun.sl.Hs33_4 kernelRun.sl.Hs33_3 kernelRun.sl.Hs33_2 kernelRun.sl.Hs33_1
  simp only [List.exists_mem_cons_iff, rows_mem]
  omega

/-- The attention of a run is the reference's, of the rows, the weights, the caches, the lengths and the positions it was
given. -/
def MeanP (x : S4x2048.Idx → Elt Ideal .bf16) (g b : S1x2048.Idx → Elt Ideal .f32)
    (w : S2048x13568.Idx → Elt Ideal .fp8e4m3) (s : S1x13568.Idx → Elt Ideal .f32) (kc vc : S4x2560x128.Idx → Elt Ideal .fp8e5m2)
    (len pos : Cert.ReferenceIdeal.S4x1.Idx → Elt Ideal .i32) (o : Outs Ideal c) : Prop :=
  o.x13 = refMean x g b w s kc vc len pos

variable (a5 : Bf (F := Ideal) c M5) (a6 : Bf (F := Ideal) c M6) (r11 : Bf (F := Ideal) c M11) (r12 : Bf (F := Ideal) c M12) (r13 : Bf (F := Ideal) c M13) (r14 : Bf (F := Ideal) c M14) (r15 : Bf (F := Ideal) c M15) (r16 : Bf (F := Ideal) c M16) (r17 : Bf (F := Ideal) c M17) (r18 : Bf (F := Ideal) c M18) (r19 : Bf (F := Ideal) c M19) (s23 : Bf (F := Ideal) c M23) (s25 : Bf (F := Ideal) c M25) (s26 : Bf (F := Ideal) c M26) (s31 : Bf (F := Ideal) c M31) (s32 : Bf (F := Ideal) c M32) (s33 : Bf (F := Ideal) c M33) (s34 : Bf (F := Ideal) c M34) (s35 : Bf (F := Ideal) c M35) (s36 : Bf (F := Ideal) c M36) (s37 : Bf (F := Ideal) c M37) (s38 : Bf (F := Ideal) c M38) (s39 : Bf (F := Ideal) c M39) (s40 : Bf (F := Ideal) c M40) (s41 : Bf (F := Ideal) c M41) (s42 : Bf (F := Ideal) c M42) (s43 : Bf (F := Ideal) c M43) (s44 : Bf (F := Ideal) c M44)
theorem mean_run (hl : ∀ r : Fin 4, len (ix2 r 0) = a9 (ix1 r)) (hp : ∀ r : Fin 4, pos (ix2 r 0) = a10 (ix1 r)) :
    MeanP c a0 a1 a2 a3 a4 a7 a8 len pos (kernelRun c a0 a1 a2 a3 a4 a5 a6 a7 a8 a9 a10 r11 r12 r13 r14 r15 r16 r17 r18 r19 s20 s21 s22 s23 s24 s25 s26 s27 s28 s29 s30 s31 s32 s33 s34 s35 s36 s37 s38 s39 s40 s41 s42 s43 s44).1 :=
  (View.read_write_univ (v := M13.view) r13 _).trans (mean_val c a0 a1 a2 a3 a4 s20 s21 s22 s24 a7 a8 a9 a10 s27 s28 s29 s30 len pos s33 hl hp)

end Attention

end Cert.KernelIdeal.Hand
-- ==== Proof.CatIdeal.lean ====
/-
  The second quantiser in both programs, of the attention beside the gated columns: the
  same search and the same count as the first, over rows of 7680.
-/
module

public import proofs.«01_k».proof.Proof.FrontIdeal
public import Idealize.ShloMosaic.Lib.Pipeline.Value

@[expose] public section

noncomputable section

namespace Cert.Quant

open Idealize.ShloMosaic
open Idealize.ShloMosaic.ValueIdx

local notation "Col" => (⟨2, ![4, 1]⟩ : Shape)

/-! ### The kernel's search -/

section Kernel
open Cert.KernelIdeal Cert.KernelIdeal.Gen

variable (t : FVec Ideal Col .f32)

/-- The exponent the kernel reads the second scale from, at an index. -/
theorem expo_apply₂ (i : (Shape.Idx Col)) :
    k0_pay104 t (k0_pay101 t) (k0_pay102 t) (k0_pay103 t) i = expoW (t i) := by
  have h8 : k0_pay101 t i = min (t i) (pow2 125) := by
    rw [← ofBits_p125]; rfl
  have hs := search_eq (t i)
  rw [← h8] at hs
  have e102 : k0_pay102 t i = step (k0_pay101 t i) 16#32 (step (k0_pay101 t i) 32#32 (step (k0_pay101 t i) 64#32
      (step (k0_pay101 t i) 128#32 0#32))) :=
    (stepV _ _ 16#32 i).trans (congrArg _ ((stepV _ _ 32#32 i).trans
      (congrArg _ ((stepV _ _ 64#32 i).trans (congrArg _ (stepV _ (broadcast Col 0#32) 128#32 i))))))
  rw [← e102] at hs
  unfold k0_pay104 k0_pay103 expoW
  rw [← hs, ← ofBits_zero]
  generalize k0_pay102 t = n
  generalize k0_pay101 t = u
  refine congrArg (fun k => Scalar.select (Ideal.cmp .oeq (t i) (Ideal.ofBits .f32 0x00000000#32)) 0#32 (k - 126#32)) ?_
  exact (stepV _ _ 1#32 i).trans (congrArg _ ((stepV _ _ 2#32 i).trans
      (congrArg _ ((stepV _ _ 4#32 i).trans (congrArg _ (stepV _ _ 8#32 i))))))

theorem scale_apply₂ (i : (Shape.Idx Col)) :
    k0_pay105 t (k0_pay101 t) (k0_pay102 t) (k0_pay103 t) i = pow2 (expo (t i)) := by
  rw [← scaleW, ← expo_apply₂]
  rfl

theorem inv_apply₂ (i : (Shape.Idx Col)) :
    k0_pay107 (F := Ideal) (k0_pay106 t (k0_pay101 t) (k0_pay102 t) (k0_pay103 t)) i = pow2 (-expo (t i)) := by
  rw [← invW, ← expo_apply₂]
  rfl

end Kernel

/-! ### The two programs' codes and scales -/

section Both
open Cert.ReferenceIdeal Cert.ReferenceIdeal.Gen

variable (gate up : FVec Ideal S4x5632 .f32) (o : FVec Ideal S4x16x128 .f32) (sig : FVec Ideal S4x5632 .f32)

theorem expo_ref₂ (i : (Shape.Idx Col)) :
    k0_pay32 gate up o sig i
      = ((expo (Cert.KernelIdeal.Gen.k0_pay100 (k0_pay31 gate up o sig) i) : ℝ) : EReal) := by
  rw [← expo_ref]
  unfold k0_pay32 Cert.KernelIdeal.Gen.k0_pay100 k0_pay9 below
  generalize k0_pay31 gate up o sig = cat
  rfl

theorem scales_eq₂ :
    Cert.KernelIdeal.Gen.k0_pay105 (Cert.KernelIdeal.Gen.k0_pay100 (k0_pay31 gate up o sig))
        (Cert.KernelIdeal.Gen.k0_pay101 (Cert.KernelIdeal.Gen.k0_pay100 (k0_pay31 gate up o sig)))
        (Cert.KernelIdeal.Gen.k0_pay102 (Cert.KernelIdeal.Gen.k0_pay100 (k0_pay31 gate up o sig)))
        (Cert.KernelIdeal.Gen.k0_pay103 (Cert.KernelIdeal.Gen.k0_pay100 (k0_pay31 gate up o sig)))
      = k0_pay33 gate up o sig := by
  funext i
  rw [scale_apply₂]
  have h := expo_ref₂ gate up o sig i
  unfold k0_pay33
  generalize k0_pay32 gate up o sig = e at h ⊢
  rw [← exp2_int, ← h]
  rfl

theorem codes_eq₂ :
    Cert.KernelIdeal.Gen.k0_pay108 (k0_pay31 gate up o sig)
        (Cert.KernelIdeal.Gen.k0_pay106 (Cert.KernelIdeal.Gen.k0_pay100 (k0_pay31 gate up o sig))
          (Cert.KernelIdeal.Gen.k0_pay101 (Cert.KernelIdeal.Gen.k0_pay100 (k0_pay31 gate up o sig)))
          (Cert.KernelIdeal.Gen.k0_pay102 (Cert.KernelIdeal.Gen.k0_pay100 (k0_pay31 gate up o sig)))
          (Cert.KernelIdeal.Gen.k0_pay103 (Cert.KernelIdeal.Gen.k0_pay100 (k0_pay31 gate up o sig))))
      = k0_pay34 gate up o sig := by
  unfold Cert.KernelIdeal.Gen.k0_pay108 k0_pay34
  rw [funext (fun i => (inv_apply₂ (Cert.KernelIdeal.Gen.k0_pay100 (k0_pay31 gate up o sig)) i).trans
    (show _ = exp2 (subf (broadcast S4x1 (Scalar.ofBits .f32 0x00000000#32 : Ideal .f32)) (k0_pay32 gate up o sig)) i by
      rw [neg_apply, expo_ref₂, ofBits_zero, zero_sub, ← EReal.coe_neg, ← Int.cast_neg, exp2_int]))]
  simp only [shapeCast_self]

theorem as_row₂ (col : FVec Ideal Col .f32) : Cert.KernelIdeal.Gen.k0_pay110 col = k0_pay4 col := as_row col

/-! ### The attention beside the gated columns, at an index -/

/-- A gated column, of the gate and the up projection. -/
def mlp (g u : Ideal .f32) : Ideal .f32 := FloatOps.mulf (FloatOps.mulf g (FloatOps.logistic g)) u

theorem cat_left (r : Fin 4) (n : Fin 2048) :
    k0_pay31 gate up o sig (ix2 r ⟨n.val, by omega⟩)
      = k0_pay2 o (ix2 ⟨16 * r.val + n.val / 128, by omega⟩ ⟨n.val % 128, Nat.mod_lt _ (by decide)⟩) := by
  have hn := n.isLt
  unfold k0_pay2 k0_pay31
  rw [shapeCast_apply o shapeCasts_S4x16x128_S64x128 _ (ix3 r ⟨n.val / 128, by omega⟩ ⟨n.val % 128, Nat.mod_lt _ (by decide)⟩) (by
    rw [Shape.rowMajor_val_two, Shape.rowMajor_val_three]
    change (r.val * 16 + n.val / 128) * 128 + n.val % 128 = (16 * r.val + n.val / 128) * 128 + n.val % 128
    omega)]
  refine (concatenate_pair_apply_left (t := S4x7680) (s₁ := S4x2048) (s₂ := S4x5632) 1 _ _ concatenates_S4x2048_S4x5632_S4x7680_d1
    (ix2 r ⟨n.val, by omega⟩) rfl (ix2 r n) fun b => ?_).trans ?_
  · match b with
    | ⟨0, _⟩ => rfl
    | ⟨1, _⟩ => rfl
  · refine shapeCast_apply _ _ _ _ ?_
    rw [Shape.rowMajor_val_two, Shape.rowMajor_val_three]
    change (r.val * 16 + n.val / 128) * 128 + n.val % 128 = r.val * 2048 + n.val
    omega

theorem cat_right (r : Fin 4) (n : Fin 5632) :
    k0_pay31 gate up o (k0_pay30 gate) (ix2 r ⟨2048 + n.val, by omega⟩) = mlp (gate (ix2 r n)) (up (ix2 r n)) := by
  unfold k0_pay31
  refine (concatenate_pair_apply_right (t := S4x7680) (s₁ := S4x2048) (s₂ := S4x5632) 1 _ _ concatenates_S4x2048_S4x5632_S4x7680_d1
    (ix2 r ⟨2048 + n.val, by omega⟩) rfl rfl (ix2 r n) (fun b hb => ?_) ?_).trans rfl
  · match b with
    | ⟨0, _⟩ => rfl
    | ⟨1, _⟩ => exact absurd rfl hb
  · exact Nat.add_comm _ _

end Both

end Cert.Quant
-- ==== Proof.CatRunIdeal.lean ====
/-
  What the kernel's run leaves in the second quantiser's codes and scales: the buffer of the
  attention beside the gated columns, filled before the loop and on its trips, is the
  reference's.
-/
module

public import proofs.«01_k».proof.Proof.CatIdeal
public import proofs.«01_k».proof.Proof.AttnRunIdeal

@[expose] public section

noncomputable section

namespace Cert.KernelIdeal.Hand

open Cert.KernelIdeal Idealize.SL.Sem Idealize.ShloMosaic.TcCoe
open Idealize.ShloMosaic hiding ix1 ix2 ix3
open Idealize.ShloMosaic.ValueIdx

variable (c : Dev nD)

/-! ### The gated columns -/

theorem gated_tile (e : FVec Ideal S4x1 .f32) (g : FVec Ideal S4x512 .f32) (q : Vec Ideal S32x2048 .fp8e4m3)
    (w : Vec Ideal S2048x512 .fp8e4m3) (s : Vec Ideal S1x512 .f32) (i : S4x512.Idx) :
    Gen.k0_pay99 e g q w s i = Cert.Quant.mlp (g i) (Gen.k0_pay98 e q w s i) := by
  unfold Gen.k0_pay99 Gen.k0_pay98
  rw [shapeCast_self, shapeCast_self]
  rfl

theorem gate_same (e : FVec Ideal S4x1 .f32) (q : Vec Ideal S32x2048 .fp8e4m3)
    (w : Vec Ideal S2048x512 .fp8e4m3) (s : Vec Ideal S1x512 .f32) (i : S4x512.Idx) :
    Gen.k0_pay3 e q w s i = Gen.k0_pay2 e q w s i := by
  unfold Gen.k0_pay3 Gen.k0_pay2
  rw [shapeCast_self]
  rfl

section Loop
variable (a3 : Bf (F := Ideal) c M3) (s3 : Bf (F := Ideal) c M23) (f40 : Bf (F := Ideal) c M40) (f24 : Bf (F := Ideal) c M24)
  (e : FVec Ideal S4x1 .f32) (v872 : Vec Ideal S4x128 .f32)

/-- The gated column, of the padded codes and the scales the loop reads. -/
def gated (r : Fin 4) (j : Fin 5632) : Ideal .f32 :=
  Cert.Quant.mlp (colVal a3 f40 f24 e r ⟨2304 + j.val, by omega⟩) (colVal a3 f40 f24 e r ⟨7936 + j.val, by omega⟩)

theorem read43 (f : Bf (F := Ideal) c M43) : View.read (Elt Ideal) M43.view f = f := rfl

theorem trip_in (t : Fin k0_t1_loop.trips) (o : Bf (F := Ideal) c M43) (r : Fin 4) (j : Fin 512)
    (h : 512 * t.val + j.val < 5632) (hn : 2048 + 512 * t.val + j.val < 7680) :
    (tripRun1 c a3 s3 f40 f24 e v872 t).1.2 o (ix2 r ⟨2048 + 512 * t.val + j.val, hn⟩)
      = gated c a3 f40 f24 e r ⟨512 * t.val + j.val, h⟩ := by
  unfold tripRun1
  dsimp only
  refine (congrFun (read43 c _).symm _).trans ?_
  refine (writes_cols_in (M := 4) (N := 7680) (W := 512) M43.view o _ _ _ (off6_eq t) r j _).trans ?_
  refine (gated_tile ..).trans ?_
  unfold gated
  refine congr (congrArg Cert.Quant.mlp ?_) ?_
  · unfold tripRun1.sl.r
    refine (gate_same ..).trans ((gate_val c a3 f40 f24 e t _ r j).trans (congrArg (colVal a3 f40 f24 e r) (Fin.ext ?_)))
    show 2304 + 512 * t.val + j.val = 2304 + (512 * t.val + j.val)
    omega
  · refine (up_val c a3 f40 f24 e t _ r j).trans (congrArg (colVal a3 f40 f24 e r) (Fin.ext ?_))
    show 7936 + 512 * t.val + j.val = 7936 + (512 * t.val + j.val)
    omega

theorem trip_out (t : Fin k0_t1_loop.trips) (o : Bf (F := Ideal) c M43) (r : Fin 4) (n : Fin 7680)
    (hn : n.val < 2048 + 512 * t.val ∨ 2048 + 512 * t.val + 512 ≤ n.val) :
    (tripRun1 c a3 s3 f40 f24 e v872 t).1.2 o (ix2 r n) = o (ix2 r n) := by
  unfold tripRun1
  dsimp only
  refine (congrFun (read43 c _).symm _).trans ?_
  exact (writes_cols_out (M := 4) (N := 7680) (W := 512) M43.view o _ _ _ (off6_eq t) r n hn).trans (congrFun (read43 c o) _)

theorem loop_out (o : Bf (F := Ideal) c M43) (k : ℕ) (hk : k ≤ 11) (r : Fin 4) (n : Fin 7680) (hn : n.val < 2048) :
    acc43 c a3 s3 f40 f24 e v872 o k (ix2 r n) = o (ix2 r n) := by
  induction k with
  | zero => rfl
  | succ k ih =>
    have hlt : k < k0_t1_loop.trips := trips1.symm ▸ (show k < 11 by omega)
    rw [acc43, dif_pos hlt, trip_out c a3 s3 f40 f24 e v872 _ _ r n (.inl (by omega))]
    exact ih (by omega)

theorem loop_in (o : Bf (F := Ideal) c M43) (k : ℕ) (hk : k ≤ 11) (r : Fin 4) (j : Fin 5632) (hj : j.val < 512 * k) :
    acc43 c a3 s3 f40 f24 e v872 o k (ix2 r ⟨2048 + j.val, by omega⟩) = gated c a3 f40 f24 e r j := by
  induction k with
  | zero => omega
  | succ k ih =>
    have hlt : k < k0_t1_loop.trips := trips1.symm ▸ (show k < 11 by omega)
    rw [acc43, dif_pos hlt]
    by_cases h : 512 * k ≤ j.val
    · obtain ⟨i, hi, rfl⟩ := col_split (W := 512) j (512 * k) h (by omega)
      have hs : (⟨2048 + (512 * k + i.val), by omega⟩ : Fin 7680) = ⟨2048 + 512 * k + i.val, by omega⟩ := Fin.ext (by
        show 2048 + (512 * k + i.val) = 2048 + 512 * k + i.val
        omega)
      rw [hs]
      exact trip_in c a3 s3 f40 f24 e v872 ⟨k, hlt⟩ _ r i hi _
    · rw [trip_out c a3 s3 f40 f24 e v872 _ _ r _ (.inl (by show 2048 + j.val < 2048 + 512 * k; omega))]
      exact ih (by omega) (by omega)

end Loop

/-! ### The attention's columns -/

variable (a0 : Bf (F := Ideal) c M0) (a1 : Bf (F := Ideal) c M1) (a2 : Bf (F := Ideal) c M2)
  (a3 : Bf (F := Ideal) c M3) (a4 : Bf (F := Ideal) c M4)
  (a7 : Bf (F := Ideal) c M7) (a8 : Bf (F := Ideal) c M8) (a9 : Bf (F := Ideal) c M9) (a10 : Bf (F := Ideal) c M10)
  (s20 : Bf (F := Ideal) c M20) (s21 : Bf (F := Ideal) c M21) (s22 : Bf (F := Ideal) c M22) (s24 : Bf (F := Ideal) c M24)
  (s27 : Bf (F := Ideal) c M27) (s28 : Bf (F := Ideal) c M28) (s29 : Bf (F := Ideal) c M29) (s30 : Bf (F := Ideal) c M30)
  (len pos : Cert.ReferenceIdeal.S4x1.Idx → Elt Ideal .i32)

/-- The attention laid out by rows, at an index of the wide buffer. -/
def headcols (o : FVec Ideal S64x128 .f32) (y : S4x7680.Idx) : Ideal .f32 :=
  if h : (y 1).val < 2048 then
    o (ix2 ⟨16 * (y 0).val + (y 1).val / 128, by have h0 : (y 0).val < 4 := (y 0).isLt; omega⟩ ⟨(y 1).val % 128, Nat.mod_lt _ (by decide)⟩)
  else 0

theorem headcol_ok (hl : ∀ r : Fin 4, len (ix2 r 0) = a9 (ix1 r)) (hp : ∀ r : Fin 4, pos (ix2 r 0) = a10 (ix1 r))
    (h : ℕ) (hh : h < 16) (inb) (inb') (x : S4x128.Idx) :
    shapeCast S4x128 (M33.view.readCov (kernelRun.sl.Hs33_4 c a0 a1 a2 a3 a4 a7 a8 a9 a10 s20 s21 s22 s24 s27 s28 s29 s30)
        ({ off := ![h, 0], size := S4x128.size, stride := ![16, 1], inb := inb } : LoadRect S64x128)) Gen.shapeCasts_S4x128_S4x128 x
      = headcols (refMean a0 a1 a2 a3 a4 a7 a8 len pos) ((Rect.unit (s := S4x7680) ![0, 128 * h] S4x128.size inb').emb x) := by
  obtain ⟨r, k, rfl⟩ : ∃ (r : Fin 4) (k : Fin 128), x = ix2 r k := ⟨x 0, x 1, (Cert.Quant.ix2_coords x).symm⟩
  have hr := r.isLt
  have hk := k.isLt
  rw [shapeCast_self, View.readCov_eq_canon']
  refine (mean_canon c a0 a1 a2 a3 a4 s20 s21 s22 s24 a7 a8 a9 a10 s27 s28 s29 s30 len pos hl hp _).trans ?_
  have h1 : (((Rect.unit (s := S4x7680) ![0, 128 * h] S4x128.size inb').emb (ix2 r k)) 1).val = 128 * h + 1 * k.val := rfl
  have h0 : (((Rect.unit (s := S4x7680) ![0, 128 * h] S4x128.size inb').emb (ix2 r k)) 0).val = 0 + 1 * r.val := rfl
  unfold headcols
  rw [dif_pos (by omega)]
  refine congrArg (refMean a0 a1 a2 a3 a4 a7 a8 len pos) (funext fun a => ?_)
  match a with
  | ⟨0, _⟩ => exact Fin.ext (show h + 16 * r.val = 16 * (0 + 1 * r.val) + (128 * h + 1 * k.val) / 128 by omega)
  | ⟨1, _⟩ => exact Fin.ext (show 0 + 1 * k.val = (128 * h + 1 * k.val) % 128 by omega)

theorem cols_mem (o : ℕ) (inb) (y : S4x7680.Idx) :
    y ∈ (Rect.unit (s := S4x7680) ![0, o] ![4, 128] inb).set ↔ o ≤ (y 1).val ∧ (y 1).val < o + 128 := by
  rw [Rect.mem_set_unit]
  refine ⟨fun h => h 1, fun h a => ?_⟩
  match a with
  | ⟨0, _⟩ => exact ⟨Nat.zero_le _, by have h1 : (y 0).val < 4 := (y 0).isLt; show (y 0).val < 0 + 4; omega⟩
  | ⟨1, _⟩ => exact h

/-! ### The wide rows -/

section Wide
variable (x : S4x2048.Idx → Elt Ideal .bf16) (g b : S1x2048.Idx → Elt Ideal .f32)
    (w : S2048x13568.Idx → Elt Ideal .fp8e4m3) (s : S1x13568.Idx → Elt Ideal .f32) (kc vc : S4x2560x128.Idx → Elt Ideal .fp8e5m2)
open Cert.ReferenceIdeal.Gen

/-- The reference's gate columns. -/
abbrev refGate : FVec Ideal Cert.ReferenceIdeal.S4x5632 .f32 := k0_pay17 (k0_pay6 x g b) (k0_pay7 x g b) (k0_pay8 x g b) w s
/-- The reference's up projection. -/
abbrev refUp : FVec Ideal Cert.ReferenceIdeal.S4x5632 .f32 := k0_pay18 (k0_pay6 x g b) (k0_pay7 x g b) (k0_pay8 x g b) w s
/-- The reference's attention, by rows and heads. -/
abbrev refHeads : FVec Ideal Cert.ReferenceIdeal.S4x16x128 .f32 :=
  k0_pay29 (k0_pay24 (k0_pay15 (k0_pay6 x g b) (k0_pay7 x g b) (k0_pay8 x g b) w s) k0_pay19 k0_pay20 pos)
    (k0_pay25 (k0_pay16 (k0_pay6 x g b) (k0_pay7 x g b) (k0_pay8 x g b) w s))
    (k0_pay27 (k0_pay14 (k0_pay6 x g b) (k0_pay7 x g b) (k0_pay8 x g b) w s) k0_pay19 k0_pay20 pos kc)
    (k0_pay28 (k0_pay14 (k0_pay6 x g b) (k0_pay7 x g b) (k0_pay8 x g b) w s) k0_pay19 k0_pay20 pos) len vc
/-- The reference's attention beside its gated columns. -/
abbrev refWide : FVec Ideal Cert.ReferenceIdeal.S4x7680 .f32 :=
  k0_pay31 (refGate x g b w s) (refUp x g b w s) (refHeads len pos x g b w s kc vc) (k0_pay30 (refGate x g b w s))

theorem gate_cols (r : Fin 4) (j : Fin 5632) : refGate x g b w s (ix2 r j) = refProj x g b w s (ix2 r ⟨2304 + j.val, by omega⟩) := by
  unfold refGate k0_pay17
  refine extractStridedSlice_apply _ _ _ _ (ix2 r ⟨2304 + j.val, by omega⟩) ?_
  intro a
  match a with
  | ⟨0, _⟩ => exact (Nat.zero_add _).symm
  | ⟨1, _⟩ => rfl

theorem up_cols (r : Fin 4) (j : Fin 5632) : refUp x g b w s (ix2 r j) = refProj x g b w s (ix2 r ⟨7936 + j.val, by omega⟩) := by
  unfold refUp k0_pay18
  refine extractStridedSlice_apply _ _ _ _ (ix2 r ⟨7936 + j.val, by omega⟩) ?_
  intro a
  match a with
  | ⟨0, _⟩ => exact (Nat.zero_add _).symm
  | ⟨1, _⟩ => rfl

end Wide

variable (s23 : Bf (F := Ideal) c M23) (s43 : Bf (F := Ideal) c M43)

theorem wide_val (hl : ∀ r : Fin 4, len (ix2 r 0) = a9 (ix1 r)) (hp : ∀ r : Fin 4, pos (ix2 r 0) = a10 (ix1 r)) :
    kernelRun.sl.v897_r0 c a0 a1 a2 a3 a4 a7 a8 a9 a10 s20 s21 s22 s23 s24 s27 s28 s29 s30 s43 = refWide len pos a0 a1 a2 a3 a4 a7 a8 := by
  funext i
  obtain ⟨r, n, rfl⟩ : ∃ (r : Fin 4) (n : Fin 7680), i = ix2 r n := ⟨i 0, i 1, (Cert.Quant.ix2_coords i).symm⟩
  have hn7 := n.isLt
  unfold kernelRun.sl.v897_r0
  have hT : Scf.trips k0_t1_loop.lb k0_t1_loop.ub k0_t1_loop.st = 11 := trips1
  rw [hT]
  refine (congrFun (View.readAt_full M43.view _ _) (ix2 r n)).trans ((congrFun (read43 c _) _).trans ?_)
  by_cases h : n.val < 2048
  · refine (loop_out c a3 s23 _ _ _ _ _ 11 le_rfl r n h).trans ((congrFun (read43 c _).symm _).trans ?_)
    refine Eq.trans ?_ (Cert.Quant.cat_left _ _ _ _ r ⟨n.val, h⟩).symm
    unfold kernelRun.sl.Hs43_13 kernelRun.sl.Hs43_7 kernelRun.sl.v823_r0 kernelRun.sl.v827_r0 kernelRun.sl.v831_r0 kernelRun.sl.v835_r0 kernelRun.sl.v839_r0 kernelRun.sl.v843_r0 kernelRun.sl.v847_r0 kernelRun.sl.v851_r0 kernelRun.sl.v855_r0 kernelRun.sl.v859_r0 kernelRun.sl.v863_r0 kernelRun.sl.v867_r0 kernelRun.sl.v871_r0
    unfold kernelRun.sl.v820_r0 kernelRun.sl.v824_r0 kernelRun.sl.v828_r0 kernelRun.sl.v832_r0 kernelRun.sl.v836_r0 kernelRun.sl.v840_r0 kernelRun.sl.v844_r0 kernelRun.sl.v848_r0 kernelRun.sl.v852_r0 kernelRun.sl.v856_r0 kernelRun.sl.v860_r0 kernelRun.sl.v864_r0 kernelRun.sl.v868_r0 kernelRun.sl.v872_r0 kernelRun.sl.v876_r0 kernelRun.sl.v880_r0
    unfold Gen.k0_pay96 Gen.k0_pay95 Gen.k0_pay94
    refine (View.read_writes_apply_of_pieces M43.view s43 (headcols (refMean a0 a1 a2 a3 a4 a7 a8 len pos)) _ ?_ (ix2 r n) ?_).trans ?_
    · simp only [List.forall_mem_cons]
      exact ⟨
      headcol_ok c a0 a1 a2 a3 a4 a7 a8 a9 a10 s20 s21 s22 s24 s27 s28 s29 s30 len pos hl hp 15 (by decide) _ _,
      headcol_ok c a0 a1 a2 a3 a4 a7 a8 a9 a10 s20 s21 s22 s24 s27 s28 s29 s30 len pos hl hp 14 (by decide) _ _,
      headcol_ok c a0 a1 a2 a3 a4 a7 a8 a9 a10 s20 s21 s22 s24 s27 s28 s29 s30 len pos hl hp 13 (by decide) _ _,
      headcol_ok c a0 a1 a2 a3 a4 a7 a8 a9 a10 s20 s21 s22 s24 s27 s28 s29 s30 len pos hl hp 12 (by decide) _ _,
      headcol_ok c a0 a1 a2 a3 a4 a7 a8 a9 a10 s20 s21 s22 s24 s27 s28 s29 s30 len pos hl hp 11 (by decide) _ _,
      headcol_ok c a0 a1 a2 a3 a4 a7 a8 a9 a10 s20 s21 s22 s24 s27 s28 s29 s30 len pos hl hp 10 (by decide) _ _,
      headcol_ok c a0 a1 a2 a3 a4 a7 a8 a9 a10 s20 s21 s22 s24 s27 s28 s29 s30 len pos hl hp 9 (by decide) _ _,
      headcol_ok c a0 a1 a2 a3 a4 a7 a8 a9 a10 s20 s21 s22 s24 s27 s28 s29 s30 len pos hl hp 8 (by decide) _ _,
      headcol_ok c a0 a1 a2 a3 a4 a7 a8 a9 a10 s20 s21 s22 s24 s27 s28 s29 s30 len pos hl hp 7 (by decide) _ _,
      headcol_ok c a0 a1 a2 a3 a4 a7 a8 a9 a10 s20 s21 s22 s24 s27 s28 s29 s30 len pos hl hp 6 (by decide) _ _,
      headcol_ok c a0 a1 a2 a3 a4 a7 a8 a9 a10 s20 s21 s22 s24 s27 s28 s29 s30 len pos hl hp 5 (by decide) _ _,
      headcol_ok c a0 a1 a2 a3 a4 a7 a8 a9 a10 s20 s21 s22 s24 s27 s28 s29 s30 len pos hl hp 4 (by decide) _ _,
      headcol_ok c a0 a1 a2 a3 a4 a7 a8 a9 a10 s20 s21 s22 s24 s27 s28 s29 s30 len pos hl hp 3 (by decide) _ _,
      headcol_ok c a0 a1 a2 a3 a4 a7 a8 a9 a10 s20 s21 s22 s24 s27 s28 s29 s30 len pos hl hp 2 (by decide) _ _,
      headcol_ok c a0 a1 a2 a3 a4 a7 a8 a9 a10 s20 s21 s22 s24 s27 s28 s29 s30 len pos hl hp 1 (by decide) _ _,
      headcol_ok c a0 a1 a2 a3 a4 a7 a8 a9 a10 s20 s21 s22 s24 s27 s28 s29 s30 len pos hl hp 0 (by decide) _ _,
      fun _ h => absurd h List.not_mem_nil⟩
    · have h1 : ((ix2 r n : S4x7680.Idx) 1).val = n.val := rfl
      simp only [List.exists_mem_cons_iff, cols_mem, h1]
      omega
    · exact dif_pos h
  · obtain ⟨j, hj, rfl⟩ := col_split (W := 5632) n 2048 (by omega) (by omega)
    refine (loop_in c a3 s23 _ _ _ _ _ 11 le_rfl r j (by have := j.isLt; omega)).trans ?_
    refine Eq.trans ?_ (Cert.Quant.cat_right _ _ _ r j).symm
    rw [gate_cols, up_cols]
    unfold gated
    rw [colVal_eq, colVal_eq]

theorem wide_codes (s38 : Bf (F := Ideal) c M38) (hl : ∀ r : Fin 4, len (ix2 r 0) = a9 (ix1 r)) (hp : ∀ r : Fin 4, pos (ix2 r 0) = a10 (ix1 r)) :
    kernelRun.sl.dma7 c a0 a1 a2 a3 a4 a7 a8 a9 a10 s20 s21 s22 s23 s24 s27 s28 s29 s30 s38 s43
      = Cert.ReferenceIdeal.Gen.k0_pay34 (refGate a0 a1 a2 a3 a4) (refUp a0 a1 a2 a3 a4) (refHeads len pos a0 a1 a2 a3 a4 a7 a8)
          (Cert.ReferenceIdeal.Gen.k0_pay30 (refGate a0 a1 a2 a3 a4)) := by
  unfold kernelRun.sl.dma7 kernelRun.sl.Hs38_1
  refine (View.read_writes_full _ _ _ _ _).trans ?_
  unfold kernelRun.sl.v990_r0 kernelRun.sl.v946_r0 kernelRun.sl.v941_r0 kernelRun.sl.v904_r0 kernelRun.sl.v902_r0
  rw [wide_val c a0 a1 a2 a3 a4 a7 a8 a9 a10 s20 s21 s22 s24 s27 s28 s29 s30 len pos s23 s43 hl hp]
  exact Cert.Quant.codes_eq₂ _ _ _ _

theorem wide_scale (hl : ∀ r : Fin 4, len (ix2 r 0) = a9 (ix1 r)) (hp : ∀ r : Fin 4, pos (ix2 r 0) = a10 (ix1 r)) :
    kernelRun.sl.v988_r0 c a0 a1 a2 a3 a4 a7 a8 a9 a10 s20 s21 s22 s23 s24 s27 s28 s29 s30 s43
      = Cert.ReferenceIdeal.Gen.k0_pay33 (refGate a0 a1 a2 a3 a4) (refUp a0 a1 a2 a3 a4) (refHeads len pos a0 a1 a2 a3 a4 a7 a8)
          (Cert.ReferenceIdeal.Gen.k0_pay30 (refGate a0 a1 a2 a3 a4)) := by
  unfold kernelRun.sl.v988_r0 kernelRun.sl.v946_r0 kernelRun.sl.v941_r0 kernelRun.sl.v904_r0 kernelRun.sl.v902_r0
  rw [wide_val c a0 a1 a2 a3 a4 a7 a8 a9 a10 s20 s21 s22 s24 s27 s28 s29 s30 len pos s23 s43 hl hp]
  exact Cert.Quant.scales_eq₂ _ _ _ _

theorem wide_scales (s39 : Bf (F := Ideal) c M39) (hl : ∀ r : Fin 4, len (ix2 r 0) = a9 (ix1 r)) (hp : ∀ r : Fin 4, pos (ix2 r 0) = a10 (ix1 r)) :
    kernelRun.sl.dma7_1 c a0 a1 a2 a3 a4 a7 a8 a9 a10 s20 s21 s22 s23 s24 s27 s28 s29 s30 s39 s43
      = Cert.ReferenceIdeal.Gen.k0_pay4 (Cert.ReferenceIdeal.Gen.k0_pay33 (refGate a0 a1 a2 a3 a4) (refUp a0 a1 a2 a3 a4)
          (refHeads len pos a0 a1 a2 a3 a4 a7 a8) (Cert.ReferenceIdeal.Gen.k0_pay30 (refGate a0 a1 a2 a3 a4))) := by
  unfold kernelRun.sl.dma7_1 kernelRun.sl.Hs39_1
  refine (View.read_writes_full _ _ _ _ _).trans ?_
  rw [wide_scale c a0 a1 a2 a3 a4 a7 a8 a9 a10 s20 s21 s22 s24 s27 s28 s29 s30 len pos s23 s43 hl hp]
  exact Cert.Quant.as_row₂ _

/-- The second codes and scales of a run are the reference's, of the rows, the weights, the caches, the lengths and the
positions it was given. -/
def WideP (x : S4x2048.Idx → Elt Ideal .bf16) (g b : S1x2048.Idx → Elt Ideal .f32)
    (w : S2048x13568.Idx → Elt Ideal .fp8e4m3) (s : S1x13568.Idx → Elt Ideal .f32) (kc vc : S4x2560x128.Idx → Elt Ideal .fp8e5m2)
    (len pos : Cert.ReferenceIdeal.S4x1.Idx → Elt Ideal .i32) (o : Outs Ideal c) : Prop :=
  o.x18 = Cert.ReferenceIdeal.Gen.k0_pay34 (refGate x g b w s) (refUp x g b w s) (refHeads len pos x g b w s kc vc)
      (Cert.ReferenceIdeal.Gen.k0_pay30 (refGate x g b w s))
  ∧ o.x19 = Cert.ReferenceIdeal.Gen.k0_pay4 (Cert.ReferenceIdeal.Gen.k0_pay33 (refGate x g b w s) (refUp x g b w s) (refHeads len pos x g b w s kc vc)
      (Cert.ReferenceIdeal.Gen.k0_pay30 (refGate x g b w s)))

variable (a5 : Bf (F := Ideal) c M5) (a6 : Bf (F := Ideal) c M6) (r11 : Bf (F := Ideal) c M11) (r12 : Bf (F := Ideal) c M12) (r13 : Bf (F := Ideal) c M13) (r14 : Bf (F := Ideal) c M14) (r15 : Bf (F := Ideal) c M15) (r16 : Bf (F := Ideal) c M16) (r17 : Bf (F := Ideal) c M17) (r18 : Bf (F := Ideal) c M18) (r19 : Bf (F := Ideal) c M19) (s25 : Bf (F := Ideal) c M25) (s26 : Bf (F := Ideal) c M26) (s31 : Bf (F := Ideal) c M31) (s32 : Bf (F := Ideal) c M32) (s33 : Bf (F := Ideal) c M33) (s34 : Bf (F := Ideal) c M34) (s35 : Bf (F := Ideal) c M35) (s36 : Bf (F := Ideal) c M36) (s37 : Bf (F := Ideal) c M37) (s38 : Bf (F := Ideal) c M38) (s39 : Bf (F := Ideal) c M39) (s40 : Bf (F := Ideal) c M40) (s41 : Bf (F := Ideal) c M41) (s42 : Bf (F := Ideal) c M42) (s44 : Bf (F := Ideal) c M44)
set_option maxRecDepth 40000 in
theorem wide_run (hl : ∀ r : Fin 4, len (ix2 r 0) = a9 (ix1 r)) (hp : ∀ r : Fin 4, pos (ix2 r 0) = a10 (ix1 r)) :
    WideP c a0 a1 a2 a3 a4 a7 a8 len pos (kernelRun c a0 a1 a2 a3 a4 a5 a6 a7 a8 a9 a10 r11 r12 r13 r14 r15 r16 r17 r18 r19 s20 s21 s22 s23 s24 s25 s26 s27 s28 s29 s30 s31 s32 s33 s34 s35 s36 s37 s38 s39 s40 s41 s42 s43 s44).1 :=
  ⟨(View.read_write_univ (v := M18.view) r18 _).trans (wide_codes c a0 a1 a2 a3 a4 a7 a8 a9 a10 s20 s21 s22 s24 s27 s28 s29 s30 len pos s23 s43 s38 hl hp),
   (View.read_write_univ (v := M19.view) r19 _).trans (wide_scales c a0 a1 a2 a3 a4 a7 a8 a9 a10 s20 s21 s22 s24 s27 s28 s29 s30 len pos s23 s43 s39 hl hp)⟩

end Cert.KernelIdeal.Hand
-- ==== Proof.RefRunIdeal.lean ====
/-
  What the reference's run leaves in its projection, attention, code, scale, new key and new value
  results: the one grid point's stores, each of its windows being the whole of its array.
-/
module

public import proofs.«01_k».proof.Proof.Gen.ReferenceIdeal.Frame
public import Idealize.ShloMosaic.Lib.Pipeline.Value

@[expose] public section

noncomputable section

namespace Cert.ReferenceIdeal.Hand

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg) (c : Dev nD)

/-! ### The input windows are their arrays -/

theorem iblk0 : iblk m c 0 t0_0 = V m c main_v0 :=
  funext fun y => congrArg (V m c main_v0) (funext fun a => by
    match a with
    | ⟨0, _⟩ => exact Fin.ext ((win0_0).rect_emb_val_of_index_zero t0_0 0 rfl y)
    | ⟨1, _⟩ => exact Fin.ext ((win0_0).rect_emb_val_of_index_zero t0_0 1 rfl y))
theorem iblk1 : iblk m c 1 t0_0 = V m c main_v1 :=
  funext fun y => congrArg (V m c main_v1) (funext fun a => by
    match a with
    | ⟨0, _⟩ => exact Fin.ext ((win0_1).rect_emb_val_of_index_zero t0_0 0 rfl y)
    | ⟨1, _⟩ => exact Fin.ext ((win0_1).rect_emb_val_of_index_zero t0_0 1 rfl y))
theorem iblk2 : iblk m c 2 t0_0 = V m c main_v2 :=
  funext fun y => congrArg (V m c main_v2) (funext fun a => by
    match a with
    | ⟨0, _⟩ => exact Fin.ext ((win0_2).rect_emb_val_of_index_zero t0_0 0 rfl y)
    | ⟨1, _⟩ => exact Fin.ext ((win0_2).rect_emb_val_of_index_zero t0_0 1 rfl y))
theorem iblk3 : iblk m c 3 t0_0 = V m c main_arg3 :=
  funext fun y => congrArg (V m c main_arg3) (funext fun a => by
    match a with
    | ⟨0, _⟩ => exact Fin.ext ((win0_3).rect_emb_val_of_index_zero t0_0 0 rfl y)
    | ⟨1, _⟩ => exact Fin.ext ((win0_3).rect_emb_val_of_index_zero t0_0 1 rfl y))
theorem iblk4 : iblk m c 4 t0_0 = V m c main_v3 :=
  funext fun y => congrArg (V m c main_v3) (funext fun a => by
    match a with
    | ⟨0, _⟩ => exact Fin.ext ((win0_4).rect_emb_val_of_index_zero t0_0 0 rfl y)
    | ⟨1, _⟩ => exact Fin.ext ((win0_4).rect_emb_val_of_index_zero t0_0 1 rfl y))
theorem iblk7 : iblk m c 7 t0_0 = V m c main_arg7 :=
  funext fun y => congrArg (V m c main_arg7) (funext fun a => by
    match a with
    | ⟨0, _⟩ => exact Fin.ext ((win0_7).rect_emb_val_of_index_zero t0_0 0 rfl y)
    | ⟨1, _⟩ => exact Fin.ext ((win0_7).rect_emb_val_of_index_zero t0_0 1 rfl y)
    | ⟨2, _⟩ => exact Fin.ext ((win0_7).rect_emb_val_of_index_zero t0_0 2 rfl y))
theorem iblk8 : iblk m c 8 t0_0 = V m c main_arg8 :=
  funext fun y => congrArg (V m c main_arg8) (funext fun a => by
    match a with
    | ⟨0, _⟩ => exact Fin.ext ((win0_8).rect_emb_val_of_index_zero t0_0 0 rfl y)
    | ⟨1, _⟩ => exact Fin.ext ((win0_8).rect_emb_val_of_index_zero t0_0 1 rfl y)
    | ⟨2, _⟩ => exact Fin.ext ((win0_8).rect_emb_val_of_index_zero t0_0 2 rfl y))
theorem iblk9 : iblk m c 9 t0_0 = V m c main_v5 :=
  funext fun y => congrArg (V m c main_v5) (funext fun a => by
    match a with
    | ⟨0, _⟩ => exact Fin.ext ((win0_9).rect_emb_val_of_index_zero t0_0 0 rfl y)
    | ⟨1, _⟩ => exact Fin.ext ((win0_9).rect_emb_val_of_index_zero t0_0 1 rfl y))
theorem iblk10 : iblk m c 10 t0_0 = V m c main_v6 :=
  funext fun y => congrArg (V m c main_v6) (funext fun a => by
    match a with
    | ⟨0, _⟩ => exact Fin.ext ((win0_10).rect_emb_val_of_index_zero t0_0 0 rfl y)
    | ⟨1, _⟩ => exact Fin.ext ((win0_10).rect_emb_val_of_index_zero t0_0 1 rfl y))

/-! ### The output windows are their arrays -/

theorem flushed12 : (dats m 0 c).flushed 12 t0_0 = out0_12 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) := by
  show (cfg0.win 12).cut (grid0.coords t0_0) ((dats m 0 c).after 12 t0_0) = _
  rw [after0_12]
  rfl

theorem one12 (t t' : Fin cfg0.N) (hne : t ≠ t') :
    Disjoint ((cfg0.win 12).blk t).view.set ((cfg0.win 12).blk t').view.set :=
  absurd ((fin_N0 t).trans (fin_N0 t').symm) hne

set_option maxRecDepth 40000 in
theorem arr12 : (dats m 0 c).arrAt 12 cfg0.N = out0_12 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) := by
  have h := (dats m 0 c).read_blk_arrAt_eq_flushed 12 (fun t t' _ _ => one12 t t') cfg0.N t0_0 t0_0.isLt (by decide +kernel)
  rw [flushed12] at h
  rw [← h]
  exact (funext fun y => congrArg ((dats m 0 c).arrAt 12 cfg0.N) (funext fun a => by
    match a with
    | ⟨0, _⟩ => exact (Fin.ext ((win0_12).rect_emb_val_of_index_zero t0_0 0 rfl y)).symm
    | ⟨1, _⟩ => exact (Fin.ext ((win0_12).rect_emb_val_of_index_zero t0_0 1 rfl y)).symm))

theorem flushed13 : (dats m 0 c).flushed 13 t0_0 = out0_13 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) := by
  show (cfg0.win 13).cut (grid0.coords t0_0) ((dats m 0 c).after 13 t0_0) = _
  rw [after0_13]
  rfl

theorem one13 (t t' : Fin cfg0.N) (hne : t ≠ t') :
    Disjoint ((cfg0.win 13).blk t).view.set ((cfg0.win 13).blk t').view.set :=
  absurd ((fin_N0 t).trans (fin_N0 t').symm) hne

theorem arr13 : (dats m 0 c).arrAt 13 cfg0.N = out0_13 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) := by
  have h := (dats m 0 c).read_blk_arrAt_eq_flushed 13 (fun t t' _ _ => one13 t t') cfg0.N t0_0 t0_0.isLt (by decide +kernel)
  rw [flushed13] at h
  rw [← h]
  exact (funext fun y => congrArg ((dats m 0 c).arrAt 13 cfg0.N) (funext fun a => by
    match a with
    | ⟨0, _⟩ => exact (Fin.ext ((win0_13).rect_emb_val_of_index_zero t0_0 0 rfl y)).symm
    | ⟨1, _⟩ => exact (Fin.ext ((win0_13).rect_emb_val_of_index_zero t0_0 1 rfl y)).symm))

theorem flushed14 : (dats m 0 c).flushed 14 t0_0 = out0_14 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) := by
  show (cfg0.win 14).cut (grid0.coords t0_0) ((dats m 0 c).after 14 t0_0) = _
  rw [after0_14]
  rfl

theorem one14 (t t' : Fin cfg0.N) (hne : t ≠ t') :
    Disjoint ((cfg0.win 14).blk t).view.set ((cfg0.win 14).blk t').view.set :=
  absurd ((fin_N0 t).trans (fin_N0 t').symm) hne

theorem arr14 : (dats m 0 c).arrAt 14 cfg0.N = out0_14 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) := by
  have h := (dats m 0 c).read_blk_arrAt_eq_flushed 14 (fun t t' _ _ => one14 t t') cfg0.N t0_0 t0_0.isLt (by decide +kernel)
  rw [flushed14] at h
  rw [← h]
  exact (funext fun y => congrArg ((dats m 0 c).arrAt 14 cfg0.N) (funext fun a => by
    match a with
    | ⟨0, _⟩ => exact (Fin.ext ((win0_14).rect_emb_val_of_index_zero t0_0 0 rfl y)).symm
    | ⟨1, _⟩ => exact (Fin.ext ((win0_14).rect_emb_val_of_index_zero t0_0 1 rfl y)).symm))

theorem flushed15 : (dats m 0 c).flushed 15 t0_0 = out0_15 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) := by
  show (cfg0.win 15).cut (grid0.coords t0_0) ((dats m 0 c).after 15 t0_0) = _
  rw [after0_15]
  rfl

theorem one15 (t t' : Fin cfg0.N) (hne : t ≠ t') :
    Disjoint ((cfg0.win 15).blk t).view.set ((cfg0.win 15).blk t').view.set :=
  absurd ((fin_N0 t).trans (fin_N0 t').symm) hne

theorem arr15 : (dats m 0 c).arrAt 15 cfg0.N = out0_15 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) := by
  have h := (dats m 0 c).read_blk_arrAt_eq_flushed 15 (fun t t' _ _ => one15 t t') cfg0.N t0_0 t0_0.isLt (by decide +kernel)
  rw [flushed15] at h
  rw [← h]
  exact (funext fun y => congrArg ((dats m 0 c).arrAt 15 cfg0.N) (funext fun a => by
    match a with
    | ⟨0, _⟩ => exact (Fin.ext ((win0_15).rect_emb_val_of_index_zero t0_0 0 rfl y)).symm
    | ⟨1, _⟩ => exact (Fin.ext ((win0_15).rect_emb_val_of_index_zero t0_0 1 rfl y)).symm))

theorem flushed16 : (dats m 0 c).flushed 16 t0_0 = out0_16 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) := by
  show (cfg0.win 16).cut (grid0.coords t0_0) ((dats m 0 c).after 16 t0_0) = _
  rw [after0_16]
  rfl

theorem one16 (t t' : Fin cfg0.N) (hne : t ≠ t') :
    Disjoint ((cfg0.win 16).blk t).view.set ((cfg0.win 16).blk t').view.set :=
  absurd ((fin_N0 t).trans (fin_N0 t').symm) hne

theorem arr16 : (dats m 0 c).arrAt 16 cfg0.N = out0_16 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) := by
  have h := (dats m 0 c).read_blk_arrAt_eq_flushed 16 (fun t t' _ _ => one16 t t') cfg0.N t0_0 t0_0.isLt (by decide +kernel)
  rw [flushed16] at h
  rw [← h]
  exact (funext fun y => congrArg ((dats m 0 c).arrAt 16 cfg0.N) (funext fun a => by
    match a with
    | ⟨0, _⟩ => exact (Fin.ext ((win0_16).rect_emb_val_of_index_zero t0_0 0 rfl y)).symm
    | ⟨1, _⟩ => exact (Fin.ext ((win0_16).rect_emb_val_of_index_zero t0_0 1 rfl y)).symm))

theorem flushed17 : (dats m 0 c).flushed 17 t0_0 = out0_17 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) := by
  show (cfg0.win 17).cut (grid0.coords t0_0) ((dats m 0 c).after 17 t0_0) = _
  rw [after0_17]
  rfl

theorem one17 (t t' : Fin cfg0.N) (hne : t ≠ t') :
    Disjoint ((cfg0.win 17).blk t).view.set ((cfg0.win 17).blk t').view.set :=
  absurd ((fin_N0 t).trans (fin_N0 t').symm) hne

theorem arr17 : (dats m 0 c).arrAt 17 cfg0.N = out0_17 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) := by
  have h := (dats m 0 c).read_blk_arrAt_eq_flushed 17 (fun t t' _ _ => one17 t t') cfg0.N t0_0 t0_0.isLt (by decide +kernel)
  rw [flushed17] at h
  rw [← h]
  exact (funext fun y => congrArg ((dats m 0 c).arrAt 17 cfg0.N) (funext fun a => by
    match a with
    | ⟨0, _⟩ => exact (Fin.ext ((win0_17).rect_emb_val_of_index_zero t0_0 0 rfl y)).symm
    | ⟨1, _⟩ => exact (Fin.ext ((win0_17).rect_emb_val_of_index_zero t0_0 1 rfl y)).symm))

set_option maxRecDepth 10000 in
theorem flushed18 : (dats m 0 c).flushed 18 t0_0 = out0_18 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) := by
  show (cfg0.win 18).cut (grid0.coords t0_0) ((dats m 0 c).after 18 t0_0) = _
  rw [after0_18]
  rfl

theorem one18 (t t' : Fin cfg0.N) (hne : t ≠ t') :
    Disjoint ((cfg0.win 18).blk t).view.set ((cfg0.win 18).blk t').view.set :=
  absurd ((fin_N0 t).trans (fin_N0 t').symm) hne

set_option maxRecDepth 10000 in
theorem arr18 : (dats m 0 c).arrAt 18 cfg0.N = out0_18 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) := by
  have h := (dats m 0 c).read_blk_arrAt_eq_flushed 18 (fun t t' _ _ => one18 t t') cfg0.N t0_0 t0_0.isLt (by decide +kernel)
  rw [flushed18] at h
  rw [← h]
  exact (funext fun y => congrArg ((dats m 0 c).arrAt 18 cfg0.N) (funext fun a => by
    match a with
    | ⟨0, _⟩ => exact (Fin.ext ((win0_18).rect_emb_val_of_index_zero t0_0 0 rfl y)).symm
    | ⟨1, _⟩ => exact (Fin.ext ((win0_18).rect_emb_val_of_index_zero t0_0 1 rfl y)).symm))

set_option maxRecDepth 10000 in
theorem flushed19 : (dats m 0 c).flushed 19 t0_0 = out0_19 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) := by
  show (cfg0.win 19).cut (grid0.coords t0_0) ((dats m 0 c).after 19 t0_0) = _
  rw [after0_19]
  rfl

theorem one19 (t t' : Fin cfg0.N) (hne : t ≠ t') :
    Disjoint ((cfg0.win 19).blk t).view.set ((cfg0.win 19).blk t').view.set :=
  absurd ((fin_N0 t).trans (fin_N0 t').symm) hne

set_option maxRecDepth 10000 in
theorem arr19 : (dats m 0 c).arrAt 19 cfg0.N = out0_19 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) := by
  have h := (dats m 0 c).read_blk_arrAt_eq_flushed 19 (fun t t' _ _ => one19 t t') cfg0.N t0_0 t0_0.isLt (by decide +kernel)
  rw [flushed19] at h
  rw [← h]
  exact (funext fun y => congrArg ((dats m 0 c).arrAt 19 cfg0.N) (funext fun a => by
    match a with
    | ⟨0, _⟩ => exact (Fin.ext ((win0_19).rect_emb_val_of_index_zero t0_0 0 rfl y)).symm
    | ⟨1, _⟩ => exact (Fin.ext ((win0_19).rect_emb_val_of_index_zero t0_0 1 rfl y)).symm))

/-! ### The stores' payloads -/

theorem zero2 : (![0, 0] : Fin 2 → ℕ) = fun _ => 0 := by decide

theorem proj_out (x : Vec F S4x2048 .bf16) (g b : Vec F S1x2048 .f32)
    (x3 : Vec F S2048x13568 .fp8e4m3) (x4 : Vec F S1x13568 .f32) (x5 : Vec F S7680x2048 .fp8e4m3) (x6 : Vec F S1x2048 .f32) (x7 : Vec F S4x2560x128 .fp8e5m2) (x8 : Vec F S4x2560x128 .fp8e5m2) (x9 : Vec F S4x1 .i32) (x10 : Vec F S4x1 .i32) :
    out0_12 x g b x3 x4 x5 x6 x7 x8 x9 x10 = k0_pay12 (k0_pay6 x g b) (k0_pay7 x g b) (k0_pay8 x g b) x3 x4 := by
  unfold_out out0_12
  rw [View.canon_cons_unit_zero zero2, View.ld_unit_zero zero2, View.ld_unit_zero zero2, View.ld_unit_zero zero2, View.ld_unit_zero zero2, View.ld_unit_zero zero2]

theorem zero3 : (![0, 0, 0] : Fin 3 → ℕ) = fun _ => 0 := by decide

/-- The attention of the rows, the weights, the caches, the lengths and the positions. -/
def meanOf (x : Vec F S4x2048 .bf16) (g b : Vec F S1x2048 .f32)
    (x3 : Vec F S2048x13568 .fp8e4m3) (x4 : Vec F S1x13568 .f32) (x7 x8 : Vec F S4x2560x128 .fp8e5m2) (x9 x10 : Vec F S4x1 .i32) : Vec F S64x128 .f32 :=
  k0_pay2 (k0_pay29 (k0_pay24 (k0_pay15 (k0_pay6 x g b) (k0_pay7 x g b) (k0_pay8 x g b) x3 x4) k0_pay19 k0_pay20 x10)
    (k0_pay25 (k0_pay16 (k0_pay6 x g b) (k0_pay7 x g b) (k0_pay8 x g b) x3 x4))
    (k0_pay27 (k0_pay14 (k0_pay6 x g b) (k0_pay7 x g b) (k0_pay8 x g b) x3 x4) k0_pay19 k0_pay20 x10 x7)
    (k0_pay28 (k0_pay14 (k0_pay6 x g b) (k0_pay7 x g b) (k0_pay8 x g b) x3 x4) k0_pay19 k0_pay20 x10) x9 x8)

theorem mean_out (x : Vec F S4x2048 .bf16) (g b : Vec F S1x2048 .f32)
    (x3 : Vec F S2048x13568 .fp8e4m3) (x4 : Vec F S1x13568 .f32) (x5 : Vec F S7680x2048 .fp8e4m3) (x6 : Vec F S1x2048 .f32) (x7 : Vec F S4x2560x128 .fp8e5m2) (x8 : Vec F S4x2560x128 .fp8e5m2) (x9 : Vec F S4x1 .i32) (x10 : Vec F S4x1 .i32) :
    out0_13 x g b x3 x4 x5 x6 x7 x8 x9 x10 = meanOf x g b x3 x4 x7 x8 x9 x10 := by
  unfold_out out0_13
  rw [View.canon_cons_unit_zero zero2]
  repeat first | rw [View.ld_unit_zero zero2] | rw [View.ld_unit_zero zero3]
  rfl

theorem codes_out (x : Vec F S4x2048 .bf16) (g b : Vec F S1x2048 .f32)
    (x3 : Vec F S2048x13568 .fp8e4m3) (x4 : Vec F S1x13568 .f32) (x5 : Vec F S7680x2048 .fp8e4m3) (x6 : Vec F S1x2048 .f32) (x7 : Vec F S4x2560x128 .fp8e5m2) (x8 : Vec F S4x2560x128 .fp8e5m2) (x9 : Vec F S4x1 .i32) (x10 : Vec F S4x1 .i32) :
    out0_14 x g b x3 x4 x5 x6 x7 x8 x9 x10 = k0_pay11 (k0_pay6 x g b) (k0_pay7 x g b) (k0_pay8 x g b) := by
  unfold_out out0_14
  rw [View.canon_cons_unit_zero zero2, View.ld_unit_zero zero2, View.ld_unit_zero zero2, View.ld_unit_zero zero2]

theorem scales_out (x : Vec F S4x2048 .bf16) (g b : Vec F S1x2048 .f32)
    (x3 : Vec F S2048x13568 .fp8e4m3) (x4 : Vec F S1x13568 .f32) (x5 : Vec F S7680x2048 .fp8e4m3) (x6 : Vec F S1x2048 .f32) (x7 : Vec F S4x2560x128 .fp8e5m2) (x8 : Vec F S4x2560x128 .fp8e5m2) (x9 : Vec F S4x1 .i32) (x10 : Vec F S4x1 .i32) :
    out0_15 x g b x3 x4 x5 x6 x7 x8 x9 x10 = k0_pay3 (k0_pay10 (k0_pay7 x g b) (k0_pay8 x g b)) := by
  unfold_out out0_15
  rw [View.canon_cons_unit_zero zero2, View.ld_unit_zero zero2, View.ld_unit_zero zero2, View.ld_unit_zero zero2]

theorem key_out (x : Vec F S4x2048 .bf16) (g b : Vec F S1x2048 .f32)
    (x3 : Vec F S2048x13568 .fp8e4m3) (x4 : Vec F S1x13568 .f32) (x5 : Vec F S7680x2048 .fp8e4m3) (x6 : Vec F S1x2048 .f32) (x7 : Vec F S4x2560x128 .fp8e5m2) (x8 : Vec F S4x2560x128 .fp8e5m2) (x9 : Vec F S4x1 .i32) (x10 : Vec F S4x1 .i32) :
    out0_16 x g b x3 x4 x5 x6 x7 x8 x9 x10 = k0_pay24 (k0_pay15 (k0_pay6 x g b) (k0_pay7 x g b) (k0_pay8 x g b) x3 x4) k0_pay19 k0_pay20 x10 := by
  unfold_out out0_16
  rw [View.canon_cons_unit_zero zero2, View.ld_unit_zero zero2, View.ld_unit_zero zero2, View.ld_unit_zero zero2, View.ld_unit_zero zero2, View.ld_unit_zero zero2, View.ld_unit_zero zero2]

theorem value_out (x : Vec F S4x2048 .bf16) (g b : Vec F S1x2048 .f32)
    (x3 : Vec F S2048x13568 .fp8e4m3) (x4 : Vec F S1x13568 .f32) (x5 : Vec F S7680x2048 .fp8e4m3) (x6 : Vec F S1x2048 .f32) (x7 : Vec F S4x2560x128 .fp8e5m2) (x8 : Vec F S4x2560x128 .fp8e5m2) (x9 : Vec F S4x1 .i32) (x10 : Vec F S4x1 .i32) :
    out0_17 x g b x3 x4 x5 x6 x7 x8 x9 x10 = k0_pay25 (k0_pay16 (k0_pay6 x g b) (k0_pay7 x g b) (k0_pay8 x g b) x3 x4) := by
  unfold_out out0_17
  rw [View.canon_cons_unit_zero zero2, View.ld_unit_zero zero2, View.ld_unit_zero zero2, View.ld_unit_zero zero2, View.ld_unit_zero zero2, View.ld_unit_zero zero2]

def wideCodesOf (x : Vec F S4x2048 .bf16) (g b : Vec F S1x2048 .f32)
    (x3 : Vec F S2048x13568 .fp8e4m3) (x4 : Vec F S1x13568 .f32) (x7 x8 : Vec F S4x2560x128 .fp8e5m2) (x9 x10 : Vec F S4x1 .i32) : FVec F S4x7680 .fp8e4m3 :=
  k0_pay34 (k0_pay17 (k0_pay6 x g b) (k0_pay7 x g b) (k0_pay8 x g b) x3 x4) (k0_pay18 (k0_pay6 x g b) (k0_pay7 x g b) (k0_pay8 x g b) x3 x4)
    (k0_pay29 (k0_pay24 (k0_pay15 (k0_pay6 x g b) (k0_pay7 x g b) (k0_pay8 x g b) x3 x4) k0_pay19 k0_pay20 x10)
      (k0_pay25 (k0_pay16 (k0_pay6 x g b) (k0_pay7 x g b) (k0_pay8 x g b) x3 x4))
      (k0_pay27 (k0_pay14 (k0_pay6 x g b) (k0_pay7 x g b) (k0_pay8 x g b) x3 x4) k0_pay19 k0_pay20 x10 x7)
      (k0_pay28 (k0_pay14 (k0_pay6 x g b) (k0_pay7 x g b) (k0_pay8 x g b) x3 x4) k0_pay19 k0_pay20 x10) x9 x8)
    (k0_pay30 (k0_pay17 (k0_pay6 x g b) (k0_pay7 x g b) (k0_pay8 x g b) x3 x4))

def wideScalesOf (x : Vec F S4x2048 .bf16) (g b : Vec F S1x2048 .f32)
    (x3 : Vec F S2048x13568 .fp8e4m3) (x4 : Vec F S1x13568 .f32) (x7 x8 : Vec F S4x2560x128 .fp8e5m2) (x9 x10 : Vec F S4x1 .i32) : FVec F S1x4 .f32 :=
  k0_pay4 (k0_pay33 (k0_pay17 (k0_pay6 x g b) (k0_pay7 x g b) (k0_pay8 x g b) x3 x4) (k0_pay18 (k0_pay6 x g b) (k0_pay7 x g b) (k0_pay8 x g b) x3 x4)
    (k0_pay29 (k0_pay24 (k0_pay15 (k0_pay6 x g b) (k0_pay7 x g b) (k0_pay8 x g b) x3 x4) k0_pay19 k0_pay20 x10)
      (k0_pay25 (k0_pay16 (k0_pay6 x g b) (k0_pay7 x g b) (k0_pay8 x g b) x3 x4))
      (k0_pay27 (k0_pay14 (k0_pay6 x g b) (k0_pay7 x g b) (k0_pay8 x g b) x3 x4) k0_pay19 k0_pay20 x10 x7)
      (k0_pay28 (k0_pay14 (k0_pay6 x g b) (k0_pay7 x g b) (k0_pay8 x g b) x3 x4) k0_pay19 k0_pay20 x10) x9 x8)
    (k0_pay30 (k0_pay17 (k0_pay6 x g b) (k0_pay7 x g b) (k0_pay8 x g b) x3 x4)))

theorem wide_codes_out (x : Vec F S4x2048 .bf16) (g b : Vec F S1x2048 .f32)
    (x3 : Vec F S2048x13568 .fp8e4m3) (x4 : Vec F S1x13568 .f32) (x5 : Vec F S7680x2048 .fp8e4m3) (x6 : Vec F S1x2048 .f32) (x7 x8 : Vec F S4x2560x128 .fp8e5m2) (x9 x10 : Vec F S4x1 .i32) :
    out0_18 x g b x3 x4 x5 x6 x7 x8 x9 x10 = wideCodesOf x g b x3 x4 x7 x8 x9 x10 := by
  unfold_out out0_18
  rw [View.canon_cons_unit_zero zero2]
  repeat first | rw [View.ld_unit_zero zero2] | rw [View.ld_unit_zero zero3]
  rfl

theorem wide_scales_out (x : Vec F S4x2048 .bf16) (g b : Vec F S1x2048 .f32)
    (x3 : Vec F S2048x13568 .fp8e4m3) (x4 : Vec F S1x13568 .f32) (x5 : Vec F S7680x2048 .fp8e4m3) (x6 : Vec F S1x2048 .f32) (x7 x8 : Vec F S4x2560x128 .fp8e5m2) (x9 x10 : Vec F S4x1 .i32) :
    out0_19 x g b x3 x4 x5 x6 x7 x8 x9 x10 = wideScalesOf x g b x3 x4 x7 x8 x9 x10 := by
  unfold_out out0_19
  rw [View.canon_cons_unit_zero zero2]
  repeat first | rw [View.ld_unit_zero zero2] | rw [View.ld_unit_zero zero3]
  rfl

/-! ### The run -/

set_option maxHeartbeats 1000000 in
theorem run_head : θ_run defs (onTc (τ := τ) (main (F := F))) ⟨m, fun _ => 0, ρ⟩ fun r => ∀ c : Dev nD,
    r.2.mem ((c : Thread nD τ).loc main_v7_1)
        = k0_pay12 (k0_pay6 (V m c main_v0) (V m c main_v1) (V m c main_v2)) (k0_pay7 (V m c main_v0) (V m c main_v1) (V m c main_v2)) (k0_pay8 (V m c main_v0) (V m c main_v1) (V m c main_v2)) (V m c main_arg3) (V m c main_v3)
    ∧ r.2.mem ((c : Thread nD τ).loc main_v7_2)
        = meanOf (V m c main_v0) (V m c main_v1) (V m c main_v2) (V m c main_arg3) (V m c main_v3) (V m c main_arg7) (V m c main_arg8) (V m c main_v5) (V m c main_v6)
    ∧ r.2.mem ((c : Thread nD τ).loc main_v7_3)
        = k0_pay11 (k0_pay6 (V m c main_v0) (V m c main_v1) (V m c main_v2))
            (k0_pay7 (V m c main_v0) (V m c main_v1) (V m c main_v2))
            (k0_pay8 (V m c main_v0) (V m c main_v1) (V m c main_v2))
    ∧ r.2.mem ((c : Thread nD τ).loc main_v7_4)
        = k0_pay3 (k0_pay10 (k0_pay7 (V m c main_v0) (V m c main_v1) (V m c main_v2))
            (k0_pay8 (V m c main_v0) (V m c main_v1) (V m c main_v2)))
    ∧ r.2.mem ((c : Thread nD τ).loc main_v7_5)
        = k0_pay24 (k0_pay15 (k0_pay6 (V m c main_v0) (V m c main_v1) (V m c main_v2)) (k0_pay7 (V m c main_v0) (V m c main_v1) (V m c main_v2)) (k0_pay8 (V m c main_v0) (V m c main_v1) (V m c main_v2)) (V m c main_arg3) (V m c main_v3)) k0_pay19 k0_pay20 (V m c main_v6)
    ∧ r.2.mem ((c : Thread nD τ).loc main_v7_6)
        = k0_pay25 (k0_pay16 (k0_pay6 (V m c main_v0) (V m c main_v1) (V m c main_v2)) (k0_pay7 (V m c main_v0) (V m c main_v1) (V m c main_v2)) (k0_pay8 (V m c main_v0) (V m c main_v1) (V m c main_v2)) (V m c main_arg3) (V m c main_v3))
    ∧ r.2.mem ((c : Thread nD τ).loc main_v7_7)
        = wideCodesOf (V m c main_v0) (V m c main_v1) (V m c main_v2) (V m c main_arg3) (V m c main_v3) (V m c main_arg7) (V m c main_arg8) (V m c main_v5) (V m c main_v6)
    ∧ r.2.mem ((c : Thread nD τ).loc main_v7_8)
        = wideScalesOf (V m c main_v0) (V m c main_v1) (V m c main_v2) (V m c main_arg3) (V m c main_v3) (V m c main_arg7) (V m c main_arg8) (V m c main_v5) (V m c main_v6)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10) :=
  (θ_run defs _ _).mono (fun r h c => ⟨
      ((h c).1 12).trans ((arr12 m c).trans ((proj_out ..).trans (by rw [iblk0, iblk1, iblk2, iblk3, iblk4]))),
      ((h c).1 13).trans ((arr13 m c).trans ((mean_out ..).trans (by rw [iblk0, iblk1, iblk2, iblk3, iblk4, iblk7, iblk8, iblk9, iblk10]))),
      ((h c).1 14).trans ((arr14 m c).trans ((codes_out ..).trans (by rw [iblk0, iblk1, iblk2]))),
      ((h c).1 15).trans ((arr15 m c).trans ((scales_out ..).trans (by rw [iblk0, iblk1, iblk2]))),
      ((h c).1 16).trans ((arr16 m c).trans ((key_out ..).trans (by rw [iblk0, iblk1, iblk2, iblk3, iblk4, iblk10]))),
      ((h c).1 17).trans ((arr17 m c).trans ((value_out ..).trans (by rw [iblk0, iblk1, iblk2, iblk3, iblk4]))),
      ((h c).1 18).trans ((arr18 m c).trans ((wide_codes_out ..).trans (by rw [iblk0, iblk1, iblk2, iblk3, iblk4, iblk7, iblk8, iblk9, iblk10]))),
      ((h c).1 19).trans ((arr19 m c).trans ((wide_scales_out ..).trans (by rw [iblk0, iblk1, iblk2, iblk3, iblk4, iblk7, iblk8, iblk9, iblk10]))),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).2 main_arg6 (Pipeline.mem_restRefs_of main_arg6 (by decide) (by decide))).trans (V_main_arg6 m c),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.ReferenceIdeal.Hand
-- ==== Proof.AgreeIdeal.lean ====
/-
  The two programs agree: at equal arguments the projection, attention, new key, new value and both pairs of code and
  scale results of the kernel and of the reference are equal, each being the reference's
  value of the rows the arguments are reshaped to.
-/
module

public import proofs.«01_k».proof.Proof.ValueIdeal
public import proofs.«01_k».proof.Proof.ProjRunIdeal
public import proofs.«01_k».proof.Proof.AttnRunIdeal
public import proofs.«01_k».proof.Proof.CatRunIdeal
public import proofs.«01_k».proof.Proof.RefRunIdeal
public import Idealize.ShloMosaic.Lib.Claim

@[expose] public section

noncomputable section

namespace Cert.Agree

open Cert Idealize.ShloMosaic Idealize.ShloMosaic.TcCoe Idealize.SL.Sem

section Entry
variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (c : Dev KernelIdeal.nD)

theorem entry_v0
    (h : m' ((c.tc : Thread ReferenceIdeal.nD ReferenceIdeal.τ).loc ReferenceIdeal.main_arg0)
      = m ((c.tc : Thread KernelIdeal.nD KernelIdeal.τ).loc KernelIdeal.main_arg0)) :
    ReferenceIdeal.Gen.V m' c ReferenceIdeal.main_v0 = KernelIdeal.Gen.V m c KernelIdeal.main_v0 := by
  entry_read
  rw [h]
  rfl

theorem entry_v1
    (h : m' ((c.tc : Thread ReferenceIdeal.nD ReferenceIdeal.τ).loc ReferenceIdeal.main_arg1)
      = m ((c.tc : Thread KernelIdeal.nD KernelIdeal.τ).loc KernelIdeal.main_arg1)) :
    ReferenceIdeal.Gen.V m' c ReferenceIdeal.main_v1 = KernelIdeal.Gen.V m c KernelIdeal.main_v1 := by
  entry_read
  rw [h]
  rfl

theorem entry_v2
    (h : m' ((c.tc : Thread ReferenceIdeal.nD ReferenceIdeal.τ).loc ReferenceIdeal.main_arg2)
      = m ((c.tc : Thread KernelIdeal.nD KernelIdeal.τ).loc KernelIdeal.main_arg2)) :
    ReferenceIdeal.Gen.V m' c ReferenceIdeal.main_v2 = KernelIdeal.Gen.V m c KernelIdeal.main_v2 := by
  entry_read
  rw [h]
  rfl

theorem entry_v3
    (h : m' ((c.tc : Thread ReferenceIdeal.nD ReferenceIdeal.τ).loc ReferenceIdeal.main_arg4)
      = m ((c.tc : Thread KernelIdeal.nD KernelIdeal.τ).loc KernelIdeal.main_arg4)) :
    ReferenceIdeal.Gen.V m' c ReferenceIdeal.main_v3 = KernelIdeal.Gen.V m c KernelIdeal.main_v3 := by
  entry_read
  rw [h]
  rfl

theorem entry_arg3
    (h : m' ((c.tc : Thread ReferenceIdeal.nD ReferenceIdeal.τ).loc ReferenceIdeal.main_arg3)
      = m ((c.tc : Thread KernelIdeal.nD KernelIdeal.τ).loc KernelIdeal.main_arg3)) :
    ReferenceIdeal.Gen.V m' c ReferenceIdeal.main_arg3 = KernelIdeal.Gen.V m c KernelIdeal.main_arg3 := by
  rw [ReferenceIdeal.Gen.V_main_arg3, KernelIdeal.Gen.V_main_arg3, h]

theorem entry_arg7
    (h : m' ((c.tc : Thread ReferenceIdeal.nD ReferenceIdeal.τ).loc ReferenceIdeal.main_arg7)
      = m ((c.tc : Thread KernelIdeal.nD KernelIdeal.τ).loc KernelIdeal.main_arg7)) :
    ReferenceIdeal.Gen.V m' c ReferenceIdeal.main_arg7 = KernelIdeal.Gen.V m c KernelIdeal.main_arg7 := by
  rw [ReferenceIdeal.Gen.V_main_arg7, KernelIdeal.Gen.V_main_arg7, h]

theorem entry_arg8
    (h : m' ((c.tc : Thread ReferenceIdeal.nD ReferenceIdeal.τ).loc ReferenceIdeal.main_arg8)
      = m ((c.tc : Thread KernelIdeal.nD KernelIdeal.τ).loc KernelIdeal.main_arg8)) :
    ReferenceIdeal.Gen.V m' c ReferenceIdeal.main_arg8 = KernelIdeal.Gen.V m c KernelIdeal.main_arg8 := by
  rw [ReferenceIdeal.Gen.V_main_arg8, KernelIdeal.Gen.V_main_arg8, h]

theorem entry_pos
    (h : m' ((c.tc : Thread ReferenceIdeal.nD ReferenceIdeal.τ).loc ReferenceIdeal.main_arg10)
      = m ((c.tc : Thread KernelIdeal.nD KernelIdeal.τ).loc KernelIdeal.main_arg10)) (r : Fin 4) :
    ReferenceIdeal.Gen.V m' c ReferenceIdeal.main_v6 (ValueIdx.ix2 r 0)
      = KernelIdeal.Gen.V m c KernelIdeal.main_arg10 (ValueIdx.ix1 r) := by
  rw [KernelIdeal.Gen.V_main_arg10]
  entry_read
  rw [h]
  refine shapeCast_apply _ _ _ (ValueIdx.ix1 r) ?_
  show ((⟨1, ![4]⟩ : Shape).rowMajor (ValueIdx.ix1 r)).val = ((⟨2, ![4, 1]⟩ : Shape).rowMajor (ValueIdx.ix2 r 0)).val
  rw [Shape.rowMajor_val_two, Shape.rowMajor_val_one]
  show r.val = r.val * 1 + 0
  omega

theorem entry_len
    (h : m' ((c.tc : Thread ReferenceIdeal.nD ReferenceIdeal.τ).loc ReferenceIdeal.main_arg9)
      = m ((c.tc : Thread KernelIdeal.nD KernelIdeal.τ).loc KernelIdeal.main_arg9)) (r : Fin 4) :
    ReferenceIdeal.Gen.V m' c ReferenceIdeal.main_v5 (ValueIdx.ix2 r 0)
      = KernelIdeal.Gen.V m c KernelIdeal.main_arg9 (ValueIdx.ix1 r) := by
  rw [KernelIdeal.Gen.V_main_arg9]
  entry_read
  rw [h]
  refine shapeCast_apply _ _ _ (ValueIdx.ix1 r) ?_
  show ((⟨1, ![4]⟩ : Shape).rowMajor (ValueIdx.ix1 r)).val = ((⟨2, ![4, 1]⟩ : Shape).rowMajor (ValueIdx.ix2 r 0)).val
  rw [Shape.rowMajor_val_two, Shape.rowMajor_val_one]
  show r.val = r.val * 1 + 0
  omega

end Entry

theorem agree (m : (ℓ : Loc KernelIdeal.nD KernelIdeal.τ KernelIdeal.sig) → Buf (Elt Ideal) ℓ) (g : Dev KernelIdeal.nD → PrngReg)
    (m' : (ℓ : Loc ReferenceIdeal.nD ReferenceIdeal.τ ReferenceIdeal.sig) → Buf (Elt Ideal) ℓ) (g' : Dev ReferenceIdeal.nD → PrngReg)
    (h : ∀ c : Dev KernelIdeal.nD,
      m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5)
      ∧ m' ((c.tc : Thread ReferenceIdeal.nD ReferenceIdeal.τ).loc ReferenceIdeal.main_arg6) = m ((c.tc : Thread KernelIdeal.nD KernelIdeal.τ).loc KernelIdeal.main_arg6)
      ∧ m' ((c.tc : Thread ReferenceIdeal.nD ReferenceIdeal.τ).loc ReferenceIdeal.main_arg7) = m ((c.tc : Thread KernelIdeal.nD KernelIdeal.τ).loc KernelIdeal.main_arg7)
      ∧ m' ((c.tc : Thread ReferenceIdeal.nD ReferenceIdeal.τ).loc ReferenceIdeal.main_arg8) = m ((c.tc : Thread KernelIdeal.nD KernelIdeal.τ).loc KernelIdeal.main_arg8)
      ∧ m' ((c.tc : Thread ReferenceIdeal.nD ReferenceIdeal.τ).loc ReferenceIdeal.main_arg9) = m ((c.tc : Thread KernelIdeal.nD KernelIdeal.τ).loc KernelIdeal.main_arg9)
      ∧ m' ((c.tc : Thread ReferenceIdeal.nD ReferenceIdeal.τ).loc ReferenceIdeal.main_arg10) = m ((c.tc : Thread KernelIdeal.nD KernelIdeal.τ).loc KernelIdeal.main_arg10)) :
    ∃ (v1 : (c : Dev KernelIdeal.nD) → Buf (Elt Ideal) ((c.tc : Thread KernelIdeal.nD KernelIdeal.τ).loc KernelIdeal.main_v5_1)) (v2 : (c : Dev KernelIdeal.nD) → Buf (Elt Ideal) ((c.tc : Thread KernelIdeal.nD KernelIdeal.τ).loc KernelIdeal.main_v5_2)) (v3 : (c : Dev KernelIdeal.nD) → Buf (Elt Ideal) ((c.tc : Thread KernelIdeal.nD KernelIdeal.τ).loc KernelIdeal.main_v5_3)) (v4 : (c : Dev KernelIdeal.nD) → Buf (Elt Ideal) ((c.tc : Thread KernelIdeal.nD KernelIdeal.τ).loc KernelIdeal.main_v5_4)) (v5 : (c : Dev KernelIdeal.nD) → Buf (Elt Ideal) ((c.tc : Thread KernelIdeal.nD KernelIdeal.τ).loc KernelIdeal.main_v5_5)) (v6 : (c : Dev KernelIdeal.nD) → Buf (Elt Ideal) ((c.tc : Thread KernelIdeal.nD KernelIdeal.τ).loc KernelIdeal.main_v5_6)) (v7 : (c : Dev KernelIdeal.nD) → Buf (Elt Ideal) ((c.tc : Thread KernelIdeal.nD KernelIdeal.τ).loc KernelIdeal.main_v5_7)) (v8 : (c : Dev KernelIdeal.nD) → Buf (Elt Ideal) ((c.tc : Thread KernelIdeal.nD KernelIdeal.τ).loc KernelIdeal.main_v5_8)),
      θ_run (KernelIdeal.defs (F := Ideal)) (onTc (τ := KernelIdeal.τ) (KernelIdeal.main (F := Ideal))) ⟨m, fun _ => 0, g⟩ (fun r => ∀ c : Dev KernelIdeal.nD,
          r.2.mem ((c.tc : Thread KernelIdeal.nD KernelIdeal.τ).loc KernelIdeal.main_v5_1) = v1 c
          ∧ r.2.mem ((c.tc : Thread KernelIdeal.nD KernelIdeal.τ).loc KernelIdeal.main_v5_2) = v2 c
          ∧ r.2.mem ((c.tc : Thread KernelIdeal.nD KernelIdeal.τ).loc KernelIdeal.main_v5_3) = v3 c
          ∧ r.2.mem ((c.tc : Thread KernelIdeal.nD KernelIdeal.τ).loc KernelIdeal.main_v5_4) = v4 c
          ∧ r.2.mem ((c.tc : Thread KernelIdeal.nD KernelIdeal.τ).loc KernelIdeal.main_v5_5) = v5 c
          ∧ r.2.mem ((c.tc : Thread KernelIdeal.nD KernelIdeal.τ).loc KernelIdeal.main_v5_6) = v6 c
          ∧ r.2.mem ((c.tc : Thread KernelIdeal.nD KernelIdeal.τ).loc KernelIdeal.main_v5_7) = v7 c
          ∧ r.2.mem ((c.tc : Thread KernelIdeal.nD KernelIdeal.τ).loc KernelIdeal.main_v5_8) = v8 c
          ∧ r.2.mem ((c.tc : Thread KernelIdeal.nD KernelIdeal.τ).loc KernelIdeal.main_arg0) = m ((c.tc : Thread KernelIdeal.nD KernelIdeal.τ).loc KernelIdeal.main_arg0)
          ∧ r.2.mem ((c.tc : Thread KernelIdeal.nD KernelIdeal.τ).loc KernelIdeal.main_arg1) = m ((c.tc : Thread KernelIdeal.nD KernelIdeal.τ).loc KernelIdeal.main_arg1)
          ∧ r.2.mem ((c.tc : Thread KernelIdeal.nD KernelIdeal.τ).loc KernelIdeal.main_arg2) = m ((c.tc : Thread KernelIdeal.nD KernelIdeal.τ).loc KernelIdeal.main_arg2)
          ∧ r.2.mem ((c.tc : Thread KernelIdeal.nD KernelIdeal.τ).loc KernelIdeal.main_arg3) = m ((c.tc : Thread KernelIdeal.nD KernelIdeal.τ).loc KernelIdeal.main_arg3)
          ∧ r.2.mem ((c.tc : Thread KernelIdeal.nD KernelIdeal.τ).loc KernelIdeal.main_arg4) = m ((c.tc : Thread KernelIdeal.nD KernelIdeal.τ).loc KernelIdeal.main_arg4)
          ∧ r.2.mem ((c.tc : Thread KernelIdeal.nD KernelIdeal.τ).loc KernelIdeal.main_arg5) = m ((c.tc : Thread KernelIdeal.nD KernelIdeal.τ).loc KernelIdeal.main_arg5)
          ∧ r.2.mem ((c.tc : Thread KernelIdeal.nD KernelIdeal.τ).loc KernelIdeal.main_arg6) = m ((c.tc : Thread KernelIdeal.nD KernelIdeal.τ).loc KernelIdeal.main_arg6)
          ∧ r.2.mem ((c.tc : Thread KernelIdeal.nD KernelIdeal.τ).loc KernelIdeal.main_arg7) = m ((c.tc : Thread KernelIdeal.nD KernelIdeal.τ).loc KernelIdeal.main_arg7)
          ∧ r.2.mem ((c.tc : Thread KernelIdeal.nD KernelIdeal.τ).loc KernelIdeal.main_arg8) = m ((c.tc : Thread KernelIdeal.nD KernelIdeal.τ).loc KernelIdeal.main_arg8)
          ∧ r.2.mem ((c.tc : Thread KernelIdeal.nD KernelIdeal.τ).loc KernelIdeal.main_arg9) = m ((c.tc : Thread KernelIdeal.nD KernelIdeal.τ).loc KernelIdeal.main_arg9)
          ∧ r.2.mem ((c.tc : Thread KernelIdeal.nD KernelIdeal.τ).loc KernelIdeal.main_arg10) = m ((c.tc : Thread KernelIdeal.nD KernelIdeal.τ).loc KernelIdeal.main_arg10))
      ∧ θ_run (ReferenceIdeal.defs (F := Ideal)) (onTc (τ := ReferenceIdeal.τ) (ReferenceIdeal.main (F := Ideal))) ⟨m', fun _ => 0, g'⟩ (fun r => ∀ c : Dev ReferenceIdeal.nD,
          r.2.mem ((c.tc : Thread ReferenceIdeal.nD ReferenceIdeal.τ).loc ReferenceIdeal.main_v7_1) = v1 c
          ∧ r.2.mem ((c.tc : Thread ReferenceIdeal.nD ReferenceIdeal.τ).loc ReferenceIdeal.main_v7_2) = v2 c
          ∧ r.2.mem ((c.tc : Thread ReferenceIdeal.nD ReferenceIdeal.τ).loc ReferenceIdeal.main_v7_3) = v3 c
          ∧ r.2.mem ((c.tc : Thread ReferenceIdeal.nD ReferenceIdeal.τ).loc ReferenceIdeal.main_v7_4) = v4 c
          ∧ r.2.mem ((c.tc : Thread ReferenceIdeal.nD ReferenceIdeal.τ).loc ReferenceIdeal.main_v7_5) = v5 c
          ∧ r.2.mem ((c.tc : Thread ReferenceIdeal.nD ReferenceIdeal.τ).loc ReferenceIdeal.main_v7_6) = v6 c
          ∧ r.2.mem ((c.tc : Thread ReferenceIdeal.nD ReferenceIdeal.τ).loc ReferenceIdeal.main_v7_7) = v7 c
          ∧ r.2.mem ((c.tc : Thread ReferenceIdeal.nD ReferenceIdeal.τ).loc ReferenceIdeal.main_v7_8) = v8 c
          ∧ r.2.mem ((c.tc : Thread ReferenceIdeal.nD ReferenceIdeal.τ).loc ReferenceIdeal.main_arg0) = m' ((c.tc : Thread ReferenceIdeal.nD ReferenceIdeal.τ).loc ReferenceIdeal.main_arg0)
          ∧ r.2.mem ((c.tc : Thread ReferenceIdeal.nD ReferenceIdeal.τ).loc ReferenceIdeal.main_arg1) = m' ((c.tc : Thread ReferenceIdeal.nD ReferenceIdeal.τ).loc ReferenceIdeal.main_arg1)
          ∧ r.2.mem ((c.tc : Thread ReferenceIdeal.nD ReferenceIdeal.τ).loc ReferenceIdeal.main_arg2) = m' ((c.tc : Thread ReferenceIdeal.nD ReferenceIdeal.τ).loc ReferenceIdeal.main_arg2)
          ∧ r.2.mem ((c.tc : Thread ReferenceIdeal.nD ReferenceIdeal.τ).loc ReferenceIdeal.main_arg3) = m' ((c.tc : Thread ReferenceIdeal.nD ReferenceIdeal.τ).loc ReferenceIdeal.main_arg3)
          ∧ r.2.mem ((c.tc : Thread ReferenceIdeal.nD ReferenceIdeal.τ).loc ReferenceIdeal.main_arg4) = m' ((c.tc : Thread ReferenceIdeal.nD ReferenceIdeal.τ).loc ReferenceIdeal.main_arg4)
          ∧ r.2.mem ((c.tc : Thread ReferenceIdeal.nD ReferenceIdeal.τ).loc ReferenceIdeal.main_arg5) = m' ((c.tc : Thread ReferenceIdeal.nD ReferenceIdeal.τ).loc ReferenceIdeal.main_arg5)
          ∧ r.2.mem ((c.tc : Thread ReferenceIdeal.nD ReferenceIdeal.τ).loc ReferenceIdeal.main_arg6) = m' ((c.tc : Thread ReferenceIdeal.nD ReferenceIdeal.τ).loc ReferenceIdeal.main_arg6)
          ∧ r.2.mem ((c.tc : Thread ReferenceIdeal.nD ReferenceIdeal.τ).loc ReferenceIdeal.main_arg7) = m' ((c.tc : Thread ReferenceIdeal.nD ReferenceIdeal.τ).loc ReferenceIdeal.main_arg7)
          ∧ r.2.mem ((c.tc : Thread ReferenceIdeal.nD ReferenceIdeal.τ).loc ReferenceIdeal.main_arg8) = m' ((c.tc : Thread ReferenceIdeal.nD ReferenceIdeal.τ).loc ReferenceIdeal.main_arg8)
          ∧ r.2.mem ((c.tc : Thread ReferenceIdeal.nD ReferenceIdeal.τ).loc ReferenceIdeal.main_arg9) = m' ((c.tc : Thread ReferenceIdeal.nD ReferenceIdeal.τ).loc ReferenceIdeal.main_arg9)
          ∧ r.2.mem ((c.tc : Thread ReferenceIdeal.nD ReferenceIdeal.τ).loc ReferenceIdeal.main_arg10) = m' ((c.tc : Thread ReferenceIdeal.nD ReferenceIdeal.τ).loc ReferenceIdeal.main_arg10)) := by
  have x0 := fun c => entry_v0 m m' c (h c).1
  have x1 := fun c => entry_v1 m m' c (h c).2.1
  have x2 := fun c => entry_v2 m m' c (h c).2.2.1
  have x3 := fun c => entry_arg3 m m' c (h c).2.2.2.1
  have x4 := fun c => entry_v3 m m' c (h c).2.2.2.2.1
  have x7 := fun c => entry_arg7 m m' c (h c).2.2.2.2.2.2.2.1
  have x8 := fun c => entry_arg8 m m' c (h c).2.2.2.2.2.2.2.2.1
  have x9 := fun c => entry_len m m' c (h c).2.2.2.2.2.2.2.2.2.1
  have x10 := fun c => entry_pos m m' c (h c).2.2.2.2.2.2.2.2.2.2
  refine ⟨_, _, _, _, _, _, _, _, (θ_run _ _ _).mono (fun r hr c => ⟨(hr c).1.1, (hr c).1.2.1, (hr c).1.2.2.1.1, (hr c).1.2.2.1.2, (hr c).1.2.2.2.1.1, (hr c).1.2.2.2.1.2, (hr c).1.2.2.2.2.1, (hr c).1.2.2.2.2.2, (hr c).2⟩)
    (KernelIdeal.Hand.run_value m g
      (fun c w => KernelIdeal.Hand.ProjP c (KernelIdeal.Gen.V m c KernelIdeal.main_v0) (KernelIdeal.Gen.V m c KernelIdeal.main_v1) (KernelIdeal.Gen.V m c KernelIdeal.main_v2) (KernelIdeal.Gen.V m c KernelIdeal.main_arg3) (KernelIdeal.Gen.V m c KernelIdeal.main_v3) w
        ∧ KernelIdeal.Hand.MeanP c (KernelIdeal.Gen.V m c KernelIdeal.main_v0) (KernelIdeal.Gen.V m c KernelIdeal.main_v1) (KernelIdeal.Gen.V m c KernelIdeal.main_v2) (KernelIdeal.Gen.V m c KernelIdeal.main_arg3) (KernelIdeal.Gen.V m c KernelIdeal.main_v3) (KernelIdeal.Gen.V m c KernelIdeal.main_arg7) (KernelIdeal.Gen.V m c KernelIdeal.main_arg8)
            (ReferenceIdeal.Gen.V m' c ReferenceIdeal.main_v5) (ReferenceIdeal.Gen.V m' c ReferenceIdeal.main_v6) w
        ∧ KernelIdeal.Hand.HeadP c (KernelIdeal.Gen.V m c KernelIdeal.main_v0) (KernelIdeal.Gen.V m c KernelIdeal.main_v1) (KernelIdeal.Gen.V m c KernelIdeal.main_v2) w
        ∧ KernelIdeal.Hand.KeyP c (KernelIdeal.Gen.V m c KernelIdeal.main_v0) (KernelIdeal.Gen.V m c KernelIdeal.main_v1) (KernelIdeal.Gen.V m c KernelIdeal.main_v2) (KernelIdeal.Gen.V m c KernelIdeal.main_arg3) (KernelIdeal.Gen.V m c KernelIdeal.main_v3) (ReferenceIdeal.Gen.V m' c ReferenceIdeal.main_v6) w
        ∧ KernelIdeal.Hand.WideP c (KernelIdeal.Gen.V m c KernelIdeal.main_v0) (KernelIdeal.Gen.V m c KernelIdeal.main_v1) (KernelIdeal.Gen.V m c KernelIdeal.main_v2) (KernelIdeal.Gen.V m c KernelIdeal.main_arg3) (KernelIdeal.Gen.V m c KernelIdeal.main_v3) (KernelIdeal.Gen.V m c KernelIdeal.main_arg7) (KernelIdeal.Gen.V m c KernelIdeal.main_arg8)
            (ReferenceIdeal.Gen.V m' c ReferenceIdeal.main_v5) (ReferenceIdeal.Gen.V m' c ReferenceIdeal.main_v6) w)
      (by
        intros
        refine ⟨?_, ?_, ?_, ?_, ?_⟩
        · apply KernelIdeal.Hand.proj_run
        · apply KernelIdeal.Hand.mean_run
          · exact x9 _
          · exact x10 _
        · apply KernelIdeal.Hand.head_run
        · apply KernelIdeal.Hand.key_run
          exact x10 _
        · apply KernelIdeal.Hand.wide_run
          · exact x9 _
          · exact x10 _)), (θ_run _ _ _).mono (fun r hr c => ?_) (ReferenceIdeal.Hand.run_head m' g')⟩
  have hc := hr c
  rw [x0 c, x1 c, x2 c, x3 c, x4 c, x7 c, x8 c] at hc
  exact hc

end Cert.Agree
-- ==== Proof.lean ====
/-
  The claim, put together: the frames of the kernel's two readings and of the reference,
  and the agreement of the projection, attention, new key, new value and both pairs of code and scale results.
-/
module

public import proofs.«01_k».proof.Defs
public import proofs.«01_k».proof.Proof.LaunchKernel
public import proofs.«01_k».proof.Proof.LaunchIdeal
public import proofs.«01_k».proof.Proof.Gen.ReferenceIdeal.Frame
public import proofs.«01_k».proof.Proof.AgreeIdeal

@[expose] public section

noncomputable section

open Idealize.ShloMosaic Idealize.ShloMosaic.TcCoe

/-- Everything the certificate claims. -/
theorem Cert.Proof.claim : Cert.Claim :=
  ⟨Cert.Kernel.Gen.facts, Cert.KernelIdeal.Gen.facts, Cert.ReferenceIdeal.Gen.facts,
    fun m g _ => Cert.Kernel.Hand.frame m g,
    fun m g _ => Cert.KernelIdeal.Hand.frame m g,
    fun m g _ => Cert.ReferenceIdeal.Gen.frame m g,
    trivial,
    fun m g m' g' _ h => Cert.Agree.agree m g m' g' h⟩
